-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutIdeal_out_finite [hPre_out_finite : Cert.Pre_out_finite.Facts] (m : (ℓ : Loc Cert.GradOutIdeal.nD Cert.GradOutIdeal.τ Cert.GradOutIdeal.sig) → Buf (Elt Ideal) ℓ) : Prop :=
  ∀ c : Dev Cert.GradOutIdeal.nD,
    (Cert.Pre_out_finite.fn (F := Ideal) (m ((c.tc : Thread Cert.GradOutIdeal.nD Cert.GradOutIdeal.τ).loc Cert.GradOutIdeal.main_arg0)) (m ((c.tc : Thread Cert.GradOutIdeal.nD Cert.GradOutIdeal.τ).loc Cert.GradOutIdeal.main_arg1)) (m ((c.tc : Thread Cert.GradOutIdeal.nD Cert.GradOutIdeal.τ).loc Cert.GradOutIdeal.main_arg2)) (m ((c.tc : Thread Cert.GradOutIdeal.nD Cert.GradOutIdeal.τ).loc Cert.GradOutIdeal.main_arg3)) (m ((c.tc : Thread Cert.GradOutIdeal.nD Cert.GradOutIdeal.τ).loc Cert.GradOutIdeal.main_arg4)) (m ((c.tc : Thread Cert.GradOutIdeal.nD Cert.GradOutIdeal.τ).loc Cert.GradOutIdeal.main_arg5)) (m ((c.tc : Thread Cert.GradOutIdeal.nD Cert.GradOutIdeal.τ).loc Cert.GradOutIdeal.main_arg6)) (m ((c.tc : Thread Cert.GradOutIdeal.nD Cert.GradOutIdeal.τ).loc Cert.GradOutIdeal.main_arg7))).1 = (fun _ => 1#1)
    ∧ (Cert.Pre_out_finite.fn (F := Ideal) (m ((c.tc : Thread Cert.GradOutIdeal.nD Cert.GradOutIdeal.τ).loc Cert.GradOutIdeal.main_arg0)) (m ((c.tc : Thread Cert.GradOutIdeal.nD Cert.GradOutIdeal.τ).loc Cert.GradOutIdeal.main_arg1)) (m ((c.tc : Thread Cert.GradOutIdeal.nD Cert.GradOutIdeal.τ).loc Cert.GradOutIdeal.main_arg2)) (m ((c.tc : Thread Cert.GradOutIdeal.nD Cert.GradOutIdeal.τ).loc Cert.GradOutIdeal.main_arg3)) (m ((c.tc : Thread Cert.GradOutIdeal.nD Cert.GradOutIdeal.τ).loc Cert.GradOutIdeal.main_arg4)) (m ((c.tc : Thread Cert.GradOutIdeal.nD Cert.GradOutIdeal.τ).loc Cert.GradOutIdeal.main_arg5)) (m ((c.tc : Thread Cert.GradOutIdeal.nD Cert.GradOutIdeal.τ).loc Cert.GradOutIdeal.main_arg6)) (m ((c.tc : Thread Cert.GradOutIdeal.nD Cert.GradOutIdeal.τ).loc Cert.GradOutIdeal.main_arg7))).2.1 = (fun _ => 1#1)
    ∧ (Cert.Pre_out_finite.fn (F := Ideal) (m ((c.tc : Thread Cert.GradOutIdeal.nD Cert.GradOutIdeal.τ).loc Cert.GradOutIdeal.main_arg0)) (m ((c.tc : Thread Cert.GradOutIdeal.nD Cert.GradOutIdeal.τ).loc Cert.GradOutIdeal.main_arg1)) (m ((c.tc : Thread Cert.GradOutIdeal.nD Cert.GradOutIdeal.τ).loc Cert.GradOutIdeal.main_arg2)) (m ((c.tc : Thread Cert.GradOutIdeal.nD Cert.GradOutIdeal.τ).loc Cert.GradOutIdeal.main_arg3)) (m ((c.tc : Thread Cert.GradOutIdeal.nD Cert.GradOutIdeal.τ).loc Cert.GradOutIdeal.main_arg4)) (m ((c.tc : Thread Cert.GradOutIdeal.nD Cert.GradOutIdeal.τ).loc Cert.GradOutIdeal.main_arg5)) (m ((c.tc : Thread Cert.GradOutIdeal.nD Cert.GradOutIdeal.τ).loc Cert.GradOutIdeal.main_arg6)) (m ((c.tc : Thread Cert.GradOutIdeal.nD Cert.GradOutIdeal.τ).loc Cert.GradOutIdeal.main_arg7))).2.2.1 = (fun _ => 1#1)
    ∧ (Cert.Pre_out_finite.fn (F := Ideal) (m ((c.tc : Thread Cert.GradOutIdeal.nD Cert.GradOutIdeal.τ).loc Cert.GradOutIdeal.main_arg0)) (m ((c.tc : Thread Cert.GradOutIdeal.nD Cert.GradOutIdeal.τ).loc Cert.GradOutIdeal.main_arg1)) (m ((c.tc : Thread Cert.GradOutIdeal.nD Cert.GradOutIdeal.τ).loc Cert.GradOutIdeal.main_arg2)) (m ((c.tc : Thread Cert.GradOutIdeal.nD Cert.GradOutIdeal.τ).loc Cert.GradOutIdeal.main_arg3)) (m ((c.tc : Thread Cert.GradOutIdeal.nD Cert.GradOutIdeal.τ).loc Cert.GradOutIdeal.main_arg4)) (m ((c.tc : Thread Cert.GradOutIdeal.nD Cert.GradOutIdeal.τ).loc Cert.GradOutIdeal.main_arg5)) (m ((c.tc : Thread Cert.GradOutIdeal.nD Cert.GradOutIdeal.τ).loc Cert.GradOutIdeal.main_arg6)) (m ((c.tc : Thread Cert.GradOutIdeal.nD Cert.GradOutIdeal.τ).loc Cert.GradOutIdeal.main_arg7))).2.2.2.1 = (fun _ => 1#1)
    ∧ (Cert.Pre_out_finite.fn (F := Ideal) (m ((c.tc : Thread Cert.GradOutIdeal.nD Cert.GradOutIdeal.τ).loc Cert.GradOutIdeal.main_arg0)) (m ((c.tc : Thread Cert.GradOutIdeal.nD Cert.GradOutIdeal.τ).loc Cert.GradOutIdeal.main_arg1)) (m ((c.tc : Thread Cert.GradOutIdeal.nD Cert.GradOutIdeal.τ).loc Cert.GradOutIdeal.main_arg2)) (m ((c.tc : Thread Cert.GradOutIdeal.nD Cert.GradOutIdeal.τ).loc Cert.GradOutIdeal.main_arg3)) (m ((c.tc : Thread Cert.GradOutIdeal.nD Cert.GradOutIdeal.τ).loc Cert.GradOutIdeal.main_arg4)) (m ((c.tc : Thread Cert.GradOutIdeal.nD Cert.GradOutIdeal.τ).loc Cert.GradOutIdeal.main_arg5)) (m ((c.tc : Thread Cert.GradOutIdeal.nD Cert.GradOutIdeal.τ).loc Cert.GradOutIdeal.main_arg6)) (m ((c.tc : Thread Cert.GradOutIdeal.nD Cert.GradOutIdeal.τ).loc Cert.GradOutIdeal.main_arg7))).2.2.2.2.1 = (fun _ => 1#1)
    ∧ (Cert.Pre_out_finite.fn (F := Ideal) (m ((c.tc : Thread Cert.GradOutIdeal.nD Cert.GradOutIdeal.τ).loc Cert.GradOutIdeal.main_arg0)) (m ((c.tc : Thread Cert.GradOutIdeal.nD Cert.GradOutIdeal.τ).loc Cert.GradOutIdeal.main_arg1)) (m ((c.tc : Thread Cert.GradOutIdeal.nD Cert.GradOutIdeal.τ).loc Cert.GradOutIdeal.main_arg2)) (m ((c.tc : Thread Cert.GradOutIdeal.nD Cert.GradOutIdeal.τ).loc Cert.GradOutIdeal.main_arg3)) (m ((c.tc : Thread Cert.GradOutIdeal.nD Cert.GradOutIdeal.τ).loc Cert.GradOutIdeal.main_arg4)) (m ((c.tc : Thread Cert.GradOutIdeal.nD Cert.GradOutIdeal.τ).loc Cert.GradOutIdeal.main_arg5)) (m ((c.tc : Thread Cert.GradOutIdeal.nD Cert.GradOutIdeal.τ).loc Cert.GradOutIdeal.main_arg6)) (m ((c.tc : Thread Cert.GradOutIdeal.nD Cert.GradOutIdeal.τ).loc Cert.GradOutIdeal.main_arg7))).2.2.2.2.2.1 = (fun _ => 1#1)
    ∧ (Cert.Pre_out_finite.fn (F := Ideal) (m ((c.tc : Thread Cert.GradOutIdeal.nD Cert.GradOutIdeal.τ).loc Cert.GradOutIdeal.main_arg0)) (m ((c.tc : Thread Cert.GradOutIdeal.nD Cert.GradOutIdeal.τ).loc Cert.GradOutIdeal.main_arg1)) (m ((c.tc : Thread Cert.GradOutIdeal.nD Cert.GradOutIdeal.τ).loc Cert.GradOutIdeal.main_arg2)) (m ((c.tc : Thread Cert.GradOutIdeal.nD Cert.GradOutIdeal.τ).loc Cert.GradOutIdeal.main_arg3)) (m ((c.tc : Thread Cert.GradOutIdeal.nD Cert.GradOutIdeal.τ).loc Cert.GradOutIdeal.main_arg4)) (m ((c.tc : Thread Cert.GradOutIdeal.nD Cert.GradOutIdeal.τ).loc Cert.GradOutIdeal.main_arg5)) (m ((c.tc : Thread Cert.GradOutIdeal.nD Cert.GradOutIdeal.τ).loc Cert.GradOutIdeal.main_arg6)) (m ((c.tc : Thread Cert.GradOutIdeal.nD Cert.GradOutIdeal.τ).loc Cert.GradOutIdeal.main_arg7))).2.2.2.2.2.2.1 = (fun _ => 1#1)
    ∧ (Cert.Pre_out_finite.fn (F := Ideal) (m ((c.tc : Thread Cert.GradOutIdeal.nD Cert.GradOutIdeal.τ).loc Cert.GradOutIdeal.main_arg0)) (m ((c.tc : Thread Cert.GradOutIdeal.nD Cert.GradOutIdeal.τ).loc Cert.GradOutIdeal.main_arg1)) (m ((c.tc : Thread Cert.GradOutIdeal.nD Cert.GradOutIdeal.τ).loc Cert.GradOutIdeal.main_arg2)) (m ((c.tc : Thread Cert.GradOutIdeal.nD Cert.GradOutIdeal.τ).loc Cert.GradOutIdeal.main_arg3)) (m ((c.tc : Thread Cert.GradOutIdeal.nD Cert.GradOutIdeal.τ).loc Cert.GradOutIdeal.main_arg4)) (m ((c.tc : Thread Cert.GradOutIdeal.nD Cert.GradOutIdeal.τ).loc Cert.GradOutIdeal.main_arg5)) (m ((c.tc : Thread Cert.GradOutIdeal.nD Cert.GradOutIdeal.τ).loc Cert.GradOutIdeal.main_arg6)) (m ((c.tc : Thread Cert.GradOutIdeal.nD Cert.GradOutIdeal.τ).loc Cert.GradOutIdeal.main_arg7))).2.2.2.2.2.2.2 = (fun _ => 1#1)

def Pre_RefOutIdeal (m : (ℓ : Loc Cert.RefOutIdeal.nD Cert.RefOutIdeal.τ Cert.RefOutIdeal.sig) → Buf (Elt Ideal) ℓ) : Prop :=
  True

def Pre_RefOutIdeal_out_finite [hPre_out_finite : Cert.Pre_out_finite.Facts] (m : (ℓ : Loc Cert.RefOutIdeal.nD Cert.RefOutIdeal.τ Cert.RefOutIdeal.sig) → Buf (Elt Ideal) ℓ) : Prop :=
  ∀ c : Dev Cert.RefOutIdeal.nD,
    (Cert.Pre_out_finite.fn (F := Ideal) (m ((c.tc : Thread Cert.RefOutIdeal.nD Cert.RefOutIdeal.τ).loc Cert.RefOutIdeal.main_arg0)) (m ((c.tc : Thread Cert.RefOutIdeal.nD Cert.RefOutIdeal.τ).loc Cert.RefOutIdeal.main_arg1)) (m ((c.tc : Thread Cert.RefOutIdeal.nD Cert.RefOutIdeal.τ).loc Cert.RefOutIdeal.main_arg2)) (m ((c.tc : Thread Cert.RefOutIdeal.nD Cert.RefOutIdeal.τ).loc Cert.RefOutIdeal.main_arg3)) (m ((c.tc : Thread Cert.RefOutIdeal.nD Cert.RefOutIdeal.τ).loc Cert.RefOutIdeal.main_arg4)) (m ((c.tc : Thread Cert.RefOutIdeal.nD Cert.RefOutIdeal.τ).loc Cert.RefOutIdeal.main_arg5)) (m ((c.tc : Thread Cert.RefOutIdeal.nD Cert.RefOutIdeal.τ).loc Cert.RefOutIdeal.main_arg6)) (m ((c.tc : Thread Cert.RefOutIdeal.nD Cert.RefOutIdeal.τ).loc Cert.RefOutIdeal.main_arg7))).1 = (fun _ => 1#1)
    ∧ (Cert.Pre_out_finite.fn (F := Ideal) (m ((c.tc : Thread Cert.RefOutIdeal.nD Cert.RefOutIdeal.τ).loc Cert.RefOutIdeal.main_arg0)) (m ((c.tc : Thread Cert.RefOutIdeal.nD Cert.RefOutIdeal.τ).loc Cert.RefOutIdeal.main_arg1)) (m ((c.tc : Thread Cert.RefOutIdeal.nD Cert.RefOutIdeal.τ).loc Cert.RefOutIdeal.main_arg2)) (m ((c.tc : Thread Cert.RefOutIdeal.nD Cert.RefOutIdeal.τ).loc Cert.RefOutIdeal.main_arg3)) (m ((c.tc : Thread Cert.RefOutIdeal.nD Cert.RefOutIdeal.τ).loc Cert.RefOutIdeal.main_arg4)) (m ((c.tc : Thread Cert.RefOutIdeal.nD Cert.RefOutIdeal.τ).loc Cert.RefOutIdeal.main_arg5)) (m ((c.tc : Thread Cert.RefOutIdeal.nD Cert.RefOutIdeal.τ).loc Cert.RefOutIdeal.main_arg6)) (m ((c.tc : Thread Cert.RefOutIdeal.nD Cert.RefOutIdeal.τ).loc Cert.RefOutIdeal.main_arg7))).2.1 = (fun _ => 1#1)
    ∧ (Cert.Pre_out_finite.fn (F := Ideal) (m ((c.tc : Thread Cert.RefOutIdeal.nD Cert.RefOutIdeal.τ).loc Cert.RefOutIdeal.main_arg0)) (m ((c.tc : Thread Cert.RefOutIdeal.nD Cert.RefOutIdeal.τ).loc Cert.RefOutIdeal.main_arg1)) (m ((c.tc : Thread Cert.RefOutIdeal.nD Cert.RefOutIdeal.τ).loc Cert.RefOutIdeal.main_arg2)) (m ((c.tc : Thread Cert.RefOutIdeal.nD Cert.RefOutIdeal.τ).loc Cert.RefOutIdeal.main_arg3)) (m ((c.tc : Thread Cert.RefOutIdeal.nD Cert.RefOutIdeal.τ).loc Cert.RefOutIdeal.main_arg4)) (m ((c.tc : Thread Cert.RefOutIdeal.nD Cert.RefOutIdeal.τ).loc Cert.RefOutIdeal.main_arg5)) (m ((c.tc : Thread Cert.RefOutIdeal.nD Cert.RefOutIdeal.τ).loc Cert.RefOutIdeal.main_arg6)) (m ((c.tc : Thread Cert.RefOutIdeal.nD Cert.RefOutIdeal.τ).loc Cert.RefOutIdeal.main_arg7))).2.2.1 = (fun _ => 1#1)
    ∧ (Cert.Pre_out_finite.fn (F := Ideal) (m ((c.tc : Thread Cert.RefOutIdeal.nD Cert.RefOutIdeal.τ).loc Cert.RefOutIdeal.main_arg0)) (m ((c.tc : Thread Cert.RefOutIdeal.nD Cert.RefOutIdeal.τ).loc Cert.RefOutIdeal.main_arg1)) (m ((c.tc : Thread Cert.RefOutIdeal.nD Cert.RefOutIdeal.τ).loc Cert.RefOutIdeal.main_arg2)) (m ((c.tc : Thread Cert.RefOutIdeal.nD Cert.RefOutIdeal.τ).loc Cert.RefOutIdeal.main_arg3)) (m ((c.tc : Thread Cert.RefOutIdeal.nD Cert.RefOutIdeal.τ).loc Cert.RefOutIdeal.main_arg4)) (m ((c.tc : Thread Cert.RefOutIdeal.nD Cert.RefOutIdeal.τ).loc Cert.RefOutIdeal.main_arg5)) (m ((c.tc : Thread Cert.RefOutIdeal.nD Cert.RefOutIdeal.τ).loc Cert.RefOutIdeal.main_arg6)) (m ((c.tc : Thread Cert.RefOutIdeal.nD Cert.RefOutIdeal.τ).loc Cert.RefOutIdeal.main_arg7))).2.2.2.1 = (fun _ => 1#1)
    ∧ (Cert.Pre_out_finite.fn (F := Ideal) (m ((c.tc : Thread Cert.RefOutIdeal.nD Cert.RefOutIdeal.τ).loc Cert.RefOutIdeal.main_arg0)) (m ((c.tc : Thread Cert.RefOutIdeal.nD Cert.RefOutIdeal.τ).loc Cert.RefOutIdeal.main_arg1)) (m ((c.tc : Thread Cert.RefOutIdeal.nD Cert.RefOutIdeal.τ).loc Cert.RefOutIdeal.main_arg2)) (m ((c.tc : Thread Cert.RefOutIdeal.nD Cert.RefOutIdeal.τ).loc Cert.RefOutIdeal.main_arg3)) (m ((c.tc : Thread Cert.RefOutIdeal.nD Cert.RefOutIdeal.τ).loc Cert.RefOutIdeal.main_arg4)) (m ((c.tc : Thread Cert.RefOutIdeal.nD Cert.RefOutIdeal.τ).loc Cert.RefOutIdeal.main_arg5)) (m ((c.tc : Thread Cert.RefOutIdeal.nD Cert.RefOutIdeal.τ).loc Cert.RefOutIdeal.main_arg6)) (m ((c.tc : Thread Cert.RefOutIdeal.nD Cert.RefOutIdeal.τ).loc Cert.RefOutIdeal.main_arg7))).2.2.2.2.1 = (fun _ => 1#1)
    ∧ (Cert.Pre_out_finite.fn (F := Ideal) (m ((c.tc : Thread Cert.RefOutIdeal.nD Cert.RefOutIdeal.τ).loc Cert.RefOutIdeal.main_arg0)) (m ((c.tc : Thread Cert.RefOutIdeal.nD Cert.RefOutIdeal.τ).loc Cert.RefOutIdeal.main_arg1)) (m ((c.tc : Thread Cert.RefOutIdeal.nD Cert.RefOutIdeal.τ).loc Cert.RefOutIdeal.main_arg2)) (m ((c.tc : Thread Cert.RefOutIdeal.nD Cert.RefOutIdeal.τ).loc Cert.RefOutIdeal.main_arg3)) (m ((c.tc : Thread Cert.RefOutIdeal.nD Cert.RefOutIdeal.τ).loc Cert.RefOutIdeal.main_arg4)) (m ((c.tc : Thread Cert.RefOutIdeal.nD Cert.RefOutIdeal.τ).loc Cert.RefOutIdeal.main_arg5)) (m ((c.tc : Thread Cert.RefOutIdeal.nD Cert.RefOutIdeal.τ).loc Cert.RefOutIdeal.main_arg6)) (m ((c.tc : Thread Cert.RefOutIdeal.nD Cert.RefOutIdeal.τ).loc Cert.RefOutIdeal.main_arg7))).2.2.2.2.2.1 = (fun _ => 1#1)
    ∧ (Cert.Pre_out_finite.fn (F := Ideal) (m ((c.tc : Thread Cert.RefOutIdeal.nD Cert.RefOutIdeal.τ).loc Cert.RefOutIdeal.main_arg0)) (m ((c.tc : Thread Cert.RefOutIdeal.nD Cert.RefOutIdeal.τ).loc Cert.RefOutIdeal.main_arg1)) (m ((c.tc : Thread Cert.RefOutIdeal.nD Cert.RefOutIdeal.τ).loc Cert.RefOutIdeal.main_arg2)) (m ((c.tc : Thread Cert.RefOutIdeal.nD Cert.RefOutIdeal.τ).loc Cert.RefOutIdeal.main_arg3)) (m ((c.tc : Thread Cert.RefOutIdeal.nD Cert.RefOutIdeal.τ).loc Cert.RefOutIdeal.main_arg4)) (m ((c.tc : Thread Cert.RefOutIdeal.nD Cert.RefOutIdeal.τ).loc Cert.RefOutIdeal.main_arg5)) (m ((c.tc : Thread Cert.RefOutIdeal.nD Cert.RefOutIdeal.τ).loc Cert.RefOutIdeal.main_arg6)) (m ((c.tc : Thread Cert.RefOutIdeal.nD Cert.RefOutIdeal.τ).loc Cert.RefOutIdeal.main_arg7))).2.2.2.2.2.2.1 = (fun _ => 1#1)
    ∧ (Cert.Pre_out_finite.fn (F := Ideal) (m ((c.tc : Thread Cert.RefOutIdeal.nD Cert.RefOutIdeal.τ).loc Cert.RefOutIdeal.main_arg0)) (m ((c.tc : Thread Cert.RefOutIdeal.nD Cert.RefOutIdeal.τ).loc Cert.RefOutIdeal.main_arg1)) (m ((c.tc : Thread Cert.RefOutIdeal.nD Cert.RefOutIdeal.τ).loc Cert.RefOutIdeal.main_arg2)) (m ((c.tc : Thread Cert.RefOutIdeal.nD Cert.RefOutIdeal.τ).loc Cert.RefOutIdeal.main_arg3)) (m ((c.tc : Thread Cert.RefOutIdeal.nD Cert.RefOutIdeal.τ).loc Cert.RefOutIdeal.main_arg4)) (m ((c.tc : Thread Cert.RefOutIdeal.nD Cert.RefOutIdeal.τ).loc Cert.RefOutIdeal.main_arg5)) (m ((c.tc : Thread Cert.RefOutIdeal.nD Cert.RefOutIdeal.τ).loc Cert.RefOutIdeal.main_arg6)) (m ((c.tc : Thread Cert.RefOutIdeal.nD Cert.RefOutIdeal.τ).loc Cert.RefOutIdeal.main_arg7))).2.2.2.2.2.2.2 = (fun _ => 1#1)

def Pre_FfnForward (m : (ℓ : Loc Cert.FfnForward.nD Cert.FfnForward.τ Cert.FfnForward.sig) → Buf (Elt Bits) ℓ) : Prop :=
  True

def Pre_FfnForwardIdeal (m : (ℓ : Loc Cert.FfnForwardIdeal.nD Cert.FfnForwardIdeal.τ Cert.FfnForwardIdeal.sig) → Buf (Elt Ideal) ℓ) : Prop :=
  True

def Pre_FfnForwardIdeal_forward_finite [hPre_forward_finite : Cert.Pre_forward_finite.Facts] (m : (ℓ : Loc Cert.FfnForwardIdeal.nD Cert.FfnForwardIdeal.τ Cert.FfnForwardIdeal.sig) → Buf (Elt Ideal) ℓ) : Prop :=
  ∀ c : Dev Cert.FfnForwardIdeal.nD,
    (Cert.Pre_forward_finite.fn (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10))).1 = (fun _ => 1#1)
    ∧ (Cert.Pre_forward_finite.fn (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10))).2.1 = (fun _ => 1#1)
    ∧ (Cert.Pre_forward_finite.fn (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10))).2.2.1 = (fun _ => 1#1)
    ∧ (Cert.Pre_forward_finite.fn (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10))).2.2.2.1 = (fun _ => 1#1)
    ∧ (Cert.Pre_forward_finite.fn (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10))).2.2.2.2.1 = (fun _ => 1#1)
    ∧ (Cert.Pre_forward_finite.fn (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10))).2.2.2.2.2.1 = (fun _ => 1#1)
    ∧ (Cert.Pre_forward_finite.fn (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10))).2.2.2.2.2.2.1 = (fun _ => 1#1)
    ∧ (Cert.Pre_forward_finite.fn (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10))).2.2.2.2.2.2.2.1 = (fun _ => 1#1)
    ∧ (Cert.Pre_forward_finite.fn (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10))).2.2.2.2.2.2.2.2.1 = (fun _ => 1#1)
    ∧ (Cert.Pre_forward_finite.fn (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10))).2.2.2.2.2.2.2.2.2.1 = (fun _ => 1#1)
    ∧ (Cert.Pre_forward_finite.fn (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10))).2.2.2.2.2.2.2.2.2.2 = (fun _ => 1#1)

def Pre_RefFfnIdeal (m : (ℓ : Loc Cert.RefFfnIdeal.nD Cert.RefFfnIdeal.τ Cert.RefFfnIdeal.sig) → Buf (Elt Ideal) ℓ) : Prop :=
  True

def Pre_RefFfnIdeal_forward_finite [hPre_forward_finite : Cert.Pre_forward_finite.Facts] (m : (ℓ : Loc Cert.RefFfnIdeal.nD Cert.RefFfnIdeal.τ Cert.RefFfnIdeal.sig) → Buf (Elt Ideal) ℓ) : Prop :=
  ∀ c : Dev Cert.RefFfnIdeal.nD,
    (Cert.Pre_forward_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)) (m ((c.tc : Thread Cert.RefFfnIdeal.nD Cert.RefFfnIdeal.τ).loc Cert.RefFfnIdeal.main_arg7)) (m ((c.tc : Thread Cert.RefFfnIdeal.nD Cert.RefFfnIdeal.τ).loc Cert.RefFfnIdeal.main_arg8)) (m ((c.tc : Thread Cert.RefFfnIdeal.nD Cert.RefFfnIdeal.τ).loc Cert.RefFfnIdeal.main_arg9)) (m ((c.tc : Thread Cert.RefFfnIdeal.nD Cert.RefFfnIdeal.τ).loc Cert.RefFfnIdeal.main_arg10))).1 = (fun _ => 1#1)
    ∧ (Cert.Pre_forward_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)) (m ((c.tc : Thread Cert.RefFfnIdeal.nD Cert.RefFfnIdeal.τ).loc Cert.RefFfnIdeal.main_arg7)) (m ((c.tc : Thread Cert.RefFfnIdeal.nD Cert.RefFfnIdeal.τ).loc Cert.RefFfnIdeal.main_arg8)) (m ((c.tc : Thread Cert.RefFfnIdeal.nD Cert.RefFfnIdeal.τ).loc Cert.RefFfnIdeal.main_arg9)) (m ((c.tc : Thread Cert.RefFfnIdeal.nD Cert.RefFfnIdeal.τ).loc Cert.RefFfnIdeal.main_arg10))).2.1 = (fun _ => 1#1)
    ∧ (Cert.Pre_forward_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)) (m ((c.tc : Thread Cert.RefFfnIdeal.nD Cert.RefFfnIdeal.τ).loc Cert.RefFfnIdeal.main_arg7)) (m ((c.tc : Thread Cert.RefFfnIdeal.nD Cert.RefFfnIdeal.τ).loc Cert.RefFfnIdeal.main_arg8)) (m ((c.tc : Thread Cert.RefFfnIdeal.nD Cert.RefFfnIdeal.τ).loc Cert.RefFfnIdeal.main_arg9)) (m ((c.tc : Thread Cert.RefFfnIdeal.nD Cert.RefFfnIdeal.τ).loc Cert.RefFfnIdeal.main_arg10))).2.2.1 = (fun _ => 1#1)
    ∧ (Cert.Pre_forward_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)) (m ((c.tc : Thread Cert.RefFfnIdeal.nD Cert.RefFfnIdeal.τ).loc Cert.RefFfnIdeal.main_arg7)) (m ((c.tc : Thread Cert.RefFfnIdeal.nD Cert.RefFfnIdeal.τ).loc Cert.RefFfnIdeal.main_arg8)) (m ((c.tc : Thread Cert.RefFfnIdeal.nD Cert.RefFfnIdeal.τ).loc Cert.RefFfnIdeal.main_arg9)) (m ((c.tc : Thread Cert.RefFfnIdeal.nD Cert.RefFfnIdeal.τ).loc Cert.RefFfnIdeal.main_arg10))).2.2.2.1 = (fun _ => 1#1)
    ∧ (Cert.Pre_forward_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)) (m ((c.tc : Thread Cert.RefFfnIdeal.nD Cert.RefFfnIdeal.τ).loc Cert.RefFfnIdeal.main_arg7)) (m ((c.tc : Thread Cert.RefFfnIdeal.nD Cert.RefFfnIdeal.τ).loc Cert.RefFfnIdeal.main_arg8)) (m ((c.tc : Thread Cert.RefFfnIdeal.nD Cert.RefFfnIdeal.τ).loc Cert.RefFfnIdeal.main_arg9)) (m ((c.tc : Thread Cert.RefFfnIdeal.nD Cert.RefFfnIdeal.τ).loc Cert.RefFfnIdeal.main_arg10))).2.2.2.2.1 = (fun _ => 1#1)
    ∧ (Cert.Pre_forward_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)) (m ((c.tc : Thread Cert.RefFfnIdeal.nD Cert.RefFfnIdeal.τ).loc Cert.RefFfnIdeal.main_arg7)) (m ((c.tc : Thread Cert.RefFfnIdeal.nD Cert.RefFfnIdeal.τ).loc Cert.RefFfnIdeal.main_arg8)) (m ((c.tc : Thread Cert.RefFfnIdeal.nD Cert.RefFfnIdeal.τ).loc Cert.RefFfnIdeal.main_arg9)) (m ((c.tc : Thread Cert.RefFfnIdeal.nD Cert.RefFfnIdeal.τ).loc Cert.RefFfnIdeal.main_arg10))).2.2.2.2.2.1 = (fun _ => 1#1)
    ∧ (Cert.Pre_forward_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)) (m ((c.tc : Thread Cert.RefFfnIdeal.nD Cert.RefFfnIdeal.τ).loc Cert.RefFfnIdeal.main_arg7)) (m ((c.tc : Thread Cert.RefFfnIdeal.nD Cert.RefFfnIdeal.τ).loc Cert.RefFfnIdeal.main_arg8)) (m ((c.tc : Thread Cert.RefFfnIdeal.nD Cert.RefFfnIdeal.τ).loc Cert.RefFfnIdeal.main_arg9)) (m ((c.tc : Thread Cert.RefFfnIdeal.nD Cert.RefFfnIdeal.τ).loc Cert.RefFfnIdeal.main_arg10))).2.2.2.2.2.2.1 = (fun _ => 1#1)
    ∧ (Cert.Pre_forward_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)) (m ((c.tc : Thread Cert.RefFfnIdeal.nD Cert.RefFfnIdeal.τ).loc Cert.RefFfnIdeal.main_arg7)) (m ((c.tc : Thread Cert.RefFfnIdeal.nD Cert.RefFfnIdeal.τ).loc Cert.RefFfnIdeal.main_arg8)) (m ((c.tc : Thread Cert.RefFfnIdeal.nD Cert.RefFfnIdeal.τ).loc Cert.RefFfnIdeal.main_arg9)) (m ((c.tc : Thread Cert.RefFfnIdeal.nD Cert.RefFfnIdeal.τ).loc Cert.RefFfnIdeal.main_arg10))).2.2.2.2.2.2.2.1 = (fun _ => 1#1)
    ∧ (Cert.Pre_forward_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)) (m ((c.tc : Thread Cert.RefFfnIdeal.nD Cert.RefFfnIdeal.τ).loc Cert.RefFfnIdeal.main_arg7)) (m ((c.tc : Thread Cert.RefFfnIdeal.nD Cert.RefFfnIdeal.τ).loc Cert.RefFfnIdeal.main_arg8)) (m ((c.tc : Thread Cert.RefFfnIdeal.nD Cert.RefFfnIdeal.τ).loc Cert.RefFfnIdeal.main_arg9)) (m ((c.tc : Thread Cert.RefFfnIdeal.nD Cert.RefFfnIdeal.τ).loc Cert.RefFfnIdeal.main_arg10))).2.2.2.2.2.2.2.2.1 = (fun _ => 1#1)
    ∧ (Cert.Pre_forward_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)) (m ((c.tc : Thread Cert.RefFfnIdeal.nD Cert.RefFfnIdeal.τ).loc Cert.RefFfnIdeal.main_arg7)) (m ((c.tc : Thread Cert.RefFfnIdeal.nD Cert.RefFfnIdeal.τ).loc Cert.RefFfnIdeal.main_arg8)) (m ((c.tc : Thread Cert.RefFfnIdeal.nD Cert.RefFfnIdeal.τ).loc Cert.RefFfnIdeal.main_arg9)) (m ((c.tc : Thread Cert.RefFfnIdeal.nD Cert.RefFfnIdeal.τ).loc Cert.RefFfnIdeal.main_arg10))).2.2.2.2.2.2.2.2.2.1 = (fun _ => 1#1)
    ∧ (Cert.Pre_forward_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)) (m ((c.tc : Thread Cert.RefFfnIdeal.nD Cert.RefFfnIdeal.τ).loc Cert.RefFfnIdeal.main_arg7)) (m ((c.tc : Thread Cert.RefFfnIdeal.nD Cert.RefFfnIdeal.τ).loc Cert.RefFfnIdeal.main_arg8)) (m ((c.tc : Thread Cert.RefFfnIdeal.nD Cert.RefFfnIdeal.τ).loc Cert.RefFfnIdeal.main_arg9)) (m ((c.tc : Thread Cert.RefFfnIdeal.nD Cert.RefFfnIdeal.τ).loc Cert.RefFfnIdeal.main_arg10))).2.2.2.2.2.2.2.2.2.2 = (fun _ => 1#1)

def Pre_GradWo (m : (ℓ : Loc Cert.GradWo.nD Cert.GradWo.τ Cert.GradWo.sig) → Buf (Elt Bits) ℓ) : Prop :=
  True

def Pre_GradWoIdeal (m : (ℓ : Loc Cert.GradWoIdeal.nD Cert.GradWoIdeal.τ Cert.GradWoIdeal.sig) → Buf (Elt Ideal) ℓ) : Prop :=
  True

def Pre_GradWoIdeal_wo_finite [hPre_wo_finite : Cert.Pre_wo_finite.Facts] (m : (ℓ : Loc Cert.GradWoIdeal.nD Cert.GradWoIdeal.τ Cert.GradWoIdeal.sig) → Buf (Elt Ideal) ℓ) : Prop :=
  ∀ c : Dev Cert.GradWoIdeal.nD,
    (Cert.Pre_wo_finite.fn (F := Ideal) (m ((c.tc : Thread Cert.GradWoIdeal.nD Cert.GradWoIdeal.τ).loc Cert.GradWoIdeal.main_arg0)) (m ((c.tc : Thread Cert.GradWoIdeal.nD Cert.GradWoIdeal.τ).loc Cert.GradWoIdeal.main_arg1)) (m ((c.tc : Thread Cert.GradWoIdeal.nD Cert.GradWoIdeal.τ).loc Cert.GradWoIdeal.main_arg2)) (m ((c.tc : Thread Cert.GradWoIdeal.nD Cert.GradWoIdeal.τ).loc Cert.GradWoIdeal.main_arg3)) (m ((c.tc : Thread Cert.GradWoIdeal.nD Cert.GradWoIdeal.τ).loc Cert.GradWoIdeal.main_arg4)) (m ((c.tc : Thread Cert.GradWoIdeal.nD Cert.GradWoIdeal.τ).loc Cert.GradWoIdeal.main_arg5))).1 = (fun _ => 1#1)
    ∧ (Cert.Pre_wo_finite.fn (F := Ideal) (m ((c.tc : Thread Cert.GradWoIdeal.nD Cert.GradWoIdeal.τ).loc Cert.GradWoIdeal.main_arg0)) (m ((c.tc : Thread Cert.GradWoIdeal.nD Cert.GradWoIdeal.τ).loc Cert.GradWoIdeal.main_arg1)) (m ((c.tc : Thread Cert.GradWoIdeal.nD Cert.GradWoIdeal.τ).loc Cert.GradWoIdeal.main_arg2)) (m ((c.tc : Thread Cert.GradWoIdeal.nD Cert.GradWoIdeal.τ).loc Cert.GradWoIdeal.main_arg3)) (m ((c.tc : Thread Cert.GradWoIdeal.nD Cert.GradWoIdeal.τ).loc Cert.GradWoIdeal.main_arg4)) (m ((c.tc : Thread Cert.GradWoIdeal.nD Cert.GradWoIdeal.τ).loc Cert.GradWoIdeal.main_arg5))).2.1 = (fun _ => 1#1)
    ∧ (Cert.Pre_wo_finite.fn (F := Ideal) (m ((c.tc : Thread Cert.GradWoIdeal.nD Cert.GradWoIdeal.τ).loc Cert.GradWoIdeal.main_arg0)) (m ((c.tc : Thread Cert.GradWoIdeal.nD Cert.GradWoIdeal.τ).loc Cert.GradWoIdeal.main_arg1)) (m ((c.tc : Thread Cert.GradWoIdeal.nD Cert.GradWoIdeal.τ).loc Cert.GradWoIdeal.main_arg2)) (m ((c.tc : Thread Cert.GradWoIdeal.nD Cert.GradWoIdeal.τ).loc Cert.GradWoIdeal.main_arg3)) (m ((c.tc : Thread Cert.GradWoIdeal.nD Cert.GradWoIdeal.τ).loc Cert.GradWoIdeal.main_arg4)) (m ((c.tc : Thread Cert.GradWoIdeal.nD Cert.GradWoIdeal.τ).loc Cert.GradWoIdeal.main_arg5))).2.2.1 = (fun _ => 1#1)
    ∧ (Cert.Pre_wo_finite.fn (F := Ideal) (m ((c.tc : Thread Cert.GradWoIdeal.nD Cert.GradWoIdeal.τ).loc Cert.GradWoIdeal.main_arg0)) (m ((c.tc : Thread Cert.GradWoIdeal.nD Cert.GradWoIdeal.τ).loc Cert.GradWoIdeal.main_arg1)) (m ((c.tc : Thread Cert.GradWoIdeal.nD Cert.GradWoIdeal.τ).loc Cert.GradWoIdeal.main_arg2)) (m ((c.tc : Thread Cert.GradWoIdeal.nD Cert.GradWoIdeal.τ).loc Cert.GradWoIdeal.main_arg3)) (m ((c.tc : Thread Cert.GradWoIdeal.nD Cert.GradWoIdeal.τ).loc Cert.GradWoIdeal.main_arg4)) (m ((c.tc : Thread Cert.GradWoIdeal.nD Cert.GradWoIdeal.τ).loc Cert.GradWoIdeal.main_arg5))).2.2.2.1 = (fun _ => 1#1)
    ∧ (Cert.Pre_wo_finite.fn (F := Ideal) (m ((c.tc : Thread Cert.GradWoIdeal.nD Cert.GradWoIdeal.τ).loc Cert.GradWoIdeal.main_arg0)) (m ((c.tc : Thread Cert.GradWoIdeal.nD Cert.GradWoIdeal.τ).loc Cert.GradWoIdeal.main_arg1)) (m ((c.tc : Thread Cert.GradWoIdeal.nD Cert.GradWoIdeal.τ).loc Cert.GradWoIdeal.main_arg2)) (m ((c.tc : Thread Cert.GradWoIdeal.nD Cert.GradWoIdeal.τ).loc Cert.GradWoIdeal.main_arg3)) (m ((c.tc : Thread Cert.GradWoIdeal.nD Cert.GradWoIdeal.τ).loc Cert.GradWoIdeal.main_arg4)) (m ((c.tc : Thread Cert.GradWoIdeal.nD Cert.GradWoIdeal.τ).loc Cert.GradWoIdeal.main_arg5))).2.2.2.2.1 = (fun _ => 1#1)
    ∧ (Cert.Pre_wo_finite.fn (F := Ideal) (m ((c.tc : Thread Cert.GradWoIdeal.nD Cert.GradWoIdeal.τ).loc Cert.GradWoIdeal.main_arg0)) (m ((c.tc : Thread Cert.GradWoIdeal.nD Cert.GradWoIdeal.τ).loc Cert.GradWoIdeal.main_arg1)) (m ((c.tc : Thread Cert.GradWoIdeal.nD Cert.GradWoIdeal.τ).loc Cert.GradWoIdeal.main_arg2)) (m ((c.tc : Thread Cert.GradWoIdeal.nD Cert.GradWoIdeal.τ).loc Cert.GradWoIdeal.main_arg3)) (m ((c.tc : Thread Cert.GradWoIdeal.nD Cert.GradWoIdeal.τ).loc Cert.GradWoIdeal.main_arg4)) (m ((c.tc : Thread Cert.GradWoIdeal.nD Cert.GradWoIdeal.τ).loc Cert.GradWoIdeal.main_arg5))).2.2.2.2.2 = (fun _ => 1#1)

def Pre_RefWoIdeal (m : (ℓ : Loc Cert.RefWoIdeal.nD Cert.RefWoIdeal.τ Cert.RefWoIdeal.sig) → Buf (Elt Ideal) ℓ) : Prop :=
  True

def Pre_RefWoIdeal_wo_finite [hPre_wo_finite : Cert.Pre_wo_finite.Facts] (m : (ℓ : Loc Cert.RefWoIdeal.nD Cert.RefWoIdeal.τ Cert.RefWoIdeal.sig) → Buf (Elt Ideal) ℓ) : Prop :=
  ∀ c : Dev Cert.RefWoIdeal.nD,
    (Cert.Pre_wo_finite.fn (F := Ideal) (m ((c.tc : Thread Cert.RefWoIdeal.nD Cert.RefWoIdeal.τ).loc Cert.RefWoIdeal.main_arg0)) (m ((c.tc : Thread Cert.RefWoIdeal.nD Cert.RefWoIdeal.τ).loc Cert.RefWoIdeal.main_arg1)) (m ((c.tc : Thread Cert.RefWoIdeal.nD Cert.RefWoIdeal.τ).loc Cert.RefWoIdeal.main_arg2)) (m ((c.tc : Thread Cert.RefWoIdeal.nD Cert.RefWoIdeal.τ).loc Cert.RefWoIdeal.main_arg3)) (m ((c.tc : Thread Cert.RefWoIdeal.nD Cert.RefWoIdeal.τ).loc Cert.RefWoIdeal.main_arg4)) (m ((c.tc : Thread Cert.RefWoIdeal.nD Cert.RefWoIdeal.τ).loc Cert.RefWoIdeal.main_arg5))).1 = (fun _ => 1#1)
    ∧ (Cert.Pre_wo_finite.fn (F := Ideal) (m ((c.tc : Thread Cert.RefWoIdeal.nD Cert.RefWoIdeal.τ).loc Cert.RefWoIdeal.main_arg0)) (m ((c.tc : Thread Cert.RefWoIdeal.nD Cert.RefWoIdeal.τ).loc Cert.RefWoIdeal.main_arg1)) (m ((c.tc : Thread Cert.RefWoIdeal.nD Cert.RefWoIdeal.τ).loc Cert.RefWoIdeal.main_arg2)) (m ((c.tc : Thread Cert.RefWoIdeal.nD Cert.RefWoIdeal.τ).loc Cert.RefWoIdeal.main_arg3)) (m ((c.tc : Thread Cert.RefWoIdeal.nD Cert.RefWoIdeal.τ).loc Cert.RefWoIdeal.main_arg4)) (m ((c.tc : Thread Cert.RefWoIdeal.nD Cert.RefWoIdeal.τ).loc Cert.RefWoIdeal.main_arg5))).2.1 = (fun _ => 1#1)
    ∧ (Cert.Pre_wo_finite.fn (F := Ideal) (m ((c.tc : Thread Cert.RefWoIdeal.nD Cert.RefWoIdeal.τ).loc Cert.RefWoIdeal.main_arg0)) (m ((c.tc : Thread Cert.RefWoIdeal.nD Cert.RefWoIdeal.τ).loc Cert.RefWoIdeal.main_arg1)) (m ((c.tc : Thread Cert.RefWoIdeal.nD Cert.RefWoIdeal.τ).loc Cert.RefWoIdeal.main_arg2)) (m ((c.tc : Thread Cert.RefWoIdeal.nD Cert.RefWoIdeal.τ).loc Cert.RefWoIdeal.main_arg3)) (m ((c.tc : Thread Cert.RefWoIdeal.nD Cert.RefWoIdeal.τ).loc Cert.RefWoIdeal.main_arg4)) (m ((c.tc : Thread Cert.RefWoIdeal.nD Cert.RefWoIdeal.τ).loc Cert.RefWoIdeal.main_arg5))).2.2.1 = (fun _ => 1#1)
    ∧ (Cert.Pre_wo_finite.fn (F := Ideal) (m ((c.tc : Thread Cert.RefWoIdeal.nD Cert.RefWoIdeal.τ).loc Cert.RefWoIdeal.main_arg0)) (m ((c.tc : Thread Cert.RefWoIdeal.nD Cert.RefWoIdeal.τ).loc Cert.RefWoIdeal.main_arg1)) (m ((c.tc : Thread Cert.RefWoIdeal.nD Cert.RefWoIdeal.τ).loc Cert.RefWoIdeal.main_arg2)) (m ((c.tc : Thread Cert.RefWoIdeal.nD Cert.RefWoIdeal.τ).loc Cert.RefWoIdeal.main_arg3)) (m ((c.tc : Thread Cert.RefWoIdeal.nD Cert.RefWoIdeal.τ).loc Cert.RefWoIdeal.main_arg4)) (m ((c.tc : Thread Cert.RefWoIdeal.nD Cert.RefWoIdeal.τ).loc Cert.RefWoIdeal.main_arg5))).2.2.2.1 = (fun _ => 1#1)
    ∧ (Cert.Pre_wo_finite.fn (F := Ideal) (m ((c.tc : Thread Cert.RefWoIdeal.nD Cert.RefWoIdeal.τ).loc Cert.RefWoIdeal.main_arg0)) (m ((c.tc : Thread Cert.RefWoIdeal.nD Cert.RefWoIdeal.τ).loc Cert.RefWoIdeal.main_arg1)) (m ((c.tc : Thread Cert.RefWoIdeal.nD Cert.RefWoIdeal.τ).loc Cert.RefWoIdeal.main_arg2)) (m ((c.tc : Thread Cert.RefWoIdeal.nD Cert.RefWoIdeal.τ).loc Cert.RefWoIdeal.main_arg3)) (m ((c.tc : Thread Cert.RefWoIdeal.nD Cert.RefWoIdeal.τ).loc Cert.RefWoIdeal.main_arg4)) (m ((c.tc : Thread Cert.RefWoIdeal.nD Cert.RefWoIdeal.τ).loc Cert.RefWoIdeal.main_arg5))).2.2.2.2.1 = (fun _ => 1#1)
    ∧ (Cert.Pre_wo_finite.fn (F := Ideal) (m ((c.tc : Thread Cert.RefWoIdeal.nD Cert.RefWoIdeal.τ).loc Cert.RefWoIdeal.main_arg0)) (m ((c.tc : Thread Cert.RefWoIdeal.nD Cert.RefWoIdeal.τ).loc Cert.RefWoIdeal.main_arg1)) (m ((c.tc : Thread Cert.RefWoIdeal.nD Cert.RefWoIdeal.τ).loc Cert.RefWoIdeal.main_arg2)) (m ((c.tc : Thread Cert.RefWoIdeal.nD Cert.RefWoIdeal.τ).loc Cert.RefWoIdeal.main_arg3)) (m ((c.tc : Thread Cert.RefWoIdeal.nD Cert.RefWoIdeal.τ).loc Cert.RefWoIdeal.main_arg4)) (m ((c.tc : Thread Cert.RefWoIdeal.nD Cert.RefWoIdeal.τ).loc Cert.RefWoIdeal.main_arg5))).2.2.2.2.2 = (fun _ => 1#1)

def Pre_GradWi (m : (ℓ : Loc Cert.GradWi.nD Cert.GradWi.τ Cert.GradWi.sig) → Buf (Elt Bits) ℓ) : Prop :=
  True

def Pre_GradWiIdeal (m : (ℓ : Loc Cert.GradWiIdeal.nD Cert.GradWiIdeal.τ Cert.GradWiIdeal.sig) → Buf (Elt Ideal) ℓ) : Prop :=
  True

def Pre_RefWiIdeal (m : (ℓ : Loc Cert.RefWiIdeal.nD Cert.RefWiIdeal.τ Cert.RefWiIdeal.sig) → Buf (Elt Ideal) ℓ) : Prop :=
  True

def Pre_MixForward (m : (ℓ : Loc Cert.MixForward.nD Cert.MixForward.τ Cert.MixForward.sig) → Buf (Elt Bits) ℓ) : Prop :=
  True

def Pre_MixForwardIdeal (m : (ℓ : Loc Cert.MixForwardIdeal.nD Cert.MixForwardIdeal.τ Cert.MixForwardIdeal.sig) → Buf (Elt Ideal) ℓ) : Prop :=
  True

def Pre_RefMixIdeal (m : (ℓ : Loc Cert.RefMixIdeal.nD Cert.RefMixIdeal.τ Cert.RefMixIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2)
      ∧ r.2.mem ((c.tc : Thread Cert.GradIn.nD Cert.GradIn.τ).loc Cert.GradIn.main_arg3) = m ((c.tc : Thread Cert.GradIn.nD Cert.GradIn.τ).loc Cert.GradIn.main_arg3)
      ∧ r.2.mem ((c.tc : Thread Cert.GradIn.nD Cert.GradIn.τ).loc Cert.GradIn.main_arg4) = m ((c.tc : Thread Cert.GradIn.nD Cert.GradIn.τ).loc Cert.GradIn.main_arg4)
      ∧ r.2.mem ((c.tc : Thread Cert.GradIn.nD Cert.GradIn.τ).loc Cert.GradIn.main_arg5) = m ((c.tc : Thread Cert.GradIn.nD Cert.GradIn.τ).loc Cert.GradIn.main_arg5)
      ∧ r.2.mem ((c.tc : Thread Cert.GradIn.nD Cert.GradIn.τ).loc Cert.GradIn.main_arg6) = m ((c.tc : Thread Cert.GradIn.nD Cert.GradIn.τ).loc Cert.GradIn.main_arg6))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
      ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
      ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4)
      ∧ r.2.mem ((c.tc : Thread Cert.GradInIdeal.nD Cert.GradInIdeal.τ).loc Cert.GradInIdeal.main_arg5) = m ((c.tc : Thread Cert.GradInIdeal.nD Cert.GradInIdeal.τ).loc Cert.GradInIdeal.main_arg5)
      ∧ r.2.mem ((c.tc : Thread Cert.GradInIdeal.nD Cert.GradInIdeal.τ).loc Cert.GradInIdeal.main_arg6) = m ((c.tc : Thread Cert.GradInIdeal.nD Cert.GradInIdeal.τ).loc Cert.GradInIdeal.main_arg6))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5)
      ∧ r.2.mem ((c.tc : Thread Cert.RefInIdeal.nD Cert.RefInIdeal.τ).loc Cert.RefInIdeal.main_arg6) = m ((c.tc : Thread Cert.RefInIdeal.nD Cert.RefInIdeal.τ).loc Cert.RefInIdeal.main_arg6))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1)
      ∧ r.2.mem ((c.tc : Thread Cert.GradOut.nD Cert.GradOut.τ).loc Cert.GradOut.main_arg2) = m ((c.tc : Thread Cert.GradOut.nD Cert.GradOut.τ).loc Cert.GradOut.main_arg2)
      ∧ r.2.mem ((c.tc : Thread Cert.GradOut.nD Cert.GradOut.τ).loc Cert.GradOut.main_arg3) = m ((c.tc : Thread Cert.GradOut.nD Cert.GradOut.τ).loc Cert.GradOut.main_arg3)
      ∧ r.2.mem ((c.tc : Thread Cert.GradOut.nD Cert.GradOut.τ).loc Cert.GradOut.main_arg4) = m ((c.tc : Thread Cert.GradOut.nD Cert.GradOut.τ).loc Cert.GradOut.main_arg4)
      ∧ r.2.mem ((c.tc : Thread Cert.GradOut.nD Cert.GradOut.τ).loc Cert.GradOut.main_arg5) = m ((c.tc : Thread Cert.GradOut.nD Cert.GradOut.τ).loc Cert.GradOut.main_arg5)
      ∧ r.2.mem ((c.tc : Thread Cert.GradOut.nD Cert.GradOut.τ).loc Cert.GradOut.main_arg6) = m ((c.tc : Thread Cert.GradOut.nD Cert.GradOut.τ).loc Cert.GradOut.main_arg6)
      ∧ r.2.mem ((c.tc : Thread Cert.GradOut.nD Cert.GradOut.τ).loc Cert.GradOut.main_arg7) = m ((c.tc : Thread Cert.GradOut.nD Cert.GradOut.τ).loc Cert.GradOut.main_arg7))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
      ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2)
      ∧ r.2.mem ((c.tc : Thread Cert.GradOutIdeal.nD Cert.GradOutIdeal.τ).loc Cert.GradOutIdeal.main_arg3) = m ((c.tc : Thread Cert.GradOutIdeal.nD Cert.GradOutIdeal.τ).loc Cert.GradOutIdeal.main_arg3)
      ∧ r.2.mem ((c.tc : Thread Cert.GradOutIdeal.nD Cert.GradOutIdeal.τ).loc Cert.GradOutIdeal.main_arg4) = m ((c.tc : Thread Cert.GradOutIdeal.nD Cert.GradOutIdeal.τ).loc Cert.GradOutIdeal.main_arg4)
      ∧ r.2.mem ((c.tc : Thread Cert.GradOutIdeal.nD Cert.GradOutIdeal.τ).loc Cert.GradOutIdeal.main_arg5) = m ((c.tc : Thread Cert.GradOutIdeal.nD Cert.GradOutIdeal.τ).loc Cert.GradOutIdeal.main_arg5)
      ∧ r.2.mem ((c.tc : Thread Cert.GradOutIdeal.nD Cert.GradOutIdeal.τ).loc Cert.GradOutIdeal.main_arg6) = m ((c.tc : Thread Cert.GradOutIdeal.nD Cert.GradOutIdeal.τ).loc Cert.GradOutIdeal.main_arg6)
      ∧ r.2.mem ((c.tc : Thread Cert.GradOutIdeal.nD Cert.GradOutIdeal.τ).loc Cert.GradOutIdeal.main_arg7) = m ((c.tc : Thread Cert.GradOutIdeal.nD Cert.GradOutIdeal.τ).loc Cert.GradOutIdeal.main_arg7))
      ∧ r.2.sem = fun _ => 0)

def quiescent_GradOutIdeal_pre_out_finite [hGradOutIdeal : Cert.GradOutIdeal.Facts] [hPre_out_finite : Cert.Pre_out_finite.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal_out_finite m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
      ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2)
      ∧ r.2.mem ((c.tc : Thread Cert.GradOutIdeal.nD Cert.GradOutIdeal.τ).loc Cert.GradOutIdeal.main_arg3) = m ((c.tc : Thread Cert.GradOutIdeal.nD Cert.GradOutIdeal.τ).loc Cert.GradOutIdeal.main_arg3)
      ∧ r.2.mem ((c.tc : Thread Cert.GradOutIdeal.nD Cert.GradOutIdeal.τ).loc Cert.GradOutIdeal.main_arg4) = m ((c.tc : Thread Cert.GradOutIdeal.nD Cert.GradOutIdeal.τ).loc Cert.GradOutIdeal.main_arg4)
      ∧ r.2.mem ((c.tc : Thread Cert.GradOutIdeal.nD Cert.GradOutIdeal.τ).loc Cert.GradOutIdeal.main_arg5) = m ((c.tc : Thread Cert.GradOutIdeal.nD Cert.GradOutIdeal.τ).loc Cert.GradOutIdeal.main_arg5)
      ∧ r.2.mem ((c.tc : Thread Cert.GradOutIdeal.nD Cert.GradOutIdeal.τ).loc Cert.GradOutIdeal.main_arg6) = m ((c.tc : Thread Cert.GradOutIdeal.nD Cert.GradOutIdeal.τ).loc Cert.GradOutIdeal.main_arg6)
      ∧ r.2.mem ((c.tc : Thread Cert.GradOutIdeal.nD Cert.GradOutIdeal.τ).loc Cert.GradOutIdeal.main_arg7) = m ((c.tc : Thread Cert.GradOutIdeal.nD Cert.GradOutIdeal.τ).loc Cert.GradOutIdeal.main_arg7))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5)
      ∧ r.2.mem ((c.tc : Thread Cert.RefOutIdeal.nD Cert.RefOutIdeal.τ).loc Cert.RefOutIdeal.main_arg6) = m ((c.tc : Thread Cert.RefOutIdeal.nD Cert.RefOutIdeal.τ).loc Cert.RefOutIdeal.main_arg6)
      ∧ r.2.mem ((c.tc : Thread Cert.RefOutIdeal.nD Cert.RefOutIdeal.τ).loc Cert.RefOutIdeal.main_arg7) = m ((c.tc : Thread Cert.RefOutIdeal.nD Cert.RefOutIdeal.τ).loc Cert.RefOutIdeal.main_arg7))
      ∧ r.2.sem = fun _ => 0)

def quiescent_RefOutIdeal_pre_out_finite [hRefOutIdeal : Cert.RefOutIdeal.Facts] [hPre_out_finite : Cert.Pre_out_finite.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal_out_finite m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5)
      ∧ r.2.mem ((c.tc : Thread Cert.RefOutIdeal.nD Cert.RefOutIdeal.τ).loc Cert.RefOutIdeal.main_arg6) = m ((c.tc : Thread Cert.RefOutIdeal.nD Cert.RefOutIdeal.τ).loc Cert.RefOutIdeal.main_arg6)
      ∧ r.2.mem ((c.tc : Thread Cert.RefOutIdeal.nD Cert.RefOutIdeal.τ).loc Cert.RefOutIdeal.main_arg7) = m ((c.tc : Thread Cert.RefOutIdeal.nD Cert.RefOutIdeal.τ).loc Cert.RefOutIdeal.main_arg7))
      ∧ r.2.sem = fun _ => 0)

def quiescent_FfnForward [hFfnForward : Cert.FfnForward.Facts] : Prop :=
  ∀ (m : (ℓ : Loc Cert.FfnForward.nD Cert.FfnForward.τ Cert.FfnForward.sig) → Buf (Elt Bits) ℓ) (g : Dev Cert.FfnForward.nD → PrngReg), Pre_FfnForward m →
    θ_run (Cert.FfnForward.defs (F := Bits)) (onTc (τ := Cert.FfnForward.τ) (Cert.FfnForward.main (F := Bits))) ⟨m, fun _ => 0, g⟩ (fun r => (∀ c : Dev Cert.FfnForward.nD,
      r.2.mem ((c.tc : Thread Cert.FfnForward.nD Cert.FfnForward.τ).loc Cert.FfnForward.main_arg0) = m ((c.tc : Thread Cert.FfnForward.nD Cert.FfnForward.τ).loc Cert.FfnForward.main_arg0)
      ∧ r.2.mem ((c.tc : Thread Cert.FfnForward.nD Cert.FfnForward.τ).loc Cert.FfnForward.main_arg1) = m ((c.tc : Thread Cert.FfnForward.nD Cert.FfnForward.τ).loc Cert.FfnForward.main_arg1)
      ∧ r.2.mem ((c.tc : Thread Cert.FfnForward.nD Cert.FfnForward.τ).loc Cert.FfnForward.main_arg2) = m ((c.tc : Thread Cert.FfnForward.nD Cert.FfnForward.τ).loc Cert.FfnForward.main_arg2)
      ∧ r.2.mem ((c.tc : Thread Cert.FfnForward.nD Cert.FfnForward.τ).loc Cert.FfnForward.main_arg3) = m ((c.tc : Thread Cert.FfnForward.nD Cert.FfnForward.τ).loc Cert.FfnForward.main_arg3)
      ∧ r.2.mem ((c.tc : Thread Cert.FfnForward.nD Cert.FfnForward.τ).loc Cert.FfnForward.main_arg4) = m ((c.tc : Thread Cert.FfnForward.nD Cert.FfnForward.τ).loc Cert.FfnForward.main_arg4)
      ∧ r.2.mem ((c.tc : Thread Cert.FfnForward.nD Cert.FfnForward.τ).loc Cert.FfnForward.main_arg5) = m ((c.tc : Thread Cert.FfnForward.nD Cert.FfnForward.τ).loc Cert.FfnForward.main_arg5)
      ∧ r.2.mem ((c.tc : Thread Cert.FfnForward.nD Cert.FfnForward.τ).loc Cert.FfnForward.main_arg6) = m ((c.tc : Thread Cert.FfnForward.nD Cert.FfnForward.τ).loc Cert.FfnForward.main_arg6)
      ∧ r.2.mem ((c.tc : Thread Cert.FfnForward.nD Cert.FfnForward.τ).loc Cert.FfnForward.main_arg7) = m ((c.tc : Thread Cert.FfnForward.nD Cert.FfnForward.τ).loc Cert.FfnForward.main_arg7)
      ∧ r.2.mem ((c.tc : Thread Cert.FfnForward.nD Cert.FfnForward.τ).loc Cert.FfnForward.main_arg8) = m ((c.tc : Thread Cert.FfnForward.nD Cert.FfnForward.τ).loc Cert.FfnForward.main_arg8)
      ∧ r.2.mem ((c.tc : Thread Cert.FfnForward.nD Cert.FfnForward.τ).loc Cert.FfnForward.main_arg9) = m ((c.tc : Thread Cert.FfnForward.nD Cert.FfnForward.τ).loc Cert.FfnForward.main_arg9)
      ∧ r.2.mem ((c.tc : Thread Cert.FfnForward.nD Cert.FfnForward.τ).loc Cert.FfnForward.main_arg10) = m ((c.tc : Thread Cert.FfnForward.nD Cert.FfnForward.τ).loc Cert.FfnForward.main_arg10))
      ∧ r.2.sem = fun _ => 0)

def quiescent_FfnForwardIdeal [hFfnForwardIdeal : Cert.FfnForwardIdeal.Facts] : Prop :=
  ∀ (m : (ℓ : Loc Cert.FfnForwardIdeal.nD Cert.FfnForwardIdeal.τ Cert.FfnForwardIdeal.sig) → Buf (Elt Ideal) ℓ) (g : Dev Cert.FfnForwardIdeal.nD → PrngReg), Pre_FfnForwardIdeal m →
    θ_run (Cert.FfnForwardIdeal.defs (F := Ideal)) (onTc (τ := Cert.FfnForwardIdeal.τ) (Cert.FfnForwardIdeal.main (F := Ideal))) ⟨m, fun _ => 0, g⟩ (fun r => (∀ c : Dev Cert.FfnForwardIdeal.nD,
      r.2.mem ((c.tc : Thread Cert.FfnForwardIdeal.nD Cert.FfnForwardIdeal.τ).loc Cert.FfnForwardIdeal.main_arg0) = m ((c.tc : Thread Cert.FfnForwardIdeal.nD Cert.FfnForwardIdeal.τ).loc Cert.FfnForwardIdeal.main_arg0)
      ∧ r.2.mem ((c.tc : Thread Cert.FfnForwardIdeal.nD Cert.FfnForwardIdeal.τ).loc Cert.FfnForwardIdeal.main_arg1) = m ((c.tc : Thread Cert.FfnForwardIdeal.nD Cert.FfnForwardIdeal.τ).loc Cert.FfnForwardIdeal.main_arg1)
      ∧ r.2.mem ((c.tc : Thread Cert.FfnForwardIdeal.nD Cert.FfnForwardIdeal.τ).loc Cert.FfnForwardIdeal.main_arg2) = m ((c.tc : Thread Cert.FfnForwardIdeal.nD Cert.FfnForwardIdeal.τ).loc Cert.FfnForwardIdeal.main_arg2)
      ∧ r.2.mem ((c.tc : Thread Cert.FfnForwardIdeal.nD Cert.FfnForwardIdeal.τ).loc Cert.FfnForwardIdeal.main_arg3) = m ((c.tc : Thread Cert.FfnForwardIdeal.nD Cert.FfnForwardIdeal.τ).loc Cert.FfnForwardIdeal.main_arg3)
      ∧ r.2.mem ((c.tc : Thread Cert.FfnForwardIdeal.nD Cert.FfnForwardIdeal.τ).loc Cert.FfnForwardIdeal.main_arg4) = m ((c.tc : Thread Cert.FfnForwardIdeal.nD Cert.FfnForwardIdeal.τ).loc Cert.FfnForwardIdeal.main_arg4)
      ∧ r.2.mem ((c.tc : Thread Cert.FfnForwardIdeal.nD Cert.FfnForwardIdeal.τ).loc Cert.FfnForwardIdeal.main_arg5) = m ((c.tc : Thread Cert.FfnForwardIdeal.nD Cert.FfnForwardIdeal.τ).loc Cert.FfnForwardIdeal.main_arg5)
      ∧ r.2.mem ((c.tc : Thread Cert.FfnForwardIdeal.nD Cert.FfnForwardIdeal.τ).loc Cert.FfnForwardIdeal.main_arg6) = m ((c.tc : Thread Cert.FfnForwardIdeal.nD Cert.FfnForwardIdeal.τ).loc Cert.FfnForwardIdeal.main_arg6)
      ∧ r.2.mem ((c.tc : Thread Cert.FfnForwardIdeal.nD Cert.FfnForwardIdeal.τ).loc Cert.FfnForwardIdeal.main_arg7) = m ((c.tc : Thread Cert.FfnForwardIdeal.nD Cert.FfnForwardIdeal.τ).loc Cert.FfnForwardIdeal.main_arg7)
      ∧ r.2.mem ((c.tc : Thread Cert.FfnForwardIdeal.nD Cert.FfnForwardIdeal.τ).loc Cert.FfnForwardIdeal.main_arg8) = m ((c.tc : Thread Cert.FfnForwardIdeal.nD Cert.FfnForwardIdeal.τ).loc Cert.FfnForwardIdeal.main_arg8)
      ∧ r.2.mem ((c.tc : Thread Cert.FfnForwardIdeal.nD Cert.FfnForwardIdeal.τ).loc Cert.FfnForwardIdeal.main_arg9) = m ((c.tc : Thread Cert.FfnForwardIdeal.nD Cert.FfnForwardIdeal.τ).loc Cert.FfnForwardIdeal.main_arg9)
      ∧ r.2.mem ((c.tc : Thread Cert.FfnForwardIdeal.nD Cert.FfnForwardIdeal.τ).loc Cert.FfnForwardIdeal.main_arg10) = m ((c.tc : Thread Cert.FfnForwardIdeal.nD Cert.FfnForwardIdeal.τ).loc Cert.FfnForwardIdeal.main_arg10))
      ∧ r.2.sem = fun _ => 0)

def quiescent_FfnForwardIdeal_pre_forward_finite [hFfnForwardIdeal : Cert.FfnForwardIdeal.Facts] [hPre_forward_finite : Cert.Pre_forward_finite.Facts] : Prop :=
  ∀ (m : (ℓ : Loc Cert.FfnForwardIdeal.nD Cert.FfnForwardIdeal.τ Cert.FfnForwardIdeal.sig) → Buf (Elt Ideal) ℓ) (g : Dev Cert.FfnForwardIdeal.nD → PrngReg), Pre_FfnForwardIdeal_forward_finite m →
    θ_run (Cert.FfnForwardIdeal.defs (F := Ideal)) (onTc (τ := Cert.FfnForwardIdeal.τ) (Cert.FfnForwardIdeal.main (F := Ideal))) ⟨m, fun _ => 0, g⟩ (fun r => (∀ c : Dev Cert.FfnForwardIdeal.nD,
      r.2.mem ((c.tc : Thread Cert.FfnForwardIdeal.nD Cert.FfnForwardIdeal.τ).loc Cert.FfnForwardIdeal.main_arg0) = m ((c.tc : Thread Cert.FfnForwardIdeal.nD Cert.FfnForwardIdeal.τ).loc Cert.FfnForwardIdeal.main_arg0)
      ∧ r.2.mem ((c.tc : Thread Cert.FfnForwardIdeal.nD Cert.FfnForwardIdeal.τ).loc Cert.FfnForwardIdeal.main_arg1) = m ((c.tc : Thread Cert.FfnForwardIdeal.nD Cert.FfnForwardIdeal.τ).loc Cert.FfnForwardIdeal.main_arg1)
      ∧ r.2.mem ((c.tc : Thread Cert.FfnForwardIdeal.nD Cert.FfnForwardIdeal.τ).loc Cert.FfnForwardIdeal.main_arg2) = m ((c.tc : Thread Cert.FfnForwardIdeal.nD Cert.FfnForwardIdeal.τ).loc Cert.FfnForwardIdeal.main_arg2)
      ∧ r.2.mem ((c.tc : Thread Cert.FfnForwardIdeal.nD Cert.FfnForwardIdeal.τ).loc Cert.FfnForwardIdeal.main_arg3) = m ((c.tc : Thread Cert.FfnForwardIdeal.nD Cert.FfnForwardIdeal.τ).loc Cert.FfnForwardIdeal.main_arg3)
      ∧ r.2.mem ((c.tc : Thread Cert.FfnForwardIdeal.nD Cert.FfnForwardIdeal.τ).loc Cert.FfnForwardIdeal.main_arg4) = m ((c.tc : Thread Cert.FfnForwardIdeal.nD Cert.FfnForwardIdeal.τ).loc Cert.FfnForwardIdeal.main_arg4)
      ∧ r.2.mem ((c.tc : Thread Cert.FfnForwardIdeal.nD Cert.FfnForwardIdeal.τ).loc Cert.FfnForwardIdeal.main_arg5) = m ((c.tc : Thread Cert.FfnForwardIdeal.nD Cert.FfnForwardIdeal.τ).loc Cert.FfnForwardIdeal.main_arg5)
      ∧ r.2.mem ((c.tc : Thread Cert.FfnForwardIdeal.nD Cert.FfnForwardIdeal.τ).loc Cert.FfnForwardIdeal.main_arg6) = m ((c.tc : Thread Cert.FfnForwardIdeal.nD Cert.FfnForwardIdeal.τ).loc Cert.FfnForwardIdeal.main_arg6)
      ∧ r.2.mem ((c.tc : Thread Cert.FfnForwardIdeal.nD Cert.FfnForwardIdeal.τ).loc Cert.FfnForwardIdeal.main_arg7) = m ((c.tc : Thread Cert.FfnForwardIdeal.nD Cert.FfnForwardIdeal.τ).loc Cert.FfnForwardIdeal.main_arg7)
      ∧ r.2.mem ((c.tc : Thread Cert.FfnForwardIdeal.nD Cert.FfnForwardIdeal.τ).loc Cert.FfnForwardIdeal.main_arg8) = m ((c.tc : Thread Cert.FfnForwardIdeal.nD Cert.FfnForwardIdeal.τ).loc Cert.FfnForwardIdeal.main_arg8)
      ∧ r.2.mem ((c.tc : Thread Cert.FfnForwardIdeal.nD Cert.FfnForwardIdeal.τ).loc Cert.FfnForwardIdeal.main_arg9) = m ((c.tc : Thread Cert.FfnForwardIdeal.nD Cert.FfnForwardIdeal.τ).loc Cert.FfnForwardIdeal.main_arg9)
      ∧ r.2.mem ((c.tc : Thread Cert.FfnForwardIdeal.nD Cert.FfnForwardIdeal.τ).loc Cert.FfnForwardIdeal.main_arg10) = m ((c.tc : Thread Cert.FfnForwardIdeal.nD Cert.FfnForwardIdeal.τ).loc Cert.FfnForwardIdeal.main_arg10))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5)
      ∧ r.2.mem ((c.tc : Thread Cert.RefFfnIdeal.nD Cert.RefFfnIdeal.τ).loc Cert.RefFfnIdeal.main_arg6) = m ((c.tc : Thread Cert.RefFfnIdeal.nD Cert.RefFfnIdeal.τ).loc Cert.RefFfnIdeal.main_arg6)
      ∧ r.2.mem ((c.tc : Thread Cert.RefFfnIdeal.nD Cert.RefFfnIdeal.τ).loc Cert.RefFfnIdeal.main_arg7) = m ((c.tc : Thread Cert.RefFfnIdeal.nD Cert.RefFfnIdeal.τ).loc Cert.RefFfnIdeal.main_arg7)
      ∧ r.2.mem ((c.tc : Thread Cert.RefFfnIdeal.nD Cert.RefFfnIdeal.τ).loc Cert.RefFfnIdeal.main_arg8) = m ((c.tc : Thread Cert.RefFfnIdeal.nD Cert.RefFfnIdeal.τ).loc Cert.RefFfnIdeal.main_arg8)
      ∧ r.2.mem ((c.tc : Thread Cert.RefFfnIdeal.nD Cert.RefFfnIdeal.τ).loc Cert.RefFfnIdeal.main_arg9) = m ((c.tc : Thread Cert.RefFfnIdeal.nD Cert.RefFfnIdeal.τ).loc Cert.RefFfnIdeal.main_arg9)
      ∧ r.2.mem ((c.tc : Thread Cert.RefFfnIdeal.nD Cert.RefFfnIdeal.τ).loc Cert.RefFfnIdeal.main_arg10) = m ((c.tc : Thread Cert.RefFfnIdeal.nD Cert.RefFfnIdeal.τ).loc Cert.RefFfnIdeal.main_arg10))
      ∧ r.2.sem = fun _ => 0)

def quiescent_RefFfnIdeal_pre_forward_finite [hRefFfnIdeal : Cert.RefFfnIdeal.Facts] [hPre_forward_finite : Cert.Pre_forward_finite.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal_forward_finite m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5)
      ∧ r.2.mem ((c.tc : Thread Cert.RefFfnIdeal.nD Cert.RefFfnIdeal.τ).loc Cert.RefFfnIdeal.main_arg6) = m ((c.tc : Thread Cert.RefFfnIdeal.nD Cert.RefFfnIdeal.τ).loc Cert.RefFfnIdeal.main_arg6)
      ∧ r.2.mem ((c.tc : Thread Cert.RefFfnIdeal.nD Cert.RefFfnIdeal.τ).loc Cert.RefFfnIdeal.main_arg7) = m ((c.tc : Thread Cert.RefFfnIdeal.nD Cert.RefFfnIdeal.τ).loc Cert.RefFfnIdeal.main_arg7)
      ∧ r.2.mem ((c.tc : Thread Cert.RefFfnIdeal.nD Cert.RefFfnIdeal.τ).loc Cert.RefFfnIdeal.main_arg8) = m ((c.tc : Thread Cert.RefFfnIdeal.nD Cert.RefFfnIdeal.τ).loc Cert.RefFfnIdeal.main_arg8)
      ∧ r.2.mem ((c.tc : Thread Cert.RefFfnIdeal.nD Cert.RefFfnIdeal.τ).loc Cert.RefFfnIdeal.main_arg9) = m ((c.tc : Thread Cert.RefFfnIdeal.nD Cert.RefFfnIdeal.τ).loc Cert.RefFfnIdeal.main_arg9)
      ∧ r.2.mem ((c.tc : Thread Cert.RefFfnIdeal.nD Cert.RefFfnIdeal.τ).loc Cert.RefFfnIdeal.main_arg10) = m ((c.tc : Thread Cert.RefFfnIdeal.nD Cert.RefFfnIdeal.τ).loc Cert.RefFfnIdeal.main_arg10))
      ∧ r.2.sem = fun _ => 0)

def quiescent_GradWo [hGradWo : Cert.GradWo.Facts] : Prop :=
  ∀ (m : (ℓ : Loc Cert.GradWo.nD Cert.GradWo.τ Cert.GradWo.sig) → Buf (Elt Bits) ℓ) (g : Dev Cert.GradWo.nD → PrngReg), Pre_GradWo m →
    θ_run (Cert.GradWo.defs (F := Bits)) (onTc (τ := Cert.GradWo.τ) (Cert.GradWo.main (F := Bits))) ⟨m, fun _ => 0, g⟩ (fun r => (∀ c : Dev Cert.GradWo.nD,
      r.2.mem ((c.tc : Thread Cert.GradWo.nD Cert.GradWo.τ).loc Cert.GradWo.main_arg0) = m ((c.tc : Thread Cert.GradWo.nD Cert.GradWo.τ).loc Cert.GradWo.main_arg0)
      ∧ r.2.mem ((c.tc : Thread Cert.GradWo.nD Cert.GradWo.τ).loc Cert.GradWo.main_arg1) = m ((c.tc : Thread Cert.GradWo.nD Cert.GradWo.τ).loc Cert.GradWo.main_arg1)
      ∧ r.2.mem ((c.tc : Thread Cert.GradWo.nD Cert.GradWo.τ).loc Cert.GradWo.main_arg2) = m ((c.tc : Thread Cert.GradWo.nD Cert.GradWo.τ).loc Cert.GradWo.main_arg2)
      ∧ r.2.mem ((c.tc : Thread Cert.GradWo.nD Cert.GradWo.τ).loc Cert.GradWo.main_arg3) = m ((c.tc : Thread Cert.GradWo.nD Cert.GradWo.τ).loc Cert.GradWo.main_arg3)
      ∧ r.2.mem ((c.tc : Thread Cert.GradWo.nD Cert.GradWo.τ).loc Cert.GradWo.main_arg4) = m ((c.tc : Thread Cert.GradWo.nD Cert.GradWo.τ).loc Cert.GradWo.main_arg4)
      ∧ r.2.mem ((c.tc : Thread Cert.GradWo.nD Cert.GradWo.τ).loc Cert.GradWo.main_arg5) = m ((c.tc : Thread Cert.GradWo.nD Cert.GradWo.τ).loc Cert.GradWo.main_arg5))
      ∧ r.2.sem = fun _ => 0)

def quiescent_GradWoIdeal [hGradWoIdeal : Cert.GradWoIdeal.Facts] : Prop :=
  ∀ (m : (ℓ : Loc Cert.GradWoIdeal.nD Cert.GradWoIdeal.τ Cert.GradWoIdeal.sig) → Buf (Elt Ideal) ℓ) (g : Dev Cert.GradWoIdeal.nD → PrngReg), Pre_GradWoIdeal m →
    θ_run (Cert.GradWoIdeal.defs (F := Ideal)) (onTc (τ := Cert.GradWoIdeal.τ) (Cert.GradWoIdeal.main (F := Ideal))) ⟨m, fun _ => 0, g⟩ (fun r => (∀ c : Dev Cert.GradWoIdeal.nD,
      r.2.mem ((c.tc : Thread Cert.GradWoIdeal.nD Cert.GradWoIdeal.τ).loc Cert.GradWoIdeal.main_arg0) = m ((c.tc : Thread Cert.GradWoIdeal.nD Cert.GradWoIdeal.τ).loc Cert.GradWoIdeal.main_arg0)
      ∧ r.2.mem ((c.tc : Thread Cert.GradWoIdeal.nD Cert.GradWoIdeal.τ).loc Cert.GradWoIdeal.main_arg1) = m ((c.tc : Thread Cert.GradWoIdeal.nD Cert.GradWoIdeal.τ).loc Cert.GradWoIdeal.main_arg1)
      ∧ r.2.mem ((c.tc : Thread Cert.GradWoIdeal.nD Cert.GradWoIdeal.τ).loc Cert.GradWoIdeal.main_arg2) = m ((c.tc : Thread Cert.GradWoIdeal.nD Cert.GradWoIdeal.τ).loc Cert.GradWoIdeal.main_arg2)
      ∧ r.2.mem ((c.tc : Thread Cert.GradWoIdeal.nD Cert.GradWoIdeal.τ).loc Cert.GradWoIdeal.main_arg3) = m ((c.tc : Thread Cert.GradWoIdeal.nD Cert.GradWoIdeal.τ).loc Cert.GradWoIdeal.main_arg3)
      ∧ r.2.mem ((c.tc : Thread Cert.GradWoIdeal.nD Cert.GradWoIdeal.τ).loc Cert.GradWoIdeal.main_arg4) = m ((c.tc : Thread Cert.GradWoIdeal.nD Cert.GradWoIdeal.τ).loc Cert.GradWoIdeal.main_arg4)
      ∧ r.2.mem ((c.tc : Thread Cert.GradWoIdeal.nD Cert.GradWoIdeal.τ).loc Cert.GradWoIdeal.main_arg5) = m ((c.tc : Thread Cert.GradWoIdeal.nD Cert.GradWoIdeal.τ).loc Cert.GradWoIdeal.main_arg5))
      ∧ r.2.sem = fun _ => 0)

def quiescent_GradWoIdeal_pre_wo_finite [hGradWoIdeal : Cert.GradWoIdeal.Facts] [hPre_wo_finite : Cert.Pre_wo_finite.Facts] : Prop :=
  ∀ (m : (ℓ : Loc Cert.GradWoIdeal.nD Cert.GradWoIdeal.τ Cert.GradWoIdeal.sig) → Buf (Elt Ideal) ℓ) (g : Dev Cert.GradWoIdeal.nD → PrngReg), Pre_GradWoIdeal_wo_finite m →
    θ_run (Cert.GradWoIdeal.defs (F := Ideal)) (onTc (τ := Cert.GradWoIdeal.τ) (Cert.GradWoIdeal.main (F := Ideal))) ⟨m, fun _ => 0, g⟩ (fun r => (∀ c : Dev Cert.GradWoIdeal.nD,
      r.2.mem ((c.tc : Thread Cert.GradWoIdeal.nD Cert.GradWoIdeal.τ).loc Cert.GradWoIdeal.main_arg0) = m ((c.tc : Thread Cert.GradWoIdeal.nD Cert.GradWoIdeal.τ).loc Cert.GradWoIdeal.main_arg0)
      ∧ r.2.mem ((c.tc : Thread Cert.GradWoIdeal.nD Cert.GradWoIdeal.τ).loc Cert.GradWoIdeal.main_arg1) = m ((c.tc : Thread Cert.GradWoIdeal.nD Cert.GradWoIdeal.τ).loc Cert.GradWoIdeal.main_arg1)
      ∧ r.2.mem ((c.tc : Thread Cert.GradWoIdeal.nD Cert.GradWoIdeal.τ).loc Cert.GradWoIdeal.main_arg2) = m ((c.tc : Thread Cert.GradWoIdeal.nD Cert.GradWoIdeal.τ).loc Cert.GradWoIdeal.main_arg2)
      ∧ r.2.mem ((c.tc : Thread Cert.GradWoIdeal.nD Cert.GradWoIdeal.τ).loc Cert.GradWoIdeal.main_arg3) = m ((c.tc : Thread Cert.GradWoIdeal.nD Cert.GradWoIdeal.τ).loc Cert.GradWoIdeal.main_arg3)
      ∧ r.2.mem ((c.tc : Thread Cert.GradWoIdeal.nD Cert.GradWoIdeal.τ).loc Cert.GradWoIdeal.main_arg4) = m ((c.tc : Thread Cert.GradWoIdeal.nD Cert.GradWoIdeal.τ).loc Cert.GradWoIdeal.main_arg4)
      ∧ r.2.mem ((c.tc : Thread Cert.GradWoIdeal.nD Cert.GradWoIdeal.τ).loc Cert.GradWoIdeal.main_arg5) = m ((c.tc : Thread Cert.GradWoIdeal.nD Cert.GradWoIdeal.τ).loc Cert.GradWoIdeal.main_arg5))
      ∧ r.2.sem = fun _ => 0)

def quiescent_RefWoIdeal [hRefWoIdeal : Cert.RefWoIdeal.Facts] : Prop :=
  ∀ (m : (ℓ : Loc Cert.RefWoIdeal.nD Cert.RefWoIdeal.τ Cert.RefWoIdeal.sig) → Buf (Elt Ideal) ℓ) (g : Dev Cert.RefWoIdeal.nD → PrngReg), Pre_RefWoIdeal m →
    θ_run (Cert.RefWoIdeal.defs (F := Ideal)) (onTc (τ := Cert.RefWoIdeal.τ) (Cert.RefWoIdeal.main (F := Ideal))) ⟨m, fun _ => 0, g⟩ (fun r => (∀ c : Dev Cert.RefWoIdeal.nD,
      r.2.mem ((c.tc : Thread Cert.RefWoIdeal.nD Cert.RefWoIdeal.τ).loc Cert.RefWoIdeal.main_arg0) = m ((c.tc : Thread Cert.RefWoIdeal.nD Cert.RefWoIdeal.τ).loc Cert.RefWoIdeal.main_arg0)
      ∧ r.2.mem ((c.tc : Thread Cert.RefWoIdeal.nD Cert.RefWoIdeal.τ).loc Cert.RefWoIdeal.main_arg1) = m ((c.tc : Thread Cert.RefWoIdeal.nD Cert.RefWoIdeal.τ).loc Cert.RefWoIdeal.main_arg1)
      ∧ r.2.mem ((c.tc : Thread Cert.RefWoIdeal.nD Cert.RefWoIdeal.τ).loc Cert.RefWoIdeal.main_arg2) = m ((c.tc : Thread Cert.RefWoIdeal.nD Cert.RefWoIdeal.τ).loc Cert.RefWoIdeal.main_arg2)
      ∧ r.2.mem ((c.tc : Thread Cert.RefWoIdeal.nD Cert.RefWoIdeal.τ).loc Cert.RefWoIdeal.main_arg3) = m ((c.tc : Thread Cert.RefWoIdeal.nD Cert.RefWoIdeal.τ).loc Cert.RefWoIdeal.main_arg3)
      ∧ r.2.mem ((c.tc : Thread Cert.RefWoIdeal.nD Cert.RefWoIdeal.τ).loc Cert.RefWoIdeal.main_arg4) = m ((c.tc : Thread Cert.RefWoIdeal.nD Cert.RefWoIdeal.τ).loc Cert.RefWoIdeal.main_arg4)
      ∧ r.2.mem ((c.tc : Thread Cert.RefWoIdeal.nD Cert.RefWoIdeal.τ).loc Cert.RefWoIdeal.main_arg5) = m ((c.tc : Thread Cert.RefWoIdeal.nD Cert.RefWoIdeal.τ).loc Cert.RefWoIdeal.main_arg5))
      ∧ r.2.sem = fun _ => 0)

def quiescent_RefWoIdeal_pre_wo_finite [hRefWoIdeal : Cert.RefWoIdeal.Facts] [hPre_wo_finite : Cert.Pre_wo_finite.Facts] : Prop :=
  ∀ (m : (ℓ : Loc Cert.RefWoIdeal.nD Cert.RefWoIdeal.τ Cert.RefWoIdeal.sig) → Buf (Elt Ideal) ℓ) (g : Dev Cert.RefWoIdeal.nD → PrngReg), Pre_RefWoIdeal_wo_finite m →
    θ_run (Cert.RefWoIdeal.defs (F := Ideal)) (onTc (τ := Cert.RefWoIdeal.τ) (Cert.RefWoIdeal.main (F := Ideal))) ⟨m, fun _ => 0, g⟩ (fun r => (∀ c : Dev Cert.RefWoIdeal.nD,
      r.2.mem ((c.tc : Thread Cert.RefWoIdeal.nD Cert.RefWoIdeal.τ).loc Cert.RefWoIdeal.main_arg0) = m ((c.tc : Thread Cert.RefWoIdeal.nD Cert.RefWoIdeal.τ).loc Cert.RefWoIdeal.main_arg0)
      ∧ r.2.mem ((c.tc : Thread Cert.RefWoIdeal.nD Cert.RefWoIdeal.τ).loc Cert.RefWoIdeal.main_arg1) = m ((c.tc : Thread Cert.RefWoIdeal.nD Cert.RefWoIdeal.τ).loc Cert.RefWoIdeal.main_arg1)
      ∧ r.2.mem ((c.tc : Thread Cert.RefWoIdeal.nD Cert.RefWoIdeal.τ).loc Cert.RefWoIdeal.main_arg2) = m ((c.tc : Thread Cert.RefWoIdeal.nD Cert.RefWoIdeal.τ).loc Cert.RefWoIdeal.main_arg2)
      ∧ r.2.mem ((c.tc : Thread Cert.RefWoIdeal.nD Cert.RefWoIdeal.τ).loc Cert.RefWoIdeal.main_arg3) = m ((c.tc : Thread Cert.RefWoIdeal.nD Cert.RefWoIdeal.τ).loc Cert.RefWoIdeal.main_arg3)
      ∧ r.2.mem ((c.tc : Thread Cert.RefWoIdeal.nD Cert.RefWoIdeal.τ).loc Cert.RefWoIdeal.main_arg4) = m ((c.tc : Thread Cert.RefWoIdeal.nD Cert.RefWoIdeal.τ).loc Cert.RefWoIdeal.main_arg4)
      ∧ r.2.mem ((c.tc : Thread Cert.RefWoIdeal.nD Cert.RefWoIdeal.τ).loc Cert.RefWoIdeal.main_arg5) = m ((c.tc : Thread Cert.RefWoIdeal.nD Cert.RefWoIdeal.τ).loc Cert.RefWoIdeal.main_arg5))
      ∧ r.2.sem = fun _ => 0)

def quiescent_GradWi [hGradWi : Cert.GradWi.Facts] : Prop :=
  ∀ (m : (ℓ : Loc Cert.GradWi.nD Cert.GradWi.τ Cert.GradWi.sig) → Buf (Elt Bits) ℓ) (g : Dev Cert.GradWi.nD → PrngReg), Pre_GradWi m →
    θ_run (Cert.GradWi.defs (F := Bits)) (onTc (τ := Cert.GradWi.τ) (Cert.GradWi.main (F := Bits))) ⟨m, fun _ => 0, g⟩ (fun r => (∀ c : Dev Cert.GradWi.nD,
      r.2.mem ((c.tc : Thread Cert.GradWi.nD Cert.GradWi.τ).loc Cert.GradWi.main_arg0) = m ((c.tc : Thread Cert.GradWi.nD Cert.GradWi.τ).loc Cert.GradWi.main_arg0)
      ∧ r.2.mem ((c.tc : Thread Cert.GradWi.nD Cert.GradWi.τ).loc Cert.GradWi.main_arg1) = m ((c.tc : Thread Cert.GradWi.nD Cert.GradWi.τ).loc Cert.GradWi.main_arg1)
      ∧ r.2.mem ((c.tc : Thread Cert.GradWi.nD Cert.GradWi.τ).loc Cert.GradWi.main_arg2) = m ((c.tc : Thread Cert.GradWi.nD Cert.GradWi.τ).loc Cert.GradWi.main_arg2)
      ∧ r.2.mem ((c.tc : Thread Cert.GradWi.nD Cert.GradWi.τ).loc Cert.GradWi.main_arg3) = m ((c.tc : Thread Cert.GradWi.nD Cert.GradWi.τ).loc Cert.GradWi.main_arg3)
      ∧ r.2.mem ((c.tc : Thread Cert.GradWi.nD Cert.GradWi.τ).loc Cert.GradWi.main_arg4) = m ((c.tc : Thread Cert.GradWi.nD Cert.GradWi.τ).loc Cert.GradWi.main_arg4)
      ∧ r.2.mem ((c.tc : Thread Cert.GradWi.nD Cert.GradWi.τ).loc Cert.GradWi.main_arg5) = m ((c.tc : Thread Cert.GradWi.nD Cert.GradWi.τ).loc Cert.GradWi.main_arg5)
      ∧ r.2.mem ((c.tc : Thread Cert.GradWi.nD Cert.GradWi.τ).loc Cert.GradWi.main_arg6) = m ((c.tc : Thread Cert.GradWi.nD Cert.GradWi.τ).loc Cert.GradWi.main_arg6)
      ∧ r.2.mem ((c.tc : Thread Cert.GradWi.nD Cert.GradWi.τ).loc Cert.GradWi.main_arg7) = m ((c.tc : Thread Cert.GradWi.nD Cert.GradWi.τ).loc Cert.GradWi.main_arg7))
      ∧ r.2.sem = fun _ => 0)

def quiescent_GradWiIdeal [hGradWiIdeal : Cert.GradWiIdeal.Facts] : Prop :=
  ∀ (m : (ℓ : Loc Cert.GradWiIdeal.nD Cert.GradWiIdeal.τ Cert.GradWiIdeal.sig) → Buf (Elt Ideal) ℓ) (g : Dev Cert.GradWiIdeal.nD → PrngReg), Pre_GradWiIdeal m →
    θ_run (Cert.GradWiIdeal.defs (F := Ideal)) (onTc (τ := Cert.GradWiIdeal.τ) (Cert.GradWiIdeal.main (F := Ideal))) ⟨m, fun _ => 0, g⟩ (fun r => (∀ c : Dev Cert.GradWiIdeal.nD,
      r.2.mem ((c.tc : Thread Cert.GradWiIdeal.nD Cert.GradWiIdeal.τ).loc Cert.GradWiIdeal.main_arg0) = m ((c.tc : Thread Cert.GradWiIdeal.nD Cert.GradWiIdeal.τ).loc Cert.GradWiIdeal.main_arg0)
      ∧ r.2.mem ((c.tc : Thread Cert.GradWiIdeal.nD Cert.GradWiIdeal.τ).loc Cert.GradWiIdeal.main_arg1) = m ((c.tc : Thread Cert.GradWiIdeal.nD Cert.GradWiIdeal.τ).loc Cert.GradWiIdeal.main_arg1)
      ∧ r.2.mem ((c.tc : Thread Cert.GradWiIdeal.nD Cert.GradWiIdeal.τ).loc Cert.GradWiIdeal.main_arg2) = m ((c.tc : Thread Cert.GradWiIdeal.nD Cert.GradWiIdeal.τ).loc Cert.GradWiIdeal.main_arg2)
      ∧ r.2.mem ((c.tc : Thread Cert.GradWiIdeal.nD Cert.GradWiIdeal.τ).loc Cert.GradWiIdeal.main_arg3) = m ((c.tc : Thread Cert.GradWiIdeal.nD Cert.GradWiIdeal.τ).loc Cert.GradWiIdeal.main_arg3)
      ∧ r.2.mem ((c.tc : Thread Cert.GradWiIdeal.nD Cert.GradWiIdeal.τ).loc Cert.GradWiIdeal.main_arg4) = m ((c.tc : Thread Cert.GradWiIdeal.nD Cert.GradWiIdeal.τ).loc Cert.GradWiIdeal.main_arg4)
      ∧ r.2.mem ((c.tc : Thread Cert.GradWiIdeal.nD Cert.GradWiIdeal.τ).loc Cert.GradWiIdeal.main_arg5) = m ((c.tc : Thread Cert.GradWiIdeal.nD Cert.GradWiIdeal.τ).loc Cert.GradWiIdeal.main_arg5)
      ∧ r.2.mem ((c.tc : Thread Cert.GradWiIdeal.nD Cert.GradWiIdeal.τ).loc Cert.GradWiIdeal.main_arg6) = m ((c.tc : Thread Cert.GradWiIdeal.nD Cert.GradWiIdeal.τ).loc Cert.GradWiIdeal.main_arg6)
      ∧ r.2.mem ((c.tc : Thread Cert.GradWiIdeal.nD Cert.GradWiIdeal.τ).loc Cert.GradWiIdeal.main_arg7) = m ((c.tc : Thread Cert.GradWiIdeal.nD Cert.GradWiIdeal.τ).loc Cert.GradWiIdeal.main_arg7))
      ∧ r.2.sem = fun _ => 0)

def quiescent_RefWiIdeal [hRefWiIdeal : Cert.RefWiIdeal.Facts] : Prop :=
  ∀ (m : (ℓ : Loc Cert.RefWiIdeal.nD Cert.RefWiIdeal.τ Cert.RefWiIdeal.sig) → Buf (Elt Ideal) ℓ) (g : Dev Cert.RefWiIdeal.nD → PrngReg), Pre_RefWiIdeal m →
    θ_run (Cert.RefWiIdeal.defs (F := Ideal)) (onTc (τ := Cert.RefWiIdeal.τ) (Cert.RefWiIdeal.main (F := Ideal))) ⟨m, fun _ => 0, g⟩ (fun r => (∀ c : Dev Cert.RefWiIdeal.nD,
      r.2.mem ((c.tc : Thread Cert.RefWiIdeal.nD Cert.RefWiIdeal.τ).loc Cert.RefWiIdeal.main_arg0) = m ((c.tc : Thread Cert.RefWiIdeal.nD Cert.RefWiIdeal.τ).loc Cert.RefWiIdeal.main_arg0)
      ∧ r.2.mem ((c.tc : Thread Cert.RefWiIdeal.nD Cert.RefWiIdeal.τ).loc Cert.RefWiIdeal.main_arg1) = m ((c.tc : Thread Cert.RefWiIdeal.nD Cert.RefWiIdeal.τ).loc Cert.RefWiIdeal.main_arg1)
      ∧ r.2.mem ((c.tc : Thread Cert.RefWiIdeal.nD Cert.RefWiIdeal.τ).loc Cert.RefWiIdeal.main_arg2) = m ((c.tc : Thread Cert.RefWiIdeal.nD Cert.RefWiIdeal.τ).loc Cert.RefWiIdeal.main_arg2)
      ∧ r.2.mem ((c.tc : Thread Cert.RefWiIdeal.nD Cert.RefWiIdeal.τ).loc Cert.RefWiIdeal.main_arg3) = m ((c.tc : Thread Cert.RefWiIdeal.nD Cert.RefWiIdeal.τ).loc Cert.RefWiIdeal.main_arg3)
      ∧ r.2.mem ((c.tc : Thread Cert.RefWiIdeal.nD Cert.RefWiIdeal.τ).loc Cert.RefWiIdeal.main_arg4) = m ((c.tc : Thread Cert.RefWiIdeal.nD Cert.RefWiIdeal.τ).loc Cert.RefWiIdeal.main_arg4)
      ∧ r.2.mem ((c.tc : Thread Cert.RefWiIdeal.nD Cert.RefWiIdeal.τ).loc Cert.RefWiIdeal.main_arg5) = m ((c.tc : Thread Cert.RefWiIdeal.nD Cert.RefWiIdeal.τ).loc Cert.RefWiIdeal.main_arg5)
      ∧ r.2.mem ((c.tc : Thread Cert.RefWiIdeal.nD Cert.RefWiIdeal.τ).loc Cert.RefWiIdeal.main_arg6) = m ((c.tc : Thread Cert.RefWiIdeal.nD Cert.RefWiIdeal.τ).loc Cert.RefWiIdeal.main_arg6)
      ∧ r.2.mem ((c.tc : Thread Cert.RefWiIdeal.nD Cert.RefWiIdeal.τ).loc Cert.RefWiIdeal.main_arg7) = m ((c.tc : Thread Cert.RefWiIdeal.nD Cert.RefWiIdeal.τ).loc Cert.RefWiIdeal.main_arg7))
      ∧ r.2.sem = fun _ => 0)

def quiescent_MixForward [hMixForward : Cert.MixForward.Facts] : Prop :=
  ∀ (m : (ℓ : Loc Cert.MixForward.nD Cert.MixForward.τ Cert.MixForward.sig) → Buf (Elt Bits) ℓ) (g : Dev Cert.MixForward.nD → PrngReg), Pre_MixForward m →
    θ_run (Cert.MixForward.defs (F := Bits)) (onTc (τ := Cert.MixForward.τ) (Cert.MixForward.main (F := Bits))) ⟨m, fun _ => 0, g⟩ (fun r => (∀ c : Dev Cert.MixForward.nD,
      r.2.mem ((c.tc : Thread Cert.MixForward.nD Cert.MixForward.τ).loc Cert.MixForward.main_arg0) = m ((c.tc : Thread Cert.MixForward.nD Cert.MixForward.τ).loc Cert.MixForward.main_arg0)
      ∧ r.2.mem ((c.tc : Thread Cert.MixForward.nD Cert.MixForward.τ).loc Cert.MixForward.main_arg1) = m ((c.tc : Thread Cert.MixForward.nD Cert.MixForward.τ).loc Cert.MixForward.main_arg1)
      ∧ r.2.mem ((c.tc : Thread Cert.MixForward.nD Cert.MixForward.τ).loc Cert.MixForward.main_arg2) = m ((c.tc : Thread Cert.MixForward.nD Cert.MixForward.τ).loc Cert.MixForward.main_arg2)
      ∧ r.2.mem ((c.tc : Thread Cert.MixForward.nD Cert.MixForward.τ).loc Cert.MixForward.main_arg3) = m ((c.tc : Thread Cert.MixForward.nD Cert.MixForward.τ).loc Cert.MixForward.main_arg3)
      ∧ r.2.mem ((c.tc : Thread Cert.MixForward.nD Cert.MixForward.τ).loc Cert.MixForward.main_arg4) = m ((c.tc : Thread Cert.MixForward.nD Cert.MixForward.τ).loc Cert.MixForward.main_arg4)
      ∧ r.2.mem ((c.tc : Thread Cert.MixForward.nD Cert.MixForward.τ).loc Cert.MixForward.main_arg5) = m ((c.tc : Thread Cert.MixForward.nD Cert.MixForward.τ).loc Cert.MixForward.main_arg5)
      ∧ r.2.mem ((c.tc : Thread Cert.MixForward.nD Cert.MixForward.τ).loc Cert.MixForward.main_arg6) = m ((c.tc : Thread Cert.MixForward.nD Cert.MixForward.τ).loc Cert.MixForward.main_arg6)
      ∧ r.2.mem ((c.tc : Thread Cert.MixForward.nD Cert.MixForward.τ).loc Cert.MixForward.main_arg7) = m ((c.tc : Thread Cert.MixForward.nD Cert.MixForward.τ).loc Cert.MixForward.main_arg7)
      ∧ r.2.mem ((c.tc : Thread Cert.MixForward.nD Cert.MixForward.τ).loc Cert.MixForward.main_arg8) = m ((c.tc : Thread Cert.MixForward.nD Cert.MixForward.τ).loc Cert.MixForward.main_arg8)
      ∧ r.2.mem ((c.tc : Thread Cert.MixForward.nD Cert.MixForward.τ).loc Cert.MixForward.main_arg9) = m ((c.tc : Thread Cert.MixForward.nD Cert.MixForward.τ).loc Cert.MixForward.main_arg9)
      ∧ r.2.mem ((c.tc : Thread Cert.MixForward.nD Cert.MixForward.τ).loc Cert.MixForward.main_arg10) = m ((c.tc : Thread Cert.MixForward.nD Cert.MixForward.τ).loc Cert.MixForward.main_arg10)
      ∧ r.2.mem ((c.tc : Thread Cert.MixForward.nD Cert.MixForward.τ).loc Cert.MixForward.main_arg11) = m ((c.tc : Thread Cert.MixForward.nD Cert.MixForward.τ).loc Cert.MixForward.main_arg11)
      ∧ r.2.mem ((c.tc : Thread Cert.MixForward.nD Cert.MixForward.τ).loc Cert.MixForward.main_arg12) = m ((c.tc : Thread Cert.MixForward.nD Cert.MixForward.τ).loc Cert.MixForward.main_arg12)
      ∧ r.2.mem ((c.tc : Thread Cert.MixForward.nD Cert.MixForward.τ).loc Cert.MixForward.main_arg13) = m ((c.tc : Thread Cert.MixForward.nD Cert.MixForward.τ).loc Cert.MixForward.main_arg13)
      ∧ r.2.mem ((c.tc : Thread Cert.MixForward.nD Cert.MixForward.τ).loc Cert.MixForward.main_arg14) = m ((c.tc : Thread Cert.MixForward.nD Cert.MixForward.τ).loc Cert.MixForward.main_arg14)
      ∧ r.2.mem ((c.tc : Thread Cert.MixForward.nD Cert.MixForward.τ).loc Cert.MixForward.main_arg15) = m ((c.tc : Thread Cert.MixForward.nD Cert.MixForward.τ).loc Cert.MixForward.main_arg15)
      ∧ r.2.mem ((c.tc : Thread Cert.MixForward.nD Cert.MixForward.τ).loc Cert.MixForward.main_arg16) = m ((c.tc : Thread Cert.MixForward.nD Cert.MixForward.τ).loc Cert.MixForward.main_arg16)
      ∧ r.2.mem ((c.tc : Thread Cert.MixForward.nD Cert.MixForward.τ).loc Cert.MixForward.main_arg17) = m ((c.tc : Thread Cert.MixForward.nD Cert.MixForward.τ).loc Cert.MixForward.main_arg17)
      ∧ r.2.mem ((c.tc : Thread Cert.MixForward.nD Cert.MixForward.τ).loc Cert.MixForward.main_arg18) = m ((c.tc : Thread Cert.MixForward.nD Cert.MixForward.τ).loc Cert.MixForward.main_arg18)
      ∧ r.2.mem ((c.tc : Thread Cert.MixForward.nD Cert.MixForward.τ).loc Cert.MixForward.main_arg19) = m ((c.tc : Thread Cert.MixForward.nD Cert.MixForward.τ).loc Cert.MixForward.main_arg19))
      ∧ r.2.sem = fun _ => 0)

def quiescent_MixForwardIdeal [hMixForwardIdeal : Cert.MixForwardIdeal.Facts] : Prop :=
  ∀ (m : (ℓ : Loc Cert.MixForwardIdeal.nD Cert.MixForwardIdeal.τ Cert.MixForwardIdeal.sig) → Buf (Elt Ideal) ℓ) (g : Dev Cert.MixForwardIdeal.nD → PrngReg), Pre_MixForwardIdeal m →
    θ_run (Cert.MixForwardIdeal.defs (F := Ideal)) (onTc (τ := Cert.MixForwardIdeal.τ) (Cert.MixForwardIdeal.main (F := Ideal))) ⟨m, fun _ => 0, g⟩ (fun r => (∀ c : Dev Cert.MixForwardIdeal.nD,
      r.2.mem ((c.tc : Thread Cert.MixForwardIdeal.nD Cert.MixForwardIdeal.τ).loc Cert.MixForwardIdeal.main_arg0) = m ((c.tc : Thread Cert.MixForwardIdeal.nD Cert.MixForwardIdeal.τ).loc Cert.MixForwardIdeal.main_arg0)
      ∧ r.2.mem ((c.tc : Thread Cert.MixForwardIdeal.nD Cert.MixForwardIdeal.τ).loc Cert.MixForwardIdeal.main_arg1) = m ((c.tc : Thread Cert.MixForwardIdeal.nD Cert.MixForwardIdeal.τ).loc Cert.MixForwardIdeal.main_arg1)
      ∧ r.2.mem ((c.tc : Thread Cert.MixForwardIdeal.nD Cert.MixForwardIdeal.τ).loc Cert.MixForwardIdeal.main_arg2) = m ((c.tc : Thread Cert.MixForwardIdeal.nD Cert.MixForwardIdeal.τ).loc Cert.MixForwardIdeal.main_arg2)
      ∧ r.2.mem ((c.tc : Thread Cert.MixForwardIdeal.nD Cert.MixForwardIdeal.τ).loc Cert.MixForwardIdeal.main_arg3) = m ((c.tc : Thread Cert.MixForwardIdeal.nD Cert.MixForwardIdeal.τ).loc Cert.MixForwardIdeal.main_arg3)
      ∧ r.2.mem ((c.tc : Thread Cert.MixForwardIdeal.nD Cert.MixForwardIdeal.τ).loc Cert.MixForwardIdeal.main_arg4) = m ((c.tc : Thread Cert.MixForwardIdeal.nD Cert.MixForwardIdeal.τ).loc Cert.MixForwardIdeal.main_arg4)
      ∧ r.2.mem ((c.tc : Thread Cert.MixForwardIdeal.nD Cert.MixForwardIdeal.τ).loc Cert.MixForwardIdeal.main_arg5) = m ((c.tc : Thread Cert.MixForwardIdeal.nD Cert.MixForwardIdeal.τ).loc Cert.MixForwardIdeal.main_arg5)
      ∧ r.2.mem ((c.tc : Thread Cert.MixForwardIdeal.nD Cert.MixForwardIdeal.τ).loc Cert.MixForwardIdeal.main_arg6) = m ((c.tc : Thread Cert.MixForwardIdeal.nD Cert.MixForwardIdeal.τ).loc Cert.MixForwardIdeal.main_arg6)
      ∧ r.2.mem ((c.tc : Thread Cert.MixForwardIdeal.nD Cert.MixForwardIdeal.τ).loc Cert.MixForwardIdeal.main_arg7) = m ((c.tc : Thread Cert.MixForwardIdeal.nD Cert.MixForwardIdeal.τ).loc Cert.MixForwardIdeal.main_arg7)
      ∧ r.2.mem ((c.tc : Thread Cert.MixForwardIdeal.nD Cert.MixForwardIdeal.τ).loc Cert.MixForwardIdeal.main_arg8) = m ((c.tc : Thread Cert.MixForwardIdeal.nD Cert.MixForwardIdeal.τ).loc Cert.MixForwardIdeal.main_arg8)
      ∧ r.2.mem ((c.tc : Thread Cert.MixForwardIdeal.nD Cert.MixForwardIdeal.τ).loc Cert.MixForwardIdeal.main_arg9) = m ((c.tc : Thread Cert.MixForwardIdeal.nD Cert.MixForwardIdeal.τ).loc Cert.MixForwardIdeal.main_arg9)
      ∧ r.2.mem ((c.tc : Thread Cert.MixForwardIdeal.nD Cert.MixForwardIdeal.τ).loc Cert.MixForwardIdeal.main_arg10) = m ((c.tc : Thread Cert.MixForwardIdeal.nD Cert.MixForwardIdeal.τ).loc Cert.MixForwardIdeal.main_arg10)
      ∧ r.2.mem ((c.tc : Thread Cert.MixForwardIdeal.nD Cert.MixForwardIdeal.τ).loc Cert.MixForwardIdeal.main_arg11) = m ((c.tc : Thread Cert.MixForwardIdeal.nD Cert.MixForwardIdeal.τ).loc Cert.MixForwardIdeal.main_arg11)
      ∧ r.2.mem ((c.tc : Thread Cert.MixForwardIdeal.nD Cert.MixForwardIdeal.τ).loc Cert.MixForwardIdeal.main_arg12) = m ((c.tc : Thread Cert.MixForwardIdeal.nD Cert.MixForwardIdeal.τ).loc Cert.MixForwardIdeal.main_arg12)
      ∧ r.2.mem ((c.tc : Thread Cert.MixForwardIdeal.nD Cert.MixForwardIdeal.τ).loc Cert.MixForwardIdeal.main_arg13) = m ((c.tc : Thread Cert.MixForwardIdeal.nD Cert.MixForwardIdeal.τ).loc Cert.MixForwardIdeal.main_arg13)
      ∧ r.2.mem ((c.tc : Thread Cert.MixForwardIdeal.nD Cert.MixForwardIdeal.τ).loc Cert.MixForwardIdeal.main_arg14) = m ((c.tc : Thread Cert.MixForwardIdeal.nD Cert.MixForwardIdeal.τ).loc Cert.MixForwardIdeal.main_arg14)
      ∧ r.2.mem ((c.tc : Thread Cert.MixForwardIdeal.nD Cert.MixForwardIdeal.τ).loc Cert.MixForwardIdeal.main_arg15) = m ((c.tc : Thread Cert.MixForwardIdeal.nD Cert.MixForwardIdeal.τ).loc Cert.MixForwardIdeal.main_arg15)
      ∧ r.2.mem ((c.tc : Thread Cert.MixForwardIdeal.nD Cert.MixForwardIdeal.τ).loc Cert.MixForwardIdeal.main_arg16) = m ((c.tc : Thread Cert.MixForwardIdeal.nD Cert.MixForwardIdeal.τ).loc Cert.MixForwardIdeal.main_arg16)
      ∧ r.2.mem ((c.tc : Thread Cert.MixForwardIdeal.nD Cert.MixForwardIdeal.τ).loc Cert.MixForwardIdeal.main_arg17) = m ((c.tc : Thread Cert.MixForwardIdeal.nD Cert.MixForwardIdeal.τ).loc Cert.MixForwardIdeal.main_arg17)
      ∧ r.2.mem ((c.tc : Thread Cert.MixForwardIdeal.nD Cert.MixForwardIdeal.τ).loc Cert.MixForwardIdeal.main_arg18) = m ((c.tc : Thread Cert.MixForwardIdeal.nD Cert.MixForwardIdeal.τ).loc Cert.MixForwardIdeal.main_arg18)
      ∧ r.2.mem ((c.tc : Thread Cert.MixForwardIdeal.nD Cert.MixForwardIdeal.τ).loc Cert.MixForwardIdeal.main_arg19) = m ((c.tc : Thread Cert.MixForwardIdeal.nD Cert.MixForwardIdeal.τ).loc Cert.MixForwardIdeal.main_arg19))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4)
      ∧ r.2.mem ((c.tc : Thread Cert.RefMixIdeal.nD Cert.RefMixIdeal.τ).loc Cert.RefMixIdeal.main_arg5) = m ((c.tc : Thread Cert.RefMixIdeal.nD Cert.RefMixIdeal.τ).loc Cert.RefMixIdeal.main_arg5)
      ∧ r.2.mem ((c.tc : Thread Cert.RefMixIdeal.nD Cert.RefMixIdeal.τ).loc Cert.RefMixIdeal.main_arg6) = m ((c.tc : Thread Cert.RefMixIdeal.nD Cert.RefMixIdeal.τ).loc Cert.RefMixIdeal.main_arg6)
      ∧ r.2.mem ((c.tc : Thread Cert.RefMixIdeal.nD Cert.RefMixIdeal.τ).loc Cert.RefMixIdeal.main_arg7) = m ((c.tc : Thread Cert.RefMixIdeal.nD Cert.RefMixIdeal.τ).loc Cert.RefMixIdeal.main_arg7)
      ∧ r.2.mem ((c.tc : Thread Cert.RefMixIdeal.nD Cert.RefMixIdeal.τ).loc Cert.RefMixIdeal.main_arg8) = m ((c.tc : Thread Cert.RefMixIdeal.nD Cert.RefMixIdeal.τ).loc Cert.RefMixIdeal.main_arg8)
      ∧ r.2.mem ((c.tc : Thread Cert.RefMixIdeal.nD Cert.RefMixIdeal.τ).loc Cert.RefMixIdeal.main_arg9) = m ((c.tc : Thread Cert.RefMixIdeal.nD Cert.RefMixIdeal.τ).loc Cert.RefMixIdeal.main_arg9)
      ∧ r.2.mem ((c.tc : Thread Cert.RefMixIdeal.nD Cert.RefMixIdeal.τ).loc Cert.RefMixIdeal.main_arg10) = m ((c.tc : Thread Cert.RefMixIdeal.nD Cert.RefMixIdeal.τ).loc Cert.RefMixIdeal.main_arg10)
      ∧ r.2.mem ((c.tc : Thread Cert.RefMixIdeal.nD Cert.RefMixIdeal.τ).loc Cert.RefMixIdeal.main_arg11) = m ((c.tc : Thread Cert.RefMixIdeal.nD Cert.RefMixIdeal.τ).loc Cert.RefMixIdeal.main_arg11)
      ∧ r.2.mem ((c.tc : Thread Cert.RefMixIdeal.nD Cert.RefMixIdeal.τ).loc Cert.RefMixIdeal.main_arg12) = m ((c.tc : Thread Cert.RefMixIdeal.nD Cert.RefMixIdeal.τ).loc Cert.RefMixIdeal.main_arg12)
      ∧ r.2.mem ((c.tc : Thread Cert.RefMixIdeal.nD Cert.RefMixIdeal.τ).loc Cert.RefMixIdeal.main_arg13) = m ((c.tc : Thread Cert.RefMixIdeal.nD Cert.RefMixIdeal.τ).loc Cert.RefMixIdeal.main_arg13)
      ∧ r.2.mem ((c.tc : Thread Cert.RefMixIdeal.nD Cert.RefMixIdeal.τ).loc Cert.RefMixIdeal.main_arg14) = m ((c.tc : Thread Cert.RefMixIdeal.nD Cert.RefMixIdeal.τ).loc Cert.RefMixIdeal.main_arg14)
      ∧ r.2.mem ((c.tc : Thread Cert.RefMixIdeal.nD Cert.RefMixIdeal.τ).loc Cert.RefMixIdeal.main_arg15) = m ((c.tc : Thread Cert.RefMixIdeal.nD Cert.RefMixIdeal.τ).loc Cert.RefMixIdeal.main_arg15)
      ∧ r.2.mem ((c.tc : Thread Cert.RefMixIdeal.nD Cert.RefMixIdeal.τ).loc Cert.RefMixIdeal.main_arg16) = m ((c.tc : Thread Cert.RefMixIdeal.nD Cert.RefMixIdeal.τ).loc Cert.RefMixIdeal.main_arg16)
      ∧ r.2.mem ((c.tc : Thread Cert.RefMixIdeal.nD Cert.RefMixIdeal.τ).loc Cert.RefMixIdeal.main_arg17) = m ((c.tc : Thread Cert.RefMixIdeal.nD Cert.RefMixIdeal.τ).loc Cert.RefMixIdeal.main_arg17)
      ∧ r.2.mem ((c.tc : Thread Cert.RefMixIdeal.nD Cert.RefMixIdeal.τ).loc Cert.RefMixIdeal.main_arg18) = m ((c.tc : Thread Cert.RefMixIdeal.nD Cert.RefMixIdeal.τ).loc Cert.RefMixIdeal.main_arg18)
      ∧ r.2.mem ((c.tc : Thread Cert.RefMixIdeal.nD Cert.RefMixIdeal.τ).loc Cert.RefMixIdeal.main_arg19) = m ((c.tc : Thread Cert.RefMixIdeal.nD Cert.RefMixIdeal.τ).loc Cert.RefMixIdeal.main_arg19))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_GradIn_GradInIdeal : Prop :=
  True

def algebraic_GradInIdeal_RefInIdeal [hGradInIdeal : Cert.GradInIdeal.Facts] [hRefInIdeal : Cert.RefInIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.RefInIdeal.nD Cert.RefInIdeal.τ Cert.RefInIdeal.sig) → Buf (Elt Ideal) ℓ) (g' : Dev Cert.RefInIdeal.nD → PrngReg), Pre_GradInIdeal m →
    (∀ c : Dev Cert.GradInIdeal.nD,
      m' ((c.tc : Thread Cert.RefInIdeal.nD Cert.RefInIdeal.τ).loc Cert.RefInIdeal.main_arg0) = m ((c.tc : Thread Cert.GradInIdeal.nD Cert.GradInIdeal.τ).loc Cert.GradInIdeal.main_arg0)
      ∧ m' ((c.tc : Thread Cert.RefInIdeal.nD Cert.RefInIdeal.τ).loc Cert.RefInIdeal.main_arg1) = m ((c.tc : Thread Cert.GradInIdeal.nD Cert.GradInIdeal.τ).loc Cert.GradInIdeal.main_arg1)
      ∧ m' ((c.tc : Thread Cert.RefInIdeal.nD Cert.RefInIdeal.τ).loc Cert.RefInIdeal.main_arg2) = m ((c.tc : Thread Cert.GradInIdeal.nD Cert.GradInIdeal.τ).loc Cert.GradInIdeal.main_arg2)
      ∧ m' ((c.tc : Thread Cert.RefInIdeal.nD Cert.RefInIdeal.τ).loc Cert.RefInIdeal.main_arg3) = m ((c.tc : Thread Cert.GradInIdeal.nD Cert.GradInIdeal.τ).loc Cert.GradInIdeal.main_arg3)
      ∧ m' ((c.tc : Thread Cert.RefInIdeal.nD Cert.RefInIdeal.τ).loc Cert.RefInIdeal.main_arg4) = m ((c.tc : Thread Cert.GradInIdeal.nD Cert.GradInIdeal.τ).loc Cert.GradInIdeal.main_arg4)
      ∧ m' ((c.tc : Thread Cert.RefInIdeal.nD Cert.RefInIdeal.τ).loc Cert.RefInIdeal.main_arg5) = m ((c.tc : Thread Cert.GradInIdeal.nD Cert.GradInIdeal.τ).loc Cert.GradInIdeal.main_arg5)
      ∧ m' ((c.tc : Thread Cert.RefInIdeal.nD Cert.RefInIdeal.τ).loc Cert.RefInIdeal.main_arg6) = m ((c.tc : Thread Cert.GradInIdeal.nD Cert.GradInIdeal.τ).loc Cert.GradInIdeal.main_arg6)) →
    ∃ (v0 : (c : Dev Cert.GradInIdeal.nD) → Buf (Elt Ideal) ((c.tc : Thread Cert.GradInIdeal.nD Cert.GradInIdeal.τ).loc Cert.GradInIdeal.main_v30)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v30) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
          ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
          ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4)
          ∧ r.2.mem ((c.tc : Thread Cert.GradInIdeal.nD Cert.GradInIdeal.τ).loc Cert.GradInIdeal.main_arg5) = m ((c.tc : Thread Cert.GradInIdeal.nD Cert.GradInIdeal.τ).loc Cert.GradInIdeal.main_arg5)
          ∧ r.2.mem ((c.tc : Thread Cert.GradInIdeal.nD Cert.GradInIdeal.τ).loc Cert.GradInIdeal.main_arg6) = m ((c.tc : Thread Cert.GradInIdeal.nD Cert.GradInIdeal.τ).loc Cert.GradInIdeal.main_arg6))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v34) = v0 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3)
          ∧ r.2.mem ((c.tc : Thread Cert.RefInIdeal.nD Cert.RefInIdeal.τ).loc Cert.RefInIdeal.main_arg4) = m' ((c.tc : Thread Cert.RefInIdeal.nD Cert.RefInIdeal.τ).loc Cert.RefInIdeal.main_arg4)
          ∧ r.2.mem ((c.tc : Thread Cert.RefInIdeal.nD Cert.RefInIdeal.τ).loc Cert.RefInIdeal.main_arg5) = m' ((c.tc : Thread Cert.RefInIdeal.nD Cert.RefInIdeal.τ).loc Cert.RefInIdeal.main_arg5)
          ∧ r.2.mem ((c.tc : Thread Cert.RefInIdeal.nD Cert.RefInIdeal.τ).loc Cert.RefInIdeal.main_arg6) = m' ((c.tc : Thread Cert.RefInIdeal.nD Cert.RefInIdeal.τ).loc Cert.RefInIdeal.main_arg6))

def preserves_GradOut_GradOutIdeal : Prop :=
  True

def algebraic_GradOutIdeal_RefOutIdeal_pre_out_finite [hGradOutIdeal : Cert.GradOutIdeal.Facts] [hRefOutIdeal : Cert.RefOutIdeal.Facts] [hPre_out_finite : Cert.Pre_out_finite.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_GradOutIdeal_out_finite m →
    (∀ c : Dev Cert.GradOutIdeal.nD,
      m' ((c.tc : Thread Cert.RefOutIdeal.nD Cert.RefOutIdeal.τ).loc Cert.RefOutIdeal.main_arg0) = m ((c.tc : Thread Cert.GradOutIdeal.nD Cert.GradOutIdeal.τ).loc Cert.GradOutIdeal.main_arg0)
      ∧ m' ((c.tc : Thread Cert.RefOutIdeal.nD Cert.RefOutIdeal.τ).loc Cert.RefOutIdeal.main_arg1) = m ((c.tc : Thread Cert.GradOutIdeal.nD Cert.GradOutIdeal.τ).loc Cert.GradOutIdeal.main_arg1)
      ∧ m' ((c.tc : Thread Cert.RefOutIdeal.nD Cert.RefOutIdeal.τ).loc Cert.RefOutIdeal.main_arg2) = m ((c.tc : Thread Cert.GradOutIdeal.nD Cert.GradOutIdeal.τ).loc Cert.GradOutIdeal.main_arg2)
      ∧ m' ((c.tc : Thread Cert.RefOutIdeal.nD Cert.RefOutIdeal.τ).loc Cert.RefOutIdeal.main_arg3) = m ((c.tc : Thread Cert.GradOutIdeal.nD Cert.GradOutIdeal.τ).loc Cert.GradOutIdeal.main_arg3)
      ∧ m' ((c.tc : Thread Cert.RefOutIdeal.nD Cert.RefOutIdeal.τ).loc Cert.RefOutIdeal.main_arg4) = m ((c.tc : Thread Cert.GradOutIdeal.nD Cert.GradOutIdeal.τ).loc Cert.GradOutIdeal.main_arg4)
      ∧ m' ((c.tc : Thread Cert.RefOutIdeal.nD Cert.RefOutIdeal.τ).loc Cert.RefOutIdeal.main_arg5) = m ((c.tc : Thread Cert.GradOutIdeal.nD Cert.GradOutIdeal.τ).loc Cert.GradOutIdeal.main_arg5)
      ∧ m' ((c.tc : Thread Cert.RefOutIdeal.nD Cert.RefOutIdeal.τ).loc Cert.RefOutIdeal.main_arg6) = m ((c.tc : Thread Cert.GradOutIdeal.nD Cert.GradOutIdeal.τ).loc Cert.GradOutIdeal.main_arg6)
      ∧ m' ((c.tc : Thread Cert.RefOutIdeal.nD Cert.RefOutIdeal.τ).loc Cert.RefOutIdeal.main_arg7) = m ((c.tc : Thread Cert.GradOutIdeal.nD Cert.GradOutIdeal.τ).loc Cert.GradOutIdeal.main_arg7)) →
    ∃ (v0 : (c : Dev Cert.GradOutIdeal.nD) → Buf (Elt Ideal) ((c.tc : Thread Cert.GradOutIdeal.nD Cert.GradOutIdeal.τ).loc Cert.GradOutIdeal.main_v38_0)) (v1 : (c : Dev Cert.GradOutIdeal.nD) → Buf (Elt Ideal) ((c.tc : Thread Cert.GradOutIdeal.nD Cert.GradOutIdeal.τ).loc Cert.GradOutIdeal.main_v38_1)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v38_0) = v0 c
          ∧ r.2.mem ((c.tc : Thread Cert.GradOutIdeal.nD Cert.GradOutIdeal.τ).loc Cert.GradOutIdeal.main_v38_1) = v1 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
          ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2)
          ∧ r.2.mem ((c.tc : Thread Cert.GradOutIdeal.nD Cert.GradOutIdeal.τ).loc Cert.GradOutIdeal.main_arg3) = m ((c.tc : Thread Cert.GradOutIdeal.nD Cert.GradOutIdeal.τ).loc Cert.GradOutIdeal.main_arg3)
          ∧ r.2.mem ((c.tc : Thread Cert.GradOutIdeal.nD Cert.GradOutIdeal.τ).loc Cert.GradOutIdeal.main_arg4) = m ((c.tc : Thread Cert.GradOutIdeal.nD Cert.GradOutIdeal.τ).loc Cert.GradOutIdeal.main_arg4)
          ∧ r.2.mem ((c.tc : Thread Cert.GradOutIdeal.nD Cert.GradOutIdeal.τ).loc Cert.GradOutIdeal.main_arg5) = m ((c.tc : Thread Cert.GradOutIdeal.nD Cert.GradOutIdeal.τ).loc Cert.GradOutIdeal.main_arg5)
          ∧ r.2.mem ((c.tc : Thread Cert.GradOutIdeal.nD Cert.GradOutIdeal.τ).loc Cert.GradOutIdeal.main_arg6) = m ((c.tc : Thread Cert.GradOutIdeal.nD Cert.GradOutIdeal.τ).loc Cert.GradOutIdeal.main_arg6)
          ∧ r.2.mem ((c.tc : Thread Cert.GradOutIdeal.nD Cert.GradOutIdeal.τ).loc Cert.GradOutIdeal.main_arg7) = m ((c.tc : Thread Cert.GradOutIdeal.nD Cert.GradOutIdeal.τ).loc Cert.GradOutIdeal.main_arg7))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v47) = v0 c
          ∧ r.2.mem ((c.tc : Thread Cert.RefOutIdeal.nD Cert.RefOutIdeal.τ).loc Cert.RefOutIdeal.main_v49) = v1 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4)
          ∧ r.2.mem ((c.tc : Thread Cert.RefOutIdeal.nD Cert.RefOutIdeal.τ).loc Cert.RefOutIdeal.main_arg5) = m' ((c.tc : Thread Cert.RefOutIdeal.nD Cert.RefOutIdeal.τ).loc Cert.RefOutIdeal.main_arg5)
          ∧ r.2.mem ((c.tc : Thread Cert.RefOutIdeal.nD Cert.RefOutIdeal.τ).loc Cert.RefOutIdeal.main_arg6) = m' ((c.tc : Thread Cert.RefOutIdeal.nD Cert.RefOutIdeal.τ).loc Cert.RefOutIdeal.main_arg6)
          ∧ r.2.mem ((c.tc : Thread Cert.RefOutIdeal.nD Cert.RefOutIdeal.τ).loc Cert.RefOutIdeal.main_arg7) = m' ((c.tc : Thread Cert.RefOutIdeal.nD Cert.RefOutIdeal.τ).loc Cert.RefOutIdeal.main_arg7))

def preserves_FfnForward_FfnForwardIdeal : Prop :=
  True

def algebraic_FfnForwardIdeal_RefFfnIdeal_pre_forward_finite [hFfnForwardIdeal : Cert.FfnForwardIdeal.Facts] [hRefFfnIdeal : Cert.RefFfnIdeal.Facts] [hPre_forward_finite : Cert.Pre_forward_finite.Facts] : Prop :=
  ∀ (m : (ℓ : Loc Cert.FfnForwardIdeal.nD Cert.FfnForwardIdeal.τ Cert.FfnForwardIdeal.sig) → Buf (Elt Ideal) ℓ) (g : Dev Cert.FfnForwardIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnForwardIdeal_forward_finite m →
    (∀ c : Dev Cert.FfnForwardIdeal.nD,
      m' ((c.tc : Thread Cert.RefFfnIdeal.nD Cert.RefFfnIdeal.τ).loc Cert.RefFfnIdeal.main_arg0) = m ((c.tc : Thread Cert.FfnForwardIdeal.nD Cert.FfnForwardIdeal.τ).loc Cert.FfnForwardIdeal.main_arg0)
      ∧ m' ((c.tc : Thread Cert.RefFfnIdeal.nD Cert.RefFfnIdeal.τ).loc Cert.RefFfnIdeal.main_arg1) = m ((c.tc : Thread Cert.FfnForwardIdeal.nD Cert.FfnForwardIdeal.τ).loc Cert.FfnForwardIdeal.main_arg1)
      ∧ m' ((c.tc : Thread Cert.RefFfnIdeal.nD Cert.RefFfnIdeal.τ).loc Cert.RefFfnIdeal.main_arg2) = m ((c.tc : Thread Cert.FfnForwardIdeal.nD Cert.FfnForwardIdeal.τ).loc Cert.FfnForwardIdeal.main_arg2)
      ∧ m' ((c.tc : Thread Cert.RefFfnIdeal.nD Cert.RefFfnIdeal.τ).loc Cert.RefFfnIdeal.main_arg3) = m ((c.tc : Thread Cert.FfnForwardIdeal.nD Cert.FfnForwardIdeal.τ).loc Cert.FfnForwardIdeal.main_arg3)
      ∧ m' ((c.tc : Thread Cert.RefFfnIdeal.nD Cert.RefFfnIdeal.τ).loc Cert.RefFfnIdeal.main_arg4) = m ((c.tc : Thread Cert.FfnForwardIdeal.nD Cert.FfnForwardIdeal.τ).loc Cert.FfnForwardIdeal.main_arg4)
      ∧ m' ((c.tc : Thread Cert.RefFfnIdeal.nD Cert.RefFfnIdeal.τ).loc Cert.RefFfnIdeal.main_arg5) = m ((c.tc : Thread Cert.FfnForwardIdeal.nD Cert.FfnForwardIdeal.τ).loc Cert.FfnForwardIdeal.main_arg5)
      ∧ m' ((c.tc : Thread Cert.RefFfnIdeal.nD Cert.RefFfnIdeal.τ).loc Cert.RefFfnIdeal.main_arg6) = m ((c.tc : Thread Cert.FfnForwardIdeal.nD Cert.FfnForwardIdeal.τ).loc Cert.FfnForwardIdeal.main_arg6)
      ∧ m' ((c.tc : Thread Cert.RefFfnIdeal.nD Cert.RefFfnIdeal.τ).loc Cert.RefFfnIdeal.main_arg7) = m ((c.tc : Thread Cert.FfnForwardIdeal.nD Cert.FfnForwardIdeal.τ).loc Cert.FfnForwardIdeal.main_arg7)
      ∧ m' ((c.tc : Thread Cert.RefFfnIdeal.nD Cert.RefFfnIdeal.τ).loc Cert.RefFfnIdeal.main_arg8) = m ((c.tc : Thread Cert.FfnForwardIdeal.nD Cert.FfnForwardIdeal.τ).loc Cert.FfnForwardIdeal.main_arg8)
      ∧ m' ((c.tc : Thread Cert.RefFfnIdeal.nD Cert.RefFfnIdeal.τ).loc Cert.RefFfnIdeal.main_arg9) = m ((c.tc : Thread Cert.FfnForwardIdeal.nD Cert.FfnForwardIdeal.τ).loc Cert.FfnForwardIdeal.main_arg9)
      ∧ m' ((c.tc : Thread Cert.RefFfnIdeal.nD Cert.RefFfnIdeal.τ).loc Cert.RefFfnIdeal.main_arg10) = m ((c.tc : Thread Cert.FfnForwardIdeal.nD Cert.FfnForwardIdeal.τ).loc Cert.FfnForwardIdeal.main_arg10)) →
    ∃ (v0 : (c : Dev Cert.FfnForwardIdeal.nD) → Buf (Elt Ideal) ((c.tc : Thread Cert.FfnForwardIdeal.nD Cert.FfnForwardIdeal.τ).loc Cert.FfnForwardIdeal.main_v17_0)) (v1 : (c : Dev Cert.FfnForwardIdeal.nD) → Buf (Elt Ideal) ((c.tc : Thread Cert.FfnForwardIdeal.nD Cert.FfnForwardIdeal.τ).loc Cert.FfnForwardIdeal.main_v17_1)) (v2 : (c : Dev Cert.FfnForwardIdeal.nD) → Buf (Elt Ideal) ((c.tc : Thread Cert.FfnForwardIdeal.nD Cert.FfnForwardIdeal.τ).loc Cert.FfnForwardIdeal.main_v17_2)) (v3 : (c : Dev Cert.FfnForwardIdeal.nD) → Buf (Elt Ideal) ((c.tc : Thread Cert.FfnForwardIdeal.nD Cert.FfnForwardIdeal.τ).loc Cert.FfnForwardIdeal.main_v17_3)) (v4 : (c : Dev Cert.FfnForwardIdeal.nD) → Buf (Elt Ideal) ((c.tc : Thread Cert.FfnForwardIdeal.nD Cert.FfnForwardIdeal.τ).loc Cert.FfnForwardIdeal.main_v17_4)) (v5 : (c : Dev Cert.FfnForwardIdeal.nD) → Buf (Elt Ideal) ((c.tc : Thread Cert.FfnForwardIdeal.nD Cert.FfnForwardIdeal.τ).loc Cert.FfnForwardIdeal.main_v17_5)),
      θ_run (Cert.FfnForwardIdeal.defs (F := Ideal)) (onTc (τ := Cert.FfnForwardIdeal.τ) (Cert.FfnForwardIdeal.main (F := Ideal))) ⟨m, fun _ => 0, g⟩ (fun r => ∀ c : Dev Cert.FfnForwardIdeal.nD,
          r.2.mem ((c.tc : Thread Cert.FfnForwardIdeal.nD Cert.FfnForwardIdeal.τ).loc Cert.FfnForwardIdeal.main_v17_0) = v0 c
          ∧ r.2.mem ((c.tc : Thread Cert.FfnForwardIdeal.nD Cert.FfnForwardIdeal.τ).loc Cert.FfnForwardIdeal.main_v17_1) = v1 c
          ∧ r.2.mem ((c.tc : Thread Cert.FfnForwardIdeal.nD Cert.FfnForwardIdeal.τ).loc Cert.FfnForwardIdeal.main_v17_2) = v2 c
          ∧ r.2.mem ((c.tc : Thread Cert.FfnForwardIdeal.nD Cert.FfnForwardIdeal.τ).loc Cert.FfnForwardIdeal.main_v17_3) = v3 c
          ∧ r.2.mem ((c.tc : Thread Cert.FfnForwardIdeal.nD Cert.FfnForwardIdeal.τ).loc Cert.FfnForwardIdeal.main_v17_4) = v4 c
          ∧ r.2.mem ((c.tc : Thread Cert.FfnForwardIdeal.nD Cert.FfnForwardIdeal.τ).loc Cert.FfnForwardIdeal.main_v17_5) = v5 c
          ∧ r.2.mem ((c.tc : Thread Cert.FfnForwardIdeal.nD Cert.FfnForwardIdeal.τ).loc Cert.FfnForwardIdeal.main_arg0) = m ((c.tc : Thread Cert.FfnForwardIdeal.nD Cert.FfnForwardIdeal.τ).loc Cert.FfnForwardIdeal.main_arg0)
          ∧ r.2.mem ((c.tc : Thread Cert.FfnForwardIdeal.nD Cert.FfnForwardIdeal.τ).loc Cert.FfnForwardIdeal.main_arg1) = m ((c.tc : Thread Cert.FfnForwardIdeal.nD Cert.FfnForwardIdeal.τ).loc Cert.FfnForwardIdeal.main_arg1)
          ∧ r.2.mem ((c.tc : Thread Cert.FfnForwardIdeal.nD Cert.FfnForwardIdeal.τ).loc Cert.FfnForwardIdeal.main_arg2) = m ((c.tc : Thread Cert.FfnForwardIdeal.nD Cert.FfnForwardIdeal.τ).loc Cert.FfnForwardIdeal.main_arg2)
          ∧ r.2.mem ((c.tc : Thread Cert.FfnForwardIdeal.nD Cert.FfnForwardIdeal.τ).loc Cert.FfnForwardIdeal.main_arg3) = m ((c.tc : Thread Cert.FfnForwardIdeal.nD Cert.FfnForwardIdeal.τ).loc Cert.FfnForwardIdeal.main_arg3)
          ∧ r.2.mem ((c.tc : Thread Cert.FfnForwardIdeal.nD Cert.FfnForwardIdeal.τ).loc Cert.FfnForwardIdeal.main_arg4) = m ((c.tc : Thread Cert.FfnForwardIdeal.nD Cert.FfnForwardIdeal.τ).loc Cert.FfnForwardIdeal.main_arg4)
          ∧ r.2.mem ((c.tc : Thread Cert.FfnForwardIdeal.nD Cert.FfnForwardIdeal.τ).loc Cert.FfnForwardIdeal.main_arg5) = m ((c.tc : Thread Cert.FfnForwardIdeal.nD Cert.FfnForwardIdeal.τ).loc Cert.FfnForwardIdeal.main_arg5)
          ∧ r.2.mem ((c.tc : Thread Cert.FfnForwardIdeal.nD Cert.FfnForwardIdeal.τ).loc Cert.FfnForwardIdeal.main_arg6) = m ((c.tc : Thread Cert.FfnForwardIdeal.nD Cert.FfnForwardIdeal.τ).loc Cert.FfnForwardIdeal.main_arg6)
          ∧ r.2.mem ((c.tc : Thread Cert.FfnForwardIdeal.nD Cert.FfnForwardIdeal.τ).loc Cert.FfnForwardIdeal.main_arg7) = m ((c.tc : Thread Cert.FfnForwardIdeal.nD Cert.FfnForwardIdeal.τ).loc Cert.FfnForwardIdeal.main_arg7)
          ∧ r.2.mem ((c.tc : Thread Cert.FfnForwardIdeal.nD Cert.FfnForwardIdeal.τ).loc Cert.FfnForwardIdeal.main_arg8) = m ((c.tc : Thread Cert.FfnForwardIdeal.nD Cert.FfnForwardIdeal.τ).loc Cert.FfnForwardIdeal.main_arg8)
          ∧ r.2.mem ((c.tc : Thread Cert.FfnForwardIdeal.nD Cert.FfnForwardIdeal.τ).loc Cert.FfnForwardIdeal.main_arg9) = m ((c.tc : Thread Cert.FfnForwardIdeal.nD Cert.FfnForwardIdeal.τ).loc Cert.FfnForwardIdeal.main_arg9)
          ∧ r.2.mem ((c.tc : Thread Cert.FfnForwardIdeal.nD Cert.FfnForwardIdeal.τ).loc Cert.FfnForwardIdeal.main_arg10) = m ((c.tc : Thread Cert.FfnForwardIdeal.nD Cert.FfnForwardIdeal.τ).loc Cert.FfnForwardIdeal.main_arg10))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v119) = v0 c
          ∧ r.2.mem ((c.tc : Thread Cert.RefFfnIdeal.nD Cert.RefFfnIdeal.τ).loc Cert.RefFfnIdeal.main_v120) = v1 c
          ∧ r.2.mem ((c.tc : Thread Cert.RefFfnIdeal.nD Cert.RefFfnIdeal.τ).loc Cert.RefFfnIdeal.main_v121) = v2 c
          ∧ r.2.mem ((c.tc : Thread Cert.RefFfnIdeal.nD Cert.RefFfnIdeal.τ).loc Cert.RefFfnIdeal.main_v122) = v3 c
          ∧ r.2.mem ((c.tc : Thread Cert.RefFfnIdeal.nD Cert.RefFfnIdeal.τ).loc Cert.RefFfnIdeal.main_v108) = v4 c
          ∧ r.2.mem ((c.tc : Thread Cert.RefFfnIdeal.nD Cert.RefFfnIdeal.τ).loc Cert.RefFfnIdeal.main_v118) = v5 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5)
          ∧ r.2.mem ((c.tc : Thread Cert.RefFfnIdeal.nD Cert.RefFfnIdeal.τ).loc Cert.RefFfnIdeal.main_arg6) = m' ((c.tc : Thread Cert.RefFfnIdeal.nD Cert.RefFfnIdeal.τ).loc Cert.RefFfnIdeal.main_arg6)
          ∧ r.2.mem ((c.tc : Thread Cert.RefFfnIdeal.nD Cert.RefFfnIdeal.τ).loc Cert.RefFfnIdeal.main_arg7) = m' ((c.tc : Thread Cert.RefFfnIdeal.nD Cert.RefFfnIdeal.τ).loc Cert.RefFfnIdeal.main_arg7)
          ∧ r.2.mem ((c.tc : Thread Cert.RefFfnIdeal.nD Cert.RefFfnIdeal.τ).loc Cert.RefFfnIdeal.main_arg8) = m' ((c.tc : Thread Cert.RefFfnIdeal.nD Cert.RefFfnIdeal.τ).loc Cert.RefFfnIdeal.main_arg8)
          ∧ r.2.mem ((c.tc : Thread Cert.RefFfnIdeal.nD Cert.RefFfnIdeal.τ).loc Cert.RefFfnIdeal.main_arg9) = m' ((c.tc : Thread Cert.RefFfnIdeal.nD Cert.RefFfnIdeal.τ).loc Cert.RefFfnIdeal.main_arg9)
          ∧ r.2.mem ((c.tc : Thread Cert.RefFfnIdeal.nD Cert.RefFfnIdeal.τ).loc Cert.RefFfnIdeal.main_arg10) = m' ((c.tc : Thread Cert.RefFfnIdeal.nD Cert.RefFfnIdeal.τ).loc Cert.RefFfnIdeal.main_arg10))

def preserves_GradWo_GradWoIdeal : Prop :=
  True

def algebraic_GradWoIdeal_RefWoIdeal_pre_wo_finite [hGradWoIdeal : Cert.GradWoIdeal.Facts] [hRefWoIdeal : Cert.RefWoIdeal.Facts] [hPre_wo_finite : Cert.Pre_wo_finite.Facts] : Prop :=
  ∀ (m : (ℓ : Loc Cert.GradWoIdeal.nD Cert.GradWoIdeal.τ Cert.GradWoIdeal.sig) → Buf (Elt Ideal) ℓ) (g : Dev Cert.GradWoIdeal.nD → PrngReg)
    (m' : (ℓ : Loc Cert.RefWoIdeal.nD Cert.RefWoIdeal.τ Cert.RefWoIdeal.sig) → Buf (Elt Ideal) ℓ) (g' : Dev Cert.RefWoIdeal.nD → PrngReg), Pre_GradWoIdeal_wo_finite m →
    (∀ c : Dev Cert.GradWoIdeal.nD,
      m' ((c.tc : Thread Cert.RefWoIdeal.nD Cert.RefWoIdeal.τ).loc Cert.RefWoIdeal.main_arg0) = m ((c.tc : Thread Cert.GradWoIdeal.nD Cert.GradWoIdeal.τ).loc Cert.GradWoIdeal.main_arg0)
      ∧ m' ((c.tc : Thread Cert.RefWoIdeal.nD Cert.RefWoIdeal.τ).loc Cert.RefWoIdeal.main_arg1) = m ((c.tc : Thread Cert.GradWoIdeal.nD Cert.GradWoIdeal.τ).loc Cert.GradWoIdeal.main_arg1)
      ∧ m' ((c.tc : Thread Cert.RefWoIdeal.nD Cert.RefWoIdeal.τ).loc Cert.RefWoIdeal.main_arg2) = m ((c.tc : Thread Cert.GradWoIdeal.nD Cert.GradWoIdeal.τ).loc Cert.GradWoIdeal.main_arg2)
      ∧ m' ((c.tc : Thread Cert.RefWoIdeal.nD Cert.RefWoIdeal.τ).loc Cert.RefWoIdeal.main_arg3) = m ((c.tc : Thread Cert.GradWoIdeal.nD Cert.GradWoIdeal.τ).loc Cert.GradWoIdeal.main_arg3)
      ∧ m' ((c.tc : Thread Cert.RefWoIdeal.nD Cert.RefWoIdeal.τ).loc Cert.RefWoIdeal.main_arg4) = m ((c.tc : Thread Cert.GradWoIdeal.nD Cert.GradWoIdeal.τ).loc Cert.GradWoIdeal.main_arg4)
      ∧ m' ((c.tc : Thread Cert.RefWoIdeal.nD Cert.RefWoIdeal.τ).loc Cert.RefWoIdeal.main_arg5) = m ((c.tc : Thread Cert.GradWoIdeal.nD Cert.GradWoIdeal.τ).loc Cert.GradWoIdeal.main_arg5)) →
    ∃ (v0 : (c : Dev Cert.GradWoIdeal.nD) → Buf (Elt Ideal) ((c.tc : Thread Cert.GradWoIdeal.nD Cert.GradWoIdeal.τ).loc Cert.GradWoIdeal.main_v10_0)) (v1 : (c : Dev Cert.GradWoIdeal.nD) → Buf (Elt Ideal) ((c.tc : Thread Cert.GradWoIdeal.nD Cert.GradWoIdeal.τ).loc Cert.GradWoIdeal.main_v10_1)),
      θ_run (Cert.GradWoIdeal.defs (F := Ideal)) (onTc (τ := Cert.GradWoIdeal.τ) (Cert.GradWoIdeal.main (F := Ideal))) ⟨m, fun _ => 0, g⟩ (fun r => ∀ c : Dev Cert.GradWoIdeal.nD,
          r.2.mem ((c.tc : Thread Cert.GradWoIdeal.nD Cert.GradWoIdeal.τ).loc Cert.GradWoIdeal.main_v10_0) = v0 c
          ∧ r.2.mem ((c.tc : Thread Cert.GradWoIdeal.nD Cert.GradWoIdeal.τ).loc Cert.GradWoIdeal.main_v10_1) = v1 c
          ∧ r.2.mem ((c.tc : Thread Cert.GradWoIdeal.nD Cert.GradWoIdeal.τ).loc Cert.GradWoIdeal.main_arg0) = m ((c.tc : Thread Cert.GradWoIdeal.nD Cert.GradWoIdeal.τ).loc Cert.GradWoIdeal.main_arg0)
          ∧ r.2.mem ((c.tc : Thread Cert.GradWoIdeal.nD Cert.GradWoIdeal.τ).loc Cert.GradWoIdeal.main_arg1) = m ((c.tc : Thread Cert.GradWoIdeal.nD Cert.GradWoIdeal.τ).loc Cert.GradWoIdeal.main_arg1)
          ∧ r.2.mem ((c.tc : Thread Cert.GradWoIdeal.nD Cert.GradWoIdeal.τ).loc Cert.GradWoIdeal.main_arg2) = m ((c.tc : Thread Cert.GradWoIdeal.nD Cert.GradWoIdeal.τ).loc Cert.GradWoIdeal.main_arg2)
          ∧ r.2.mem ((c.tc : Thread Cert.GradWoIdeal.nD Cert.GradWoIdeal.τ).loc Cert.GradWoIdeal.main_arg3) = m ((c.tc : Thread Cert.GradWoIdeal.nD Cert.GradWoIdeal.τ).loc Cert.GradWoIdeal.main_arg3)
          ∧ r.2.mem ((c.tc : Thread Cert.GradWoIdeal.nD Cert.GradWoIdeal.τ).loc Cert.GradWoIdeal.main_arg4) = m ((c.tc : Thread Cert.GradWoIdeal.nD Cert.GradWoIdeal.τ).loc Cert.GradWoIdeal.main_arg4)
          ∧ r.2.mem ((c.tc : Thread Cert.GradWoIdeal.nD Cert.GradWoIdeal.τ).loc Cert.GradWoIdeal.main_arg5) = m ((c.tc : Thread Cert.GradWoIdeal.nD Cert.GradWoIdeal.τ).loc Cert.GradWoIdeal.main_arg5))
      ∧ θ_run (Cert.RefWoIdeal.defs (F := Ideal)) (onTc (τ := Cert.RefWoIdeal.τ) (Cert.RefWoIdeal.main (F := Ideal))) ⟨m', fun _ => 0, g'⟩ (fun r => ∀ c : Dev Cert.RefWoIdeal.nD,
          r.2.mem ((c.tc : Thread Cert.RefWoIdeal.nD Cert.RefWoIdeal.τ).loc Cert.RefWoIdeal.main_v18) = v0 c
          ∧ r.2.mem ((c.tc : Thread Cert.RefWoIdeal.nD Cert.RefWoIdeal.τ).loc Cert.RefWoIdeal.main_v20) = v1 c
          ∧ r.2.mem ((c.tc : Thread Cert.RefWoIdeal.nD Cert.RefWoIdeal.τ).loc Cert.RefWoIdeal.main_arg0) = m' ((c.tc : Thread Cert.RefWoIdeal.nD Cert.RefWoIdeal.τ).loc Cert.RefWoIdeal.main_arg0)
          ∧ r.2.mem ((c.tc : Thread Cert.RefWoIdeal.nD Cert.RefWoIdeal.τ).loc Cert.RefWoIdeal.main_arg1) = m' ((c.tc : Thread Cert.RefWoIdeal.nD Cert.RefWoIdeal.τ).loc Cert.RefWoIdeal.main_arg1)
          ∧ r.2.mem ((c.tc : Thread Cert.RefWoIdeal.nD Cert.RefWoIdeal.τ).loc Cert.RefWoIdeal.main_arg2) = m' ((c.tc : Thread Cert.RefWoIdeal.nD Cert.RefWoIdeal.τ).loc Cert.RefWoIdeal.main_arg2)
          ∧ r.2.mem ((c.tc : Thread Cert.RefWoIdeal.nD Cert.RefWoIdeal.τ).loc Cert.RefWoIdeal.main_arg3) = m' ((c.tc : Thread Cert.RefWoIdeal.nD Cert.RefWoIdeal.τ).loc Cert.RefWoIdeal.main_arg3)
          ∧ r.2.mem ((c.tc : Thread Cert.RefWoIdeal.nD Cert.RefWoIdeal.τ).loc Cert.RefWoIdeal.main_arg4) = m' ((c.tc : Thread Cert.RefWoIdeal.nD Cert.RefWoIdeal.τ).loc Cert.RefWoIdeal.main_arg4)
          ∧ r.2.mem ((c.tc : Thread Cert.RefWoIdeal.nD Cert.RefWoIdeal.τ).loc Cert.RefWoIdeal.main_arg5) = m' ((c.tc : Thread Cert.RefWoIdeal.nD Cert.RefWoIdeal.τ).loc Cert.RefWoIdeal.main_arg5))

def preserves_GradWi_GradWiIdeal : Prop :=
  True

def algebraic_GradWiIdeal_RefWiIdeal [hGradWiIdeal : Cert.GradWiIdeal.Facts] [hRefWiIdeal : Cert.RefWiIdeal.Facts] : Prop :=
  ∀ (m : (ℓ : Loc Cert.GradWiIdeal.nD Cert.GradWiIdeal.τ Cert.GradWiIdeal.sig) → Buf (Elt Ideal) ℓ) (g : Dev Cert.GradWiIdeal.nD → PrngReg)
    (m' : (ℓ : Loc Cert.RefWiIdeal.nD Cert.RefWiIdeal.τ Cert.RefWiIdeal.sig) → Buf (Elt Ideal) ℓ) (g' : Dev Cert.RefWiIdeal.nD → PrngReg), Pre_GradWiIdeal m →
    (∀ c : Dev Cert.GradWiIdeal.nD,
      m' ((c.tc : Thread Cert.RefWiIdeal.nD Cert.RefWiIdeal.τ).loc Cert.RefWiIdeal.main_arg0) = m ((c.tc : Thread Cert.GradWiIdeal.nD Cert.GradWiIdeal.τ).loc Cert.GradWiIdeal.main_arg0)
      ∧ m' ((c.tc : Thread Cert.RefWiIdeal.nD Cert.RefWiIdeal.τ).loc Cert.RefWiIdeal.main_arg1) = m ((c.tc : Thread Cert.GradWiIdeal.nD Cert.GradWiIdeal.τ).loc Cert.GradWiIdeal.main_arg1)
      ∧ m' ((c.tc : Thread Cert.RefWiIdeal.nD Cert.RefWiIdeal.τ).loc Cert.RefWiIdeal.main_arg2) = m ((c.tc : Thread Cert.GradWiIdeal.nD Cert.GradWiIdeal.τ).loc Cert.GradWiIdeal.main_arg2)
      ∧ m' ((c.tc : Thread Cert.RefWiIdeal.nD Cert.RefWiIdeal.τ).loc Cert.RefWiIdeal.main_arg3) = m ((c.tc : Thread Cert.GradWiIdeal.nD Cert.GradWiIdeal.τ).loc Cert.GradWiIdeal.main_arg3)
      ∧ m' ((c.tc : Thread Cert.RefWiIdeal.nD Cert.RefWiIdeal.τ).loc Cert.RefWiIdeal.main_arg4) = m ((c.tc : Thread Cert.GradWiIdeal.nD Cert.GradWiIdeal.τ).loc Cert.GradWiIdeal.main_arg4)
      ∧ m' ((c.tc : Thread Cert.RefWiIdeal.nD Cert.RefWiIdeal.τ).loc Cert.RefWiIdeal.main_arg5) = m ((c.tc : Thread Cert.GradWiIdeal.nD Cert.GradWiIdeal.τ).loc Cert.GradWiIdeal.main_arg5)
      ∧ m' ((c.tc : Thread Cert.RefWiIdeal.nD Cert.RefWiIdeal.τ).loc Cert.RefWiIdeal.main_arg6) = m ((c.tc : Thread Cert.GradWiIdeal.nD Cert.GradWiIdeal.τ).loc Cert.GradWiIdeal.main_arg6)
      ∧ m' ((c.tc : Thread Cert.RefWiIdeal.nD Cert.RefWiIdeal.τ).loc Cert.RefWiIdeal.main_arg7) = m ((c.tc : Thread Cert.GradWiIdeal.nD Cert.GradWiIdeal.τ).loc Cert.GradWiIdeal.main_arg7)) →
    ∃ (v0 : (c : Dev Cert.GradWiIdeal.nD) → Buf (Elt Ideal) ((c.tc : Thread Cert.GradWiIdeal.nD Cert.GradWiIdeal.τ).loc Cert.GradWiIdeal.main_v30)),
      θ_run (Cert.GradWiIdeal.defs (F := Ideal)) (onTc (τ := Cert.GradWiIdeal.τ) (Cert.GradWiIdeal.main (F := Ideal))) ⟨m, fun _ => 0, g⟩ (fun r => ∀ c : Dev Cert.GradWiIdeal.nD,
          r.2.mem ((c.tc : Thread Cert.GradWiIdeal.nD Cert.GradWiIdeal.τ).loc Cert.GradWiIdeal.main_v30) = v0 c
          ∧ r.2.mem ((c.tc : Thread Cert.GradWiIdeal.nD Cert.GradWiIdeal.τ).loc Cert.GradWiIdeal.main_arg0) = m ((c.tc : Thread Cert.GradWiIdeal.nD Cert.GradWiIdeal.τ).loc Cert.GradWiIdeal.main_arg0)
          ∧ r.2.mem ((c.tc : Thread Cert.GradWiIdeal.nD Cert.GradWiIdeal.τ).loc Cert.GradWiIdeal.main_arg1) = m ((c.tc : Thread Cert.GradWiIdeal.nD Cert.GradWiIdeal.τ).loc Cert.GradWiIdeal.main_arg1)
          ∧ r.2.mem ((c.tc : Thread Cert.GradWiIdeal.nD Cert.GradWiIdeal.τ).loc Cert.GradWiIdeal.main_arg2) = m ((c.tc : Thread Cert.GradWiIdeal.nD Cert.GradWiIdeal.τ).loc Cert.GradWiIdeal.main_arg2)
          ∧ r.2.mem ((c.tc : Thread Cert.GradWiIdeal.nD Cert.GradWiIdeal.τ).loc Cert.GradWiIdeal.main_arg3) = m ((c.tc : Thread Cert.GradWiIdeal.nD Cert.GradWiIdeal.τ).loc Cert.GradWiIdeal.main_arg3)
          ∧ r.2.mem ((c.tc : Thread Cert.GradWiIdeal.nD Cert.GradWiIdeal.τ).loc Cert.GradWiIdeal.main_arg4) = m ((c.tc : Thread Cert.GradWiIdeal.nD Cert.GradWiIdeal.τ).loc Cert.GradWiIdeal.main_arg4)
          ∧ r.2.mem ((c.tc : Thread Cert.GradWiIdeal.nD Cert.GradWiIdeal.τ).loc Cert.GradWiIdeal.main_arg5) = m ((c.tc : Thread Cert.GradWiIdeal.nD Cert.GradWiIdeal.τ).loc Cert.GradWiIdeal.main_arg5)
          ∧ r.2.mem ((c.tc : Thread Cert.GradWiIdeal.nD Cert.GradWiIdeal.τ).loc Cert.GradWiIdeal.main_arg6) = m ((c.tc : Thread Cert.GradWiIdeal.nD Cert.GradWiIdeal.τ).loc Cert.GradWiIdeal.main_arg6)
          ∧ r.2.mem ((c.tc : Thread Cert.GradWiIdeal.nD Cert.GradWiIdeal.τ).loc Cert.GradWiIdeal.main_arg7) = m ((c.tc : Thread Cert.GradWiIdeal.nD Cert.GradWiIdeal.τ).loc Cert.GradWiIdeal.main_arg7))
      ∧ θ_run (Cert.RefWiIdeal.defs (F := Ideal)) (onTc (τ := Cert.RefWiIdeal.τ) (Cert.RefWiIdeal.main (F := Ideal))) ⟨m', fun _ => 0, g'⟩ (fun r => ∀ c : Dev Cert.RefWiIdeal.nD,
          r.2.mem ((c.tc : Thread Cert.RefWiIdeal.nD Cert.RefWiIdeal.τ).loc Cert.RefWiIdeal.main_v37) = v0 c
          ∧ r.2.mem ((c.tc : Thread Cert.RefWiIdeal.nD Cert.RefWiIdeal.τ).loc Cert.RefWiIdeal.main_arg0) = m' ((c.tc : Thread Cert.RefWiIdeal.nD Cert.RefWiIdeal.τ).loc Cert.RefWiIdeal.main_arg0)
          ∧ r.2.mem ((c.tc : Thread Cert.RefWiIdeal.nD Cert.RefWiIdeal.τ).loc Cert.RefWiIdeal.main_arg1) = m' ((c.tc : Thread Cert.RefWiIdeal.nD Cert.RefWiIdeal.τ).loc Cert.RefWiIdeal.main_arg1)
          ∧ r.2.mem ((c.tc : Thread Cert.RefWiIdeal.nD Cert.RefWiIdeal.τ).loc Cert.RefWiIdeal.main_arg2) = m' ((c.tc : Thread Cert.RefWiIdeal.nD Cert.RefWiIdeal.τ).loc Cert.RefWiIdeal.main_arg2)
          ∧ r.2.mem ((c.tc : Thread Cert.RefWiIdeal.nD Cert.RefWiIdeal.τ).loc Cert.RefWiIdeal.main_arg3) = m' ((c.tc : Thread Cert.RefWiIdeal.nD Cert.RefWiIdeal.τ).loc Cert.RefWiIdeal.main_arg3)
          ∧ r.2.mem ((c.tc : Thread Cert.RefWiIdeal.nD Cert.RefWiIdeal.τ).loc Cert.RefWiIdeal.main_arg4) = m' ((c.tc : Thread Cert.RefWiIdeal.nD Cert.RefWiIdeal.τ).loc Cert.RefWiIdeal.main_arg4)
          ∧ r.2.mem ((c.tc : Thread Cert.RefWiIdeal.nD Cert.RefWiIdeal.τ).loc Cert.RefWiIdeal.main_arg5) = m' ((c.tc : Thread Cert.RefWiIdeal.nD Cert.RefWiIdeal.τ).loc Cert.RefWiIdeal.main_arg5)
          ∧ r.2.mem ((c.tc : Thread Cert.RefWiIdeal.nD Cert.RefWiIdeal.τ).loc Cert.RefWiIdeal.main_arg6) = m' ((c.tc : Thread Cert.RefWiIdeal.nD Cert.RefWiIdeal.τ).loc Cert.RefWiIdeal.main_arg6)
          ∧ r.2.mem ((c.tc : Thread Cert.RefWiIdeal.nD Cert.RefWiIdeal.τ).loc Cert.RefWiIdeal.main_arg7) = m' ((c.tc : Thread Cert.RefWiIdeal.nD Cert.RefWiIdeal.τ).loc Cert.RefWiIdeal.main_arg7))

def preserves_MixForward_MixForwardIdeal : Prop :=
  True

def algebraic_MixForwardIdeal_RefMixIdeal [hMixForwardIdeal : Cert.MixForwardIdeal.Facts] [hRefMixIdeal : Cert.RefMixIdeal.Facts] : Prop :=
  ∀ (m : (ℓ : Loc Cert.MixForwardIdeal.nD Cert.MixForwardIdeal.τ Cert.MixForwardIdeal.sig) → Buf (Elt Ideal) ℓ) (g : Dev Cert.MixForwardIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_MixForwardIdeal m →
    (∀ c : Dev Cert.MixForwardIdeal.nD,
      m' ((c.tc : Thread Cert.RefMixIdeal.nD Cert.RefMixIdeal.τ).loc Cert.RefMixIdeal.main_arg0) = m ((c.tc : Thread Cert.MixForwardIdeal.nD Cert.MixForwardIdeal.τ).loc Cert.MixForwardIdeal.main_arg0)
      ∧ m' ((c.tc : Thread Cert.RefMixIdeal.nD Cert.RefMixIdeal.τ).loc Cert.RefMixIdeal.main_arg1) = m ((c.tc : Thread Cert.MixForwardIdeal.nD Cert.MixForwardIdeal.τ).loc Cert.MixForwardIdeal.main_arg1)
      ∧ m' ((c.tc : Thread Cert.RefMixIdeal.nD Cert.RefMixIdeal.τ).loc Cert.RefMixIdeal.main_arg2) = m ((c.tc : Thread Cert.MixForwardIdeal.nD Cert.MixForwardIdeal.τ).loc Cert.MixForwardIdeal.main_arg2)
      ∧ m' ((c.tc : Thread Cert.RefMixIdeal.nD Cert.RefMixIdeal.τ).loc Cert.RefMixIdeal.main_arg3) = m ((c.tc : Thread Cert.MixForwardIdeal.nD Cert.MixForwardIdeal.τ).loc Cert.MixForwardIdeal.main_arg3)
      ∧ m' ((c.tc : Thread Cert.RefMixIdeal.nD Cert.RefMixIdeal.τ).loc Cert.RefMixIdeal.main_arg4) = m ((c.tc : Thread Cert.MixForwardIdeal.nD Cert.MixForwardIdeal.τ).loc Cert.MixForwardIdeal.main_arg4)
      ∧ m' ((c.tc : Thread Cert.RefMixIdeal.nD Cert.RefMixIdeal.τ).loc Cert.RefMixIdeal.main_arg5) = m ((c.tc : Thread Cert.MixForwardIdeal.nD Cert.MixForwardIdeal.τ).loc Cert.MixForwardIdeal.main_arg5)
      ∧ m' ((c.tc : Thread Cert.RefMixIdeal.nD Cert.RefMixIdeal.τ).loc Cert.RefMixIdeal.main_arg6) = m ((c.tc : Thread Cert.MixForwardIdeal.nD Cert.MixForwardIdeal.τ).loc Cert.MixForwardIdeal.main_arg6)
      ∧ m' ((c.tc : Thread Cert.RefMixIdeal.nD Cert.RefMixIdeal.τ).loc Cert.RefMixIdeal.main_arg7) = m ((c.tc : Thread Cert.MixForwardIdeal.nD Cert.MixForwardIdeal.τ).loc Cert.MixForwardIdeal.main_arg7)
      ∧ m' ((c.tc : Thread Cert.RefMixIdeal.nD Cert.RefMixIdeal.τ).loc Cert.RefMixIdeal.main_arg8) = m ((c.tc : Thread Cert.MixForwardIdeal.nD Cert.MixForwardIdeal.τ).loc Cert.MixForwardIdeal.main_arg8)
      ∧ m' ((c.tc : Thread Cert.RefMixIdeal.nD Cert.RefMixIdeal.τ).loc Cert.RefMixIdeal.main_arg9) = m ((c.tc : Thread Cert.MixForwardIdeal.nD Cert.MixForwardIdeal.τ).loc Cert.MixForwardIdeal.main_arg9)
      ∧ m' ((c.tc : Thread Cert.RefMixIdeal.nD Cert.RefMixIdeal.τ).loc Cert.RefMixIdeal.main_arg10) = m ((c.tc : Thread Cert.MixForwardIdeal.nD Cert.MixForwardIdeal.τ).loc Cert.MixForwardIdeal.main_arg10)
      ∧ m' ((c.tc : Thread Cert.RefMixIdeal.nD Cert.RefMixIdeal.τ).loc Cert.RefMixIdeal.main_arg11) = m ((c.tc : Thread Cert.MixForwardIdeal.nD Cert.MixForwardIdeal.τ).loc Cert.MixForwardIdeal.main_arg11)
      ∧ m' ((c.tc : Thread Cert.RefMixIdeal.nD Cert.RefMixIdeal.τ).loc Cert.RefMixIdeal.main_arg12) = m ((c.tc : Thread Cert.MixForwardIdeal.nD Cert.MixForwardIdeal.τ).loc Cert.MixForwardIdeal.main_arg12)
      ∧ m' ((c.tc : Thread Cert.RefMixIdeal.nD Cert.RefMixIdeal.τ).loc Cert.RefMixIdeal.main_arg13) = m ((c.tc : Thread Cert.MixForwardIdeal.nD Cert.MixForwardIdeal.τ).loc Cert.MixForwardIdeal.main_arg13)
      ∧ m' ((c.tc : Thread Cert.RefMixIdeal.nD Cert.RefMixIdeal.τ).loc Cert.RefMixIdeal.main_arg14) = m ((c.tc : Thread Cert.MixForwardIdeal.nD Cert.MixForwardIdeal.τ).loc Cert.MixForwardIdeal.main_arg14)
      ∧ m' ((c.tc : Thread Cert.RefMixIdeal.nD Cert.RefMixIdeal.τ).loc Cert.RefMixIdeal.main_arg15) = m ((c.tc : Thread Cert.MixForwardIdeal.nD Cert.MixForwardIdeal.τ).loc Cert.MixForwardIdeal.main_arg15)
      ∧ m' ((c.tc : Thread Cert.RefMixIdeal.nD Cert.RefMixIdeal.τ).loc Cert.RefMixIdeal.main_arg16) = m ((c.tc : Thread Cert.MixForwardIdeal.nD Cert.MixForwardIdeal.τ).loc Cert.MixForwardIdeal.main_arg16)
      ∧ m' ((c.tc : Thread Cert.RefMixIdeal.nD Cert.RefMixIdeal.τ).loc Cert.RefMixIdeal.main_arg17) = m ((c.tc : Thread Cert.MixForwardIdeal.nD Cert.MixForwardIdeal.τ).loc Cert.MixForwardIdeal.main_arg17)
      ∧ m' ((c.tc : Thread Cert.RefMixIdeal.nD Cert.RefMixIdeal.τ).loc Cert.RefMixIdeal.main_arg18) = m ((c.tc : Thread Cert.MixForwardIdeal.nD Cert.MixForwardIdeal.τ).loc Cert.MixForwardIdeal.main_arg18)
      ∧ m' ((c.tc : Thread Cert.RefMixIdeal.nD Cert.RefMixIdeal.τ).loc Cert.RefMixIdeal.main_arg19) = m ((c.tc : Thread Cert.MixForwardIdeal.nD Cert.MixForwardIdeal.τ).loc Cert.MixForwardIdeal.main_arg19)) →
    ∃ (v0 : (c : Dev Cert.MixForwardIdeal.nD) → Buf (Elt Ideal) ((c.tc : Thread Cert.MixForwardIdeal.nD Cert.MixForwardIdeal.τ).loc Cert.MixForwardIdeal.main_v29_0)),
      θ_run (Cert.MixForwardIdeal.defs (F := Ideal)) (onTc (τ := Cert.MixForwardIdeal.τ) (Cert.MixForwardIdeal.main (F := Ideal))) ⟨m, fun _ => 0, g⟩ (fun r => ∀ c : Dev Cert.MixForwardIdeal.nD,
          r.2.mem ((c.tc : Thread Cert.MixForwardIdeal.nD Cert.MixForwardIdeal.τ).loc Cert.MixForwardIdeal.main_v29_0) = v0 c
          ∧ r.2.mem ((c.tc : Thread Cert.MixForwardIdeal.nD Cert.MixForwardIdeal.τ).loc Cert.MixForwardIdeal.main_arg0) = m ((c.tc : Thread Cert.MixForwardIdeal.nD Cert.MixForwardIdeal.τ).loc Cert.MixForwardIdeal.main_arg0)
          ∧ r.2.mem ((c.tc : Thread Cert.MixForwardIdeal.nD Cert.MixForwardIdeal.τ).loc Cert.MixForwardIdeal.main_arg1) = m ((c.tc : Thread Cert.MixForwardIdeal.nD Cert.MixForwardIdeal.τ).loc Cert.MixForwardIdeal.main_arg1)
          ∧ r.2.mem ((c.tc : Thread Cert.MixForwardIdeal.nD Cert.MixForwardIdeal.τ).loc Cert.MixForwardIdeal.main_arg2) = m ((c.tc : Thread Cert.MixForwardIdeal.nD Cert.MixForwardIdeal.τ).loc Cert.MixForwardIdeal.main_arg2)
          ∧ r.2.mem ((c.tc : Thread Cert.MixForwardIdeal.nD Cert.MixForwardIdeal.τ).loc Cert.MixForwardIdeal.main_arg3) = m ((c.tc : Thread Cert.MixForwardIdeal.nD Cert.MixForwardIdeal.τ).loc Cert.MixForwardIdeal.main_arg3)
          ∧ r.2.mem ((c.tc : Thread Cert.MixForwardIdeal.nD Cert.MixForwardIdeal.τ).loc Cert.MixForwardIdeal.main_arg4) = m ((c.tc : Thread Cert.MixForwardIdeal.nD Cert.MixForwardIdeal.τ).loc Cert.MixForwardIdeal.main_arg4)
          ∧ r.2.mem ((c.tc : Thread Cert.MixForwardIdeal.nD Cert.MixForwardIdeal.τ).loc Cert.MixForwardIdeal.main_arg5) = m ((c.tc : Thread Cert.MixForwardIdeal.nD Cert.MixForwardIdeal.τ).loc Cert.MixForwardIdeal.main_arg5)
          ∧ r.2.mem ((c.tc : Thread Cert.MixForwardIdeal.nD Cert.MixForwardIdeal.τ).loc Cert.MixForwardIdeal.main_arg6) = m ((c.tc : Thread Cert.MixForwardIdeal.nD Cert.MixForwardIdeal.τ).loc Cert.MixForwardIdeal.main_arg6)
          ∧ r.2.mem ((c.tc : Thread Cert.MixForwardIdeal.nD Cert.MixForwardIdeal.τ).loc Cert.MixForwardIdeal.main_arg7) = m ((c.tc : Thread Cert.MixForwardIdeal.nD Cert.MixForwardIdeal.τ).loc Cert.MixForwardIdeal.main_arg7)
          ∧ r.2.mem ((c.tc : Thread Cert.MixForwardIdeal.nD Cert.MixForwardIdeal.τ).loc Cert.MixForwardIdeal.main_arg8) = m ((c.tc : Thread Cert.MixForwardIdeal.nD Cert.MixForwardIdeal.τ).loc Cert.MixForwardIdeal.main_arg8)
          ∧ r.2.mem ((c.tc : Thread Cert.MixForwardIdeal.nD Cert.MixForwardIdeal.τ).loc Cert.MixForwardIdeal.main_arg9) = m ((c.tc : Thread Cert.MixForwardIdeal.nD Cert.MixForwardIdeal.τ).loc Cert.MixForwardIdeal.main_arg9)
          ∧ r.2.mem ((c.tc : Thread Cert.MixForwardIdeal.nD Cert.MixForwardIdeal.τ).loc Cert.MixForwardIdeal.main_arg10) = m ((c.tc : Thread Cert.MixForwardIdeal.nD Cert.MixForwardIdeal.τ).loc Cert.MixForwardIdeal.main_arg10)
          ∧ r.2.mem ((c.tc : Thread Cert.MixForwardIdeal.nD Cert.MixForwardIdeal.τ).loc Cert.MixForwardIdeal.main_arg11) = m ((c.tc : Thread Cert.MixForwardIdeal.nD Cert.MixForwardIdeal.τ).loc Cert.MixForwardIdeal.main_arg11)
          ∧ r.2.mem ((c.tc : Thread Cert.MixForwardIdeal.nD Cert.MixForwardIdeal.τ).loc Cert.MixForwardIdeal.main_arg12) = m ((c.tc : Thread Cert.MixForwardIdeal.nD Cert.MixForwardIdeal.τ).loc Cert.MixForwardIdeal.main_arg12)
          ∧ r.2.mem ((c.tc : Thread Cert.MixForwardIdeal.nD Cert.MixForwardIdeal.τ).loc Cert.MixForwardIdeal.main_arg13) = m ((c.tc : Thread Cert.MixForwardIdeal.nD Cert.MixForwardIdeal.τ).loc Cert.MixForwardIdeal.main_arg13)
          ∧ r.2.mem ((c.tc : Thread Cert.MixForwardIdeal.nD Cert.MixForwardIdeal.τ).loc Cert.MixForwardIdeal.main_arg14) = m ((c.tc : Thread Cert.MixForwardIdeal.nD Cert.MixForwardIdeal.τ).loc Cert.MixForwardIdeal.main_arg14)
          ∧ r.2.mem ((c.tc : Thread Cert.MixForwardIdeal.nD Cert.MixForwardIdeal.τ).loc Cert.MixForwardIdeal.main_arg15) = m ((c.tc : Thread Cert.MixForwardIdeal.nD Cert.MixForwardIdeal.τ).loc Cert.MixForwardIdeal.main_arg15)
          ∧ r.2.mem ((c.tc : Thread Cert.MixForwardIdeal.nD Cert.MixForwardIdeal.τ).loc Cert.MixForwardIdeal.main_arg16) = m ((c.tc : Thread Cert.MixForwardIdeal.nD Cert.MixForwardIdeal.τ).loc Cert.MixForwardIdeal.main_arg16)
          ∧ r.2.mem ((c.tc : Thread Cert.MixForwardIdeal.nD Cert.MixForwardIdeal.τ).loc Cert.MixForwardIdeal.main_arg17) = m ((c.tc : Thread Cert.MixForwardIdeal.nD Cert.MixForwardIdeal.τ).loc Cert.MixForwardIdeal.main_arg17)
          ∧ r.2.mem ((c.tc : Thread Cert.MixForwardIdeal.nD Cert.MixForwardIdeal.τ).loc Cert.MixForwardIdeal.main_arg18) = m ((c.tc : Thread Cert.MixForwardIdeal.nD Cert.MixForwardIdeal.τ).loc Cert.MixForwardIdeal.main_arg18)
          ∧ r.2.mem ((c.tc : Thread Cert.MixForwardIdeal.nD Cert.MixForwardIdeal.τ).loc Cert.MixForwardIdeal.main_arg19) = m ((c.tc : Thread Cert.MixForwardIdeal.nD Cert.MixForwardIdeal.τ).loc Cert.MixForwardIdeal.main_arg19))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v33) = v0 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1)
          ∧ r.2.mem ((c.tc : Thread Cert.RefMixIdeal.nD Cert.RefMixIdeal.τ).loc Cert.RefMixIdeal.main_arg2) = m' ((c.tc : Thread Cert.RefMixIdeal.nD Cert.RefMixIdeal.τ).loc Cert.RefMixIdeal.main_arg2)
          ∧ r.2.mem ((c.tc : Thread Cert.RefMixIdeal.nD Cert.RefMixIdeal.τ).loc Cert.RefMixIdeal.main_arg3) = m' ((c.tc : Thread Cert.RefMixIdeal.nD Cert.RefMixIdeal.τ).loc Cert.RefMixIdeal.main_arg3)
          ∧ r.2.mem ((c.tc : Thread Cert.RefMixIdeal.nD Cert.RefMixIdeal.τ).loc Cert.RefMixIdeal.main_arg4) = m' ((c.tc : Thread Cert.RefMixIdeal.nD Cert.RefMixIdeal.τ).loc Cert.RefMixIdeal.main_arg4)
          ∧ r.2.mem ((c.tc : Thread Cert.RefMixIdeal.nD Cert.RefMixIdeal.τ).loc Cert.RefMixIdeal.main_arg5) = m' ((c.tc : Thread Cert.RefMixIdeal.nD Cert.RefMixIdeal.τ).loc Cert.RefMixIdeal.main_arg5)
          ∧ r.2.mem ((c.tc : Thread Cert.RefMixIdeal.nD Cert.RefMixIdeal.τ).loc Cert.RefMixIdeal.main_arg6) = m' ((c.tc : Thread Cert.RefMixIdeal.nD Cert.RefMixIdeal.τ).loc Cert.RefMixIdeal.main_arg6)
          ∧ r.2.mem ((c.tc : Thread Cert.RefMixIdeal.nD Cert.RefMixIdeal.τ).loc Cert.RefMixIdeal.main_arg7) = m' ((c.tc : Thread Cert.RefMixIdeal.nD Cert.RefMixIdeal.τ).loc Cert.RefMixIdeal.main_arg7)
          ∧ r.2.mem ((c.tc : Thread Cert.RefMixIdeal.nD Cert.RefMixIdeal.τ).loc Cert.RefMixIdeal.main_arg8) = m' ((c.tc : Thread Cert.RefMixIdeal.nD Cert.RefMixIdeal.τ).loc Cert.RefMixIdeal.main_arg8)
          ∧ r.2.mem ((c.tc : Thread Cert.RefMixIdeal.nD Cert.RefMixIdeal.τ).loc Cert.RefMixIdeal.main_arg9) = m' ((c.tc : Thread Cert.RefMixIdeal.nD Cert.RefMixIdeal.τ).loc Cert.RefMixIdeal.main_arg9)
          ∧ r.2.mem ((c.tc : Thread Cert.RefMixIdeal.nD Cert.RefMixIdeal.τ).loc Cert.RefMixIdeal.main_arg10) = m' ((c.tc : Thread Cert.RefMixIdeal.nD Cert.RefMixIdeal.τ).loc Cert.RefMixIdeal.main_arg10)
          ∧ r.2.mem ((c.tc : Thread Cert.RefMixIdeal.nD Cert.RefMixIdeal.τ).loc Cert.RefMixIdeal.main_arg11) = m' ((c.tc : Thread Cert.RefMixIdeal.nD Cert.RefMixIdeal.τ).loc Cert.RefMixIdeal.main_arg11)
          ∧ r.2.mem ((c.tc : Thread Cert.RefMixIdeal.nD Cert.RefMixIdeal.τ).loc Cert.RefMixIdeal.main_arg12) = m' ((c.tc : Thread Cert.RefMixIdeal.nD Cert.RefMixIdeal.τ).loc Cert.RefMixIdeal.main_arg12)
          ∧ r.2.mem ((c.tc : Thread Cert.RefMixIdeal.nD Cert.RefMixIdeal.τ).loc Cert.RefMixIdeal.main_arg13) = m' ((c.tc : Thread Cert.RefMixIdeal.nD Cert.RefMixIdeal.τ).loc Cert.RefMixIdeal.main_arg13)
          ∧ r.2.mem ((c.tc : Thread Cert.RefMixIdeal.nD Cert.RefMixIdeal.τ).loc Cert.RefMixIdeal.main_arg14) = m' ((c.tc : Thread Cert.RefMixIdeal.nD Cert.RefMixIdeal.τ).loc Cert.RefMixIdeal.main_arg14)
          ∧ r.2.mem ((c.tc : Thread Cert.RefMixIdeal.nD Cert.RefMixIdeal.τ).loc Cert.RefMixIdeal.main_arg15) = m' ((c.tc : Thread Cert.RefMixIdeal.nD Cert.RefMixIdeal.τ).loc Cert.RefMixIdeal.main_arg15)
          ∧ r.2.mem ((c.tc : Thread Cert.RefMixIdeal.nD Cert.RefMixIdeal.τ).loc Cert.RefMixIdeal.main_arg16) = m' ((c.tc : Thread Cert.RefMixIdeal.nD Cert.RefMixIdeal.τ).loc Cert.RefMixIdeal.main_arg16)
          ∧ r.2.mem ((c.tc : Thread Cert.RefMixIdeal.nD Cert.RefMixIdeal.τ).loc Cert.RefMixIdeal.main_arg17) = m' ((c.tc : Thread Cert.RefMixIdeal.nD Cert.RefMixIdeal.τ).loc Cert.RefMixIdeal.main_arg17)
          ∧ r.2.mem ((c.tc : Thread Cert.RefMixIdeal.nD Cert.RefMixIdeal.τ).loc Cert.RefMixIdeal.main_arg18) = m' ((c.tc : Thread Cert.RefMixIdeal.nD Cert.RefMixIdeal.τ).loc Cert.RefMixIdeal.main_arg18)
          ∧ r.2.mem ((c.tc : Thread Cert.RefMixIdeal.nD Cert.RefMixIdeal.τ).loc Cert.RefMixIdeal.main_arg19) = m' ((c.tc : Thread Cert.RefMixIdeal.nD Cert.RefMixIdeal.τ).loc Cert.RefMixIdeal.main_arg19))

def Claim : Prop :=
  ∃ (hKernel : Cert.Kernel.Facts) (hKernelIdeal : Cert.KernelIdeal.Facts) (hReferenceIdeal : Cert.ReferenceIdeal.Facts) (hGradIn : Cert.GradIn.Facts) (hGradInIdeal : Cert.GradInIdeal.Facts) (hRefInIdeal : Cert.RefInIdeal.Facts) (hGradOut : Cert.GradOut.Facts) (hGradOutIdeal : Cert.GradOutIdeal.Facts) (hRefOutIdeal : Cert.RefOutIdeal.Facts) (hFfnForward : Cert.FfnForward.Facts) (hFfnForwardIdeal : Cert.FfnForwardIdeal.Facts) (hRefFfnIdeal : Cert.RefFfnIdeal.Facts) (hGradWo : Cert.GradWo.Facts) (hGradWoIdeal : Cert.GradWoIdeal.Facts) (hRefWoIdeal : Cert.RefWoIdeal.Facts) (hGradWi : Cert.GradWi.Facts) (hGradWiIdeal : Cert.GradWiIdeal.Facts) (hRefWiIdeal : Cert.RefWiIdeal.Facts) (hMixForward : Cert.MixForward.Facts) (hMixForwardIdeal : Cert.MixForwardIdeal.Facts) (hRefMixIdeal : Cert.RefMixIdeal.Facts) (hPre_all_finite : Cert.Pre_all_finite.Facts) (hPre_out_finite : Cert.Pre_out_finite.Facts) (hPre_forward_finite : Cert.Pre_forward_finite.Facts) (hPre_wo_finite : Cert.Pre_wo_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_GradIn (hGradIn := hGradIn)
    ∧ quiescent_GradInIdeal (hGradInIdeal := hGradInIdeal)
    ∧ quiescent_RefInIdeal (hRefInIdeal := hRefInIdeal)
    ∧ quiescent_GradOut (hGradOut := hGradOut)
    ∧ quiescent_GradOutIdeal (hGradOutIdeal := hGradOutIdeal)
    ∧ quiescent_GradOutIdeal_pre_out_finite (hGradOutIdeal := hGradOutIdeal) (hPre_out_finite := hPre_out_finite)
    ∧ quiescent_RefOutIdeal (hRefOutIdeal := hRefOutIdeal)
    ∧ quiescent_RefOutIdeal_pre_out_finite (hRefOutIdeal := hRefOutIdeal) (hPre_out_finite := hPre_out_finite)
    ∧ quiescent_FfnForward (hFfnForward := hFfnForward)
    ∧ quiescent_FfnForwardIdeal (hFfnForwardIdeal := hFfnForwardIdeal)
    ∧ quiescent_FfnForwardIdeal_pre_forward_finite (hFfnForwardIdeal := hFfnForwardIdeal) (hPre_forward_finite := hPre_forward_finite)
    ∧ quiescent_RefFfnIdeal (hRefFfnIdeal := hRefFfnIdeal)
    ∧ quiescent_RefFfnIdeal_pre_forward_finite (hRefFfnIdeal := hRefFfnIdeal) (hPre_forward_finite := hPre_forward_finite)
    ∧ quiescent_GradWo (hGradWo := hGradWo)
    ∧ quiescent_GradWoIdeal (hGradWoIdeal := hGradWoIdeal)
    ∧ quiescent_GradWoIdeal_pre_wo_finite (hGradWoIdeal := hGradWoIdeal) (hPre_wo_finite := hPre_wo_finite)
    ∧ quiescent_RefWoIdeal (hRefWoIdeal := hRefWoIdeal)
    ∧ quiescent_RefWoIdeal_pre_wo_finite (hRefWoIdeal := hRefWoIdeal) (hPre_wo_finite := hPre_wo_finite)
    ∧ quiescent_GradWi (hGradWi := hGradWi)
    ∧ quiescent_GradWiIdeal (hGradWiIdeal := hGradWiIdeal)
    ∧ quiescent_RefWiIdeal (hRefWiIdeal := hRefWiIdeal)
    ∧ quiescent_MixForward (hMixForward := hMixForward)
    ∧ quiescent_MixForwardIdeal (hMixForwardIdeal := hMixForwardIdeal)
    ∧ quiescent_RefMixIdeal (hRefMixIdeal := hRefMixIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_GradIn_GradInIdeal
    ∧ algebraic_GradInIdeal_RefInIdeal (hGradInIdeal := hGradInIdeal) (hRefInIdeal := hRefInIdeal)
    ∧ preserves_GradOut_GradOutIdeal
    ∧ algebraic_GradOutIdeal_RefOutIdeal_pre_out_finite (hGradOutIdeal := hGradOutIdeal) (hRefOutIdeal := hRefOutIdeal) (hPre_out_finite := hPre_out_finite)
    ∧ preserves_FfnForward_FfnForwardIdeal
    ∧ algebraic_FfnForwardIdeal_RefFfnIdeal_pre_forward_finite (hFfnForwardIdeal := hFfnForwardIdeal) (hRefFfnIdeal := hRefFfnIdeal) (hPre_forward_finite := hPre_forward_finite)
    ∧ preserves_GradWo_GradWoIdeal
    ∧ algebraic_GradWoIdeal_RefWoIdeal_pre_wo_finite (hGradWoIdeal := hGradWoIdeal) (hRefWoIdeal := hRefWoIdeal) (hPre_wo_finite := hPre_wo_finite)
    ∧ preserves_GradWi_GradWiIdeal
    ∧ algebraic_GradWiIdeal_RefWiIdeal (hGradWiIdeal := hGradWiIdeal) (hRefWiIdeal := hRefWiIdeal)
    ∧ preserves_MixForward_MixForwardIdeal
    ∧ algebraic_MixForwardIdeal_RefMixIdeal (hMixForwardIdeal := hMixForwardIdeal) (hRefMixIdeal := hRefMixIdeal)
-- ==== Pre_all_finite.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x5632 : Shape := ⟨3, ![1, 1024, 5632]⟩
abbrev S1x2816x1024 : Shape := ⟨3, ![1, 2816, 1024]⟩
abbrev S1024x2048 : Shape := ⟨2, ![1024, 2048]⟩
abbrev S2048 : Shape := ⟨1, ![2048]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x6144 : S_.BroadcastsInDim S1x1024x6144 (![] : Fin 0 → Fin S1x1024x6144.rank)
  bcast_S_S1x6144 : S_.BroadcastsInDim S1x6144 (![] : Fin 0 → Fin S1x6144.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn_part1 {F : FTy → Type} [FloatOps F] (main_arg6 : FVec F S1x1024x5632 .f32) (main_arg7 : FVec F S1x2816x1024 .f32) (main_v2 : IVec S8192x1024 1) (main_v5 : IVec S8192x1024 1) (main_v8 : IVec S1x1024 1) (main_v11 : IVec S1x1024x6144 1) (main_v14 : IVec S1x6144 1) (main_v17 : IVec S1x1024 1) : IVec S8192x1024 1 × IVec S8192x1024 1 × IVec S1x1024 1 × IVec S1x1024x6144 1 × IVec S1x6144 1 × IVec S1x1024 1 × IVec S1x1024x5632 1 × IVec S1x2816x1024 1 :=
  let main_v18 : FVec F S1x1024x5632 .f32 := Host.absf main_arg6
  let main_cst_5 : FVec F S_ .f32 := constant S_ .f32 0x7F800000#32
  let main_v19 : FVec F S1x1024x5632 .f32 := broadcastInDim S1x1024x5632 ![] bcast_S_S1x1024x5632 main_cst_5
  let main_v20 : IVec S1x1024x5632 1 := cmpf .olt main_v18 main_v19
  let main_v21 : FVec F S1x2816x1024 .f32 := Host.absf main_arg7
  let main_cst_6 : FVec F S_ .f32 := constant S_ .f32 0x7F800000#32
  let main_v22 : FVec F S1x2816x1024 .f32 := broadcastInDim S1x2816x1024 ![] bcast_S_S1x2816x1024 main_cst_6
  let main_v23 : IVec S1x2816x1024 1 := cmpf .olt main_v21 main_v22
  (main_v2, main_v5, main_v8, main_v11, main_v14, main_v17, main_v20, main_v23)

def fn {F : FTy → Type} [FloatOps F] (main_arg0 : FVec F S8192x1024 .f32) (main_arg1 : FVec F S8192x1024 .f32) (main_arg2 : FVec F S1x1024 .f32) (main_arg3 : FVec F S1x1024x6144 .f32) (main_arg4 : FVec F S1x6144 .f32) (main_arg5 : FVec F S1x1024 .f32) (main_arg6 : FVec F S1x1024x5632 .f32) (main_arg7 : FVec F S1x2816x1024 .f32) (main_arg8 : FVec F S1024x2048 .f32) (main_arg9 : FVec F S2048 .f32) : IVec S8192x1024 1 × IVec S8192x1024 1 × IVec S1x1024 1 × IVec S1x1024x6144 1 × IVec S1x6144 1 × IVec S1x1024 1 × IVec S1x1024x5632 1 × IVec S1x2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x6144 .f32 := Host.absf main_arg3
  let main_cst_2 : FVec F S_ .f32 := constant S_ .f32 0x7F800000#32
  let main_v10 : FVec F S1x1024x6144 .f32 := broadcastInDim S1x1024x6144 ![] bcast_S_S1x1024x6144 main_cst_2
  let main_v11 : IVec S1x1024x6144 1 := cmpf .olt main_v9 main_v10
  let main_v12 : FVec F S1x6144 .f32 := Host.absf main_arg4
  let main_cst_3 : FVec F S_ .f32 := constant S_ .f32 0x7F800000#32
  let main_v13 : FVec F S1x6144 .f32 := broadcastInDim S1x6144 ![] bcast_S_S1x6144 main_cst_3
  let main_v14 : IVec S1x6144 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_v2 main_v5 main_v8 main_v11 main_v14 main_v17
-- ==== Pre_forward_finite.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x5632 : Shape := ⟨3, ![1, 1024, 5632]⟩
abbrev S1x2816x1024 : Shape := ⟨3, ![1, 2816, 1024]⟩
abbrev S1024x2048 : Shape := ⟨2, ![1024, 2048]⟩
abbrev S2048 : Shape := ⟨1, ![2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x6144 : S_.BroadcastsInDim S1x1024x6144 (![] : Fin 0 → Fin S1x1024x6144.rank)
  bcast_S_S1x6144 : S_.BroadcastsInDim S1x6144 (![] : Fin 0 → Fin S1x6144.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)
  bcast_S_S1024x2048 : S_.BroadcastsInDim S1024x2048 (![] : Fin 0 → Fin S1024x2048.rank)
  bcast_S_S2048 : S_.BroadcastsInDim S2048 (![] : Fin 0 → Fin S2048.rank)
  bcast_S_S1024 : S_.BroadcastsInDim S1024 (![] : Fin 0 → Fin S1024.rank)

variable [Facts]

def fn_part1 {F : FTy → Type} [FloatOps F] (main_arg6 : FVec F S1x1024x5632 .f32) (main_arg7 : FVec F S1x2816x1024 .f32) (main_arg8 : FVec F S1024x2048 .f32) (main_arg9 : FVec F S2048 .f32) (main_arg10 : FVec F S1024 .f32) (main_v2 : IVec S8192x1024 1) (main_v5 : IVec S8192x1024 1) (main_v8 : IVec S1x1024 1) (main_v11 : IVec S1x1024x6144 1) (main_v14 : IVec S1x6144 1) (main_v17 : IVec S1x1024 1) : IVec S8192x1024 1 × IVec S8192x1024 1 × IVec S1x1024 1 × IVec S1x1024x6144 1 × IVec S1x6144 1 × IVec S1x1024 1 × IVec S1x1024x5632 1 × IVec S1x2816x1024 1 × IVec S1024x2048 1 × IVec S2048 1 × IVec S1024 1 :=
  let main_v18 : FVec F S1x1024x5632 .f32 := Host.absf main_arg6
  let main_cst_5 : FVec F S_ .f32 := constant S_ .f32 0x7F800000#32
  let main_v19 : FVec F S1x1024x5632 .f32 := broadcastInDim S1x1024x5632 ![] bcast_S_S1x1024x5632 main_cst_5
  let main_v20 : IVec S1x1024x5632 1 := cmpf .olt main_v18 main_v19
  let main_v21 : FVec F S1x2816x1024 .f32 := Host.absf main_arg7
  let main_cst_6 : FVec F S_ .f32 := constant S_ .f32 0x7F800000#32
  let main_v22 : FVec F S1x2816x1024 .f32 := broadcastInDim S1x2816x1024 ![] bcast_S_S1x2816x1024 main_cst_6
  let main_v23 : IVec S1x2816x1024 1 := cmpf .olt main_v21 main_v22
  let main_v24 : FVec F S1024x2048 .f32 := Host.absf main_arg8
  let main_cst_7 : FVec F S_ .f32 := constant S_ .f32 0x7F800000#32
  let main_v25 : FVec F S1024x2048 .f32 := broadcastInDim S1024x2048 ![] bcast_S_S1024x2048 main_cst_7
  let main_v26 : IVec S1024x2048 1 := cmpf .olt main_v24 main_v25
  let main_v27 : FVec F S2048 .f32 := Host.absf main_arg9
  let main_cst_8 : FVec F S_ .f32 := constant S_ .f32 0x7F800000#32
  let main_v28 : FVec F S2048 .f32 := broadcastInDim S2048 ![] bcast_S_S2048 main_cst_8
  let main_v29 : IVec S2048 1 := cmpf .olt main_v27 main_v28
  let main_v30 : FVec F S1024 .f32 := Host.absf main_arg10
  let main_cst_9 : FVec F S_ .f32 := constant S_ .f32 0x7F800000#32
  let main_v31 : FVec F S1024 .f32 := broadcastInDim S1024 ![] bcast_S_S1024 main_cst_9
  let main_v32 : IVec S1024 1 := cmpf .olt main_v30 main_v31
  (main_v2, main_v5, main_v8, main_v11, main_v14, main_v17, main_v20, main_v23, main_v26, main_v29, main_v32)

def fn {F : FTy → Type} [FloatOps F] (main_arg0 : FVec F S8192x1024 .f32) (main_arg1 : FVec F S8192x1024 .f32) (main_arg2 : FVec F S1x1024 .f32) (main_arg3 : FVec F S1x1024x6144 .f32) (main_arg4 : FVec F S1x6144 .f32) (main_arg5 : FVec F S1x1024 .f32) (main_arg6 : FVec F S1x1024x5632 .f32) (main_arg7 : FVec F S1x2816x1024 .f32) (main_arg8 : FVec F S1024x2048 .f32) (main_arg9 : FVec F S2048 .f32) (main_arg10 : FVec F S1024 .f32) : IVec S8192x1024 1 × IVec S8192x1024 1 × IVec S1x1024 1 × IVec S1x1024x6144 1 × IVec S1x6144 1 × IVec S1x1024 1 × IVec S1x1024x5632 1 × IVec S1x2816x1024 1 × IVec S1024x2048 1 × IVec S2048 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x6144 .f32 := Host.absf main_arg3
  let main_cst_2 : FVec F S_ .f32 := constant S_ .f32 0x7F800000#32
  let main_v10 : FVec F S1x1024x6144 .f32 := broadcastInDim S1x1024x6144 ![] bcast_S_S1x1024x6144 main_cst_2
  let main_v11 : IVec S1x1024x6144 1 := cmpf .olt main_v9 main_v10
  let main_v12 : FVec F S1x6144 .f32 := Host.absf main_arg4
  let main_cst_3 : FVec F S_ .f32 := constant S_ .f32 0x7F800000#32
  let main_v13 : FVec F S1x6144 .f32 := broadcastInDim S1x6144 ![] bcast_S_S1x6144 main_cst_3
  let main_v14 : IVec S1x6144 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_arg9 main_arg10 main_v2 main_v5 main_v8 main_v11 main_v14 main_v17
-- ==== Pre_out_finite.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x6144 : S_.BroadcastsInDim S1x1024x6144 (![] : Fin 0 → Fin S1x1024x6144.rank)
  bcast_S_S1x6144 : S_.BroadcastsInDim S1x6144 (![] : Fin 0 → Fin S1x6144.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn_part1 {F : FTy → Type} [FloatOps F] (main_arg6 : FVec F S1x1024x5632 .f32) (main_arg7 : FVec F S1x2816x1024 .f32) (main_v2 : IVec S8192x1024 1) (main_v5 : IVec S8192x1024 1) (main_v8 : IVec S1x1024 1) (main_v11 : IVec S1x1024x6144 1) (main_v14 : IVec S1x6144 1) (main_v17 : IVec S1x1024 1) : IVec S8192x1024 1 × IVec S8192x1024 1 × IVec S1x1024 1 × IVec S1x1024x6144 1 × IVec S1x6144 1 × IVec S1x1024 1 × IVec S1x1024x5632 1 × IVec S1x2816x1024 1 :=
  let main_v18 : FVec F S1x1024x5632 .f32 := Host.absf main_arg6
  let main_cst_5 : FVec F S_ .f32 := constant S_ .f32 0x7F800000#32
  let main_v19 : FVec F S1x1024x5632 .f32 := broadcastInDim S1x1024x5632 ![] bcast_S_S1x1024x5632 main_cst_5
  let main_v20 : IVec S1x1024x5632 1 := cmpf .olt main_v18 main_v19
  let main_v21 : FVec F S1x2816x1024 .f32 := Host.absf main_arg7
  let main_cst_6 : FVec F S_ .f32 := constant S_ .f32 0x7F800000#32
  let main_v22 : FVec F S1x2816x1024 .f32 := broadcastInDim S1x2816x1024 ![] bcast_S_S1x2816x1024 main_cst_6
  let main_v23 : IVec S1x2816x1024 1 := cmpf .olt main_v21 main_v22
  (main_v2, main_v5, main_v8, main_v11, main_v14, main_v17, main_v20, main_v23)

def fn {F : FTy → Type} [FloatOps F] (main_arg0 : FVec F S8192x1024 .f32) (main_arg1 : FVec F S8192x1024 .f32) (main_arg2 : FVec F S1x1024 .f32) (main_arg3 : FVec F S1x1024x6144 .f32) (main_arg4 : FVec F S1x6144 .f32) (main_arg5 : FVec F S1x1024 .f32) (main_arg6 : FVec F S1x1024x5632 .f32) (main_arg7 : FVec F S1x2816x1024 .f32) : IVec S8192x1024 1 × IVec S8192x1024 1 × IVec S1x1024 1 × IVec S1x1024x6144 1 × IVec S1x6144 1 × IVec S1x1024 1 × IVec S1x1024x5632 1 × IVec S1x2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x6144 .f32 := Host.absf main_arg3
  let main_cst_2 : FVec F S_ .f32 := constant S_ .f32 0x7F800000#32
  let main_v10 : FVec F S1x1024x6144 .f32 := broadcastInDim S1x1024x6144 ![] bcast_S_S1x1024x6144 main_cst_2
  let main_v11 : IVec S1x1024x6144 1 := cmpf .olt main_v9 main_v10
  let main_v12 : FVec F S1x6144 .f32 := Host.absf main_arg4
  let main_cst_3 : FVec F S_ .f32 := constant S_ .f32 0x7F800000#32
  let main_v13 : FVec F S1x6144 .f32 := broadcastInDim S1x6144 ![] bcast_S_S1x6144 main_cst_3
  let main_v14 : IVec S1x6144 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_v2 main_v5 main_v8 main_v11 main_v14 main_v17
-- ==== Pre_wo_finite.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x1024 : Shape := ⟨3, ![1, 1024, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x6144 : S_.BroadcastsInDim S1x1024x6144 (![] : Fin 0 → Fin S1x1024x6144.rank)
  bcast_S_S1x6144 : S_.BroadcastsInDim S1x6144 (![] : Fin 0 → Fin S1x6144.rank)
  bcast_S_S1x1024x1024 : S_.BroadcastsInDim S1x1024x1024 (![] : Fin 0 → Fin S1x1024x1024.rank)

variable [Facts]

def fn {F : FTy → Type} [FloatOps F] (main_arg0 : FVec F S8192x1024 .f32) (main_arg1 : FVec F S8192x1024 .f32) (main_arg2 : FVec F S1x1024 .f32) (main_arg3 : FVec F S1x1024x6144 .f32) (main_arg4 : FVec F S1x6144 .f32) (main_arg5 : FVec F S1x1024x1024 .f32) : IVec S8192x1024 1 × IVec S8192x1024 1 × IVec S1x1024 1 × IVec S1x1024x6144 1 × IVec S1x6144 1 × IVec S1x1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x6144 .f32 := Host.absf main_arg3
  let main_cst_2 : FVec F S_ .f32 := constant S_ .f32 0x7F800000#32
  let main_v10 : FVec F S1x1024x6144 .f32 := broadcastInDim S1x1024x6144 ![] bcast_S_S1x1024x6144 main_cst_2
  let main_v11 : IVec S1x1024x6144 1 := cmpf .olt main_v9 main_v10
  let main_v12 : FVec F S1x6144 .f32 := Host.absf main_arg4
  let main_cst_3 : FVec F S_ .f32 := constant S_ .f32 0x7F800000#32
  let main_v13 : FVec F S1x6144 .f32 := broadcastInDim S1x6144 ![] bcast_S_S1x6144 main_cst_3
  let main_v14 : IVec S1x6144 1 := cmpf .olt main_v12 main_v13
  let main_v15 : FVec F S1x1024x1024 .f32 := Host.absf main_arg5
  let main_cst_4 : FVec F S_ .f32 := constant S_ .f32 0x7F800000#32
  let main_v16 : FVec F S1x1024x1024 .f32 := broadcastInDim S1x1024x1024 ![] bcast_S_S1x1024x1024 main_cst_4
  let main_v17 : IVec S1x1024x1024 1 := cmpf .olt main_v15 main_v16
  (main_v2, main_v5, main_v8, main_v11, main_v14, main_v17)
-- ==== Kernel.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x5632 : Shape := ⟨3, ![1, 1024, 5632]⟩
abbrev S1x2816x1024 : Shape := ⟨3, ![1, 2816, 1024]⟩
abbrev S1024x2048 : Shape := ⟨2, ![1024, 2048]⟩
abbrev S2048 : Shape := ⟨1, ![2048]⟩
abbrev S_ : Shape := ⟨0, ![]⟩
abbrev S1024x6144 : Shape := ⟨2, ![1024, 6144]⟩
abbrev S1x2048 : Shape := ⟨2, ![1, 2048]⟩
abbrev S1x8192 : Shape := ⟨2, ![1, 8192]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S1024 : Shape := ⟨1, ![1024]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8x1024 : Shape := ⟨2, ![8, 1024]⟩
abbrev S512x1024 : Shape := ⟨2, ![512, 1024]⟩
abbrev S512x2816 : Shape := ⟨2, ![512, 2816]⟩
abbrev S512x5632 : Shape := ⟨2, ![512, 5632]⟩
abbrev S256x1024 : Shape := ⟨2, ![256, 1024]⟩
abbrev S1408x1024 : Shape := ⟨2, ![1408, 1024]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 70
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x5632, .f32⟩
  | .hbm, ⟨7, _⟩ => ⟨S1x2816x1024, .f32⟩
  | .hbm, ⟨8, _⟩ => ⟨S1024x2048, .f32⟩
  | .hbm, ⟨9, _⟩ => ⟨S2048, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .bf16⟩
  | .hbm, ⟨20, _⟩ => ⟨S1024x6144, .f32⟩
  | .hbm, ⟨21, _⟩ => ⟨S1024x6144, .bf16⟩
  | .hbm, ⟨22, _⟩ => ⟨S1x6144, .f32⟩
  | .hbm, ⟨23, _⟩ => ⟨S1024x2048, .bf16⟩
  | .hbm, ⟨24, _⟩ => ⟨S1x2048, .f32⟩
  | .hbm, ⟨25, _⟩ => ⟨S1x8192, .f32⟩
  | .hbm, ⟨26, _⟩ => ⟨S1x2048, .f32⟩
  | .hbm, ⟨27, _⟩ => ⟨S1x8192, .f32⟩
  | .hbm, ⟨28, _⟩ => ⟨S1024x5632, .f32⟩
  | .hbm, ⟨29, _⟩ => ⟨S1024x5632, .bf16⟩
  | .hbm, ⟨30, _⟩ => ⟨S1024x4x1408, .bf16⟩
  | .hbm, ⟨31, _⟩ => ⟨S4x1024x1408, .bf16⟩
  | .hbm, ⟨32, _⟩ => ⟨S2816x1024, .f32⟩
  | .hbm, ⟨33, _⟩ => ⟨S2816x1024, .bf16⟩
  | .hbm, ⟨34, _⟩ => ⟨S1x8192, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .bf16⟩
  | .hbm, ⟨62, _⟩ => ⟨S8192x5632, .f32⟩
  | .hbm, ⟨63, _⟩ => ⟨S8192x2816, .f32⟩
  | .hbm, ⟨64, _⟩ => ⟨S8192x2816, .bf16⟩
  | .hbm, ⟨65, _⟩ => ⟨S8192x2816, .f32⟩
  | .hbm, ⟨66, _⟩ => ⟨S8192x2816, .bf16⟩
  | .hbm, ⟨67, _⟩ => ⟨S8192x5632, .bf16⟩
  | .hbm, ⟨68, _⟩ => ⟨S8192x1024, .f32⟩
  | .hbm, ⟨69, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x8192, .f32⟩
  | .local _ .vmem, ⟨9, _⟩ => ⟨S1x8192, .f32⟩
  | .local _ .vmem, ⟨10, _⟩ => ⟨S1x1024, .f32⟩
  | .local _ .vmem, ⟨11, _⟩ => ⟨S4x1024x1408, .bf16⟩
  | .local _ .vmem, ⟨12, _⟩ => ⟨S2816x1024, .bf16⟩
  | .local _ .vmem, ⟨13, _⟩ => ⟨S512x5632, .bf16⟩
  | .local _ .vmem, ⟨14, _⟩ => ⟨S512x5632, .bf16⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45_0 : Ref sig .tc := ⟨.hbm, 67, rfl⟩
abbrev main_v45_1 : Ref sig .tc := ⟨.hbm, 68, rfl⟩
abbrev main_v45_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x5632 : Shape := ⟨3, ![1, 1024, 5632]⟩
abbrev S1x2816x1024 : Shape := ⟨3, ![1, 2816, 1024]⟩
abbrev S1024x2048 : Shape := ⟨2, ![1024, 2048]⟩
abbrev S2048 : Shape := ⟨1, ![2048]⟩
abbrev S_ : Shape := ⟨0, ![]⟩
abbrev S1024x6144 : Shape := ⟨2, ![1024, 6144]⟩
abbrev S6144 : Shape := ⟨1, ![6144]⟩
abbrev S1024 : Shape := ⟨1, ![1024]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S2816x1024 : Shape := ⟨2, ![2816, 1024]⟩
abbrev S5x1024 : Shape := ⟨2, ![5, 1024]⟩
abbrev S8x1024 : Shape := ⟨2, ![8, 1024]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024x6144, .f32⟩
  | 4 => ⟨S1x6144, .f32⟩
  | 5 => ⟨S1x1024, .f32⟩
  | 6 => ⟨S1x1024x5632, .f32⟩
  | 7 => ⟨S1x2816x1024, .f32⟩
  | 8 => ⟨S1024x2048, .f32⟩
  | 9 => ⟨S2048, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S1x1024, .f32⟩
  | 19 => ⟨S1024x6144, .f32⟩
  | 20 => ⟨S1x6144, .f32⟩
  | 21 => ⟨S6144, .f32⟩
  | 22 => ⟨S1x6144, .f32⟩
  | 23 => ⟨S1x6144, .f32⟩
  | 24 => ⟨S1x1024, .f32⟩
  | 25 => ⟨S1x1024, .f32⟩
  | 26 => ⟨S1x1024, .f32⟩
  | 27 => ⟨S1024, .f32⟩
  | 28 => ⟨S8192x1024, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x1024, .f32⟩
  | 44 => ⟨S8192x1024, .f32⟩
  | 45 => ⟨S1x1024, .f32⟩
  | 46 => ⟨S8192x1024, .f32⟩
  | 47 => ⟨S8192x1024, .f32⟩
  | 48 => ⟨S_, .f32⟩
  | 49 => ⟨S1x1024, .f32⟩
  | 50 => ⟨S1x1024, .f32⟩
  | 51 => ⟨S8192x1024, .f32⟩
  | 52 => ⟨S8192x1024, .f32⟩
  | 53 => ⟨S8192x1024, .f32⟩
  | 54 => ⟨S8192x1024, .f32⟩
  | 55 => ⟨S1024x5632, .f32⟩
  | 56 => ⟨S8192x5632, .f32⟩
  | 57 => ⟨S8192x2816, .f32⟩
  | 58 => ⟨S8192x2816, .f32⟩
  | 59 => ⟨S8192x2816, .f32⟩
  | 60 => ⟨S8192x2816, .f32⟩
  | 61 => ⟨S_, .f32⟩
  | 62 => ⟨S8192x2816, .f32⟩
  | 63 => ⟨S8192x2816, .f32⟩
  | 64 => ⟨S_, .f32⟩
  | 65 => ⟨S8192x2816, .f32⟩
  | 66 => ⟨S8192x2816, .f32⟩
  | 67 => ⟨S_, .f32⟩
  | 68 => ⟨S8192x2816, .f32⟩
  | 69 => ⟨S8192x2816, .f32⟩
  | 70 => ⟨S8192x2816, .f32⟩
  | 71 => ⟨S8192x2816, .f32⟩
  | 72 => ⟨S8192x2816, .f32⟩
  | 73 => ⟨S2816x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S8192x2816, .f32⟩
  | 82 => ⟨S8192x2816, .f32⟩
  | 83 => ⟨S8192x2816, .f32⟩
  | 84 => ⟨S8192x2816, .f32⟩
  | 85 => ⟨S8192x2816, .f32⟩
  | 86 => ⟨S8192x2816, .f32⟩
  | 87 => ⟨S8192x2816, .f32⟩
  | 88 => ⟨S_, .f32⟩
  | 89 => ⟨S8192x5632, .f32⟩
  | 90 => ⟨S_, .f32⟩
  | 91 => ⟨S8192x5632, .f32⟩
  | 92 => ⟨S8192x5632, .f32⟩
  | 93 => ⟨S8192x1024, .f32⟩
  | 94 => ⟨S_, .f32⟩
  | 95 => ⟨S1024, .f32⟩
  | 96 => ⟨S1x1024, .f32⟩
  | 97 => ⟨S8192x1024, .f32⟩
  | 98 => ⟨S_, .f32⟩
  | 99 => ⟨S1024, .f32⟩
  | 100 => ⟨S1x1024, .f32⟩
  | 101 => ⟨S8192x1024, .f32⟩
  | 102 => ⟨S8192x1024, .f32⟩
  | 103 => ⟨S8192x1024, .f32⟩
  | 104 => ⟨S_, .f32⟩
  | 105 => ⟨S1024, .f32⟩
  | 106 => ⟨S1x1024, .f32⟩
  | 107 => ⟨S8192x1024, .f32⟩
  | 108 => ⟨S8192x1024, .f32⟩
  | 109 => ⟨S_, .f32⟩
  | 110 => ⟨S1024, .f32⟩
  | 111 => ⟨S8192x1024, .f32⟩
  | 112 => ⟨S_, .f32⟩
  | 113 => ⟨S8192, .f32⟩
  | 114 => ⟨S8192x1, .f32⟩
  | 115 => ⟨S8192x1024, .f32⟩
  | 116 => ⟨S8192x1024, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S1x1024, .f32⟩
  | 1 => ⟨S_, .f32⟩
  | 2 => ⟨S5x1024, .f32⟩
  | 3 => ⟨S8x1024, .f32⟩
  | 4 => ⟨S8192x5632, .bf16⟩
  | 5 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_v36_2 : Ref sig .tc := ⟨.hbm, 66, rfl⟩
abbrev main_call1_cst_1 : Ref sig .tc := ⟨.hbm, 67, rfl⟩
abbrev main_call1_v6 : Ref sig .tc := ⟨.hbm, 68, rfl⟩
abbrev main_call1_v7 : Ref sig .tc := ⟨.hbm, 69, rfl⟩
abbrev main_v36_1 : Ref sig .tc := ⟨.hbm, 70, rfl⟩
abbrev main_v36_0 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v49 : Ref sig .tc := ⟨.hbm, 87, rfl⟩
abbrev main_cst_4 : Ref sig .tc := ⟨.hbm, 88, rfl⟩
abbrev main_v50 : Ref sig .tc := ⟨.hbm, 89, rfl⟩
abbrev main_cst_5 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_6 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_7 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_8 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_9 : Ref sig .tc := ⟨.hbm, 109, rfl⟩
abbrev main_v66 : Ref sig .tc := ⟨.hbm, 110, rfl⟩
abbrev main_v67 : Ref sig .tc := ⟨.hbm, 111, rfl⟩
abbrev main_cst_10 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_11 : Ref sig .tc := ⟨.hbm, 118, rfl⟩
abbrev main_v73 : Ref sig .tc := ⟨.hbm, 119, rfl⟩
abbrev main_v74 : Ref sig .tc := ⟨.hbm, 120, rfl⟩
abbrev main_cst_12 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_13 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩

abbrev nD : Nat := 1
abbrev τ : Topo := Topo.v7x

variable {F : FTy → Type} [FloatOps F]
-- ==== GradIn.lean ====
abbrev S8192x5632 : Shape := ⟨2, ![8192, 5632]⟩
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x5632 : Shape := ⟨3, ![1, 1024, 5632]⟩
abbrev S_ : Shape := ⟨0, ![]⟩
abbrev S1024x6144 : Shape := ⟨2, ![1024, 6144]⟩
abbrev S6144 : Shape := ⟨1, ![6144]⟩
abbrev S1024 : Shape := ⟨1, ![1024]⟩
abbrev S8192 : Shape := ⟨1, ![8192]⟩
abbrev S8192x1 : Shape := ⟨2, ![8192, 1]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 50
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S1x1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x5632, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024x6144, .f32⟩
  | .hbm, ⟨17, _⟩ => ⟨S1x6144, .f32⟩
  | .hbm, ⟨18, _⟩ => ⟨S6144, .f32⟩
  | .hbm, ⟨19, _⟩ => ⟨S1x6144, .f32⟩
  | .hbm, ⟨20, _⟩ => ⟨S1x6144, .f32⟩
  | .hbm, ⟨21, _⟩ => ⟨S1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S8192x5632, .bf16⟩
  | .hbm, ⟨49, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== RefInIdeal.lean ====
abbrev S8192x5632 : Shape := ⟨2, ![8192, 5632]⟩
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x5632 : Shape := ⟨3, ![1, 1024, 5632]⟩
abbrev S_ : Shape := ⟨0, ![]⟩
abbrev S1024x6144 : Shape := ⟨2, ![1024, 6144]⟩
abbrev S6144 : Shape := ⟨1, ![6144]⟩
abbrev S1024x5632 : Shape := ⟨2, ![1024, 5632]⟩
abbrev S1024 : Shape := ⟨1, ![1024]⟩
abbrev S8192 : Shape := ⟨1, ![8192]⟩
abbrev S8192x1 : Shape := ⟨2, ![8192, 1]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 54
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S1x1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x5632, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024x6144, .f32⟩
  | .hbm, ⟨17, _⟩ => ⟨S1x6144, .f32⟩
  | .hbm, ⟨18, _⟩ => ⟨S6144, .f32⟩
  | .hbm, ⟨19, _⟩ => ⟨S1x6144, .f32⟩
  | .hbm, ⟨20, _⟩ => ⟨S1x6144, .f32⟩
  | .hbm, ⟨21, _⟩ => ⟨S1x1024, .f32⟩
  | .hbm, ⟨22, _⟩ => ⟨S1x1024, .f32⟩
  | .hbm, ⟨23, _⟩ => ⟨S1024x5632, .f32⟩
  | .hbm, ⟨24, _⟩ => ⟨S1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x5632, .f32⟩
  | .hbm, ⟨49, _⟩ => ⟨S5632x1024, .f32⟩
  | .hbm, ⟨50, _⟩ => ⟨S1024x5632, .f32⟩
  | .hbm, ⟨51, _⟩ => ⟨S1024x4x1408, .f32⟩
  | .hbm, ⟨52, _⟩ => ⟨S4x1024x1408, .f32⟩
  | .hbm, ⟨53, _⟩ => ⟨S4x1024x1408, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== GradOut.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x5632 : Shape := ⟨3, ![1, 1024, 5632]⟩
abbrev S1x2816x1024 : Shape := ⟨3, ![1, 2816, 1024]⟩
abbrev S_ : Shape := ⟨0, ![]⟩
abbrev S1024x6144 : Shape := ⟨2, ![1024, 6144]⟩
abbrev S6144 : Shape := ⟨1, ![6144]⟩
abbrev S1024 : Shape := ⟨1, ![1024]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S2816x1024 : Shape := ⟨2, ![2816, 1024]⟩
abbrev S8x1024 : Shape := ⟨2, ![8, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 68
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x5632, .f32⟩
  | .hbm, ⟨7, _⟩ => ⟨S1x2816x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024x6144, .f32⟩
  | .hbm, ⟨18, _⟩ => ⟨S1x6144, .f32⟩
  | .hbm, ⟨19, _⟩ => ⟨S6144, .f32⟩
  | .hbm, ⟨20, _⟩ => ⟨S1x6144, .f32⟩
  | .hbm, ⟨21, _⟩ => ⟨S1x6144, .f32⟩
  | .hbm, ⟨22, _⟩ => ⟨S1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1024x5632, .f32⟩
  | .hbm, ⟨49, _⟩ => ⟨S8192x5632, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x2816, .f32⟩
  | .hbm, ⟨55, _⟩ => ⟨S8192x2816, .f32⟩
  | .hbm, ⟨56, _⟩ => ⟨S_, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .bf16⟩
  | .hbm, ⟨63, _⟩ => ⟨S1x1024, .f32⟩
  | .hbm, ⟨64, _⟩ => ⟨S2816x1024, .f32⟩
  | .hbm, ⟨65, _⟩ => ⟨S2816x1024, .bf16⟩
  | .hbm, ⟨66, _⟩ => ⟨S2816x1024, .bf16⟩
  | .hbm, ⟨67, _⟩ => ⟨S8x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S8x1024, .f32⟩
  | .local _ .vmem, ⟨10, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38_0 : Ref sig .tc := ⟨.hbm, 66, rfl⟩
abbrev main_v38_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_6 : BitVec 32 := 0#32
  let v17 : BitVec 1 := Scalar.cmpi .ne v16 c0_i32_6
  v17

def k0_cond4 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c4_i32 : BitVec 32 := 4#32
  let v2 : BitVec 32 := Scalar.muli v1 c4_i32
  let arg2 : BitVec 32 := BitVec.ofNat 32 (i 2).val
  let v3 : BitVec 32 := Scalar.addi v2 arg2
  let c3_i32_9 : BitVec 32 := 3#32
  let v19 : BitVec 1 := Scalar.cmpi .eq v3 c3_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]
-- ==== RefOutIdeal.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x5632 : Shape := ⟨3, ![1, 1024, 5632]⟩
abbrev S1x2816x1024 : Shape := ⟨3, ![1, 2816, 1024]⟩
abbrev S_ : Shape := ⟨0, ![]⟩
abbrev S1024x6144 : Shape := ⟨2, ![1024, 6144]⟩
abbrev S6144 : Shape := ⟨1, ![6144]⟩
abbrev S1024 : Shape := ⟨1, ![1024]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S2816x1024 : Shape := ⟨2, ![2816, 1024]⟩
abbrev S8192x2816 : Shape := ⟨2, ![8192, 2816]⟩
abbrev S1024x2816 : Shape := ⟨2, ![1024, 2816]⟩
abbrev S7x1024 : Shape := ⟨2, ![7, 1024]⟩
abbrev S8x1024 : Shape := ⟨2, ![8, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x5632, .f32⟩
  | .hbm, ⟨7, _⟩ => ⟨S1x2816x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024x6144, .f32⟩
  | .hbm, ⟨18, _⟩ => ⟨S1x6144, .f32⟩
  | .hbm, ⟨19, _⟩ => ⟨S6144, .f32⟩
  | .hbm, ⟨20, _⟩ => ⟨S1x6144, .f32⟩
  | .hbm, ⟨21, _⟩ => ⟨S1x6144, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1024x5632, .f32⟩
  | .hbm, ⟨50, _⟩ => ⟨S8192x5632, .f32⟩
  | .hbm, ⟨51, _⟩ => ⟨S2816x1024, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S1024x2816, .f32⟩
  | .hbm, ⟨75, _⟩ => ⟨S2816x1024, .f32⟩
  | .hbm, ⟨76, _⟩ => ⟨S2816x1024, .bf16⟩
  | .hbm, ⟨77, _⟩ => ⟨S_, .f32⟩
  | .hbm, ⟨78, _⟩ => ⟨S7x1024, .f32⟩
  | .hbm, ⟨79, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_3 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_4 : Ref sig .tc := ⟨.hbm, 77, rfl⟩
abbrev main_v48 : Ref sig .tc := ⟨.hbm, 78, rfl⟩
abbrev main_v49 : Ref sig .tc := ⟨.hbm, 79, rfl⟩

abbrev nD : Nat := 1
abbrev τ : Topo := Topo.v7x

variable {F : FTy → Type} [FloatOps F]
-- ==== FfnForward.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x5632 : Shape := ⟨3, ![1, 1024, 5632]⟩
abbrev S1x2816x1024 : Shape := ⟨3, ![1, 2816, 1024]⟩
abbrev S1024x2048 : Shape := ⟨2, ![1024, 2048]⟩
abbrev S2048 : Shape := ⟨1, ![2048]⟩
abbrev S1024 : Shape := ⟨1, ![1024]⟩
abbrev S_ : Shape := ⟨0, ![]⟩
abbrev S1024x6144 : Shape := ⟨2, ![1024, 6144]⟩
abbrev S1x2048 : Shape := ⟨2, ![1, 2048]⟩
abbrev S1x8192 : Shape := ⟨2, ![1, 8192]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S8192x2816 : Shape := ⟨2, ![8192, 2816]⟩
abbrev S8x1024 : Shape := ⟨2, ![8, 1024]⟩
abbrev S512x1024 : Shape := ⟨2, ![512, 1024]⟩
abbrev S512x2816 : Shape := ⟨2, ![512, 2816]⟩
abbrev S256x1024 : Shape := ⟨2, ![256, 1024]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1408x1024 : Shape := ⟨2, ![1408, 1024]⟩
abbrev S1 : Shape := ⟨1, ![1]⟩
abbrev S1x1 : Shape := ⟨2, ![1, 1]⟩

abbrev nBuf : Space → Nat
  | .hbm => 42
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x5632, .f32⟩
  | .hbm, ⟨7, _⟩ => ⟨S1x2816x1024, .f32⟩
  | .hbm, ⟨8, _⟩ => ⟨S1024x2048, .f32⟩
  | .hbm, ⟨9, _⟩ => ⟨S2048, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .bf16⟩
  | .hbm, ⟨21, _⟩ => ⟨S1024x6144, .f32⟩
  | .hbm, ⟨22, _⟩ => ⟨S1024x6144, .bf16⟩
  | .hbm, ⟨23, _⟩ => ⟨S1x6144, .f32⟩
  | .hbm, ⟨24, _⟩ => ⟨S1024x2048, .bf16⟩
  | .hbm, ⟨25, _⟩ => ⟨S1x2048, .f32⟩
  | .hbm, ⟨26, _⟩ => ⟨S1x8192, .f32⟩
  | .hbm, ⟨27, _⟩ => ⟨S1x2048, .f32⟩
  | .hbm, ⟨28, _⟩ => ⟨S1x8192, .f32⟩
  | .hbm, ⟨29, _⟩ => ⟨S1024x5632, .f32⟩
  | .hbm, ⟨30, _⟩ => ⟨S1024x5632, .bf16⟩
  | .hbm, ⟨31, _⟩ => ⟨S1024x4x1408, .bf16⟩
  | .hbm, ⟨32, _⟩ => ⟨S4x1024x1408, .bf16⟩
  | .hbm, ⟨33, _⟩ => ⟨S1x1024, .f32⟩
  | .hbm, ⟨34, _⟩ => ⟨S2816x1024, .f32⟩
  | .hbm, ⟨35, _⟩ => ⟨S2816x1024, .bf16⟩
  | .hbm, ⟨36, _⟩ => ⟨S8192x2816, .bf16⟩
  | .hbm, ⟨37, _⟩ => ⟨S8192x2816, .bf16⟩
  | .hbm, ⟨38, _⟩ => ⟨S8192x2816, .bf16⟩
  | .hbm, ⟨39, _⟩ => ⟨S8192x1024, .bf16⟩
  | .hbm, ⟨40, _⟩ => ⟨S8192x1024, .f32⟩
  | .hbm, ⟨41, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x8192, .f32⟩
  | .local _ .vmem, ⟨5, _⟩ => ⟨S1x8192, .f32⟩
  | .local _ .vmem, ⟨6, _⟩ => ⟨S1x1024, .f32⟩
  | .local _ .vmem, ⟨7, _⟩ => ⟨S1x1024, .f32⟩
  | .local _ .vmem, ⟨8, _⟩ => ⟨S4x1024x1408, .bf16⟩
  | .local _ .vmem, ⟨9, _⟩ => ⟨S2816x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17_0 : Ref sig .tc := ⟨.hbm, 36, rfl⟩
abbrev main_v17_1 : Ref sig .tc := ⟨.hbm, 37, rfl⟩
abbrev main_v17_2 : Ref sig .tc := ⟨.hbm, 38, rfl⟩
abbrev main_v17_3 : Ref sig .tc := ⟨.hbm, 39, rfl⟩
abbrev main_v17_4 : Ref sig .tc := ⟨.hbm, 40, rfl⟩
abbrev main_v17_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== RefFfnIdeal.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x5632 : Shape := ⟨3, ![1, 1024, 5632]⟩
abbrev S1x2816x1024 : Shape := ⟨3, ![1, 2816, 1024]⟩
abbrev S1024x2048 : Shape := ⟨2, ![1024, 2048]⟩
abbrev S2048 : Shape := ⟨1, ![2048]⟩
abbrev S1024 : Shape := ⟨1, ![1024]⟩
abbrev S_ : Shape := ⟨0, ![]⟩
abbrev S1024x6144 : Shape := ⟨2, ![1024, 6144]⟩
abbrev S6144 : Shape := ⟨1, ![6144]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S2816x1024 : Shape := ⟨2, ![2816, 1024]⟩
abbrev S1x2048 : Shape := ⟨2, ![1, 2048]⟩
abbrev S3x1024 : Shape := ⟨2, ![3, 1024]⟩
abbrev S8x1024 : Shape := ⟨2, ![8, 1024]⟩

abbrev nBuf : Space → Nat
  | .hbm => 177
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024x6144, .f32⟩
  | 4 => ⟨S1x6144, .f32⟩
  | 5 => ⟨S1x1024, .f32⟩
  | 6 => ⟨S1x1024x5632, .f32⟩
  | 7 => ⟨S1x2816x1024, .f32⟩
  | 8 => ⟨S1024x2048, .f32⟩
  | 9 => ⟨S2048, .f32⟩
  | 10 => ⟨S1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S1024x6144, .f32⟩
  | 21 => ⟨S1x6144, .f32⟩
  | 22 => ⟨S6144, .f32⟩
  | 23 => ⟨S1x6144, .f32⟩
  | 24 => ⟨S1x6144, .f32⟩
  | 25 => ⟨S1x1024, .f32⟩
  | 26 => ⟨S1x1024, .f32⟩
  | 27 => ⟨S1x1024, .f32⟩
  | 28 => ⟨S1024, .f32⟩
  | 29 => ⟨S8192x1024, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S_, .f32⟩
  | 46 => ⟨S1x1024, .f32⟩
  | 47 => ⟨S1x1024, .f32⟩
  | 48 => ⟨S8192x1024, .f32⟩
  | 49 => ⟨S8192x1024, .f32⟩
  | 50 => ⟨S8192x1024, .f32⟩
  | 51 => ⟨S8192x1024, .f32⟩
  | 52 => ⟨S1024x5632, .f32⟩
  | 53 => ⟨S8192x5632, .f32⟩
  | 54 => ⟨S8192x2816, .f32⟩
  | 55 => ⟨S8192x2816, .f32⟩
  | 56 => ⟨S8192x2816, .f32⟩
  | 57 => ⟨S8192x2816, .f32⟩
  | 58 => ⟨S_, .f32⟩
  | 59 => ⟨S8192x2816, .f32⟩
  | 60 => ⟨S8192x2816, .f32⟩
  | 61 => ⟨S_, .f32⟩
  | 62 => ⟨S8192x2816, .f32⟩
  | 63 => ⟨S8192x2816, .f32⟩
  | 64 => ⟨S8192x2816, .f32⟩
  | 65 => ⟨S8192x2816, .f32⟩
  | 66 => ⟨S2816x1024, .f32⟩
  | 67 => ⟨S8192x1024, .f32⟩
  | 68 => ⟨S8192x1024, .f32⟩
  | 69 => ⟨S8192x1024, .f32⟩
  | 70 => ⟨S8192x1024, .f32⟩
  | 71 => ⟨S1x2048, .f32⟩
  | 72 => ⟨S1x2048, .f32⟩
  | 73 => ⟨S1x2048, .f32⟩
  | 74 => ⟨S1x1024, .f32⟩
  | 75 => ⟨S1x1024, .f32⟩
  | 76 => ⟨S8192x1024, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x1024, .f32⟩
  | 92 => ⟨S8192x1024, .f32⟩
  | 93 => ⟨S1x1024, .f32⟩
  | 94 => ⟨S8192x1024, .f32⟩
  | 95 => ⟨S8192x1024, .f32⟩
  | 96 => ⟨S_, .f32⟩
  | 97 => ⟨S1x1024, .f32⟩
  | 98 => ⟨S1x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S_, .f32⟩
  | 106 => ⟨S8192x1024, .f32⟩
  | 107 => ⟨S8192x1024, .f32⟩
  | 108 => ⟨S_, .f32⟩
  | 109 => ⟨S8192, .f32⟩
  | 110 => ⟨S_, .f32⟩
  | 111 => ⟨S8192, .f32⟩
  | 112 => ⟨S8192, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S8192, .f32⟩
  | 121 => ⟨S_, .f32⟩
  | 122 => ⟨S8192, .f32⟩
  | 123 => ⟨S8192, .f32⟩
  | 124 => ⟨S8192x1024, .f32⟩
  | 125 => ⟨S8192x1024, .f32⟩
  | 126 => ⟨S_, .f32⟩
  | 127 => ⟨S1024, .f32⟩
  | _ => ⟨S8192x1024, .f32⟩

abbrev hbmTy0_1 (i : Nat) : BufTy := match i % 128 with
  | 0 => ⟨S1x1024, .f32⟩
  | 1 => ⟨S8192x1024, .f32⟩
  | 2 => ⟨S_, .f32⟩
  | 3 => ⟨S1024, .f32⟩
  | 4 => ⟨S1x1024, .f32⟩
  | 5 => ⟨S8192x1024, .f32⟩
  | 6 => ⟨S8192x1024, .f32⟩
  | 7 => ⟨S8192x1024, .f32⟩
  | 8 => ⟨S_, .f32⟩
  | 9 => ⟨S1024, .f32⟩
  | 10 => ⟨S1x1024, .f32⟩
  | 11 => ⟨S8192x1024, .f32⟩
  | 12 => ⟨S8192x1024, .f32⟩
  | 13 => ⟨S_, .f32⟩
  | 14 => ⟨S1024, .f32⟩
  | 15 => ⟨S8192x1024, .f32⟩
  | 16 => ⟨S_, .f32⟩
  | 17 => ⟨S8192, .f32⟩
  | 18 => ⟨S8192x1, .f32⟩
  | 19 => ⟨S8192x1024, .f32⟩
  | 20 => ⟨S8192x1024, .f32⟩
  | 21 => ⟨S8192x1, .f32⟩
  | 22 => ⟨S_, .f32⟩
  | 23 => ⟨S8192x1, .f32⟩
  | 24 => ⟨S8192x1, .f32⟩
  | 25 => ⟨S_, .f32⟩
  | 26 => ⟨S8192, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S3x1024, .f32⟩
  | 44 => ⟨S8x1024, .f32⟩
  | 45 => ⟨S8192x2816, .bf16⟩
  | 46 => ⟨S8192x2816, .bf16⟩
  | 47 => ⟨S8192x2816, .bf16⟩
  | 48 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_3 : Ref sig .tc := ⟨.hbm, 77, rfl⟩
abbrev main_v46 : Ref sig .tc := ⟨.hbm, 78, rfl⟩
abbrev main_v47 : Ref sig .tc := ⟨.hbm, 79, rfl⟩
abbrev main_cst_4 : Ref sig .tc := ⟨.hbm, 80, rfl⟩
abbrev main_v48 : Ref sig .tc := ⟨.hbm, 81, rfl⟩
abbrev main_v49 : Ref sig .tc := ⟨.hbm, 82, rfl⟩
abbrev main_cst_5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_6 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_7 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_8 : Ref sig .tc := ⟨.hbm, 105, rfl⟩
abbrev main_v69 : Ref sig .tc := ⟨.hbm, 106, rfl⟩
abbrev main_v70 : Ref sig .tc := ⟨.hbm, 107, rfl⟩
abbrev main_cst_9 : Ref sig .tc := ⟨.hbm, 108, rfl⟩
abbrev main_v71 : Ref sig .tc := ⟨.hbm, 109, rfl⟩
abbrev main_cst_10 : Ref sig .tc := ⟨.hbm, 110, rfl⟩
abbrev main_v72 : Ref sig .tc := ⟨.hbm, 111, rfl⟩
abbrev main_v73 : Ref sig .tc := ⟨.hbm, 112, rfl⟩
abbrev main_cst_11 : Ref sig .tc := ⟨.hbm, 113, rfl⟩
abbrev main_v74 : Ref sig .tc := ⟨.hbm, 114, rfl⟩
abbrev main_cst_12 : Ref sig .tc := ⟨.hbm, 115, rfl⟩
abbrev main_v75 : Ref sig .tc := ⟨.hbm, 116, rfl⟩
abbrev main_cst_13 : Ref sig .tc := ⟨.hbm, 117, rfl⟩
abbrev main_cst_14 : Ref sig .tc := ⟨.hbm, 118, rfl⟩
abbrev main_v76 : Ref sig .tc := ⟨.hbm, 119, rfl⟩
abbrev main_v77 : Ref sig .tc := ⟨.hbm, 120, rfl⟩
abbrev main_cst_15 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_16 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_17 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_18 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_19 : Ref sig .tc := ⟨.hbm, 141, rfl⟩
abbrev main_v94 : Ref sig .tc := ⟨.hbm, 142, rfl⟩
abbrev main_v95 : Ref sig .tc := ⟨.hbm, 143, rfl⟩
abbrev main_cst_20 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_21 : Ref sig .tc := ⟨.hbm, 150, rfl⟩
abbrev main_v101 : Ref sig .tc := ⟨.hbm, 151, rfl⟩
abbrev main_v102 : Ref sig .tc := ⟨.hbm, 152, rfl⟩
abbrev main_cst_22 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_23 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_24 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_25 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩

abbrev nD : Nat := 1
abbrev τ : Topo := Topo.v7x

variable {F : FTy → Type} [FloatOps F]
-- ==== GradWo.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x1024 : Shape := ⟨3, ![1, 1024, 1024]⟩
abbrev S_ : Shape := ⟨0, ![]⟩
abbrev S1024x6144 : Shape := ⟨2, ![1024, 6144]⟩
abbrev S6144 : Shape := ⟨1, ![6144]⟩
abbrev S1024x1024 : Shape := ⟨2, ![1024, 1024]⟩
abbrev S8x1024 : Shape := ⟨2, ![8, 1024]⟩
abbrev S2048x1024 : Shape := ⟨2, ![2048, 1024]⟩
abbrev S1024 : Shape := ⟨1, ![1024]⟩

abbrev nBuf : Space → Nat
  | .hbm => 26
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024x6144, .f32⟩
  | .hbm, ⟨4, _⟩ => ⟨S1x6144, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S1x6144, .f32⟩
  | .hbm, ⟨20, _⟩ => ⟨S8192x1024, .bf16⟩
  | .hbm, ⟨21, _⟩ => ⟨S1x1024, .f32⟩
  | .hbm, ⟨22, _⟩ => ⟨S1024x1024, .f32⟩
  | .hbm, ⟨23, _⟩ => ⟨S1024x1024, .bf16⟩
  | .hbm, ⟨24, _⟩ => ⟨S1024x1024, .bf16⟩
  | .hbm, ⟨25, _⟩ => ⟨S8x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S8x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_6 : BitVec 32 := 0#32
  let v17 : BitVec 1 := Scalar.cmpi .ne v16 c0_i32_6
  v17

def k0_cond4 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c4_i32 : BitVec 32 := 4#32
  let v2 : BitVec 32 := Scalar.muli v1 c4_i32
  let arg2 : BitVec 32 := BitVec.ofNat 32 (i 2).val
  let v3 : BitVec 32 := Scalar.addi v2 arg2
  let c3_i32_9 : BitVec 32 := 3#32
  let v19 : BitVec 1 := Scalar.cmpi .eq v3 c3_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]
-- ==== RefWoIdeal.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x1024 : Shape := ⟨3, ![1, 1024, 1024]⟩
abbrev S_ : Shape := ⟨0, ![]⟩
abbrev S1024x6144 : Shape := ⟨2, ![1024, 6144]⟩
abbrev S6144 : Shape := ⟨1, ![6144]⟩
abbrev S1024x1024 : Shape := ⟨2, ![1024, 1024]⟩
abbrev S1024 : Shape := ⟨1, ![1024]⟩
abbrev S7x1024 : Shape := ⟨2, ![7, 1024]⟩
abbrev S8x1024 : Shape := ⟨2, ![8, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024x6144, .f32⟩
  | .hbm, ⟨4, _⟩ => ⟨S1x6144, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S1x6144, .f32⟩
  | .hbm, ⟨20, _⟩ => ⟨S1x1024, .f32⟩
  | .hbm, ⟨21, _⟩ => ⟨S1024x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S1024x1024, .f32⟩
  | .hbm, ⟨32, _⟩ => ⟨S1024x1024, .f32⟩
  | .hbm, ⟨33, _⟩ => ⟨S1024x1024, .bf16⟩
  | .hbm, ⟨34, _⟩ => ⟨S_, .f32⟩
  | .hbm, ⟨35, _⟩ => ⟨S7x1024, .f32⟩
  | .hbm, ⟨36, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== GradWi.lean ====
abbrev S8192x2048 : Shape := ⟨2, ![8192, 2048]⟩
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x2048 : Shape := ⟨3, ![1, 1024, 2048]⟩
abbrev S1x2048 : Shape := ⟨2, ![1, 2048]⟩
abbrev S_ : Shape := ⟨0, ![]⟩
abbrev S1024x6144 : Shape := ⟨2, ![1024, 6144]⟩
abbrev S6144 : Shape := ⟨1, ![6144]⟩
abbrev S1024 : Shape := ⟨1, ![1024]⟩
abbrev S8192 : Shape := ⟨1, ![8192]⟩
abbrev S8192x1 : Shape := ⟨2, ![8192, 1]⟩
abbrev S4x1024x512 : Shape := ⟨3, ![4, 1024, 512]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 51
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1x1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x2048, .f32⟩
  | .hbm, ⟨7, _⟩ => ⟨S1x2048, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024x6144, .f32⟩
  | .hbm, ⟨18, _⟩ => ⟨S1x6144, .f32⟩
  | .hbm, ⟨19, _⟩ => ⟨S6144, .f32⟩
  | .hbm, ⟨20, _⟩ => ⟨S1x6144, .f32⟩
  | .hbm, ⟨21, _⟩ => ⟨S1x6144, .f32⟩
  | .hbm, ⟨22, _⟩ => ⟨S1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S8192x2048, .bf16⟩
  | .hbm, ⟨50, _⟩ => ⟨S4x1024x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1x1024x512, .f32⟩
  | .local _ .vmem, ⟨5, _⟩ => ⟨S1x1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== RefWiIdeal.lean ====
abbrev S8192x2048 : Shape := ⟨2, ![8192, 2048]⟩
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x2048 : Shape := ⟨3, ![1, 1024, 2048]⟩
abbrev S1x2048 : Shape := ⟨2, ![1, 2048]⟩
abbrev S_ : Shape := ⟨0, ![]⟩
abbrev S1024x6144 : Shape := ⟨2, ![1024, 6144]⟩
abbrev S6144 : Shape := ⟨1, ![6144]⟩
abbrev S1024x2048 : Shape := ⟨2, ![1024, 2048]⟩
abbrev S1024 : Shape := ⟨1, ![1024]⟩
abbrev S8192 : Shape := ⟨1, ![8192]⟩
abbrev S8192x1 : Shape := ⟨2, ![8192, 1]⟩
abbrev S2048 : Shape := ⟨1, ![2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1x1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x2048, .f32⟩
  | .hbm, ⟨7, _⟩ => ⟨S1x2048, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024x6144, .f32⟩
  | .hbm, ⟨18, _⟩ => ⟨S1x6144, .f32⟩
  | .hbm, ⟨19, _⟩ => ⟨S6144, .f32⟩
  | .hbm, ⟨20, _⟩ => ⟨S1x6144, .f32⟩
  | .hbm, ⟨21, _⟩ => ⟨S1x6144, .f32⟩
  | .hbm, ⟨22, _⟩ => ⟨S1x1024, .f32⟩
  | .hbm, ⟨23, _⟩ => ⟨S1x1024, .f32⟩
  | .hbm, ⟨24, _⟩ => ⟨S1024x2048, .f32⟩
  | .hbm, ⟨25, _⟩ => ⟨S1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x2048, .f32⟩
  | .hbm, ⟨50, _⟩ => ⟨S2048, .f32⟩
  | .hbm, ⟨51, _⟩ => ⟨S1x2048, .f32⟩
  | .hbm, ⟨52, _⟩ => ⟨S8192x2048, .f32⟩
  | .hbm, ⟨53, _⟩ => ⟨S8192x2048, .f32⟩
  | .hbm, ⟨54, _⟩ => ⟨S2048x1024, .f32⟩
  | .hbm, ⟨55, _⟩ => ⟨S1024x2048, .f32⟩
  | .hbm, ⟨56, _⟩ => ⟨S1024x4x512, .f32⟩
  | .hbm, ⟨57, _⟩ => ⟨S4x1024x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== MixForward.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x2048 : Shape := ⟨3, ![1, 1024, 2048]⟩
abbrev S1x2048 : Shape := ⟨2, ![1, 2048]⟩
abbrev S1x512 : Shape := ⟨2, ![1, 512]⟩
abbrev S1x8x128x128 : Shape := ⟨4, ![1, 8, 128, 128]⟩
abbrev S1x8x128 : Shape := ⟨3, ![1, 8, 128]⟩
abbrev S1x31x512 : Shape := ⟨3, ![1, 31, 512]⟩
abbrev S1x1024x1024 : Shape := ⟨3, ![1, 1024, 1024]⟩
abbrev S1024x2048 : Shape := ⟨2, ![1024, 2048]⟩
abbrev S2048 : Shape := ⟨1, ![2048]⟩
abbrev S_ : Shape := ⟨0, ![]⟩
abbrev S1024x6144 : Shape := ⟨2, ![1024, 6144]⟩
abbrev S1x8192 : Shape := ⟨2, ![1, 8192]⟩
abbrev S1024x4x512 : Shape := ⟨3, ![1024, 4, 512]⟩
abbrev S4x1024x512 : Shape := ⟨3, ![4, 1024, 512]⟩
abbrev S31x512 : Shape := ⟨2, ![31, 512]⟩
abbrev S32x512 : Shape := ⟨2, ![32, 512]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S1024x1024 : Shape := ⟨2, ![1024, 1024]⟩
abbrev S8192x2048 : Shape := ⟨2, ![8192, 2048]⟩
abbrev S8192x512 : Shape := ⟨2, ![8192, 512]⟩
abbrev S256x1024 : Shape := ⟨2, ![256, 1024]⟩
abbrev S256x2048 : Shape := ⟨2, ![256, 2048]⟩
abbrev S256x512 : Shape := ⟨2, ![256, 512]⟩
abbrev S288x512 : Shape := ⟨2, ![288, 512]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x128 : Shape := ⟨2, ![256, 128]⟩
abbrev S512x1024 : Shape := ⟨2, ![512, 1024]⟩

abbrev nBuf : Space → Nat
  | .hbm => 75
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S1x1024x2048, .f32⟩
  | .hbm, ⟨6, _⟩ => ⟨S1x2048, .f32⟩
  | .hbm, ⟨7, _⟩ => ⟨S1x512, .f32⟩
  | .hbm, ⟨8, _⟩ => ⟨S1x512, .f32⟩
  | .hbm, ⟨9, _⟩ => ⟨S1x8x128x128, .f32⟩
  | .hbm, ⟨10, _⟩ => ⟨S1x8x128, .f32⟩
  | .hbm, ⟨11, _⟩ => ⟨S1x31x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x1024x1024, .f32⟩
  | .hbm, ⟨18, _⟩ => ⟨S1024x2048, .f32⟩
  | .hbm, ⟨19, _⟩ => ⟨S2048, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .bf16⟩
  | .hbm, ⟨30, _⟩ => ⟨S1024x6144, .f32⟩
  | .hbm, ⟨31, _⟩ => ⟨S1024x6144, .bf16⟩
  | .hbm, ⟨32, _⟩ => ⟨S1x6144, .f32⟩
  | .hbm, ⟨33, _⟩ => ⟨S1024x2048, .bf16⟩
  | .hbm, ⟨34, _⟩ => ⟨S1x2048, .f32⟩
  | .hbm, ⟨35, _⟩ => ⟨S1x8192, .f32⟩
  | .hbm, ⟨36, _⟩ => ⟨S1x2048, .f32⟩
  | .hbm, ⟨37, _⟩ => ⟨S1x8192, .f32⟩
  | .hbm, ⟨38, _⟩ => ⟨S1024x2048, .f32⟩
  | .hbm, ⟨39, _⟩ => ⟨S1024x2048, .bf16⟩
  | .hbm, ⟨40, _⟩ => ⟨S1024x4x512, .bf16⟩
  | .hbm, ⟨41, _⟩ => ⟨S4x1024x512, .bf16⟩
  | .hbm, ⟨42, _⟩ => ⟨S31x512, .f32⟩
  | .hbm, ⟨43, _⟩ => ⟨S_, .f32⟩
  | .hbm, ⟨44, _⟩ => ⟨S1x512, .f32⟩
  | .hbm, ⟨45, _⟩ => ⟨S32x512, .f32⟩
  | .hbm, ⟨46, _⟩ => ⟨S_, .i1⟩
  | .hbm, ⟨47, _⟩ => ⟨S128x128, .i1⟩
  | .hbm, ⟨48, _⟩ => ⟨S128x128, .i32⟩
  | .hbm, ⟨49, _⟩ => ⟨S_, .i32⟩
  | .hbm, ⟨50, _⟩ => ⟨S128x128, .i32⟩
  | .hbm, ⟨51, _⟩ => ⟨S128x128, .i32⟩
  | .hbm, ⟨52, _⟩ => ⟨S128x128, .i32⟩
  | .hbm, ⟨53, _⟩ => ⟨S128x128, .i1⟩
  | .hbm, ⟨54, _⟩ => ⟨S_, .i1⟩
  | .hbm, ⟨55, _⟩ => ⟨S128x128, .i1⟩
  | .hbm, ⟨56, _⟩ => ⟨S128x128, .i1⟩
  | .hbm, ⟨57, _⟩ => ⟨S1x128x128, .i1⟩
  | .hbm, ⟨58, _⟩ => ⟨S8x128x128, .f32⟩
  | .hbm, ⟨59, _⟩ => ⟨S_, .f32⟩
  | .hbm, ⟨60, _⟩ => ⟨S_, .f32⟩
  | .hbm, ⟨61, _⟩ => ⟨S8x128x128, .i1⟩
  | .hbm, ⟨62, _⟩ => ⟨S8x128x128, .f32⟩
  | .hbm, ⟨63, _⟩ => ⟨S8x128x128, .f32⟩
  | .hbm, ⟨64, _⟩ => ⟨S8x128x128, .bf16⟩
  | .hbm, ⟨65, _⟩ => ⟨S8x128, .f32⟩
  | .hbm, ⟨66, _⟩ => ⟨S128x8, .f32⟩
  | .hbm, ⟨67, _⟩ => ⟨S128x8x64, .f32⟩
  | .hbm, ⟨68, _⟩ => ⟨S128x512, .f32⟩
  | .hbm, ⟨69, _⟩ => ⟨S1024x1024, .f32⟩
  | .hbm, ⟨70, _⟩ => ⟨S1024x1024, .bf16⟩
  | .hbm, ⟨71, _⟩ => ⟨S8192x2048, .f32⟩
  | .hbm, ⟨72, _⟩ => ⟨S8192x1024, .f32⟩
  | .hbm, ⟨73, _⟩ => ⟨S8192x512, .f32⟩
  | .hbm, ⟨74, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x8192, .f32⟩
  | .local _ .vmem, ⟨3, _⟩ => ⟨S1x8192, .f32⟩
  | .local _ .vmem, ⟨4, _⟩ => ⟨S1x1024, .f32⟩
  | .local _ .vmem, ⟨5, _⟩ => ⟨S4x1024x512, .bf16⟩
  | .local _ .vmem, ⟨6, _⟩ => ⟨S1x2048, .f32⟩
  | .local _ .vmem, ⟨7, _⟩ => ⟨S1x512, .f32⟩
  | .local _ .vmem, ⟨8, _⟩ => ⟨S1x512, .f32⟩
  | .local _ .vmem, ⟨9, _⟩ => ⟨S8x128x128, .bf16⟩
  | .local _ .vmem, ⟨10, _⟩ => ⟨S128x512, .f32⟩
  | .local _ .vmem, ⟨11, _⟩ => ⟨S32x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1024x1024, .bf16⟩
  | .local _ .vmem, ⟨18, _⟩ => ⟨S256x2048, .f32⟩
  | .local _ .vmem, ⟨19, _⟩ => ⟨S256x2048, .f32⟩
  | .local _ .vmem, ⟨20, _⟩ => ⟨S256x1024, .f32⟩
  | .local _ .vmem, ⟨21, _⟩ => ⟨S256x1024, .f32⟩
  | .local _ .vmem, ⟨22, _⟩ => ⟨S256x512, .f32⟩
  | .local _ .vmem, ⟨23, _⟩ => ⟨S256x512, .f32⟩
  | .local _ .vmem, ⟨24, _⟩ => ⟨S256x1024, .bf16⟩
  | .local _ .vmem, ⟨25, _⟩ => ⟨S256x1024, .bf16⟩
  | .local _ .vmem, ⟨26, _⟩ => ⟨S288x512, .f32⟩
  | .local _ .vmem, ⟨27, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_0 : Ref sig .tc := ⟨.hbm, 54, rfl⟩
abbrev main_call1_v5 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_0 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29_0 : Ref sig .tc := ⟨.hbm, 71, rfl⟩
abbrev main_v29_1 : Ref sig .tc := ⟨.hbm, 72, rfl⟩
abbrev main_v29_2 : Ref sig .tc := ⟨.hbm, 73, rfl⟩
abbrev main_v29_3 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== RefMixIdeal.lean ====
abbrev S8192x1024 : Shape := ⟨2, ![8192, 1024]⟩
abbrev S1x1024 : Shape := ⟨2, ![1, 1024]⟩
abbrev S1x1024x6144 : Shape := ⟨3, ![1, 1024, 6144]⟩
abbrev S1x6144 : Shape := ⟨2, ![1, 6144]⟩
abbrev S1x1024x2048 : Shape := ⟨3, ![1, 1024, 2048]⟩
abbrev S1x2048 : Shape := ⟨2, ![1, 2048]⟩
abbrev S1x512 : Shape := ⟨2, ![1, 512]⟩
abbrev S1x8x128x128 : Shape := ⟨4, ![1, 8, 128, 128]⟩
abbrev S1x8x128 : Shape := ⟨3, ![1, 8, 128]⟩
abbrev S1x31x512 : Shape := ⟨3, ![1, 31, 512]⟩
abbrev S1x1024x1024 : Shape := ⟨3, ![1, 1024, 1024]⟩
abbrev S1024x2048 : Shape := ⟨2, ![1024, 2048]⟩
abbrev S2048 : Shape := ⟨1, ![2048]⟩
abbrev S_ : Shape := ⟨0, ![]⟩
abbrev S1024x6144 : Shape := ⟨2, ![1024, 6144]⟩
abbrev S6144 : Shape := ⟨1, ![6144]⟩
abbrev S1024 : Shape := ⟨1, ![1024]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S1x1024x2048, .f32⟩
  | .hbm, ⟨6, _⟩ => ⟨S1x2048, .f32⟩
  | .hbm, ⟨7, _⟩ => ⟨S1x512, .f32⟩
  | .hbm, ⟨8, _⟩ => ⟨S1x512, .f32⟩
  | .hbm, ⟨9, _⟩ => ⟨S1x8x128x128, .f32⟩
  | .hbm, ⟨10, _⟩ => ⟨S1x8x128, .f32⟩
  | .hbm, ⟨11, _⟩ => ⟨S1x31x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x1024x1024, .f32⟩
  | .hbm, ⟨18, _⟩ => ⟨S1024x2048, .f32⟩
  | .hbm, ⟨19, _⟩ => ⟨S2048, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1024x6144, .f32⟩
  | .hbm, ⟨30, _⟩ => ⟨S1x6144, .f32⟩
  | .hbm, ⟨31, _⟩ => ⟨S6144, .f32⟩
  | .hbm, ⟨32, _⟩ => ⟨S1x6144, .f32⟩
  | .hbm, ⟨33, _⟩ => ⟨S1x6144, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1024x2048, .f32⟩
  | .hbm, ⟨61, _⟩ => ⟨S8192x2048, .f32⟩
  | .hbm, ⟨62, _⟩ => ⟨S2048, .f32⟩
  | .hbm, ⟨63, _⟩ => ⟨S1x2048, .f32⟩
  | .hbm, ⟨64, _⟩ => ⟨S8192x2048, .f32⟩
  | .hbm, ⟨65, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_v9 : Ref sig .tc := ⟨.hbm, 38, rfl⟩
abbrev main_cst_0 : Ref sig .tc := ⟨.hbm, 39, rfl⟩
abbrev main_v10 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩

abbrev nD : Nat := 1
abbrev τ : Topo := Topo.v7x

variable {F : FTy → Type} [FloatOps F]
-- ==== Proof.MixRunA.lean ====
/- The mixer's forward pass: one run of the body at the first point of the grid, where the rows carried from the tile before are zeroed. -/
module

public import proofs.«01_k».proof.Proof.Gen.MixForwardIdeal.Frame.Runs

@[expose] public section

set_option maxRecDepth 16384

noncomputable section

namespace Cert.MixForwardIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) :
    Σ' (L17 : List (View.Piece (Elt F) S256x2048 .f32)), Σ' (L18 : List (View.Piece (Elt F) S256x1024 .f32)), Σ' (L19 : List (View.Piece (Elt F) S256x512 .f32)), Σ' (L20 : List (View.Piece (Elt F) S256x1024 .bf16)), Σ' (LS0 : List (View.Piece (Elt F) S288x512 .f32)), { LT1 : List (View.Piece (Elt F) S256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LT1)) -∗ K ⟨⟩))
          ⊢ wp frame (wpE (defs₀ (F := F)) Variants.none c none) E (cc0_mixer_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun E K => ?run⟩
  case run =>
    simp only [cc0_mixer_fwd_eq_skeleton]; unfold cc0_mixer_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    isplitl [H20]; · iexists _; iexact H20
    isplitl [HS0]; · iexists _; iexact HS0
    iexists _; iexact HS1

end Cert.MixForwardIdeal.Gen

end
-- ==== Proof.MixRunB.lean ====
/- The mixer's forward pass: one run of the body at a later point of the grid. -/
module

public import proofs.«01_k».proof.Proof.Gen.MixForwardIdeal.Frame.Runs

@[expose] public section

set_option maxRecDepth 16384

noncomputable section

namespace Cert.MixForwardIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first) IN CASE B (`scf.if` 0 not taken: points 1, 2, … 31: 31 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : ¬cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (xs0 : Vec F S288x512 .f32) :
    Σ' (L17 : List (View.Piece (Elt F) S256x2048 .f32)), Σ' (L18 : List (View.Piece (Elt F) S256x1024 .f32)), Σ' (L19 : List (View.Piece (Elt F) S256x512 .f32)), Σ' (L20 : List (View.Piece (Elt F) S256x1024 .bf16)), Σ' (LS0 : List (View.Piece (Elt F) S288x512 .f32)), { LT1 : List (View.Piece (Elt F) S256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs0 ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LT1)) -∗ K ⟨⟩))
          ⊢ wp frame (wpE (defs₀ (F := F)) Variants.none c none) E (cc0_mixer_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun E K => ?run⟩
  case run =>
    simp only [cc0_mixer_fwd_eq_skeleton]; unfold cc0_mixer_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg22.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    isplitl [H20]; · iexists _; iexact H20
    isplitl [HS0]; · iexists _; iexact HS0
    iexists _; iexact HS1

end Cert.MixForwardIdeal.Gen

end
-- ==== Proof.MixFrame.lean ====
/- The mixer's forward pass: what each point of the grid leaves, the body's obligation, and the frame. -/
module

public import proofs.«01_k».proof.Proof.MixRunA
public import proofs.«01_k».proof.Proof.MixRunB
public import Idealize.ShloMosaic.Lib.Claim

@[expose] public section

set_option maxRecDepth 16384

noncomputable section

namespace Cert.MixForwardIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 17 tile its block (4 stores of `S256x512`, checked by the kernel's evaluation: Lib/Ring.lean `Piece.tiledL`, linear in the pieces, through a loop's `@[irreducible]` trip theorem too), so they cover it. -/
theorem cover0_A_17 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).1 S256x512.size (by sl_kernel_rfl) y

/-- What case A leaves in output 17's staging buffer: its pieces read back over junk. -/
def out0_A_17 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) : Vec F S256x2048 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).1)

/-- Case A's pieces for output 18 tile its block (1 store of `S256x1024`, checked by the kernel's evaluation: Lib/Ring.lean `Piece.tiledL`, linear in the pieces, through a loop's `@[irreducible]` trip theorem too), so they cover it. -/
theorem cover0_A_18 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.1 S256x1024.size (by sl_kernel_rfl) y

/-- What case A leaves in output 18's staging buffer: its pieces read back over junk. -/
def out0_A_18 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) : Vec F S256x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.1)

/-- Case A's pieces for output 19 tile its block (1 store of `S256x512`, checked by the kernel's evaluation: Lib/Ring.lean `Piece.tiledL`, linear in the pieces, through a loop's `@[irreducible]` trip theorem too), so they cover it. -/
theorem cover0_A_19 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.2.1 S256x512.size (by sl_kernel_rfl) y

/-- What case A leaves in output 19's staging buffer: its pieces read back over junk. -/
def out0_A_19 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) : Vec F S256x512 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.2.1)

/-- Case A's pieces for output 20 tile its block (2 stores of `S256x512`, checked by the kernel's evaluation: Lib/Ring.lean `Piece.tiledL`, linear in the pieces, through a loop's `@[irreducible]` trip theorem too), so they cover it. -/
theorem cover0_A_20 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.2.2.1 S256x512.size (by sl_kernel_rfl) y

/-- What case A leaves in output 20's staging buffer: its pieces read back over junk. -/
def out0_A_20 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) : Vec F S256x1024 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.2.2.1)

/-- Case A's pieces for scratch `arg22`, which the kernel carries between points, cover it: 3 pieces (stores and landed copies) of several sizes (`S256x512`, `S32x512`) tiling it when cut into blocks of `![32, 512]` (Lib/Ring.lean `Piece.tiledBy`). -/
theorem scover0_A_0 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (y : S288x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.2.2.2.1 ![32, 512] (by sl_kernel_rfl) y

/-- What case A leaves in scratch `arg22`: its pieces read back over junk. -/
def sout0_A_0 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) : Vec F S288x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.2.2.2.1)

/-- Case B's pieces for output 17 tile its block (4 stores of `S256x512`, checked by the kernel's evaluation: Lib/Ring.lean `Piece.tiledL`, linear in the pieces, through a loop's `@[irreducible]` trip theorem too), so they cover it. -/
theorem cover0_B_17 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : ¬cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (xs0 : Vec F S288x512 .f32) (y : S256x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).1 S256x512.size (by sl_kernel_rfl) y

/-- What case B leaves in output 17's staging buffer: its pieces read back over junk. -/
def out0_B_17 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : ¬cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (xs0 : Vec F S288x512 .f32) : Vec F S256x2048 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).1)

/-- Case B's pieces for output 18 tile its block (1 store of `S256x1024`, checked by the kernel's evaluation: Lib/Ring.lean `Piece.tiledL`, linear in the pieces, through a loop's `@[irreducible]` trip theorem too), so they cover it. -/
theorem cover0_B_18 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : ¬cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (xs0 : Vec F S288x512 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).2.1 S256x1024.size (by sl_kernel_rfl) y

/-- What case B leaves in output 18's staging buffer: its pieces read back over junk. -/
def out0_B_18 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : ¬cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (xs0 : Vec F S288x512 .f32) : Vec F S256x1024 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).2.1)

/-- Case B's pieces for output 19 tile its block (1 store of `S256x512`, checked by the kernel's evaluation: Lib/Ring.lean `Piece.tiledL`, linear in the pieces, through a loop's `@[irreducible]` trip theorem too), so they cover it. -/
theorem cover0_B_19 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : ¬cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (xs0 : Vec F S288x512 .f32) (y : S256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).2.2.1 S256x512.size (by sl_kernel_rfl) y

/-- What case B leaves in output 19's staging buffer: its pieces read back over junk. -/
def out0_B_19 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : ¬cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (xs0 : Vec F S288x512 .f32) : Vec F S256x512 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).2.2.1)

/-- Case B's pieces for output 20 tile its block (2 stores of `S256x512`, checked by the kernel's evaluation: Lib/Ring.lean `Piece.tiledL`, linear in the pieces, through a loop's `@[irreducible]` trip theorem too), so they cover it. -/
theorem cover0_B_20 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : ¬cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (xs0 : Vec F S288x512 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).2.2.2.1 S256x512.size (by sl_kernel_rfl) y

/-- What case B leaves in output 20's staging buffer: its pieces read back over junk. -/
def out0_B_20 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : ¬cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (xs0 : Vec F S288x512 .f32) : Vec F S256x1024 .bf16 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).2.2.2.1)

/-- Case B's pieces for scratch `arg22`, which the kernel carries between points, cover it: 2 pieces (stores and landed copies) of several sizes (`S256x512`, `S32x512`) tiling it when cut into blocks of `![32, 512]` (Lib/Ring.lean `Piece.tiledBy`). -/
theorem scover0_B_0 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : ¬cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (xs0 : Vec F S288x512 .f32) (y : S288x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).2.2.2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).2.2.2.2.1 ![32, 512] (by sl_kernel_rfl) y

/-- What case B leaves in scratch `arg22`: its pieces read back over junk. -/
def sout0_B_0 (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole) (hc0 : ¬cond0_0 i)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16) (xs0 : Vec F S288x512 .f32) : Vec F S288x512 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2048 .f32 × Vec F S256x1024 .f32 × Vec F S256x512 .f32 × Vec F S256x1024 .bf16 × Vec F S288x512 .f32
  | 0, hn => (out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩))
  | n + 1, hn =>
    if h0 : (n + 1) % 32 = 0 then
      (out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩))
    else
      (out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2, out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2)

/-- `outsAt0` at a point of case A: that case's contents. -/
theorem outsAt0_A (c : Dev nD) (t : Fin cfg0.N) (h0 : t.val % 32 = 0) :
    outsAt0 m c t.val t.isLt = (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 m c t.val t.isLt = (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t.val t.isLt).1
    | ⟨18, _⟩ => (outsAt0 m c t.val t.isLt).2.1
    | ⟨19, _⟩ => (outsAt0 m c t.val t.isLt).2.2.1
    | ⟨20, _⟩ => (outsAt0 m c t.val t.isLt).2.2.2.1
    | ⟨_ + 21, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t.val t.isLt).1 := by dsimp only [dats]
theorem after0_18 (c : Dev nD) (t : Fin cfg0.N) : (dats m 0 c).after 18 t = (outsAt0 m c t.val t.isLt).2.1 := by dsimp only [dats]
theorem after0_19 (c : Dev nD) (t : Fin cfg0.N) : (dats m 0 c).after 19 t = (outsAt0 m c t.val t.isLt).2.2.1 := by dsimp only [dats]
theorem after0_20 (c : Dev nD) (t : Fin cfg0.N) : (dats m 0 c).after 20 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold out0_A_17 out0_A_18 out0_A_19 out0_A_20 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [H19]; · iexists _; iexact H19
      isplitl [H20]; · iexists _; iexact H20
      isplitl [HS0]; · iexact HS0
      isplitl [HS1]; · iexact HS1
      iintro ⟨H0, H1, H2, H3, H4, H5, H6, H7, H8, H9, H10, H11, H12, H13, H14, H15, H16, ⟨%e17, H17⟩, ⟨%e18, H18⟩, ⟨%e19, H19⟩, ⟨%e20, H20⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H20
      ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_17 out0_B_18 out0_B_19 out0_B_20 sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [H19]; · iexists _; iexact H19
      isplitl [H20]; · iexists _; iexact H20
      isplitl [HS0]; · iexact HS0
      isplitl [HS1]; · iexact HS1
      iintro ⟨H0, H1, H2, H3, H4, H5, H6, H7, H8, H9, H10, H11, H12, H13, H14, H15, H16, ⟨%e17, H17⟩, ⟨%e18, H18⟩, ⟨%e19, H19⟩, ⟨%e20, H20⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H20
      ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- THE FRAME: `Cert.quiescent_MixForwardIdeal`'s statement (Defs.lean) at any `F` — Proof.lean cites it at `Bits`:
    `theorem Cert.Proof.claim : Cert.Claim := ⟨Cert.MixForwardIdeal.Gen.facts, fun m ρ _ => Cert.MixForwardIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.MixForwardIdeal.Gen

end
-- ==== Proof.MixBits.lean ====
module

public import proofs.«01_k».proof.Defs
public import proofs.«01_k».proof.Proof.Gen.MixForward
public import proofs.«01_k».proof.Proof.MixFrame

@[expose] public section

set_option maxRecDepth 16384

/-! # The frame of the mixer's forward pass over the machine's floats

The program and its idealization have the same text, so the frame, which is proved over any floats, is the frame of both. -/

noncomputable section

namespace Cert.MixForward

open Idealize.ShloMosaic Idealize.ShloMosaic.TcCoe Idealize.SL.Sem

set_option maxHeartbeats 8000000 in
/-- The body is the same text in both programs. -/
theorem body_eq : Cert.MixForward.cc0_mixer_fwd (F := Bits) = Cert.MixForwardIdeal.cc0_mixer_fwd (F := Bits) := rfl

set_option maxHeartbeats 8000000 in
/-- So is what each label calls. -/
theorem defs0_eq : Cert.MixForward.defs₀ (F := Bits) = Cert.MixForwardIdeal.defs₀ (F := Bits) := by
  unfold Cert.MixForward.defs₀ Cert.MixForwardIdeal.defs₀
  refine congrArg Defs.onTc (funext fun l => funext fun x => ?_)
  match l, x with
  | 0, (t, s) => rfl

set_option maxHeartbeats 8000000 in
/-- The frame of the program as printed: the run written for the other program, taken at the machine's floats. -/
theorem frame : Cert.quiescent_MixForward := by
  have hd : Cert.MixForward.defs (F := Bits) = Cert.MixForwardIdeal.defs (F := Bits) := congrArg (Pipeline.defs Cert.MixForward.pcfgs) defs0_eq
  have hm : Cert.MixForward.main (F := Bits) = Cert.MixForwardIdeal.main (F := Bits) := rfl
  intro m g _
  rw [hd, hm]
  exact Cert.MixForwardIdeal.Gen.frame (F := Bits) m g

end Cert.MixForward

end
-- ==== Proof.Rows.lean ====
module

public import Idealize.ShloMosaic.PureOps.Ideal

@[expose] public section

/-! # One row of the feed-forward block's backward pass, as the kernel computes it

Every function here takes one token's data: the row `dx` of the gradient arriving from above, the row `x` of the block's input, the rows
`g` and `u` of the gate and up projections, and the matrices. `wo` is the down projection (`2816 × 1024`), `wi` the gate and up
projections cut in four pieces of 1408 columns. -/

noncomputable section

namespace Cert.FfnBwd

open Idealize.ShloMosaic

/-- The sigmoid as the kernel spells it. -/
def sigm (z : EReal) : EReal := Ideal.div 1 (1 + Ideal.exp (0 - z))

/-- The gradient of the gated activation: the gated gradient of the block's output times the down projection's transpose. -/
def da (gate dx : Fin 1024 → EReal) (wo : Fin 2816 → Fin 1024 → EReal) (j : Fin 2816) : EReal := ∑ k : Fin 1024, dx k * gate k * wo j k

/-- The gradient of the gate projection at column `j`. -/
def dg (gate dx : Fin 1024 → EReal) (wo : Fin 2816 → Fin 1024 → EReal) (g u : Fin 2816 → EReal) (j : Fin 2816) : EReal :=
  da gate dx wo j * u j * (sigm (g j) * (1 + g j * (1 - sigm (g j))))

/-- The gradient of the up projection at column `j`. -/
def dup (gate dx : Fin 1024 → EReal) (wo : Fin 2816 → Fin 1024 → EReal) (g : Fin 2816 → EReal) (j : Fin 2816) : EReal :=
  da gate dx wo j * (g j * sigm (g j))

/-- The gradient of the two projections side by side: the gate's columns and then the up projection's. -/
def dff (gate dx : Fin 1024 → EReal) (wo : Fin 2816 → Fin 1024 → EReal) (g u : Fin 2816 → EReal) (j : Fin 5632) : EReal :=
  if h : j.val < 2816 then dg gate dx wo g u ⟨j.val, h⟩ else dup gate dx wo g ⟨j.val - 2816, by omega⟩

/-- Column `j` of the first half of the 2816. -/
abbrev lo (j : Fin 1408) : Fin 2816 := ⟨j.val, by omega⟩
/-- Column `j` of the second half of the 2816. -/
abbrev hi (j : Fin 1408) : Fin 2816 := ⟨1408 + j.val, by omega⟩

/-- The gradient of the modulated normalised input: the four pieces' products, added in the kernel's order. -/
def dh (gate dx : Fin 1024 → EReal) (wo : Fin 2816 → Fin 1024 → EReal) (wi : Fin 4 → Fin 1024 → Fin 1408 → EReal) (g u : Fin 2816 → EReal)
    (k : Fin 1024) : EReal :=
  ∑ j : Fin 1408, dg gate dx wo g u (lo j) * wi 0 k j + ∑ j : Fin 1408, dup gate dx wo g (lo j) * wi 2 k j
    + ∑ j : Fin 1408, dg gate dx wo g u (hi j) * wi 1 k j + ∑ j : Fin 1408, dup gate dx wo g (hi j) * wi 3 k j

/-- The reciprocal root mean square of a row. -/
def rms (x : Fin 1024 → EReal) : EReal :=
  Ideal.rsqrt ((∑ k : Fin 1024, x k * x k) * Ideal.ofBits .f32 0x3A800000#32 + Ideal.ofBits .f32 0x358637BD#32)

/-- The gradient of the normalised row before its weight, from `h`, the gradient of the modulated row. -/
def tt (scale nrm h : Fin 1024 → EReal) (k : Fin 1024) : EReal := h k * (1 + scale k) * nrm k

/-- The gradient of the block's input. -/
def dx1 (scale nrm dx x h : Fin 1024 → EReal) (k : Fin 1024) : EReal :=
  dx k + rms x * tt scale nrm h k
    - x k * (rms x * rms x * rms x) * ((∑ k' : Fin 1024, tt scale nrm h k' * x k') * Ideal.ofBits .f32 0x3A800000#32)

/-- A row's contribution to row `a` of the accumulator: the gradient of the shift (`0`), of the scale (`1`), of the normalisation's weight
    (`2`), and nothing in the other rows. -/
def small (scale nrm x h : Fin 1024 → EReal) (a : ℕ) (k : Fin 1024) : EReal :=
  match a with
  | 0 => h k
  | 1 => h k * (x k * rms x * nrm k)
  | 2 => h k * (1 + scale k) * (x k * rms x)
  | _ => 0

/-- Rows from the third on get nothing. -/
theorem small_high (scale nrm x h : Fin 1024 → EReal) (a : ℕ) (ha : 3 ≤ a) (k : Fin 1024) : small scale nrm x h a k = 0 := by
  obtain ⟨n, rfl⟩ := Nat.exists_eq_add_of_le' ha
  rfl

end Cert.FfnBwd

end
-- ==== Proof.Point.lean ====
module

public import proofs.«01_k».proof.Proof.Gen.KernelIdeal.Frame
public import proofs.«01_k».proof.Proof.Rows
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.KernelIdeal.Pt

open Cert.KernelIdeal Cert.KernelIdeal.Gen Idealize.ShloMosaic Idealize.ShloMosaic.TcCoe Idealize.SL.Sem Cert.FfnBwd

local notation "F" => Ideal
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x2816 .bf16) (harg3 : arg3.IsWhole) (arg4 : Memref sig .tc .vmem S512x2816 .bf16) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1x1024 .f32) (harg7 : arg7.IsWhole) (arg8 : Memref sig .tc .vmem S4x1024x1408 .bf16) (harg8 : arg8.IsWhole) (arg9 : Memref sig .tc .vmem S2816x1024 .bf16) (harg9 : arg9.IsWhole) (arg10 : Memref sig .tc .vmem S512x5632 .bf16) (harg10 : arg10.IsWhole) (arg11 : Memref sig .tc .vmem S512x1024 .f32) (harg11 : arg11.IsWhole) (arg12 : Memref sig .tc .vmem S8x1024 .f32) (harg12 : arg12.IsWhole)
    (x0 : Vec F S512x1024 .f32) (x1 : Vec F S512x1024 .f32) (x2 : Vec F S512x2816 .bf16) (x3 : Vec F S512x2816 .bf16) (x4 : Vec F S1x8192 .f32) (x5 : Vec F S1x8192 .f32) (x6 : Vec F S1x1024 .f32) (x7 : Vec F S4x1024x1408 .bf16) (x8 : Vec F S2816x1024 .bf16)

/-- The conditioning row's piece that starts at column `4096` or `5120`. -/
def scaleB (k : Fin 1024) : EReal := x4 (ix2 0 ⟨4096 + k.val, by omega⟩) + x5 (ix2 0 ⟨4096 + k.val, by omega⟩)
def gateB (k : Fin 1024) : EReal := x4 (ix2 0 ⟨5120 + k.val, by omega⟩) + x5 (ix2 0 ⟨5120 + k.val, by omega⟩)
def dffB (y : S512x5632.Idx) : EReal :=
  if h : (y 1).val < 2816 then
    dg (gateB x4 x5) (fun k => x0 (ix2 (y 0) k)) (fun j k => x8 (ix2 j k)) (fun j => x2 (ix2 (y 0) j)) (fun j => x3 (ix2 (y 0) j)) ⟨(y 1).val, h⟩
  else
    dup (gateB x4 x5) (fun k => x0 (ix2 (y 0) k)) (fun j k => x8 (ix2 j k)) (fun j => x2 (ix2 (y 0) j)) ⟨(y 1).val - 2816, by have h' : (y 1).val < 5632 := (y 1).isLt; omega⟩

theorem dffB_g (o q : ℕ) {n k : ℕ} (x : Shape.Idx ⟨2, ![n, k]⟩) (hr : o + n ≤ 512) (hq : q + k ≤ 2816) (y : S512x5632.Idx)
    (h0 : (y 0).val = o + 1 * (x 0).val) (h1 : (y 1).val = q + 1 * (x 1).val) :
    dffB x0 x2 x3 x4 x5 x8 y
      = dg (gateB x4 x5) (fun k => x0 (ix2 ⟨o + (x 0).val, by have h : (x 0).val < n := (x 0).isLt; omega⟩ k)) (fun j k => x8 (ix2 j k))
          (fun j => x2 (ix2 ⟨o + (x 0).val, by have h : (x 0).val < n := (x 0).isLt; omega⟩ j))
          (fun j => x3 (ix2 ⟨o + (x 0).val, by have h : (x 0).val < n := (x 0).isLt; omega⟩ j))
          ⟨q + (x 1).val, by have h : (x 1).val < k := (x 1).isLt; omega⟩ := by
  have h : (x 1).val < k := (x 1).isLt
  have e0 : y 0 = ⟨o + (x 0).val, by have h : (x 0).val < n := (x 0).isLt; show _ < 512; omega⟩ := Fin.ext (by rw [h0, Nat.one_mul])
  rw [dffB, dif_pos (by omega), e0]
  exact congrArg _ (Fin.ext (by rw [h1, Nat.one_mul]))

theorem dffB_u (o q : ℕ) {n k : ℕ} (x : Shape.Idx ⟨2, ![n, k]⟩) (hr : o + n ≤ 512) (hq : q + k ≤ 2816) (y : S512x5632.Idx)
    (h0 : (y 0).val = o + 1 * (x 0).val) (h1 : (y 1).val = 2816 + q + 1 * (x 1).val) :
    dffB x0 x2 x3 x4 x5 x8 y
      = dup (gateB x4 x5) (fun k => x0 (ix2 ⟨o + (x 0).val, by have h : (x 0).val < n := (x 0).isLt; omega⟩ k)) (fun j k => x8 (ix2 j k))
          (fun j => x2 (ix2 ⟨o + (x 0).val, by have h : (x 0).val < n := (x 0).isLt; omega⟩ j))
          ⟨q + (x 1).val, by have h : (x 1).val < k := (x 1).isLt; omega⟩ := by
  have h : (x 1).val < k := (x 1).isLt
  have e0 : y 0 = ⟨o + (x 0).val, by have h : (x 0).val < n := (x 0).isLt; show _ < 512; omega⟩ := Fin.ext (by rw [h0, Nat.one_mul])
  rw [dffB, dif_neg (by omega), e0]
  exact congrArg _ (Fin.ext (by show (y 1).val - 2816 = q + (x 1).val; omega))

/-- Every store of a first grid point into the block of the two projections' gradients is a part of `dffB`. -/
theorem pieces9_A (hc0 : cond0_0 i) : View.PiecesOf (Val := Elt F) (dffB x0 x2 x3 x4 x5 x8) (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1 := by
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread]
  refine ⟨fun x => ?_, fun x => ?_, fun x => ?_, fun x => ?_, fun x => ?_, fun x => ?_, fun x => ?_, fun x => ?_, trivial⟩
  · rw [dffB_u x0 x2 x3 x4 x5 x8 256 1408 x (by omega) (by omega) _ rfl rfl]
    pointwise [k0_pay49, k0_pay5, k0_pay6, k0_pay7, k0_pay37, k0_pay45, k0_pay46, k0_pay47, dup, da, sigm, gateB]
  · rw [dffB_g x0 x2 x3 x4 x5 x8 256 1408 x (by omega) (by omega) _ rfl rfl]
    pointwise [k0_pay48, k0_pay5, k0_pay6, k0_pay7, k0_pay37, k0_pay45, k0_pay46, k0_pay47, dg, da, sigm, gateB]
  · rw [dffB_u x0 x2 x3 x4 x5 x8 256 0 x (by omega) (by omega) _ rfl rfl]
    pointwise [k0_pay43, k0_pay5, k0_pay6, k0_pay7, k0_pay37, k0_pay39, k0_pay40, k0_pay41, dup, da, sigm, gateB]
  · rw [dffB_g x0 x2 x3 x4 x5 x8 256 0 x (by omega) (by omega) _ rfl rfl]
    pointwise [k0_pay42, k0_pay38, k0_pay5, k0_pay6, k0_pay7, k0_pay37, k0_pay39, k0_pay40, k0_pay41, dg, da, sigm, gateB]
  · rw [dffB_u x0 x2 x3 x4 x5 x8 0 1408 x (by omega) (by omega) _ rfl rfl]
    pointwise [k0_pay27, k0_pay5, k0_pay6, k0_pay7, k0_pay8, k0_pay20, k0_pay21, k0_pay22, k0_pay23, k0_pay24, k0_pay25, dup, da, sigm, gateB]
  · rw [dffB_g x0 x2 x3 x4 x5 x8 0 1408 x (by omega) (by omega) _ rfl rfl]
    pointwise [k0_pay26, k0_pay5, k0_pay6, k0_pay7, k0_pay8, k0_pay20, k0_pay21, k0_pay22, k0_pay23, k0_pay24, k0_pay25, dg, da, sigm, gateB]
  · rw [dffB_u x0 x2 x3 x4 x5 x8 0 0 x (by omega) (by omega) _ rfl rfl]
    pointwise [k0_pay18, k0_pay5, k0_pay6, k0_pay7, k0_pay8, k0_pay9, k0_pay10, k0_pay11, k0_pay12, k0_pay13, k0_pay14, k0_pay15, k0_pay16, dup, da, sigm, gateB]
  · rw [dffB_g x0 x2 x3 x4 x5 x8 0 0 x (by omega) (by omega) _ rfl rfl]
    pointwise [k0_pay17, k0_pay5, k0_pay6, k0_pay7, k0_pay8, k0_pay9, k0_pay10, k0_pay11, k0_pay12, k0_pay13, k0_pay14, k0_pay15, k0_pay16, dg, da, sigm, gateB]

/-- At a later point the stores are the same. -/
theorem pieces9_B (hc0 : ¬cond0_0 i) (i' : grid0.Coords) (hc' : cond0_0 i') (xo11 : Vec F S8x1024 .f32) :
    View.PiecesOf (Val := Elt F) (dffB x0 x2 x3 x4 x5 x8) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo11).1 :=
  pieces9_A c i' arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc'

def dhB (r : Fin 512) (k : Fin 1024) : EReal :=
  dh (gateB x4 x5) (fun k => x0 (ix2 r k)) (fun j k => x8 (ix2 j k)) (fun p k j => x7 (ix3 p k j)) (fun j => x2 (ix2 r j)) (fun j => x3 (ix2 r j)) k

def dx1B (y : S512x1024.Idx) : EReal :=
  dx1 (scaleB x4 x5) (fun k => x6 (ix2 0 k)) (fun k => x0 (ix2 (y 0) k)) (fun k => x1 (ix2 (y 0) k)) (dhB x0 x2 x3 x4 x5 x7 x8 (y 0)) (y 1)

theorem dx1B_at (o : ℕ) {n : ℕ} (x : Shape.Idx ⟨2, ![n, 1024]⟩) (hr : o + n ≤ 512) (y : S512x1024.Idx)
    (h0 : (y 0).val = o + 1 * (x 0).val) (h1 : (y 1).val = 0 + 1 * (x 1).val) :
    dx1B x0 x1 x2 x3 x4 x5 x6 x7 x8 y = dx1B x0 x1 x2 x3 x4 x5 x6 x7 x8 (ix2 ⟨o + (x 0).val, by have h : (x 0).val < n := (x 0).isLt; omega⟩ (x 1)) :=
  congrArg (dx1B x0 x1 x2 x3 x4 x5 x6 x7 x8) (Shape.idx_ext₂ (by rw [h0]; exact congrArg (o + ·) (Nat.one_mul _)) (by rw [h1]; exact (Nat.zero_add _).trans (Nat.one_mul _)))

theorem pieces10_A (hc0 : cond0_0 i) : View.PiecesOf (Val := Elt F) (dx1B x0 x1 x2 x3 x4 x5 x6 x7 x8) (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1 := by
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread]
  refine ⟨fun x => ?_, fun x => ?_, trivial⟩
  · rw [dx1B_at x0 x1 x2 x3 x4 x5 x6 x7 x8 256 x (by omega) _ rfl rfl]
    pointwise [k0_pay5, k0_pay6, k0_pay7, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, dx1B, dx1, tt, rms, dhB, dh, dg, dup, da, sigm, gateB, scaleB]
  · rw [dx1B_at x0 x1 x2 x3 x4 x5 x6 x7 x8 0 x (by omega) _ rfl rfl]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, dx1B, dx1, tt, rms, dhB, dh, dg, dup, da, sigm, gateB, scaleB]

/-- At a later point the stores are the same. -/
theorem pieces10_B (hc0 : ¬cond0_0 i) (i' : grid0.Coords) (hc' : cond0_0 i') (xo11 : Vec F S8x1024 .f32) :
    View.PiecesOf (Val := Elt F) (dx1B x0 x1 x2 x3 x4 x5 x6 x7 x8) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo11).2.1 :=
  pieces10_A c i' arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc'

/-- Row `r` of a block's contribution to the accumulator. -/
def smallB (r : Fin 512) (y : S8x1024.Idx) : EReal :=
  small (scaleB x4 x5) (fun k => x6 (ix2 0 k)) (fun k => x1 (ix2 r k)) (dhB x0 x2 x3 x4 x5 x7 x8 r) (y 0).val (y 1)

/-- Six stores of the rows 2, 1, 0, 2, 1, 0 (the newest first) over `L`: the newest of a row is read back, the other rows are `L`'s. -/
theorem rows_read {sg : RefSig} {κ : Kind} {sp : Space} (v : View sg κ sp S8x1024 .f32) (f : v.ty.Contents (Elt Ideal))
    {b0 b1 b2 b0' b1' b2'} (w2 : (Rect.unit (s := S8x1024) ![2, 0] ![1, 1024] b2).shape.Idx → Elt Ideal .f32)
    (w1 : (Rect.unit (s := S8x1024) ![1, 0] ![1, 1024] b1).shape.Idx → Elt Ideal .f32)
    (w0 : (Rect.unit (s := S8x1024) ![0, 0] ![1, 1024] b0).shape.Idx → Elt Ideal .f32)
    (w2' : (Rect.unit (s := S8x1024) ![2, 0] ![1, 1024] b2').shape.Idx → Elt Ideal .f32)
    (w1' : (Rect.unit (s := S8x1024) ![1, 0] ![1, 1024] b1').shape.Idx → Elt Ideal .f32)
    (w0' : (Rect.unit (s := S8x1024) ![0, 0] ![1, 1024] b0').shape.Idx → Elt Ideal .f32) (L : List (View.Piece (Elt Ideal) S8x1024 .f32))
    (y : S8x1024.Idx) (G : EReal)
    (h0 : (y 0).val = 0 → w0 (ix2 0 (y 1)) = G) (h1 : (y 0).val = 1 → w1 (ix2 0 (y 1)) = G) (h2 : (y 0).val = 2 → w2 (ix2 0 (y 1)) = G)
    (h3 : 3 ≤ (y 0).val → v.read (Elt Ideal) (v.writes (Elt Ideal) f L) y = G) :
    v.read (Elt Ideal) (v.writes (Elt Ideal) f (⟨_, w2⟩ :: ⟨_, w1⟩ :: ⟨_, w0⟩ :: ⟨_, w2'⟩ :: ⟨_, w1'⟩ :: ⟨_, w0'⟩ :: L)) y = G := by
  rcases (by omega : (y 0).val = 0 ∨ (y 0).val = 1 ∨ (y 0).val = 2 ∨ 3 ≤ (y 0).val) with h | h | h | h
  · rw [View.read_writes_cons_rows_of_not_mem (W := 1) v f b2 w2 _ y rfl rfl (by omega), View.read_writes_cons_rows_of_not_mem (W := 1) v f b1 w1 _ y rfl rfl (by omega),
      View.read_writes_cons_rows_of_mem v f b0 w0 _ y (ix2 0 (y 1)) rfl h rfl]
    exact h0 h
  · rw [View.read_writes_cons_rows_of_not_mem (W := 1) v f b2 w2 _ y rfl rfl (by omega), View.read_writes_cons_rows_of_mem v f b1 w1 _ y (ix2 0 (y 1)) rfl h rfl]
    exact h1 h
  · rw [View.read_writes_cons_rows_of_mem v f b2 w2 _ y (ix2 0 (y 1)) rfl h rfl]
    exact h2 h
  · rw [View.read_writes_cons_rows_of_not_mem (W := 1) v f b2 w2 _ y rfl rfl (by omega), View.read_writes_cons_rows_of_not_mem (W := 1) v f b1 w1 _ y rfl rfl (by omega),
      View.read_writes_cons_rows_of_not_mem (W := 1) v f b0 w0 _ y rfl rfl (by omega), View.read_writes_cons_rows_of_not_mem (W := 1) v f b2' w2' _ y rfl rfl (by omega),
      View.read_writes_cons_rows_of_not_mem (W := 1) v f b1' w1' _ y rfl rfl (by omega), View.read_writes_cons_rows_of_not_mem (W := 1) v f b0' w0' _ y rfl rfl (by omega)]
    exact h3 h

/-- A later point adds the block's 512 rows to the accumulator. -/
theorem out_B_11 (hc0 : ¬cond0_0 i) (xo11 : Vec F S8x1024 .f32) (y : S8x1024.Idx) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo11 y = xo11 y + ∑ r : Fin 512, smallB x0 x1 x2 x3 x4 x5 x6 x7 x8 r y := by
  unfold out0_B_11 kernelRun0_B; dsimp only; sl_unfold_words
  simp (disch := decide) only [↓ View.readCov_skip, ↓ View.readCov_cons_toLoadRect, ↓ View.readCov_fill]
  simp only [View.readAt_eq_ld, harg1.read_unread, harg2.read_unread, harg3.read_unread, harg4.read_unread, harg5.read_unread, harg6.read_unread, harg7.read_unread, harg8.read_unread, harg9.read_unread, harg12.read_unread]
  obtain ⟨a, k, rfl⟩ : ∃ (a : Fin 8) (k : Fin 1024), y = ix2 a k := ⟨y 0, y 1, (ix2_eta y).symm⟩
  refine rows_read _ _ _ _ _ _ _ _ _ _ _ (fun h => ?_) (fun h => ?_) (fun h => ?_) fun h => ?_
  · obtain rfl : a = 0 := Fin.ext h
    rw [Fin.sum_univ_two_halves 256 256 rfl, ← add_assoc]
    pointwise [k0_pay1, k0_pay5, k0_pay6, k0_pay7, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, smallB, small, dhB, dh, dg, dup, da, sigm, gateB, scaleB, rms]
  · obtain rfl : a = 1 := Fin.ext h
    rw [Fin.sum_univ_two_halves 256 256 rfl, ← add_assoc]
    pointwise [k0_pay2, k0_pay5, k0_pay6, k0_pay7, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay35, smallB, small, dhB, dh, dg, dup, da, sigm, gateB, scaleB, rms]
  · obtain rfl : a = 2 := Fin.ext h
    rw [Fin.sum_univ_two_halves 256 256 rfl, ← add_assoc]
    pointwise [k0_pay3, k0_pay5, k0_pay6, k0_pay7, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay36, smallB, small, dhB, dh, dg, dup, da, sigm, gateB, scaleB, rms]
  · have hz : ∀ r, smallB x0 x1 x2 x3 x4 x5 x6 x7 x8 r (ix2 a k) = 0 := fun r => by
      unfold smallB; exact small_high _ _ _ _ _ h _
    rw [Finset.sum_congr rfl fun r _ => hz r, Finset.sum_const_zero, add_zero]
    exact congrFun (harg12.read_unread xo11) _

/-- The first point clears the accumulator and adds the block's 512 rows. -/
theorem out_A_11 (hc0 : cond0_0 i) (y : S8x1024.Idx) : out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 y = ∑ r : Fin 512, smallB x0 x1 x2 x3 x4 x5 x6 x7 x8 r y := by
  unfold out0_A_11 kernelRun0_A; dsimp only; sl_unfold_words
  simp (disch := decide) only [↓ View.readCov_skip, ↓ View.readCov_cons_toLoadRect, ↓ View.readCov_fill]
  simp only [View.readAt_eq_ld, harg1.read_unread, harg2.read_unread, harg3.read_unread, harg4.read_unread, harg5.read_unread, harg6.read_unread, harg7.read_unread, harg8.read_unread, harg9.read_unread]
  obtain ⟨a, k, rfl⟩ : ∃ (a : Fin 8) (k : Fin 1024), y = ix2 a k := ⟨y 0, y 1, (ix2_eta y).symm⟩
  refine rows_read _ _ _ _ _ _ _ _ _ _ _ (fun h => ?_) (fun h => ?_) (fun h => ?_) fun h => ?_
  · obtain rfl : a = 0 := Fin.ext h
    rw [Fin.sum_univ_two_halves 256 256 rfl]
    pointwise [k0_pay4, k0_pay1, k0_pay5, k0_pay6, k0_pay7, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, smallB, small, dhB, dh, dg, dup, da, sigm, gateB, scaleB, rms]
  · obtain rfl : a = 1 := Fin.ext h
    rw [Fin.sum_univ_two_halves 256 256 rfl]
    pointwise [k0_pay4, k0_pay2, k0_pay5, k0_pay6, k0_pay7, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay35, smallB, small, dhB, dh, dg, dup, da, sigm, gateB, scaleB, rms]
  · obtain rfl : a = 2 := Fin.ext h
    rw [Fin.sum_univ_two_halves 256 256 rfl]
    pointwise [k0_pay4, k0_pay3, k0_pay5, k0_pay6, k0_pay7, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay36, smallB, small, dhB, dh, dg, dup, da, sigm, gateB, scaleB, rms]
  · have hz : ∀ r, smallB x0 x1 x2 x3 x4 x5 x6 x7 x8 r (ix2 a k) = 0 := fun r => by
      unfold smallB; exact small_high _ _ _ _ _ h _
    rw [Finset.sum_congr rfl fun r _ => hz r, Finset.sum_const_zero]
    rw [View.read_writes_junk_eq_canon, View.canon_cons_unit_lit _ _ _ (by decide)]
    pointwise [k0_pay4]

end Cert.KernelIdeal.Pt
-- ==== Proof.Arrays.lean ====
module

public import proofs.«01_k».proof.Proof.Gen.KernelIdeal.Value
public import proofs.«01_k».proof.Proof.Point

@[expose] public section

set_option maxRecDepth 16384

noncomputable section

namespace Cert.KernelIdeal.Arr

open Cert.KernelIdeal Cert.KernelIdeal.Gen Idealize.ShloMosaic Idealize.ShloMosaic.TcCoe Idealize.SL.Sem Cert.FfnBwd Cert.KernelIdeal.Pt

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0, 0] := by decide +kernel
theorem idx8 : ∀ t : Fin grid0.N, win0_8.index t = ![0, 0] := by decide +kernel
theorem idx9 : ∀ t : Fin grid0.N, win0_9.index t = ![t.val, 0] := by decide +kernel
theorem idx10 : ∀ t : Fin grid0.N, win0_10.index t = ![t.val, 0] := by decide +kernel
theorem idx11 : ∀ t : Fin grid0.N, win0_11.index t = ![0, 0] := by decide +kernel

theorem iblk0 (c : Dev nD) (t : Fin cfg0.N) (r : Fin 512) (k : Fin 1024) (n : Fin 8192) (h : n.val = t.val * 512 + r.val) :
    iblk m c 0 t (ix2 r k) = V m c main_arg0 (ix2 n k) := by
  unfold iblk; blk_simp
  refine congrArg (V m c main_arg0) (Shape.idx_ext₂ ?_ ?_) <;> blk_simp [idx0, h]
theorem iblk1 (c : Dev nD) (t : Fin cfg0.N) (r : Fin 512) (k : Fin 1024) (n : Fin 8192) (h : n.val = t.val * 512 + r.val) :
    iblk m c 1 t (ix2 r k) = V m c main_arg1 (ix2 n k) := by
  unfold iblk; blk_simp
  refine congrArg (V m c main_arg1) (Shape.idx_ext₂ ?_ ?_) <;> blk_simp [idx1, h]
theorem iblk2 (c : Dev nD) (t : Fin cfg0.N) (r : Fin 512) (k : Fin 2816) (n : Fin 8192) (h : n.val = t.val * 512 + r.val) :
    iblk m c 2 t (ix2 r k) = V m c main_v42 (ix2 n k) := by
  unfold iblk; blk_simp
  refine congrArg (V m c main_v42) (Shape.idx_ext₂ ?_ ?_) <;> blk_simp [idx2, h]
theorem iblk3 (c : Dev nD) (t : Fin cfg0.N) (r : Fin 512) (k : Fin 2816) (n : Fin 8192) (h : n.val = t.val * 512 + r.val) :
    iblk m c 3 t (ix2 r k) = V m c main_v44 (ix2 n k) := by
  unfold iblk; blk_simp
  refine congrArg (V m c main_v44) (Shape.idx_ext₂ ?_ ?_) <;> blk_simp [idx3, h]
theorem iblk4 (c : Dev nD) (t : Fin cfg0.N) (y : S1x8192.Idx) : iblk m c 4 t y = V m c main_v7 y := by
  unfold iblk; blk_simp
  refine congrArg (V m c main_v7) (Shape.idx_ext₂ ?_ ?_) <;> blk_simp [idx4]
theorem iblk5 (c : Dev nD) (t : Fin cfg0.N) (y : S1x8192.Idx) : iblk m c 5 t y = V m c main_v9 y := by
  unfold iblk; blk_simp
  refine congrArg (V m c main_v9) (Shape.idx_ext₂ ?_ ?_) <;> blk_simp [idx5]
theorem iblk6 (c : Dev nD) (t : Fin cfg0.N) (y : S1x1024.Idx) : iblk m c 6 t y = V m c main_arg5 y := by
  unfold iblk; blk_simp
  refine congrArg (V m c main_arg5) (Shape.idx_ext₂ ?_ ?_) <;> blk_simp [idx6]
theorem iblk8 (c : Dev nD) (t : Fin cfg0.N) (y : S2816x1024.Idx) : iblk m c 8 t y = V m c main_v15 y := by
  unfold iblk; blk_simp
  refine congrArg (V m c main_v15) (Shape.idx_ext₂ ?_ ?_) <;> blk_simp [idx8]
theorem iblk7 (c : Dev nD) (t : Fin cfg0.N) (y : S4x1024x1408.Idx) : iblk m c 7 t y = V m c main_v13 y := by
  unfold iblk; blk_simp
  refine congrArg (V m c main_v13) (funext fun a => Fin.ext ?_)
  blk_simp [idx7]
  fin_cases a <;> exact Nat.zero_add _

/-! ## The data of one token -/

def dxA (c : Dev nD) (n : Fin 8192) (k : Fin 1024) : EReal := V m c main_arg0 (ix2 n k)
def xA (c : Dev nD) (n : Fin 8192) (k : Fin 1024) : EReal := V m c main_arg1 (ix2 n k)
def gA (c : Dev nD) (n : Fin 8192) (j : Fin 2816) : EReal := V m c main_v42 (ix2 n j)
def uA (c : Dev nD) (n : Fin 8192) (j : Fin 2816) : EReal := V m c main_v44 (ix2 n j)
def modA (c : Dev nD) (k : Fin 8192) : EReal := V m c main_v7 (ix2 0 k)
def biasA (c : Dev nD) (k : Fin 8192) : EReal := V m c main_v9 (ix2 0 k)
def scaleA (c : Dev nD) (k : Fin 1024) : EReal := modA m c ⟨4096 + k.val, by omega⟩ + biasA m c ⟨4096 + k.val, by omega⟩
def gateA (c : Dev nD) (k : Fin 1024) : EReal := modA m c ⟨5120 + k.val, by omega⟩ + biasA m c ⟨5120 + k.val, by omega⟩
def nrmA (c : Dev nD) (k : Fin 1024) : EReal := V m c main_arg5 (ix2 0 k)
def wiA (c : Dev nD) (p : Fin 4) (k : Fin 1024) (j : Fin 1408) : EReal := V m c main_v13 (ix3 p k j)
def woA (c : Dev nD) (j : Fin 2816) (k : Fin 1024) : EReal := V m c main_v15 (ix2 j k)
def dhA (c : Dev nD) (n : Fin 8192) (k : Fin 1024) : EReal :=
  dh (gateA m c) (dxA m c n) (woA m c) (wiA m c) (gA m c n) (uA m c n) k

theorem scaleB_eq (c : Dev nD) (t : Fin cfg0.N) : scaleB (iblk m c 4 t) (iblk m c 5 t) = scaleA m c :=
  funext fun k => congrArg₂ (· + ·) (iblk4 m c t _) (iblk5 m c t _)
theorem gateB_eq (c : Dev nD) (t : Fin cfg0.N) : gateB (iblk m c 4 t) (iblk m c 5 t) = gateA m c :=
  funext fun k => congrArg₂ (· + ·) (iblk4 m c t _) (iblk5 m c t _)

section
variable (c : Dev nD) (t : Fin cfg0.N) (r : Fin 512) (n : Fin 8192) (h : n.val = t.val * 512 + r.val)
include h
theorem row0 : (fun k => (iblk m c 0 t : Vec Ideal S512x1024 .f32) (ix2 r k)) = dxA m c n := funext fun k => iblk0 m c t r k n h
theorem row1 : (fun k => (iblk m c 1 t : Vec Ideal S512x1024 .f32) (ix2 r k)) = xA m c n := funext fun k => iblk1 m c t r k n h
theorem row2 : (fun k => (iblk m c 2 t : Vec Ideal S512x2816 .bf16) (ix2 r k)) = gA m c n := funext fun k => iblk2 m c t r k n h
theorem row3 : (fun k => (iblk m c 3 t : Vec Ideal S512x2816 .bf16) (ix2 r k)) = uA m c n := funext fun k => iblk3 m c t r k n h
omit h
theorem tab6 : (fun k => (iblk m c 6 t : Vec Ideal S1x1024 .f32) (ix2 0 k)) = nrmA m c := funext fun k => iblk6 m c t _
theorem tab7 : (fun p k j => (iblk m c 7 t : Vec Ideal S4x1024x1408 .bf16) (ix3 p k j)) = wiA m c :=
  funext fun p => funext fun k => funext fun j => iblk7 m c t _
theorem tab8 : (fun j k => (iblk m c 8 t : Vec Ideal S2816x1024 .bf16) (ix2 j k)) = woA m c := funext fun j => funext fun k => iblk8 m c t _
include h

theorem dhB_eq : dhB (iblk m c 0 t) (iblk m c 2 t) (iblk m c 3 t) (iblk m c 4 t) (iblk m c 5 t) (iblk m c 7 t) (iblk m c 8 t) r = dhA m c n := by
  funext k
  unfold dhB dhA
  rw [gateB_eq, row0 m c t r n h, row2 m c t r n h, row3 m c t r n h, tab7, tab8]

theorem smallB_eq (y : S8x1024.Idx) :
    smallB (iblk m c 0 t) (iblk m c 1 t) (iblk m c 2 t) (iblk m c 3 t) (iblk m c 4 t) (iblk m c 5 t) (iblk m c 6 t) (iblk m c 7 t) (iblk m c 8 t) r y
      = small (scaleA m c) (nrmA m c) (xA m c n) (dhA m c n) (y 0).val (y 1) := by
  unfold smallB
  rw [scaleB_eq, dhB_eq m c t r n h, row1 m c t r n h, tab6]
end

theorem dffB_eq (c : Dev nD) (t : Fin cfg0.N) (y : S512x5632.Idx) (n : Fin 8192) (j : Fin 5632) (h : n.val = t.val * 512 + (y 0).val) (h1 : j.val = (y 1).val) :
    dffB (iblk m c 0 t) (iblk m c 2 t) (iblk m c 3 t) (iblk m c 4 t) (iblk m c 5 t) (iblk m c 8 t) y
      = dff (gateA m c) (dxA m c n) (woA m c) (gA m c n) (uA m c n) j := by
  obtain rfl : j = y 1 := Fin.ext h1
  unfold dffB
  rw [gateB_eq, row0 m c t _ n h, row2 m c t _ n h, row3 m c t _ n h, tab8]
  rfl

theorem dx1B_eq (c : Dev nD) (t : Fin cfg0.N) (y : S512x1024.Idx) (n : Fin 8192) (k : Fin 1024) (h : n.val = t.val * 512 + (y 0).val) (h1 : k.val = (y 1).val) :
    dx1B (iblk m c 0 t) (iblk m c 1 t) (iblk m c 2 t) (iblk m c 3 t) (iblk m c 4 t) (iblk m c 5 t) (iblk m c 6 t) (iblk m c 7 t) (iblk m c 8 t) y
      = dx1 (scaleA m c) (nrmA m c) (dxA m c n) (xA m c n) (dhA m c n) k := by
  obtain rfl : k = y 1 := Fin.ext h1
  unfold dx1B
  rw [scaleB_eq, dhB_eq m c t _ n h, row0 m c t _ n h, row1 m c t _ n h, tab6]

/-! ## The arrays after the run -/

theorem outs9 (c : Dev nD) (t : Fin cfg0.N) (y : S512x5632.Idx) :
    (outsAt0 m c t.val t.isLt).1 y = dffB (iblk m c 0 t) (iblk m c 2 t) (iblk m c 3 t) (iblk m c 4 t) (iblk m c 5 t) (iblk m c 8 t) y := by
  by_cases h : t.val % 16 = 0
  · rw [outsAt0_A m c t h]; unfold out0_A_9
    dsimp only
    rw [View.read_writes_junk_eq_canon]
    exact View.canon_apply_of_pieces _ _ (View.PiecesOf.mem (pieces9_A ..)) y (cover0_A_9 ..)
  · rw [outsAt0_B m c t h]; dsimp only
    unfold out0_B_9
    rw [View.read_writes_junk_eq_canon]
    exact View.canon_apply_of_pieces _ _ (View.PiecesOf.mem (pieces9_B (hc' := (hcond0_0 t0_0).mpr rfl) ..)) y (cover0_B_9 ..)

theorem outs10 (c : Dev nD) (t : Fin cfg0.N) (y : S512x1024.Idx) :
    (outsAt0 m c t.val t.isLt).2.1 y = dx1B (iblk m c 0 t) (iblk m c 1 t) (iblk m c 2 t) (iblk m c 3 t) (iblk m c 4 t) (iblk m c 5 t) (iblk m c 6 t) (iblk m c 7 t) (iblk m c 8 t) y := by
  by_cases h : t.val % 16 = 0
  · rw [outsAt0_A m c t h]; dsimp only
    unfold out0_A_10
    rw [View.read_writes_junk_eq_canon]
    exact View.canon_apply_of_pieces _ _ (View.PiecesOf.mem (pieces10_A ..)) y (cover0_A_10 ..)
  · rw [outsAt0_B m c t h]; dsimp only
    unfold out0_B_10
    rw [View.read_writes_junk_eq_canon]
    exact View.canon_apply_of_pieces _ _ (View.PiecesOf.mem (pieces10_B (hc' := (hcond0_0 t0_0).mpr rfl) ..)) y (cover0_B_10 ..)

theorem outs11_first (c : Dev nD) (y : S8x1024.Idx) (t : Fin cfg0.N) (h : t.val % 16 = 0) :
    (outsAt0 m c t.val t.isLt).2.2 y = 0 + ∑ r : Fin 512, smallB (iblk m c 0 t) (iblk m c 1 t) (iblk m c 2 t) (iblk m c 3 t) (iblk m c 4 t) (iblk m c 5 t) (iblk m c 6 t) (iblk m c 7 t) (iblk m c 8 t) r y := by
  rw [outsAt0_A m c t h, zero_add]; dsimp only
  exact out_A_11 ..

theorem outs11_next (c : Dev nD) (y : S8x1024.Idx) (t : Fin cfg0.N) (h : ¬t.val % 16 = 0) :
    (outsAt0 m c t.val t.isLt).2.2 y
      = (outsAt0 m c (t.val - 1) (Nat.lt_of_le_of_lt (Nat.sub_le _ _) t.isLt)).2.2 y + ∑ r : Fin 512, smallB (iblk m c 0 t) (iblk m c 1 t) (iblk m c 2 t) (iblk m c 3 t) (iblk m c 4 t) (iblk m c 5 t) (iblk m c 6 t) (iblk m c 7 t) (iblk m c 8 t) r y := by
  rw [outsAt0_B m c t h]; dsimp only
  exact out_B_11 ..

theorem outs11 (c : Dev nD) (y : S8x1024.Idx) :
    (outsAt0 m c t0_15.val t0_15.isLt).2.2 y = ∑ n : Fin 8192, small (scaleA m c) (nrmA m c) (xA m c n) (dhA m c n) (y 0).val (y 1) := by
  have hstep := Pipeline.eq_sum_fin_of_reset_step_last (N := cfg0.N) (fun n h => (outsAt0 m c n h).2.2 y) 16 (0 : EReal)
    (fun t => ∑ r : Fin 512, smallB (iblk m c 0 t) (iblk m c 1 t) (iblk m c 2 t) (iblk m c 3 t) (iblk m c 4 t) (iblk m c 5 t) (iblk m c 6 t) (iblk m c 7 t) (iblk m c 8 t) r y)
    (outs11_first m c y) (outs11_next m c y)
    (by decide) t0_15 rfl
  refine hstep.trans ?_
  rw [zero_add]
  refine Eq.trans ?_ (Fin.sum_univ_tiles 16 512 rfl _).symm
  exact Finset.sum_congr rfl fun t _ => Finset.sum_congr rfl fun r _ => smallB_eq m c t r _ rfl y

theorem arr9 (c : Dev nD) : (dats m 0 c).arrAt 9 cfg0.N
    = fun y : S8192x5632.Idx => dff (gateA m c) (dxA m c (y 0)) (woA m c) (gA m c (y 0)) (uA m c (y 0)) (y 1) := by
  refine (dats m 0 c).arrAt_eq_of_covers 9 _ (by decide +kernel) fun t hf y => ?_
  blk_simp
  rw [after0_9, outs9]
  refine dffB_eq m c t _ _ _ ?_ ?_ <;> blk_simp [idx9]

theorem arr10 (c : Dev nD) : (dats m 0 c).arrAt 10 cfg0.N
    = fun y : S8192x1024.Idx => dx1 (scaleA m c) (nrmA m c) (dxA m c (y 0)) (xA m c (y 0)) (dhA m c (y 0)) (y 1) := by
  refine (dats m 0 c).arrAt_eq_of_covers 10 _ (by decide +kernel) fun t hf y => ?_
  blk_simp
  rw [after0_10, outs10]
  refine dx1B_eq m c t _ _ _ ?_ ?_ <;> blk_simp [idx10]

theorem arr11 (c : Dev nD) : (dats m 0 c).arrAt 11 cfg0.N
    = fun y : S8x1024.Idx => ∑ n : Fin 8192, small (scaleA m c) (nrmA m c) (xA m c n) (dhA m c n) (y 0).val (y 1) := by
  refine (dats m 0 c).arrAt_eq_of_after_last 11 t0_15 (by decide +kernel) _ fun j => ?_
  blk_simp
  rw [after0_11]
  exact outs11 m c j

end Cert.KernelIdeal.Arr
end
-- ==== Proof.Forward.lean ====
module

public import Idealize.ShloMosaic.PureOps.Ideal

@[expose] public section

/-! # The forward rows the feed-forward block's gradient needs

The conditioning vector, one token's normalised and modulated row, and that row's product with the gate and up projections. -/

noncomputable section

namespace Cert.FfnBwd

open Idealize.ShloMosaic

/-- The conditioning product without its bias: `silu c` times the conditioning weights, at entry `k`. -/
def condMul (cv : Fin 1024 → EReal) (aw : Fin 1024 → Fin 6144 → EReal) (k : Fin 6144) : EReal :=
  ∑ x, cv x * Ideal.div 1 (1 + Ideal.exp (-cv x)) * aw x k

/-- The conditioning vector at entry `k`: six runs of 1024 entries. -/
def condVec (cv : Fin 1024 → EReal) (aw : Fin 1024 → Fin 6144 → EReal) (ab : Fin 6144 → EReal) (k : Fin 6144) : EReal :=
  condMul cv aw k + ab k

/-- The fourth run, the shift added to the normalised row. -/
def shiftOf (v : Fin 6144 → EReal) (k : Fin 1024) : EReal := v ⟨3072 + k.val, by omega⟩

/-- The fifth run, the scale of the normalised row. -/
def scaleOf (v : Fin 6144 → EReal) (k : Fin 1024) : EReal := v ⟨4096 + k.val, by omega⟩

/-- The sixth run, the gate of the block's output. -/
def gateOf (v : Fin 6144 → EReal) (k : Fin 1024) : EReal := v ⟨5120 + k.val, by omega⟩

/-- The reciprocal root of a row's mean square plus epsilon. -/
def rmsF (x : Fin 1024 → EReal) : EReal :=
  Ideal.rsqrt (Ideal.div (∑ k, x k * x k) (Ideal.ofBits .f32 0x44800000#32) + Ideal.ofBits .f32 0x358637BD#32)

/-- The normalised, scaled and shifted row. -/
def h2 (shift scale nrm x : Fin 1024 → EReal) (k : Fin 1024) : EReal := x k * rmsF x * nrm k * (1 + scale k) + shift k

/-- The row times the gate and up projections, at column `j` of the 5632. -/
def ff (shift scale nrm x : Fin 1024 → EReal) (wi : Fin 1024 → Fin 5632 → EReal) (j : Fin 5632) : EReal :=
  ∑ k, h2 shift scale nrm x k * wi k j

/-- A gate column among the 5632 columns. -/
def colG (j : Fin 2816) : Fin 5632 := ⟨j.val, by omega⟩

/-- An up column among the 5632 columns. -/
def colU (j : Fin 2816) : Fin 5632 := ⟨2816 + j.val, by omega⟩

/-- The gated activation of a row of the two projections: `silu g · u` at column `j`. -/
def act (v : Fin 5632 → EReal) (j : Fin 2816) : EReal := v (colG j) * Ideal.div 1 (1 + Ideal.exp (-v (colG j))) * v (colU j)

end Cert.FfnBwd

end
-- ==== Proof.Host.lean ====
module

public import proofs.«01_k».proof.Proof.Arrays
public import proofs.«01_k».proof.Proof.Forward
public import Idealize.ShloMosaic.Lib.Claim
public import Idealize.ShloMosaic.Lib.StableHlo.ReadAt

@[expose] public section

set_option maxRecDepth 16384

/-! # The arrays the kernel's host code prepares, read off the arguments

Each array a window of the backward call is cut from, as a formula in the program's arguments: the conditioning product, its bias, the
gate and up projections of the forward pass, and the two weights. -/

noncomputable section

namespace Cert.KernelIdeal.Arr

open Cert.KernelIdeal Cert.KernelIdeal.Gen Idealize.ShloMosaic Idealize.ShloMosaic.TcCoe Idealize.SL.Sem Cert.FfnBwd Cert.KernelIdeal.Pt

variable (m : (ℓ : Loc nD τ sig) → Buf (Elt Ideal) ℓ)

/-- The argument `c`, the conditioning input of this device's sequence. -/
def cI (c : Dev nD) (k : Fin 1024) : EReal := m ((c : Thread nD τ).loc main_arg2) (ix2 0 k)
/-- The conditioning weights. -/
def awI (c : Dev nD) (k : Fin 1024) (j : Fin 6144) : EReal := m ((c : Thread nD τ).loc main_arg3) (ix3 0 k j)
/-- The conditioning bias. -/
def abI (c : Dev nD) (j : Fin 6144) : EReal := m ((c : Thread nD τ).loc main_arg4) (ix2 0 j)
/-- The incoming gradient. -/
def dxI (c : Dev nD) (n : Fin 8192) (k : Fin 1024) : EReal := m ((c : Thread nD τ).loc main_arg0) (ix2 n k)
/-- The block's input. -/
def xI (c : Dev nD) (n : Fin 8192) (k : Fin 1024) : EReal := m ((c : Thread nD τ).loc main_arg1) (ix2 n k)
/-- The normalisation's weights. -/
def nrmI (c : Dev nD) (k : Fin 1024) : EReal := m ((c : Thread nD τ).loc main_arg5) (ix2 0 k)
/-- The gate and up projections. -/
def wiI (c : Dev nD) (k : Fin 1024) (j : Fin 5632) : EReal := m ((c : Thread nD τ).loc main_arg6) (ix3 0 k j)
/-- The down projection. -/
def woI (c : Dev nD) (j : Fin 2816) (k : Fin 1024) : EReal := m ((c : Thread nD τ).loc main_arg7) (ix3 0 j k)
/-- The conditioning vector. -/
def condI (c : Dev nD) : Fin 6144 → EReal := condVec (cI m c) (awI m c) (abI m c)

theorem dxA_eq (c : Dev nD) : dxA m c = dxI m c := by funext n k; unfold dxA dxI; rw [V_main_arg0]
theorem xA_eq (c : Dev nD) : xA m c = xI m c := by funext n k; unfold xA xI; rw [V_main_arg1]
theorem nrmA_eq (c : Dev nD) : nrmA m c = nrmI m c := by funext k; unfold nrmA nrmI; rw [V_main_arg5]

theorem lt1 (x : Fin 1024) : 3072 + x.val < 6144 := by omega
theorem lt2 (x : Fin 1024) : 4096 + x.val < 6144 := by omega

/-- The first 6144 entries of the conditioning product. -/
theorem modA_eq (c : Dev nD) (k : Fin 8192) (h : k.val < 6144) : modA m c k = condMul (cI m c) (awI m c) ⟨k.val, h⟩ := by
  unfold modA V
  simp only [hostOps0, hostOps0_1, List.flatten_cons, List.flatten_nil, List.append_nil, List.cons_append, List.nil_append]
  generalize hf : ((fun a b => concatenate S1x8192 1 [⟨S1x6144, a⟩, ⟨S1x2048, b⟩] concatenates_S1x6144_S1x2048_S1x8192_d1) :
    (⟨S1x6144, .f32⟩ : BufTy).Contents (Elt Ideal) → (⟨S1x2048, .f32⟩ : BufTy).Contents (Elt Ideal) → (⟨S1x8192, .f32⟩ : BufTy).Contents (Elt Ideal)) = f
  after_reads_simp
  subst hf
  simp -implicitDefEqProofs only [StableHlo.TRef.toBuf, StableHlo.TRef.ofBuf, cast_cast, cast_eq]
  clean_types
  pointwise
  rw [dif_pos h]
  rfl

/-- The first 6144 entries of the bias. -/
theorem biasA_eq (c : Dev nD) (k : Fin 8192) (h : k.val < 6144) : biasA m c k = abI m c ⟨k.val, h⟩ := by
  unfold biasA V
  simp only [hostOps0, hostOps0_1, List.flatten_cons, List.flatten_nil, List.append_nil, List.cons_append, List.nil_append]
  generalize hf : ((fun a b => concatenate S1x8192 1 [⟨S1x6144, a⟩, ⟨S1x2048, b⟩] concatenates_S1x6144_S1x2048_S1x8192_d1) :
    (⟨S1x6144, .f32⟩ : BufTy).Contents (Elt Ideal) → (⟨S1x2048, .f32⟩ : BufTy).Contents (Elt Ideal) → (⟨S1x8192, .f32⟩ : BufTy).Contents (Elt Ideal)) = f
  after_reads_simp
  subst hf
  simp -implicitDefEqProofs only [StableHlo.TRef.toBuf, StableHlo.TRef.ofBuf, cast_cast, cast_eq]
  clean_types
  pointwise
  rw [dif_pos h]
  rfl

/-- The scale of the normalised row. -/
theorem scaleA_eq (c : Dev nD) : scaleA m c = scaleOf (condI m c) := by
  funext k
  have h : 4096 + k.val < 6144 := by omega
  unfold scaleA scaleOf condI condVec
  rw [modA_eq m c _ h, biasA_eq m c _ h]

/-- The gate of the block's output. -/
theorem gateA_eq (c : Dev nD) : gateA m c = gateOf (condI m c) := by
  funext k
  have h : 5120 + k.val < 6144 := by omega
  unfold gateA gateOf condI condVec
  rw [modA_eq m c _ h, biasA_eq m c _ h]

/-- The gate projection of the forward pass. -/
theorem gA_eq (c : Dev nD) : gA m c = fun n j => ff (shiftOf (condI m c)) (scaleOf (condI m c)) (nrmI m c) (xI m c n) (wiI m c) (colG j) := by
  funext n k
  unfold gA V
  simp only [hostOps0, hostOps0_1, List.flatten_cons, List.flatten_nil, List.append_nil, List.cons_append, List.nil_append]
  generalize hf : ((fun a b => concatenate S1x8192 1 [⟨S1x6144, a⟩, ⟨S1x2048, b⟩] concatenates_S1x6144_S1x2048_S1x8192_d1) :
    (⟨S1x6144, .f32⟩ : BufTy).Contents (Elt Ideal) → (⟨S1x2048, .f32⟩ : BufTy).Contents (Elt Ideal) → (⟨S1x8192, .f32⟩ : BufTy).Contents (Elt Ideal)) = f
  after_reads_simp
  subst hf
  simp -implicitDefEqProofs only [StableHlo.TRef.toBuf, StableHlo.TRef.ofBuf, cast_cast, cast_eq]
  clean_types
  pointwise
  simp only [lt1, lt2, dif_pos]
  rfl

/-- The up projection of the forward pass. -/
theorem uA_eq (c : Dev nD) : uA m c = fun n j => ff (shiftOf (condI m c)) (scaleOf (condI m c)) (nrmI m c) (xI m c n) (wiI m c) (colU j) := by
  funext n k
  unfold uA V
  simp only [hostOps0, hostOps0_1, List.flatten_cons, List.flatten_nil, List.append_nil, List.cons_append, List.nil_append]
  generalize hf : ((fun a b => concatenate S1x8192 1 [⟨S1x6144, a⟩, ⟨S1x2048, b⟩] concatenates_S1x6144_S1x2048_S1x8192_d1) :
    (⟨S1x6144, .f32⟩ : BufTy).Contents (Elt Ideal) → (⟨S1x2048, .f32⟩ : BufTy).Contents (Elt Ideal) → (⟨S1x8192, .f32⟩ : BufTy).Contents (Elt Ideal)) = f
  after_reads_simp
  subst hf
  simp -implicitDefEqProofs only [StableHlo.TRef.toBuf, StableHlo.TRef.ofBuf, cast_cast, cast_eq]
  clean_types
  pointwise
  simp only [lt1, lt2, dif_pos]
  rfl

/-- The gate and up projections cut in four. -/
theorem wiA_eq (c : Dev nD) : wiA m c = fun p k j => wiI m c k ⟨p.val * 1408 + j.val, by omega⟩ := by
  funext p k j
  unfold wiA V
  simp only [hostOps0, hostOps0_1, List.flatten_cons, List.flatten_nil, List.append_nil, List.cons_append, List.nil_append]
  after_reads_at
  rfl

/-- The down projection. -/
theorem woA_eq (c : Dev nD) : woA m c = woI m c := by
  funext j k
  unfold woA V
  simp only [hostOps0, hostOps0_1, List.flatten_cons, List.flatten_nil, List.append_nil, List.cons_append, List.nil_append]
  after_reads_at
  rfl

end Cert.KernelIdeal.Arr

end
-- ==== Proof.Reals.lean ====
module

public import proofs.«01_k».proof.Proof.Rows
public import proofs.«01_k».proof.Proof.Forward
public import Mathlib.Analysis.SpecialFunctions.Exp
public import Mathlib.Tactic.FieldSimp
public import Mathlib.Tactic.Ring
public import Mathlib.Tactic.Positivity

@[expose] public section

/-! # Finite entries, and the two spellings of the gradient

`IsR` says that an extended real is a real number. Sums, products and the step's functions keep it, and between real numbers the kernel's
spelling of each gradient and the transposed forward pass's spelling are equal. -/

noncomputable section

namespace Cert.FfnBwd

open Idealize.ShloMosaic

/-- A finite extended real. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩

theorem IsR.add {x y : EReal} (hx : IsR x) (hy : IsR y) : IsR (x + y) := by
  obtain ⟨a, rfl⟩ := hx; obtain ⟨b, rfl⟩ := hy; exact ⟨a + b, by push_cast; rfl⟩

theorem IsR.sub {x y : EReal} (hx : IsR x) (hy : IsR y) : IsR (x - y) := by
  obtain ⟨a, rfl⟩ := hx; obtain ⟨b, rfl⟩ := hy; exact ⟨a - b, by push_cast; rfl⟩

theorem IsR.neg {x : EReal} (hx : IsR x) : IsR (-x) := by
  obtain ⟨a, rfl⟩ := hx; exact ⟨-a, by push_cast; rfl⟩

theorem IsR.mul {x y : EReal} (hx : IsR x) (hy : IsR y) : IsR (x * y) := by
  obtain ⟨a, rfl⟩ := hx; obtain ⟨b, rfl⟩ := hy; exact ⟨a * b, by push_cast; rfl⟩

theorem IsR.sum {ι : Type} [Fintype ι] {f : ι → EReal} (hf : ∀ i, IsR (f i)) : IsR (∑ i, f i) := by
  classical
  have : ∀ s : Finset ι, IsR (∑ i ∈ s, f i) := by
    intro s
    induction s using Finset.induction_on with
    | empty => simpa using IsR.zero
    | insert a s ha ih => rw [Finset.sum_insert ha]; exact (hf a).add ih
  exact this _

/-- The sum of real numbers, cast. -/
theorem coe_sum {ι : Type} [Fintype ι] (f : ι → ℝ) : ∑ i, (f i : EReal) = ((∑ i, f i : ℝ) : EReal) := by
  classical
  have : ∀ s : Finset ι, ∑ i ∈ s, (f i : EReal) = ((∑ i ∈ s, f i : ℝ) : EReal) := by
    intro s
    induction s using Finset.induction_on with
    | empty => simp
    | insert a s ha ih => rw [Finset.sum_insert ha, Finset.sum_insert ha, ih, EReal.coe_add]
  exact this _

/-- The constant 1024. -/
theorem ofBits_1024 : Ideal.ofBits .f32 0x44800000#32 = ((1024 : ℝ) : EReal) := by
  simp [Ideal.ofBits, Ideal.ieee, -EReal.coe_mul]; norm_num
/-- The constant 1/1024. -/
theorem ofBits_inv1024 : Ideal.ofBits .f32 0x3A800000#32 = ((1 / 1024 : ℝ) : EReal) := by
  simp [Ideal.ofBits, Ideal.ieee, -EReal.coe_mul]; norm_num
/-- The constant -1/2. -/
theorem ofBits_neg_half : Ideal.ofBits .f32 0xBF000000#32 = ((-(1 / 2) : ℝ) : EReal) := by
  simp [Ideal.ofBits, Ideal.ieee, -EReal.coe_mul]; norm_num
/-- The normalisation's epsilon is a positive number. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- `sigm` of a real number, and its value. -/
theorem sigm_coe (z : ℝ) : sigm (z : EReal) = ((1 / (1 + Real.exp (-z)) : ℝ) : EReal) := by
  have h : (1 + Real.exp (-z) : ℝ) ≠ 0 := by positivity
  unfold sigm
  rw [zero_sub, ← EReal.coe_neg, Ideal.exp_coe, ← EReal.coe_one, ← EReal.coe_add, Ideal.div_coe h, ← EReal.coe_mul, one_mul]

/-- The reference's spelling of the sigmoid is the kernel's. -/
theorem sigm_neg (z : EReal) : Ideal.div 1 (1 + Ideal.exp (-z)) = sigm z := by unfold sigm; rw [zero_sub]

theorem IsR.sigm {z : EReal} (hz : IsR z) : IsR (sigm z) := by obtain ⟨a, rfl⟩ := hz; rw [sigm_coe]; exact IsR.coe _

/-- The gate's gradient: the derivative of `g · sigmoid g` in the kernel's factored form, and as the sum of two products. -/
theorem dg_forms {d u g s : EReal} (hd : IsR d) (hu : IsR u) (hg : IsR g) (hs : IsR s) :
    d * u * s + g * (d * u) * (s * (1 - s)) = d * u * (s * (1 + g * (1 - s))) := by
  obtain ⟨d, rfl⟩ := hd; obtain ⟨u, rfl⟩ := hu; obtain ⟨g, rfl⟩ := hg; obtain ⟨s, rfl⟩ := hs
  rw [← EReal.coe_one]
  norm_cast
  ring

/-- The mean square of a row of real numbers plus epsilon: a positive real. -/
theorem meanSq {x : Fin 1024 → EReal} (hx : ∀ k, IsR (x k)) :
    ∃ v : ℝ, 0 < v ∧ Ideal.div (∑ k, x k * x k) (Ideal.ofBits .f32 0x44800000#32) + Ideal.ofBits .f32 0x358637BD#32 = (v : EReal) := by
  choose y hy using hx
  obtain ⟨e, he, hE⟩ := ofBits_eps
  refine ⟨(∑ k, y k * y k) * (1 / 1024) + e, ?_, ?_⟩
  · have : 0 ≤ ∑ k, y k * y k := Finset.sum_nonneg fun k _ => mul_self_nonneg _
    positivity
  · rw [hE, ofBits_1024, Ideal.div_coe (by norm_num)]
    simp only [hy, ← EReal.coe_mul, coe_sum, ← EReal.coe_add]

/-- The kernel multiplies by 1/1024 where the forward pass divides by 1024. -/
theorem rms_eq (x : Fin 1024 → EReal) : rms x = rmsF x := by
  unfold rms rmsF
  rw [ofBits_1024, ofBits_inv1024, Ideal.div_coe (by norm_num)]

/-- The reciprocal root of a positive real. -/
theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

theorem IsR.rmsF {x : Fin 1024 → EReal} (hx : ∀ k, IsR (x k)) : IsR (rmsF x) := by
  obtain ⟨v, hv, h⟩ := meanSq hx
  unfold FfnBwd.rmsF
  rw [h, rsqrt_pos hv]
  exact IsR.coe _

theorem IsR.condVec {cv : Fin 1024 → EReal} {aw : Fin 1024 → Fin 6144 → EReal} {ab : Fin 6144 → EReal} (hc : ∀ k, IsR (cv k))
    (hw : ∀ k j, IsR (aw k j)) (hb : ∀ j, IsR (ab j)) (j : Fin 6144) : IsR (condVec cv aw ab j) := by
  unfold FfnBwd.condVec condMul
  refine (IsR.sum fun k => ?_).add (hb j)
  rw [sigm_neg]
  exact ((hc k).mul (hc k).sigm).mul (hw k j)

theorem IsR.ff {shift scale nrm x : Fin 1024 → EReal} {wi : Fin 1024 → Fin 5632 → EReal} (hsh : ∀ k, IsR (shift k))
    (hsc : ∀ k, IsR (scale k)) (hn : ∀ k, IsR (nrm k)) (hx : ∀ k, IsR (x k)) (hw : ∀ k j, IsR (wi k j)) (j : Fin 5632) :
    IsR (ff shift scale nrm x wi j) := by
  unfold FfnBwd.ff h2
  exact IsR.sum fun k => (((((hx k).mul (IsR.rmsF hx)).mul (hn k)).mul (IsR.one.add (hsc k))).add (hsh k)).mul (hw k j)

section
variable {gate dx : Fin 1024 → EReal} {wo : Fin 2816 → Fin 1024 → EReal} {g u : Fin 2816 → EReal}
  (hgate : ∀ k, IsR (gate k)) (hdx : ∀ k, IsR (dx k)) (hwo : ∀ j k, IsR (wo j k)) (hg : ∀ j, IsR (g j)) (hu : ∀ j, IsR (u j))
include hgate hdx hwo

theorem IsR.da (j : Fin 2816) : IsR (da gate dx wo j) := by
  unfold FfnBwd.da
  exact IsR.sum fun k => ((hdx k).mul (hgate k)).mul (hwo j k)

include hg

theorem IsR.dup (j : Fin 2816) : IsR (dup gate dx wo g j) := (IsR.da hgate hdx hwo j).mul ((hg j).mul (hg j).sigm)

include hu

theorem IsR.dg (j : Fin 2816) : IsR (dg gate dx wo g u j) :=
  ((IsR.da hgate hdx hwo j).mul (hu j)).mul ((hg j).sigm.mul (IsR.one.add ((hg j).mul (IsR.one.sub (hg j).sigm))))

theorem IsR.dff (j : Fin 5632) : IsR (dff gate dx wo g u j) := by
  unfold FfnBwd.dff
  split
  · exact IsR.dg hgate hdx hwo hg hu _
  · exact IsR.dup hgate hdx hwo hg _

end

/-- A column of the first half is a gate column. -/
theorem dff_left {gate dx : Fin 1024 → EReal} {wo : Fin 2816 → Fin 1024 → EReal} {g u : Fin 2816 → EReal} {j : Fin 5632} {i : Fin 2816}
    (h : j.val = i.val) : dff gate dx wo g u j = dg gate dx wo g u i := by
  have hj : j.val < 2816 := by omega
  unfold dff
  rw [dif_pos hj]
  exact congrArg _ (Fin.ext h)

/-- A column of the second half is an up column. -/
theorem dff_right {gate dx : Fin 1024 → EReal} {wo : Fin 2816 → Fin 1024 → EReal} {g u : Fin 2816 → EReal} {j : Fin 5632} {i : Fin 2816}
    (h : j.val = 2816 + i.val) : dff gate dx wo g u j = dup gate dx wo g i := by
  have hj : ¬j.val < 2816 := by omega
  unfold dff
  rw [dif_neg hj]
  exact congrArg _ (Fin.ext (show j.val - 2816 = i.val by omega))

/-- The product with the gate and up projections transposed, over all 5632 columns at once: the kernel's four pieces. -/
theorem dh_eq (gate dx : Fin 1024 → EReal) (wo : Fin 2816 → Fin 1024 → EReal) (g u : Fin 2816 → EReal) (wi : Fin 1024 → Fin 5632 → EReal)
    (k : Fin 1024) :
    dh gate dx wo (fun p k j => wi k ⟨p.val * 1408 + j.val, by omega⟩) g u k = ∑ j, dff gate dx wo g u j * wi k j := by
  have e : ∑ j, dff gate dx wo g u j * wi k j
      = ∑ p : Fin 4, ∑ j : Fin 1408, dff gate dx wo g u ⟨p.val * 1408 + j.val, by omega⟩ * wi k ⟨p.val * 1408 + j.val, by omega⟩ := by
    rw [← Fintype.sum_prod_type']
    refine (Fintype.sum_equiv (finProdFinEquiv (m := 4) (n := 1408)) _ _ fun q => ?_).symm
    have : (⟨q.1.val * 1408 + q.2.val, by omega⟩ : Fin 5632) = finProdFinEquiv (m := 4) (n := 1408) q := by
      apply Fin.ext; simp [finProdFinEquiv]; omega
    rw [this]
  rw [e, Fin.sum_univ_four]
  have p0 : ∀ j : Fin 1408, dff gate dx wo g u ⟨(0 : Fin 4).val * 1408 + j.val, by simp; omega⟩ = dg gate dx wo g u (lo j) :=
    fun j => dff_left (show 0 * 1408 + j.val = j.val by omega)
  have p1 : ∀ j : Fin 1408, dff gate dx wo g u ⟨(1 : Fin 4).val * 1408 + j.val, by simp; omega⟩ = dg gate dx wo g u (hi j) :=
    fun j => dff_left (show 1 * 1408 + j.val = 1408 + j.val by omega)
  have p2 : ∀ j : Fin 1408, dff gate dx wo g u ⟨(2 : Fin 4).val * 1408 + j.val, by simp; omega⟩ = dup gate dx wo g (lo j) :=
    fun j => dff_right (show 2 * 1408 + j.val = 2816 + j.val by omega)
  have p3 : ∀ j : Fin 1408, dff gate dx wo g u ⟨(3 : Fin 4).val * 1408 + j.val, by simp; omega⟩ = dup gate dx wo g (hi j) :=
    fun j => dff_right (show 3 * 1408 + j.val = 2816 + (1408 + j.val) by omega)
  simp only [p0, p1, p2, p3]
  unfold dh
  rw [add_right_comm (∑ j : Fin 1408, dg gate dx wo g u (lo j) * _) _ (∑ j : Fin 1408, dup gate dx wo g (lo j) * _)]

/-- The gradient of the block's input as the transposed forward pass spells it, from `t`, the gradient of the normalised row. -/
def dx1R (dx x t : Fin 1024 → EReal) (k : Fin 1024) : EReal :=
  let v := Ideal.div (∑ k, x k * x k) (Ideal.ofBits .f32 0x44800000#32) + Ideal.ofBits .f32 0x358637BD#32
  let q := Ideal.div ((∑ k, x k * t k) * (Ideal.ofBits .f32 0xBF000000#32 * Ideal.div (Ideal.rsqrt v) v)) (Ideal.ofBits .f32 0x44800000#32)
  dx k + (t k * Ideal.rsqrt v + x k * q + q * x k)

/-- Between real numbers the two spellings of that gradient are equal. -/
theorem dx1_eq {scale nrm dx x h : Fin 1024 → EReal} (hs : ∀ k, IsR (scale k)) (hn : ∀ k, IsR (nrm k)) (hdx : ∀ k, IsR (dx k))
    (hx : ∀ k, IsR (x k)) (hh : ∀ k, IsR (h k)) (k : Fin 1024) :
    dx1 scale nrm dx x h k = dx1R dx x (fun k => h k * (1 + scale k) * nrm k) k := by
  obtain ⟨v, hv, hV⟩ := meanSq hx
  have hT : ∀ k, IsR (tt scale nrm h k) := fun k => ((hh k).mul (IsR.one.add (hs k))).mul (hn k)
  unfold dx1 dx1R
  rw [rms_eq]
  unfold rmsF
  change _ = _ + (tt scale nrm h k * _ + _ * Ideal.div ((∑ k, x k * tt scale nrm h k) * _) _ + Ideal.div ((∑ k, x k * tt scale nrm h k) * _) _ * _)
  rw [hV, rsqrt_pos hv, ofBits_neg_half, ofBits_inv1024, ofBits_1024]
  choose t ht using hT
  choose y hy using hx
  choose d hd using hdx
  simp only [ht, hy, hd]
  rw [Ideal.div_coe hv.ne', Ideal.div_coe (by norm_num)]
  simp only [← EReal.coe_mul, coe_sum, ← EReal.coe_add, ← EReal.coe_sub]
  congr 1
  have hq : Real.sqrt v * Real.sqrt v = v := Real.mul_self_sqrt hv.le
  have hp : 0 < Real.sqrt v := Real.sqrt_pos.mpr hv
  have hc : ∑ k, y k * t k = ∑ k, t k * y k := Finset.sum_congr rfl fun k _ => mul_comm _ _
  rw [hc]
  generalize Real.sqrt v = w at hq hp
  subst hq
  field_simp
  ring

end Cert.FfnBwd

end
-- ==== Proof.Ref.lean ====
module

public import proofs.«01_k».proof.Proof.Gen.ReferenceIdeal.Read
public import proofs.«01_k».proof.Proof.Rows
public import proofs.«01_k».proof.Proof.Reals
public import Idealize.ShloMosaic.Lib.Pointwise

@[expose] public section

set_option maxRecDepth 16384

/-! # The reference's stages at an index

The reference is the transposed forward pass. Each stage the proof needs is read at an index, as a formula in the arguments. -/

noncomputable section

namespace Cert.ReferenceIdeal.Rd

open Cert.ReferenceIdeal Cert.ReferenceIdeal.Gen Cert.ReferenceIdeal.Value Cert.ReferenceIdeal.Read Idealize.ShloMosaic Idealize.ShloMosaic.TcCoe Cert.FfnBwd

variable (x0 x1 : (⟨S8192x1024, .f32⟩ : BufTy).Contents (Elt Ideal)) (x2 : (⟨S1x1024, .f32⟩ : BufTy).Contents (Elt Ideal))
  (x3 : (⟨S1x1024x6144, .f32⟩ : BufTy).Contents (Elt Ideal)) (x4 : (⟨S1x6144, .f32⟩ : BufTy).Contents (Elt Ideal))
  (x5 : (⟨S1x1024, .f32⟩ : BufTy).Contents (Elt Ideal)) (x6 : (⟨S1x1024x5632, .f32⟩ : BufTy).Contents (Elt Ideal))
  (x7 : (⟨S1x2816x1024, .f32⟩ : BufTy).Contents (Elt Ideal))

/-- The conditioning vector from the arguments. -/
def condR : Fin 6144 → EReal := condVec (fun k => x2 (ix2 0 k)) (fun k j => x3 (ix3 0 k j)) (fun j => x4 (ix2 0 j))

/-- Row `n` times the gate and up projections. -/
def ffR (n : Fin 8192) : Fin 5632 → EReal :=
  ff (shiftOf (condR x2 x3 x4)) (scaleOf (condR x2 x3 x4)) (fun k => x5 (ix2 0 k)) (fun k => x1 (ix2 n k)) (fun k j => x6 (ix3 0 k j))

/-- The gradient of the gated activation at row `n`. -/
def daR (n : Fin 8192) : Fin 2816 → EReal := da (gateOf (condR x2 x3 x4)) (fun k => x0 (ix2 n k)) (fun j k => x7 (ix3 0 j k))

theorem e5 (k : Fin 6144) : val_main_v5 (F := Ideal) x2 x3 x4 (ix2 0 k) = condR x2 x3 x4 k := by
  pointwise [val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  rfl

theorem e31 (n : Fin 8192) (k : Fin 1024) : val_main_v31 (F := Ideal) x1 x2 x3 x4 x5 (ix2 n k)
    = h2 (shiftOf (condR x2 x3 x4)) (scaleOf (condR x2 x3 x4)) (fun k => x5 (ix2 0 k)) (fun k => x1 (ix2 n k)) k := by
  pointwise [val_main_v31, val_main_v30, val_main_v29, val_main_v28, val_main_v27, val_main_v26, val_main_v25, val_main_v24, val_main_v23, val_main_v22, val_main_v21, val_main_v17, val_main_v16, val_main_v15, val_main_v14, val_main_v13, val_main_v12, val_main_v11, val_main_v10, val_main_v9, val_main_v7, val_main_v6, val_main_cst, val_main_cst_0, val_main_cst_1, val_main_cst_3]
  rw [e5, e5]
  rfl

theorem e33 (n : Fin 8192) (j : Fin 5632) : val_main_v33 (F := Ideal) x1 x2 x3 x4 x5 x6 (ix2 n j) = ffR x1 x2 x3 x4 x5 x6 n j := by
  pointwise [val_main_v33, val_main_v32]
  simp only [e31]
  rfl

theorem e34 (n : Fin 8192) (j : Fin 2816) : val_main_v34 (F := Ideal) x1 x2 x3 x4 x5 x6 (ix2 n j) = ffR x1 x2 x3 x4 x5 x6 n (colG j) := by
  pointwise [val_main_v34]
  exact e33 ..

theorem e35 (n : Fin 8192) (j : Fin 2816) : val_main_v35 (F := Ideal) x1 x2 x3 x4 x5 x6 (ix2 n j) = ffR x1 x2 x3 x4 x5 x6 n (colU j) := by
  pointwise [val_main_v35]
  exact e33 ..

theorem e46 (n : Fin 8192) (j : Fin 2816) : val_main_v46 (F := Ideal) x0 x2 x3 x4 x7 (ix2 n j) = daR x0 x2 x3 x4 x7 n j := by
  pointwise [val_main_v46, val_main_v45, val_main_v44, val_main_v43, val_main_v38, val_main_v8]
  simp only [e5]
  unfold daR da
  exact Finset.sum_congr rfl fun k _ => congrArg (· * _) (mul_comm _ _)

theorem e47 (n : Fin 8192) (j : Fin 2816) : val_main_v47 (F := Ideal) x0 x1 x2 x3 x4 x5 x6 x7 (ix2 n j)
    = dup (gateOf (condR x2 x3 x4)) (fun k => x0 (ix2 n k)) (fun j k => x7 (ix3 0 j k)) (fun j => ffR x1 x2 x3 x4 x5 x6 n (colG j)) j := by
  pointwise [val_main_v47, val_main_v36_0, val_main_v36_2, val_main_call1_v4, val_main_call1_v3, val_main_call1_v2, val_main_call1_v1, val_main_call1_v0, val_main_call1_cst, val_main_call1_cst_0]
  rw [e34, e46, sigm_neg, mul_comm]
  rfl

theorem e49 (n : Fin 8192) (j : Fin 2816) : val_main_v49 (F := Ideal) x0 x1 x2 x3 x4 x5 x6 x7 (ix2 n j)
    = daR x0 x2 x3 x4 x7 n j * ffR x1 x2 x3 x4 x5 x6 n (colU j) * sigm (ffR x1 x2 x3 x4 x5 x6 n (colG j))
      + ffR x1 x2 x3 x4 x5 x6 n (colG j) * (daR x0 x2 x3 x4 x7 n j * ffR x1 x2 x3 x4 x5 x6 n (colU j))
        * (sigm (ffR x1 x2 x3 x4 x5 x6 n (colG j)) * (1 - sigm (ffR x1 x2 x3 x4 x5 x6 n (colG j)))) := by
  pointwise [val_main_v49, val_main_call2_v2, val_main_call2_v1, val_main_call2_v0, val_main_v48, val_main_v36_1, val_main_v36_2, val_main_call1_v7, val_main_call1_v6, val_main_call1_v4, val_main_call1_v3, val_main_call1_v2, val_main_call1_v1, val_main_call1_v0, val_main_call1_cst, val_main_call1_cst_0, val_main_call1_cst_1]
  rw [e34, e35, e46, sigm_neg]

theorem e52 (n : Fin 8192) (j : Fin 5632) : val_main_v52 (F := Ideal) x0 x1 x2 x3 x4 x5 x6 x7 (ix2 n j)
    = if h : j.val < 2816 then val_main_v49 (F := Ideal) x0 x1 x2 x3 x4 x5 x6 x7 (ix2 n ⟨j.val, h⟩)
      else val_main_v47 (F := Ideal) x0 x1 x2 x3 x4 x5 x6 x7 (ix2 n ⟨j.val - 2816, by omega⟩) := by
  pointwise [val_main_v52, val_main_v51, val_main_v50, val_main_cst_4, val_main_cst_5]
  by_cases h : j.val < 2816
  · rw [dif_neg (by omega), dif_pos h, dif_pos h, zero_add]
  · rw [dif_pos (by omega), dif_neg h, dif_neg h, add_zero]

/-- The arguments the gradient reads are finite. -/
structure Finite : Prop where
  dx : ∀ n k, IsR (x0 (ix2 n k))
  x : ∀ n k, IsR (x1 (ix2 n k))
  cv : ∀ k, IsR (x2 (ix2 0 k))
  aw : ∀ k j, IsR (x3 (ix3 0 k j))
  ab : ∀ j, IsR (x4 (ix2 0 j))
  nrm : ∀ k, IsR (x5 (ix2 0 k))
  wi : ∀ k j, IsR (x6 (ix3 0 k j))
  wo : ∀ j k, IsR (x7 (ix3 0 j k))

section
variable {x0 x1 x2 x3 x4 x5 x6 x7} (hf : Finite x0 x1 x2 x3 x4 x5 x6 x7)
include hf

theorem Finite.condR (j : Fin 6144) : IsR (condR x2 x3 x4 j) := IsR.condVec hf.cv hf.aw hf.ab j
theorem Finite.ffR (n : Fin 8192) (j : Fin 5632) : IsR (ffR x1 x2 x3 x4 x5 x6 n j) :=
  IsR.ff (fun _ => hf.condR _) (fun _ => hf.condR _) hf.nrm (hf.x n) hf.wi j
theorem Finite.daR (n : Fin 8192) (j : Fin 2816) : IsR (daR x0 x2 x3 x4 x7 n j) := IsR.da (fun _ => hf.condR _) (hf.dx n) hf.wo j
end

/-- Row `n` of the gradient of the two projections side by side. -/
def dffR (n : Fin 8192) : Fin 5632 → EReal :=
  dff (gateOf (condR x2 x3 x4)) (fun k => x0 (ix2 n k)) (fun j k => x7 (ix3 0 j k)) (fun j => ffR x1 x2 x3 x4 x5 x6 n (colG j))
    (fun j => ffR x1 x2 x3 x4 x5 x6 n (colU j))

/-- Row `n` of the gradient of the modulated normalised input. -/
def dhR (n : Fin 8192) : Fin 1024 → EReal :=
  dh (gateOf (condR x2 x3 x4)) (fun k => x0 (ix2 n k)) (fun j k => x7 (ix3 0 j k)) (fun p k j => x6 (ix3 0 k ⟨p.val * 1408 + j.val, by omega⟩))
    (fun j => ffR x1 x2 x3 x4 x5 x6 n (colG j)) (fun j => ffR x1 x2 x3 x4 x5 x6 n (colU j))

section
variable {x0 x1 x2 x3 x4 x5 x6 x7} (hf : Finite x0 x1 x2 x3 x4 x5 x6 x7)
include hf

theorem Finite.v52 (n : Fin 8192) (j : Fin 5632) : val_main_v52 (F := Ideal) x0 x1 x2 x3 x4 x5 x6 x7 (ix2 n j) = dffR x0 x1 x2 x3 x4 x5 x6 x7 n j := by
  rw [e52]
  unfold dffR dff
  split
  · rw [e49, dg_forms (hf.daR _ _) (hf.ffR _ _) (hf.ffR _ _) (hf.ffR _ _).sigm]
    rfl
  · rw [e47]

theorem Finite.v53 (n : Fin 8192) (k : Fin 1024) : val_main_v53 (F := Ideal) x0 x1 x2 x3 x4 x5 x6 x7 (ix2 n k) = dhR x0 x1 x2 x3 x4 x5 x6 x7 n k := by
  pointwise [val_main_v53, val_main_v32]
  simp only [hf.v52]
  unfold dhR
  rw [dh_eq _ _ _ _ _ (fun k j => x6 (ix3 0 k j))]
  rfl

theorem Finite.dhR (n : Fin 8192) (k : Fin 1024) : IsR (dhR x0 x1 x2 x3 x4 x5 x6 x7 n k) := by
  unfold Rd.dhR
  rw [dh_eq _ _ _ _ _ (fun k j => x6 (ix3 0 k j))]
  exact IsR.sum fun j => (IsR.dff (fun _ => hf.condR _) (hf.dx n) hf.wo (fun _ => hf.ffR n _) (fun _ => hf.ffR n _) j).mul (hf.wi k j)

/-- The reference's first result, cast to bf16 (which changes nothing between ideal numbers). -/
theorem Finite.v84 (n : Fin 8192) (j : Fin 5632) : val_main_v84 (F := Ideal) x0 x1 x2 x3 x4 x5 x6 x7 (ix2 n j) = dffR x0 x1 x2 x3 x4 x5 x6 x7 n j := by
  pointwise [val_main_v84]
  exact hf.v52 n j

/-- The reference's second result: the gradient of the block's input. -/
theorem Finite.v85 (n : Fin 8192) (k : Fin 1024) : val_main_v85 (F := Ideal) x0 x1 x2 x3 x4 x5 x6 x7 (ix2 n k)
    = dx1 (scaleOf (Rd.condR x2 x3 x4)) (fun k => x5 (ix2 0 k)) (fun k => x0 (ix2 n k)) (fun k => x1 (ix2 n k)) (Rd.dhR x0 x1 x2 x3 x4 x5 x6 x7 n) k := by
  pointwise [val_main_v85, val_main_v80, val_main_v79, val_main_v78, val_main_v77, val_main_v76, val_main_v75, val_main_v74, val_main_v73, val_main_v72, val_main_v71, val_main_v70, val_main_v69, val_main_v68, val_main_v67, val_main_v65, val_main_v64, val_main_v60, val_main_v59, val_main_v27, val_main_v26, val_main_v23, val_main_v9, val_main_v7, val_main_v20, val_main_v19, val_main_v18, val_main_v17, val_main_v16, val_main_v15, val_main_v14, val_main_v13, val_main_v12, val_main_v11, val_main_v10, val_main_cst, val_main_cst_0, val_main_cst_1, val_main_cst_3, val_main_cst_10, val_main_cst_11, val_main_cst_12, val_main_cst_2]
  simp only [hf.v53, e5]
  rw [dx1_eq (scale := scaleOf (Rd.condR x2 x3 x4)) (fun _ => hf.condR _) hf.nrm (hf.dx n) (hf.x n) (hf.dhR n)]
  simp only [Finset.univ_unique, Finset.sum_singleton]
  rfl

/-- The reference's third result: the sums over the rows. -/
theorem Finite.v83 (a : Fin 8) (k : Fin 1024) : val_main_v83 (F := Ideal) x0 x1 x2 x3 x4 x5 x6 x7 (ix2 a k)
    = ∑ n : Fin 8192, small (scaleOf (Rd.condR x2 x3 x4)) (fun k => x5 (ix2 0 k)) (fun k => x1 (ix2 n k)) (Rd.dhR x0 x1 x2 x3 x4 x5 x6 x7 n) a.val k := by
  pointwise [val_main_v83, val_main_v82, val_main_v81, val_main_v66, val_main_v63, val_main_v62, val_main_v61, val_main_v60, val_main_v59, val_main_v27, val_main_v26, val_main_v7, val_main_v58, val_main_v57, val_main_v56, val_main_v55, val_main_v54, val_main_v25, val_main_v24, val_main_v23, val_main_v22, val_main_v21, val_main_v17, val_main_v16, val_main_v15, val_main_v14, val_main_v13, val_main_v12, val_main_v11, val_main_v10, val_main_v9, val_main_cst, val_main_cst_0, val_main_cst_1, val_main_cst_3, val_main_cst_6, val_main_cst_7, val_main_cst_8, val_main_cst_9, val_main_cst_13]
  simp only [hf.v53, e5]
  simp only [Finset.univ_unique, Finset.sum_singleton]
  unfold small
  simp only [rms_eq]
  split_ifs with h0 h1 h2
  · have : a.val = 0 := by omega
    simp only [this]
  · have : a.val = 1 := by omega
    simp only [this]
    exact Finset.sum_congr rfl fun n _ => mul_comm _ _
  · have : a.val = 2 := by omega
    simp only [this]
    exact Finset.sum_congr rfl fun n _ => mul_comm _ _
  · obtain ⟨b, hb⟩ := Nat.exists_eq_add_of_le' (show 3 ≤ a.val by omega)
    simp only [hb, Finset.sum_const_zero]
end

end Cert.ReferenceIdeal.Rd

end
-- ==== Proof.Agree.lean ====
module

public import proofs.«01_k».proof.Defs
public import proofs.«01_k».proof.Proof.Host
public import proofs.«01_k».proof.Proof.Ref
public import proofs.«01_k».proof.Proof.Gen.Pre_all_finite

@[expose] public section

set_option maxRecDepth 16384

/-! # The kernel's results are the reference's

Under the precondition every argument the gradient reads is finite; then each array the kernel writes is the reference's result. -/

noncomputable section

namespace Cert.FfnBwd

open Idealize.ShloMosaic Idealize.ShloMosaic.TcCoe Idealize.SL.Sem Cert.KernelIdeal.Arr Cert.ReferenceIdeal.Rd

/-- An entry whose absolute value is below infinity is a real number. -/
theorem isR_of_lt (x : Ideal .f32) (h : BitVec.ofBool (decide (FloatOps.absf x < Ideal.ofBits .f32 0x7F800000#32)) = 1#1) : IsR x := by
  have hi : Ideal.ofBits .f32 0x7F800000#32 = ⊤ := by simp [Ideal.ofBits, Ideal.ieee]
  rw [hi] at h
  have h : FloatOps.absf x < (⊤ : EReal) := by
    by_contra hn
    rw [decide_eq_false hn] at h
    exact absurd h (by decide)
  rw [Ideal.absf_def] at h
  induction x using EReal.rec with
  | bot => simp at h
  | coe r => exact ⟨r, rfl⟩
  | top => simp at h

variable [hP : Cert.Pre_all_finite.Facts]

/-- The precondition makes every entry the gradient reads a real number. -/
theorem finite_of_pre (m : (ℓ : Loc Cert.KernelIdeal.nD Cert.KernelIdeal.τ Cert.KernelIdeal.sig) → Buf (Elt Ideal) ℓ)
    (h : Cert.Pre_KernelIdeal_all_finite m) (c : Dev Cert.KernelIdeal.nD) :
    Finite (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) := by
  obtain ⟨h0, h1, h2, h3, h4, h5, h6, h7⟩ := h c
  have h0 := fun n k => congrFun h0 (ix2 n k)
  have h1 := fun n k => congrFun h1 (ix2 n k)
  have h2 := fun k => congrFun h2 (ix2 0 k)
  have h3 := fun k j => congrFun h3 (ix3 0 k j)
  have h4 := fun j => congrFun h4 (ix2 0 j)
  have h5 := fun k => congrFun h5 (ix2 0 k)
  have h6 := fun k j => congrFun h6 (ix3 0 k j)
  have h7 := fun j k => congrFun h7 (ix3 0 j k)
  pointwise [Cert.Pre_all_finite.fn, Cert.Pre_all_finite.fn_part1] at h0
  pointwise [Cert.Pre_all_finite.fn, Cert.Pre_all_finite.fn_part1] at h1
  pointwise [Cert.Pre_all_finite.fn, Cert.Pre_all_finite.fn_part1] at h2
  pointwise [Cert.Pre_all_finite.fn, Cert.Pre_all_finite.fn_part1] at h3
  pointwise [Cert.Pre_all_finite.fn, Cert.Pre_all_finite.fn_part1] at h4
  pointwise [Cert.Pre_all_finite.fn, Cert.Pre_all_finite.fn_part1] at h5
  pointwise [Cert.Pre_all_finite.fn, Cert.Pre_all_finite.fn_part1] at h6
  pointwise [Cert.Pre_all_finite.fn, Cert.Pre_all_finite.fn_part1] at h7
  exact ⟨fun n k => isR_of_lt _ (h0 n k), fun n k => isR_of_lt _ (h1 n k), fun k => isR_of_lt _ (h2 k), fun k j => isR_of_lt _ (h3 k j), fun j => isR_of_lt _ (h4 j), fun k => isR_of_lt _ (h5 k), fun k j => isR_of_lt _ (h6 k j), fun j k => isR_of_lt _ (h7 j k)⟩

section
variable (m : (ℓ : Loc Cert.KernelIdeal.nD Cert.KernelIdeal.τ Cert.KernelIdeal.sig) → Buf (Elt Ideal) ℓ) (hm : Cert.Pre_KernelIdeal_all_finite m) (c : Dev Cert.KernelIdeal.nD)
include hm

/-- The first array: the gradient of the two projections side by side. -/
theorem arr9_ref : (Cert.KernelIdeal.Gen.dats m 0 c).arrAt 9 Cert.KernelIdeal.cfg0.N = Cert.ReferenceIdeal.Read.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [arr9, gA_eq, uA_eq, woA_eq, gateA_eq, dxA_eq]
  funext y
  rw [eq_ix2 y]
  exact ((finite_of_pre m hm c).v84 _ _).symm

/-- The second array: the gradient of the block's input. -/
theorem arr10_ref : (Cert.KernelIdeal.Gen.dats m 0 c).arrAt 10 Cert.KernelIdeal.cfg0.N = Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [arr10]
  unfold dhA
  rw [gA_eq, uA_eq, woA_eq, wiA_eq, gateA_eq, dxA_eq, xA_eq, nrmA_eq, scaleA_eq]
  funext y
  rw [eq_ix2 y]
  exact ((finite_of_pre m hm c).v85 _ _).symm

/-- The third array: the sums over the rows. -/
theorem arr11_ref : (Cert.KernelIdeal.Gen.dats m 0 c).arrAt 11 Cert.KernelIdeal.cfg0.N = Cert.ReferenceIdeal.Read.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [arr11]
  unfold dhA
  rw [gA_eq, uA_eq, woA_eq, wiA_eq, gateA_eq, dxA_eq, xA_eq, nrmA_eq, scaleA_eq]
  funext y
  rw [eq_ix2 y]
  exact ((finite_of_pre m hm c).v83 _ _).symm
end

/-- The algebraic claim: from memories that agree on the arguments, all finite, both programs end with the same three results. -/
theorem algebraic : Cert.algebraic_KernelIdeal_ReferenceIdeal_pre_all_finite := by
  intro m g m' g' hm hag
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, Cert.KernelIdeal.Value.run_blocks m g, (θ_run _ _ _).mono (fun r h c => ?_) (Cert.ReferenceIdeal.Value.run m' g')⟩
  obtain ⟨a0, a1, a2, a3, a4, a5, a6, a7, -, -⟩ := hag c
  obtain ⟨r0, r1, r2, rest⟩ := h c
  refine ⟨r0.trans ?_, r1.trans ?_, r2.trans ?_, rest⟩
  · rw [Cert.ReferenceIdeal.Read.val_main_v84_eq, a0, a1, a2, a3, a4, a5, a6, a7]; exact (arr9_ref m hm c).symm
  · rw [Cert.ReferenceIdeal.Read.val_main_v85_eq, a0, a1, a2, a3, a4, a5, a6, a7]; exact (arr10_ref m hm c).symm
  · rw [Cert.ReferenceIdeal.Read.val_main_v83_eq, a0, a1, a2, a3, a4, a5, a6, a7]; exact (arr11_ref m hm c).symm

end Cert.FfnBwd

end
-- ==== Proof.InKernel.lean ====
module

public import proofs.«01_k».proof.Proof.Gen.GradInIdeal.Value
public import proofs.«01_k».proof.Proof.Forward
public import Idealize.ShloMosaic.Lib.Pointwise
public import Idealize.ShloMosaic.Lib.Pipeline.ValueKit
public import Idealize.ShloMosaic.Lib.Pipeline.ReadBack
public import Idealize.ShloMosaic.Lib.WritesUnit
public import Idealize.ShloMosaic.Lib.Claim
public import Idealize.ShloMosaic.Lib.StableHlo.ReadAt

@[expose] public section

set_option maxRecDepth 16384

/-! # The gradient of the gate and up projections, as the kernel computes it

The grid is four pieces of 1408 columns times four tiles of 2048 rows. For each piece the kernel clears an accumulator at the first tile, adds
a tile's product at every tile, and writes the accumulator out at the last. -/

noncomputable section

namespace Cert.GradInIdeal.Pt

open Cert.GradInIdeal Cert.GradInIdeal.Gen Idealize.ShloMosaic Idealize.ShloMosaic.TcCoe Idealize.SL.Sem Cert.FfnBwd

section
variable (c : Dev nD) (i : grid0.Coords) (arg3 : Memref sig .tc .vmem S2048x1024 .bf16) (harg3 : arg3.IsWhole) (arg4 : Memref sig .tc .vmem S2048x1408 .bf16) (harg4 : arg4.IsWhole) (arg5 : Memref sig .tc .vmem S1x1024x1408 .bf16) (harg5 : arg5.IsWhole) (arg6 : Memref sig .tc .vmem S1024x1408 .f32) (harg6 : arg6.IsWhole)
  (x0 : Vec Ideal S2048x1024 .bf16) (x1 : Vec Ideal S2048x1408 .bf16) (xs0 : Vec Ideal S1024x1408 .f32)

/-- One tile's product: the sum over its 2048 rows. -/
def tile (k : Fin 1024) (j : Fin 1408) : EReal := ∑ r : Fin 2048, x0 (ix2 r k) * x1 (ix2 r j)

/-- The first tile leaves its product in the accumulator. -/
theorem sout_A (hc0 : cond0_0 i) (hc1 : ¬cond0_1 i) (hc2 : ¬cond0_2 i) (k : Fin 1024) (j : Fin 1408) :
    sout0_A_0 c i arg3 harg3 arg4 harg4 arg5 harg5 arg6 harg6 hc0 hc1 hc2 x0 x1 (ix2 k j) = tile x0 x1 k j := by
  unfold sout0_A_0 kernelRun0_A; dsimp only; sl_unfold_words
  simp only [View.readAt_eq_ld, harg3.read_unread, harg4.read_unread]
  rw [View.read_writes_junk_eq_canon, View.canon_cons_unit_lit _ _ _ (by decide)]
  pointwise [k0_pay2, k0_pay1, tile]

/-- A middle tile adds its product. -/
theorem sout_B (hc0 : ¬cond0_0 i) (hc1 : cond0_1 i) (hc2 : ¬cond0_2 i) (k : Fin 1024) (j : Fin 1408) :
    sout0_B_0 c i arg3 harg3 arg4 harg4 arg5 harg5 arg6 harg6 hc0 hc1 hc2 x0 x1 xs0 (ix2 k j) = xs0 (ix2 k j) + tile x0 x1 k j := by
  unfold sout0_B_0 kernelRun0_B; dsimp only; sl_unfold_words
  simp only [View.readAt_eq_ld, harg3.read_unread, harg4.read_unread, harg6.read_unread]
  rw [View.read_writes_junk_eq_canon, View.canon_cons_unit_lit _ _ _ (by decide)]
  pointwise [k0_pay3, k0_pay1, tile]

/-- The last tile adds its product. -/
theorem sout_C (hc0 : ¬cond0_0 i) (hc1 : cond0_1 i) (hc2 : cond0_2 i) (k : Fin 1024) (j : Fin 1408) :
    sout0_C_0 c i arg3 harg3 arg4 harg4 arg5 harg5 arg6 harg6 hc0 hc1 hc2 x0 x1 xs0 (ix2 k j) = xs0 (ix2 k j) + tile x0 x1 k j := by
  unfold sout0_C_0 kernelRun0_C; dsimp only; sl_unfold_words
  simp only [View.readAt_eq_ld, harg3.read_unread, harg4.read_unread, harg6.read_unread]
  rw [View.read_writes_junk_eq_canon, View.canon_cons_unit_lit _ _ _ (by decide)]
  pointwise [k0_pay3, k0_pay1, tile]

/-- The last tile writes the accumulator out. -/
theorem out_C (hc0 : ¬cond0_0 i) (hc1 : cond0_1 i) (hc2 : cond0_2 i) (a : Fin 1) (k : Fin 1024) (j : Fin 1408) :
    out0_C_2 c i arg3 harg3 arg4 harg4 arg5 harg5 arg6 harg6 hc0 hc1 hc2 x0 x1 xs0 (ix3 a k j) = xs0 (ix2 k j) + tile x0 x1 k j := by
  unfold out0_C_2 kernelRun0_C; dsimp only; sl_unfold_words
  simp (disch := decide) only [↓ View.readCov_skip, ↓ View.readCov_cons_toLoadRect, ↓ View.readCov_fill]
  simp only [View.readAt_eq_ld, harg3.read_unread, harg4.read_unread, harg6.read_unread]
  rw [View.read_writes_junk_eq_canon, View.canon_cons_unit_lit _ _ _ (by decide)]
  pointwise [k0_pay4, k0_pay3, k0_pay1, tile]
end

variable (m : (ℓ : Loc nD τ sig) → Buf (Elt Ideal) ℓ)

theorem idx0 : ∀ t : Fin grid0.N, win0_0.index t = ![t.val % 4, 0] := by decide +kernel
theorem idx1 : ∀ t : Fin grid0.N, win0_1.index t = ![t.val % 4, t.val / 4] := by decide +kernel
theorem idx2 : ∀ t : Fin grid0.N, win0_2.index t = ![t.val / 4, 0, 0] := by decide +kernel

theorem iblk0 (c : Dev nD) (t : Fin cfg0.N) (r : Fin 2048) (k : Fin 1024) (n : Fin 8192) (h : n.val = t.val % 4 * 2048 + r.val) :
    iblk m c 0 t (ix2 r k) = V m c main_v28 (ix2 n k) := by
  unfold iblk; blk_simp
  refine congrArg (V m c main_v28) (Shape.idx_ext₂ ?_ ?_) <;> blk_simp [idx0, h]
theorem iblk1 (c : Dev nD) (t : Fin cfg0.N) (r : Fin 2048) (j : Fin 1408) (n : Fin 8192) (j' : Fin 5632) (h : n.val = t.val % 4 * 2048 + r.val)
    (h' : j'.val = t.val / 4 * 1408 + j.val) : iblk m c 1 t (ix2 r j) = V m c main_v29 (ix2 n j') := by
  unfold iblk; blk_simp
  refine congrArg (V m c main_v29) (Shape.idx_ext₂ ?_ ?_) <;> blk_simp [idx1, h, h']

/-- The rows the kernel reads: the modulated normalised rows and the incoming gradient's. -/
def hA (c : Dev nD) (n : Fin 8192) (k : Fin 1024) : EReal := V m c main_v28 (ix2 n k)
def dA (c : Dev nD) (n : Fin 8192) (j : Fin 5632) : EReal := V m c main_v29 (ix2 n j)

/-- The accumulator after the first tile of a piece. -/
theorem acc_first (c : Dev nD) (k : Fin 1024) (j : Fin 1408) (t : Fin cfg0.N) (h : t.val % 4 = 0) :
    (outsAt0 m c t.val t.isLt).2 (ix2 k j) = 0 + tile (iblk m c 0 t) (iblk m c 1 t) k j := by
  rw [outsAt0_A m c t h (by omega) (by omega), zero_add]; dsimp only
  exact sout_A ..

/-- The accumulator after a later tile. -/
theorem acc_next (c : Dev nD) (k : Fin 1024) (j : Fin 1408) (t : Fin cfg0.N) (h : ¬t.val % 4 = 0) :
    (outsAt0 m c t.val t.isLt).2 (ix2 k j)
      = (outsAt0 m c (t.val - 1) (Nat.lt_of_le_of_lt (Nat.sub_le _ _) t.isLt)).2 (ix2 k j) + tile (iblk m c 0 t) (iblk m c 1 t) k j := by
  by_cases h2 : t.val % 4 = 3
  · rw [outsAt0_C m c t h (by omega) h2]; dsimp only
    exact sout_C ..
  · rw [outsAt0_B m c t h (by omega) h2]; dsimp only
    exact sout_B ..

/-- What is written out is the accumulator. -/
theorem out_acc (c : Dev nD) (a : Fin 1) (k : Fin 1024) (j : Fin 1408) (t : Fin cfg0.N) (h : t.val % 4 = 3) :
    (outsAt0 m c t.val t.isLt).1 (ix3 a k j) = (outsAt0 m c t.val t.isLt).2 (ix2 k j) := by
  rw [acc_next m c k j t (by omega), outsAt0_C m c t (by omega) (by omega) h]; dsimp only
  exact out_C ..

/-- The accumulator at the last tile of a piece: the sum over all 8192 rows. -/
theorem acc_last (c : Dev nD) (k : Fin 1024) (j : Fin 1408) (t : Fin cfg0.N) (h : t.val % 4 = 3) (j' : Fin 5632) (h' : j'.val = t.val / 4 * 1408 + j.val) :
    (outsAt0 m c t.val t.isLt).2 (ix2 k j) = ∑ n : Fin 8192, hA m c n k * dA m c n j' := by
  have hstep := Pipeline.eq_sum_fin_of_reset_step_of_flush (N := cfg0.N) (fun n h => (outsAt0 m c n h).2 (ix2 k j)) 4 (0 : EReal)
    (fun t => tile (iblk m c 0 t) (iblk m c 1 t) k j) (acc_first m c k j) (acc_next m c k j) t h
  refine hstep.trans ?_
  rw [zero_add]
  refine Eq.trans ?_ (Fin.sum_univ_tiles 4 2048 rfl _).symm
  refine Finset.sum_congr rfl fun s _ => Finset.sum_congr rfl fun r _ => ?_
  have hs : (4 * (t.val / 4) + s.val) % 4 = s.val := by omega
  have hd : (4 * (t.val / 4) + s.val) / 4 = t.val / 4 := by omega
  exact congrArg₂ (· * ·) (iblk0 m c _ r k _ (by rw [hs])) (iblk1 m c _ r j _ j' (by rw [hs]) (by rw [hd]; exact h'))

/-- The array after the run. -/
theorem arr2 (c : Dev nD) : (dats m 0 c).arrAt 2 cfg0.N
    = fun y : S4x1024x1408.Idx => ∑ n : Fin 8192, hA m c n (y 1) * dA m c n ⟨(y 0).val * 1408 + (y 2).val, by have h0 : (y 0).val < 4 := (y 0).isLt; have h2 : (y 2).val < 1408 := (y 2).isLt; omega⟩ := by
  refine (dats m 0 c).arrAt_eq_of_covers 2 _ (by decide +kernel) fun t hf y => ?_
  have h3 : t.val % 4 = 3 := (flush0_2 t).mp hf
  blk_simp
  rw [after0_2]
  obtain ⟨a, k, j, rfl⟩ : ∃ (a : Fin 1) (k : Fin 1024) (j : Fin 1408), y = ix3 a k j := ⟨y 0, y 1, y 2, (ix3_eta y).symm⟩
  have ha : a.val = 0 := by omega
  refine (out_acc m c a k j t h3).trans ((acc_last m c k j t h3 ⟨t.val / 4 * 1408 + j.val, by have : t.val < 16 := lt_of_lt_of_eq t.isLt (show cfg0.N = 16 from N_0); omega⟩ rfl).trans ?_)
  refine Finset.sum_congr rfl fun n _ => congrArg₂ (· * ·) (congrArg (hA m c n) (Fin.ext ?_)) (congrArg (dA m c n) (Fin.ext ?_)) <;> blk_simp [idx2, ha]

/-- The modulated rows in the program's arguments. -/
theorem hA_eq (c : Dev nD) (n : Fin 8192) (k : Fin 1024) :
    hA m c n k = h2 (shiftOf (condVec (fun k => m ((c : Thread nD τ).loc main_arg2) (ix2 0 k)) (fun k j => m ((c : Thread nD τ).loc main_arg3) (ix3 0 k j)) fun j => m ((c : Thread nD τ).loc main_arg4) (ix2 0 j)))
      (scaleOf (condVec (fun k => m ((c : Thread nD τ).loc main_arg2) (ix2 0 k)) (fun k j => m ((c : Thread nD τ).loc main_arg3) (ix3 0 k j)) fun j => m ((c : Thread nD τ).loc main_arg4) (ix2 0 j)))
      (fun k => m ((c : Thread nD τ).loc main_arg5) (ix2 0 k)) (fun k => m ((c : Thread nD τ).loc main_arg1) (ix2 n k)) k := by
  unfold hA V
  simp only [hostOps0, hostOps0_1, List.flatten_cons, List.flatten_nil, List.append_nil, List.cons_append, List.nil_append]
  after_reads_at
  rfl

/-- The incoming gradient in the program's arguments. -/
theorem dA_eq (c : Dev nD) (n : Fin 8192) (j : Fin 5632) : dA m c n j = m ((c : Thread nD τ).loc main_arg0) (ix2 n j) := by
  unfold dA V
  simp only [hostOps0, hostOps0_1, List.flatten_cons, List.flatten_nil, List.append_nil, List.cons_append, List.nil_append]
  after_reads_at

end Cert.GradInIdeal.Pt

end
-- ==== Proof.InAgree.lean ====
module

public import proofs.«01_k».proof.Defs
public import proofs.«01_k».proof.Proof.InKernel
public import proofs.«01_k».proof.Proof.Gen.RefInIdeal.Run
public import proofs.«01_k».proof.Proof.Gen.RefInIdeal.Read

@[expose] public section

set_option maxRecDepth 16384

/-! # The gradient of the gate and up projections is the reference's -/

noncomputable section

namespace Cert.GradInIdeal.Pt

open Idealize.ShloMosaic Idealize.ShloMosaic.TcCoe Idealize.SL.Sem Cert.FfnBwd Cert.RefInIdeal.Read

/-- The reference's result at piece `p`, row `k`, column `j` of the piece: the sum over all 8192 rows. -/
theorem ref_at (x0 : (⟨Cert.RefInIdeal.S8192x5632, .f32⟩ : BufTy).Contents (Elt Ideal)) (x1 : (⟨Cert.RefInIdeal.S8192x1024, .f32⟩ : BufTy).Contents (Elt Ideal))
    (x2 : (⟨Cert.RefInIdeal.S1x1024, .f32⟩ : BufTy).Contents (Elt Ideal)) (x3 : (⟨Cert.RefInIdeal.S1x1024x6144, .f32⟩ : BufTy).Contents (Elt Ideal))
    (x4 : (⟨Cert.RefInIdeal.S1x6144, .f32⟩ : BufTy).Contents (Elt Ideal)) (x5 : (⟨Cert.RefInIdeal.S1x1024, .f32⟩ : BufTy).Contents (Elt Ideal))
    (p : Fin 4) (k : Fin 1024) (j : Fin 1408) :
    val_main_v34 (F := Ideal) x0 x1 x2 x3 x4 x5 (ix3 p k j) = ∑ n : Fin 8192, x0 (ix2 n ⟨p.val * 1408 + j.val, by omega⟩)
      * h2 (shiftOf (condVec (fun k => x2 (ix2 0 k)) (fun k j => x3 (ix3 0 k j)) fun j => x4 (ix2 0 j)))
          (scaleOf (condVec (fun k => x2 (ix2 0 k)) (fun k j => x3 (ix3 0 k j)) fun j => x4 (ix2 0 j)))
          (fun k => x5 (ix2 0 k)) (fun k => x1 (ix2 n k)) k := by
  have hp := p.isLt
  have hk := k.isLt
  have hj := j.isLt
  rw [val_main_v34_apply, val_main_v33_apply, val_main_v32_apply, val_main_v31_apply, val_main_v30_apply]
  have hi : ((k.val * 4 + p.val) * 1408 + j.val) % 5632 = p.val * 1408 + j.val := by omega
  have hr : ((k.val * 4 + p.val) * 1408 + j.val) / 5632 = k.val := by omega
  refine Finset.sum_congr rfl fun n _ => congrArg₂ (· * ·) (congrArg x0 (Shape.idx_ext₂ rfl hi)) ?_
  have hix : ridx_main_v30 (idx_main_v31 (idx_main_v32 (idx_main_v33 (ix3 p k j)))) n = ix2 n k := Shape.idx_ext₂ rfl hr
  rw [hix]
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_call0_v5, val_main_call0_v4, val_main_call0_v3, val_main_call0_v2, val_main_call0_v1, val_main_call0_v0, val_main_call0_cst, val_main_call0_cst_0]
  rfl

variable (m : (ℓ : Loc Cert.GradInIdeal.nD Cert.GradInIdeal.τ Cert.GradInIdeal.sig) → Buf (Elt Ideal) ℓ) (c : Dev Cert.GradInIdeal.nD)

/-- The kernel's array is the reference's result. -/
theorem arr2_ref : (Cert.GradInIdeal.Gen.dats m 0 c).arrAt 2 Cert.GradInIdeal.cfg0.N = val_main_v34 (F := Ideal) (m ((c.tc : Thread Cert.GradInIdeal.nD Cert.GradInIdeal.τ).loc Cert.GradInIdeal.main_arg0)) (m ((c.tc : Thread Cert.GradInIdeal.nD Cert.GradInIdeal.τ).loc Cert.GradInIdeal.main_arg1)) (m ((c.tc : Thread Cert.GradInIdeal.nD Cert.GradInIdeal.τ).loc Cert.GradInIdeal.main_arg2)) (m ((c.tc : Thread Cert.GradInIdeal.nD Cert.GradInIdeal.τ).loc Cert.GradInIdeal.main_arg3)) (m ((c.tc : Thread Cert.GradInIdeal.nD Cert.GradInIdeal.τ).loc Cert.GradInIdeal.main_arg4)) (m ((c.tc : Thread Cert.GradInIdeal.nD Cert.GradInIdeal.τ).loc Cert.GradInIdeal.main_arg5)) := by
  rw [arr2]
  funext y
  obtain ⟨p, k, j, rfl⟩ : ∃ (p : Fin 4) (k : Fin 1024) (j : Fin 1408), y = ix3 p k j := ⟨y 0, y 1, y 2, (ix3_eta y).symm⟩
  rw [ref_at]
  refine Finset.sum_congr rfl fun n _ => ?_
  exact (congrArg₂ (· * ·) (hA_eq m c n k) (dA_eq m c n _)).trans (mul_comm _ _)

/-- The algebraic claim: from memories that agree on the arguments both programs end with the same gradient. -/
theorem algebraic : Cert.algebraic_GradInIdeal_RefInIdeal := by
  intro m g m' g' hm hag
  refine ⟨fun c => (Cert.GradInIdeal.Gen.dats m 0 c).arrAt 2 Cert.GradInIdeal.cfg0.N, Cert.GradInIdeal.Value.run_blocks m g,
    (θ_run _ _ _).mono (fun r h c => ?_) (Cert.RefInIdeal.Value.run m' g')⟩
  obtain ⟨a0, a1, a2, a3, a4, a5, -⟩ := hag c
  obtain ⟨r0, rest⟩ := h c
  refine ⟨r0.trans ?_, rest⟩
  rw [Cert.RefInIdeal.Read.val_main_v34_eq, a0, a1, a2, a3, a4, a5]; exact (arr2_ref m c).symm

end Cert.GradInIdeal.Pt

end
-- ==== Proof.OutKernel.lean ====
module

public import proofs.«01_k».proof.Proof.Gen.GradOutIdeal.Value
public import proofs.«01_k».proof.Proof.Forward
public import Idealize.ShloMosaic.Lib.Pointwise
public import Idealize.ShloMosaic.Lib.Pipeline.ValueKit
public import Idealize.ShloMosaic.Lib.Pipeline.ReadBack
public import Idealize.ShloMosaic.Lib.WritesUnit
public import Idealize.ShloMosaic.Lib.Claim
public import Idealize.ShloMosaic.Lib.StableHlo.ReadAt

@[expose] public section

set_option maxRecDepth 16384

/-! # The gradients of the down projection and of the gate, as the kernel computes them

The grid is two pieces of 1408 rows of the projection times four tiles of 2048 tokens. For each piece the kernel sums the tiles' products in
an accumulator; at the last tile it writes the accumulator times the gate, and adds the column sums of the accumulator times the projection
to the first row of a second output, which it clears before the first piece. -/

noncomputable section

namespace Cert.GradOutIdeal.Pt

open Cert.GradOutIdeal Cert.GradOutIdeal.Gen Idealize.ShloMosaic Idealize.ShloMosaic.TcCoe Idealize.SL.Sem Cert.FfnBwd

section
variable (c : Dev nD) (i : grid0.Coords) (arg3 : Memref sig .tc .vmem S2048x1408 .bf16) (harg3 : arg3.IsWhole) (arg4 : Memref sig .tc .vmem S2048x1024 .f32) (harg4 : arg4.IsWhole) (arg5 : Memref sig .tc .vmem S1x1024 .f32) (harg5 : arg5.IsWhole) (arg6 : Memref sig .tc .vmem S1408x1024 .bf16) (harg6 : arg6.IsWhole) (arg7 : Memref sig .tc .vmem S1408x1024 .bf16) (harg7 : arg7.IsWhole) (arg8 : Memref sig .tc .vmem S8x1024 .f32) (harg8 : arg8.IsWhole) (arg9 : Memref sig .tc .vmem S1408x1024 .f32) (harg9 : arg9.IsWhole)
  (x0 : Vec Ideal S2048x1408 .bf16) (x1 : Vec Ideal S2048x1024 .f32) (x2 : Vec Ideal S1x1024 .f32) (x3 : Vec Ideal S1408x1024 .bf16)
  (xo5 : Vec Ideal S8x1024 .f32) (xs0 : Vec Ideal S1408x1024 .f32)

/-- One tile's product: the sum over its 2048 rows. -/
def tile (k : Fin 1408) (d : Fin 1024) : EReal := ∑ r : Fin 2048, x0 (ix2 r k) * x1 (ix2 r d)

/-- The first tile leaves its product in the accumulator. -/
theorem sout_A (hc0 : cond0_0 i) (hc1 : ¬cond0_1 i) (hc2 : ¬cond0_2 i) (k : Fin 1408) (d : Fin 1024) :
    sout0_A_0 c i arg3 harg3 arg4 harg4 arg5 harg5 arg6 harg6 arg7 harg7 arg8 harg8 arg9 harg9 hc0 hc1 hc2 x0 x1 x2 x3 (ix2 k d) = tile x0 x1 k d := by
  unfold sout0_A_0 kernelRun0_A; dsimp only; sl_unfold_words
  simp only [View.readAt_eq_ld, harg3.read_unread, harg4.read_unread]
  rw [View.read_writes_junk_eq_canon, View.canon_cons_unit_lit _ _ _ (by decide)]
  pointwise [k0_pay2, k0_pay1, tile]

/-- A middle tile adds its product. -/
theorem sout_B (hc0 : ¬cond0_0 i) (hc1 : cond0_1 i) (hc2 : ¬cond0_2 i) (k : Fin 1408) (d : Fin 1024) :
    sout0_B_0 c i arg3 harg3 arg4 harg4 arg5 harg5 arg6 harg6 arg7 harg7 arg8 harg8 arg9 harg9 hc0 hc1 hc2 x0 x1 x2 x3 xs0 (ix2 k d) = xs0 (ix2 k d) + tile x0 x1 k d := by
  unfold sout0_B_0 kernelRun0_B; dsimp only; sl_unfold_words
  simp only [View.readAt_eq_ld, harg3.read_unread, harg4.read_unread, harg9.read_unread]
  rw [View.read_writes_junk_eq_canon, View.canon_cons_unit_lit _ _ _ (by decide)]
  pointwise [k0_pay3, k0_pay1, tile]

/-- The last tile of the first piece adds its product. -/
theorem sout_C (hc0 : ¬cond0_0 i) (hc1 : cond0_1 i) (hc2 : cond0_2 i) (hc3 : cond0_3 i) (k : Fin 1408) (d : Fin 1024) :
    sout0_C_0 c i arg3 harg3 arg4 harg4 arg5 harg5 arg6 harg6 arg7 harg7 arg8 harg8 arg9 harg9 hc0 hc1 hc2 hc3 x0 x1 x2 x3 xs0 (ix2 k d) = xs0 (ix2 k d) + tile x0 x1 k d := by
  unfold sout0_C_0 kernelRun0_C; dsimp only; sl_unfold_words
  simp only [View.readAt_eq_ld, harg3.read_unread, harg4.read_unread, harg9.read_unread]
  rw [View.read_writes_junk_eq_canon, View.canon_cons_unit_lit _ _ _ (by decide)]
  pointwise [k0_pay3, k0_pay1, tile]

/-- It writes the accumulator times the gate. -/
theorem out4_C (hc0 : ¬cond0_0 i) (hc1 : cond0_1 i) (hc2 : cond0_2 i) (hc3 : cond0_3 i) (k : Fin 1408) (d : Fin 1024) :
    out0_C_4 c i arg3 harg3 arg4 harg4 arg5 harg5 arg6 harg6 arg7 harg7 arg8 harg8 arg9 harg9 hc0 hc1 hc2 hc3 x0 x1 x2 x3 xs0 (ix2 k d) = (xs0 (ix2 k d) + tile x0 x1 k d) * x2 (ix2 0 d) := by
  unfold out0_C_4 kernelRun0_C; dsimp only; sl_unfold_words
  simp (disch := decide) only [↓ View.readCov_skip, ↓ View.readCov_cons_toLoadRect, ↓ View.readCov_fill]
  simp only [View.readAt_eq_ld, harg3.read_unread, harg4.read_unread, harg5.read_unread, harg9.read_unread]
  rw [View.read_writes_junk_eq_canon, View.canon_cons_unit_lit _ _ _ (by decide)]
  pointwise [k0_pay6, k0_pay3, k0_pay1, tile]

/-- The last tile of the second piece adds its product. -/
theorem sout_D (hc0 : ¬cond0_0 i) (hc1 : cond0_1 i) (hc2 : cond0_2 i) (hc3 : ¬cond0_3 i) (k : Fin 1408) (d : Fin 1024) :
    sout0_D_0 c i arg3 harg3 arg4 harg4 arg5 harg5 arg6 harg6 arg7 harg7 arg8 harg8 arg9 harg9 hc0 hc1 hc2 hc3 x0 x1 x2 x3 xo5 xs0 (ix2 k d) = xs0 (ix2 k d) + tile x0 x1 k d := by
  unfold sout0_D_0 kernelRun0_D; dsimp only; sl_unfold_words
  simp only [View.readAt_eq_ld, harg3.read_unread, harg4.read_unread, harg9.read_unread]
  rw [View.read_writes_junk_eq_canon, View.canon_cons_unit_lit _ _ _ (by decide)]
  pointwise [k0_pay3, k0_pay1, tile]

/-- It writes the accumulator times the gate. -/
theorem out4_D (hc0 : ¬cond0_0 i) (hc1 : cond0_1 i) (hc2 : cond0_2 i) (hc3 : ¬cond0_3 i) (k : Fin 1408) (d : Fin 1024) :
    out0_D_4 c i arg3 harg3 arg4 harg4 arg5 harg5 arg6 harg6 arg7 harg7 arg8 harg8 arg9 harg9 hc0 hc1 hc2 hc3 x0 x1 x2 x3 xo5 xs0 (ix2 k d) = (xs0 (ix2 k d) + tile x0 x1 k d) * x2 (ix2 0 d) := by
  unfold out0_D_4 kernelRun0_D; dsimp only; sl_unfold_words
  simp (disch := decide) only [↓ View.readCov_skip, ↓ View.readCov_cons_toLoadRect, ↓ View.readCov_fill]
  simp only [View.readAt_eq_ld, harg3.read_unread, harg4.read_unread, harg5.read_unread, harg9.read_unread]
  rw [View.read_writes_junk_eq_canon, View.canon_cons_unit_lit _ _ _ (by decide)]
  pointwise [k0_pay6, k0_pay3, k0_pay1, tile]

/-- The column sums of the accumulator times the projection's piece. -/
def colsum (d : Fin 1024) : EReal := ∑ k : Fin 1408, (xs0 (ix2 k d) + tile x0 x1 k d) * x3 (ix2 k d)

/-- A store of row 0 over `L`: row 0 is read back, the other rows are `L`'s. -/
theorem row_read {sg : RefSig} {κ : Kind} {sp : Space} (v : View sg κ sp S8x1024 .f32) (f : v.ty.Contents (Elt Ideal)) {b0}
    (w0 : (Rect.unit (s := S8x1024) ![0, 0] ![1, 1024] b0).shape.Idx → Elt Ideal .f32) (L : List (View.Piece (Elt Ideal) S8x1024 .f32))
    (y : S8x1024.Idx) (G : EReal) (h0 : (y 0).val = 0 → w0 (ix2 0 (y 1)) = G)
    (h1 : 1 ≤ (y 0).val → v.read (Elt Ideal) (v.writes (Elt Ideal) f L) y = G) :
    v.read (Elt Ideal) (v.writes (Elt Ideal) f (⟨_, w0⟩ :: L)) y = G := by
  by_cases h : (y 0).val = 0
  · rw [View.read_writes_cons_rows_of_mem v f b0 w0 _ y (ix2 0 (y 1)) rfl h rfl]
    exact h0 h
  · rw [View.read_writes_cons_rows_of_not_mem (W := 1) v f b0 w0 _ y rfl rfl (by omega)]
    exact h1 (by omega)

/-- After the first piece the second output's first row is the piece's column sums and the rest is zero. -/
theorem out5_C (hc0 : ¬cond0_0 i) (hc1 : cond0_1 i) (hc2 : cond0_2 i) (hc3 : cond0_3 i) (a : Fin 8) (d : Fin 1024) :
    out0_C_5 c i arg3 harg3 arg4 harg4 arg5 harg5 arg6 harg6 arg7 harg7 arg8 harg8 arg9 harg9 hc0 hc1 hc2 hc3 x0 x1 x2 x3 xs0 (ix2 a d) = if a.val = 0 then colsum x0 x1 x3 xs0 d else 0 := by
  unfold out0_C_5 kernelRun0_C; dsimp only; sl_unfold_words
  simp (disch := decide) only [↓ View.readCov_skip, ↓ View.readCov_cons_toLoadRect, ↓ View.readCov_fill]
  simp only [View.readAt_eq_ld, harg3.read_unread, harg4.read_unread, harg6.read_unread, harg9.read_unread]
  refine row_read _ _ _ _ _ _ (fun h => ?_) fun h => ?_
  · obtain rfl : a = 0 := Fin.ext h
    pointwise [k0_pay5, k0_pay4, k0_pay3, k0_pay1, tile, colsum]
  · rw [View.read_writes_junk_eq_canon, View.canon_cons_unit_lit _ _ _ (by decide), if_neg (by have h : 1 ≤ a.val := h; omega)]
    pointwise [k0_pay4]

/-- The second piece adds its column sums to the first row. -/
theorem out5_D (hc0 : ¬cond0_0 i) (hc1 : cond0_1 i) (hc2 : cond0_2 i) (hc3 : ¬cond0_3 i) (a : Fin 8) (d : Fin 1024) :
    out0_D_5 c i arg3 harg3 arg4 harg4 arg5 harg5 arg6 harg6 arg7 harg7 arg8 harg8 arg9 harg9 hc0 hc1 hc2 hc3 x0 x1 x2 x3 xo5 xs0 (ix2 a d) = if a.val = 0 then xo5 (ix2 0 d) + colsum x0 x1 x3 xs0 d else xo5 (ix2 a d) := by
  unfold out0_D_5 kernelRun0_D; dsimp only; sl_unfold_words
  simp (disch := decide) only [↓ View.readCov_skip, ↓ View.readCov_cons_toLoadRect, ↓ View.readCov_fill]
  simp only [View.readAt_eq_ld, harg3.read_unread, harg4.read_unread, harg6.read_unread, harg8.read_unread, harg9.read_unread]
  refine row_read _ _ _ _ _ _ (fun h => ?_) fun h => ?_
  · obtain rfl : a = 0 := Fin.ext h
    pointwise [k0_pay5, k0_pay3, k0_pay1, tile, colsum]
  · rw [if_neg (by have h : 1 ≤ a.val := h; omega)]
    exact congrFun (harg8.read_unread xo5) _
end

variable (m : (ℓ : Loc nD τ sig) → Buf (Elt Ideal) ℓ)

theorem idx0 : ∀ t : Fin grid0.N, win0_0.index t = ![t.val % 4, t.val / 4] := by decide +kernel
theorem idx1 : ∀ t : Fin grid0.N, win0_1.index t = ![t.val % 4, 0] := by decide +kernel
theorem idx2 : ∀ t : Fin grid0.N, win0_2.index t = ![0, 0] := by decide +kernel
theorem idx3 : ∀ t : Fin grid0.N, win0_3.index t = ![t.val / 4, 0] := by decide +kernel
theorem idx4 : ∀ t : Fin grid0.N, win0_4.index t = ![t.val / 4, 0] := by decide +kernel
theorem idx5 : ∀ t : Fin grid0.N, win0_5.index t = ![0, 0] := by decide +kernel

theorem iblk0 (c : Dev nD) (t : Fin cfg0.N) (r : Fin 2048) (k : Fin 1408) (n : Fin 8192) (j : Fin 2816) (h : n.val = t.val % 4 * 2048 + r.val)
    (h' : j.val = t.val / 4 * 1408 + k.val) : iblk m c 0 t (ix2 r k) = V m c main_v34 (ix2 n j) := by
  unfold iblk; blk_simp
  refine congrArg (V m c main_v34) (Shape.idx_ext₂ ?_ ?_) <;> blk_simp [idx0, h, h']
theorem iblk1 (c : Dev nD) (t : Fin cfg0.N) (r : Fin 2048) (d : Fin 1024) (n : Fin 8192) (h : n.val = t.val % 4 * 2048 + r.val) :
    iblk m c 1 t (ix2 r d) = V m c main_arg0 (ix2 n d) := by
  unfold iblk; blk_simp
  refine congrArg (V m c main_arg0) (Shape.idx_ext₂ ?_ ?_) <;> blk_simp [idx1, h]
theorem iblk2 (c : Dev nD) (t : Fin cfg0.N) (d : Fin 1024) : iblk m c 2 t (ix2 0 d) = V m c main_v35 (ix2 0 d) := by
  unfold iblk; blk_simp
  refine congrArg (V m c main_v35) (Shape.idx_ext₂ ?_ ?_) <;> blk_simp [idx2]
theorem iblk3 (c : Dev nD) (t : Fin cfg0.N) (k : Fin 1408) (d : Fin 1024) (j : Fin 2816) (h' : j.val = t.val / 4 * 1408 + k.val) :
    iblk m c 3 t (ix2 k d) = V m c main_v37 (ix2 j d) := by
  unfold iblk; blk_simp
  refine congrArg (V m c main_v37) (Shape.idx_ext₂ ?_ ?_) <;> blk_simp [idx3, h']

/-- The gated activation's rows, the incoming gradient's, the gate and the projection, as the kernel reads them. -/
def aA (c : Dev nD) (n : Fin 8192) (j : Fin 2816) : EReal := V m c main_v34 (ix2 n j)
def dA (c : Dev nD) (n : Fin 8192) (d : Fin 1024) : EReal := V m c main_arg0 (ix2 n d)
def gA (c : Dev nD) (d : Fin 1024) : EReal := V m c main_v35 (ix2 0 d)
def wA (c : Dev nD) (j : Fin 2816) (d : Fin 1024) : EReal := V m c main_v37 (ix2 j d)

/-- The accumulator after the first tile of a piece. -/
theorem acc_first (c : Dev nD) (k : Fin 1408) (d : Fin 1024) (t : Fin cfg0.N) (h : t.val % 4 = 0) :
    (outsAt0 m c t.val t.isLt).2.2 (ix2 k d) = 0 + tile (iblk m c 0 t) (iblk m c 1 t) k d := by
  rw [outsAt0_A m c t h (by omega) (by omega), zero_add]; dsimp only
  exact sout_A ..

/-- The accumulator after a later tile. -/
theorem acc_next (c : Dev nD) (k : Fin 1408) (d : Fin 1024) (t : Fin cfg0.N) (h : ¬t.val % 4 = 0) :
    (outsAt0 m c t.val t.isLt).2.2 (ix2 k d)
      = (outsAt0 m c (t.val - 1) (Nat.lt_of_le_of_lt (Nat.sub_le _ _) t.isLt)).2.2 (ix2 k d) + tile (iblk m c 0 t) (iblk m c 1 t) k d := by
  by_cases h2 : t.val % 4 = 3
  · by_cases h3 : t.val % 8 = 3
    · rw [outsAt0_C m c t h (by omega) h2 h3]; dsimp only
      exact sout_C ..
    · rw [outsAt0_D m c t h (by omega) h2 h3]; dsimp only
      exact sout_D ..
  · rw [outsAt0_B m c t h (by omega) h2]; dsimp only
    exact sout_B ..

/-- The accumulator at the last tile of a piece: the sum over all 8192 rows. -/
theorem acc_last (c : Dev nD) (k : Fin 1408) (d : Fin 1024) (t : Fin cfg0.N) (h : t.val % 4 = 3) (j : Fin 2816) (h' : j.val = t.val / 4 * 1408 + k.val) :
    (outsAt0 m c t.val t.isLt).2.2 (ix2 k d) = ∑ n : Fin 8192, aA m c n j * dA m c n d := by
  have hstep := Pipeline.eq_sum_fin_of_reset_step_of_flush (N := cfg0.N) (fun n h => (outsAt0 m c n h).2.2 (ix2 k d)) 4 (0 : EReal)
    (fun t => tile (iblk m c 0 t) (iblk m c 1 t) k d) (acc_first m c k d) (acc_next m c k d) t h
  refine hstep.trans ?_
  rw [zero_add]
  refine Eq.trans ?_ (Fin.sum_univ_tiles 4 2048 rfl _).symm
  refine Finset.sum_congr rfl fun s _ => Finset.sum_congr rfl fun r _ => ?_
  have hs : (4 * (t.val / 4) + s.val) % 4 = s.val := by omega
  have hd : (4 * (t.val / 4) + s.val) / 4 = t.val / 4 := by omega
  exact congrArg₂ (· * ·) (iblk0 m c _ r k _ j (by rw [hs]) (by rw [hd]; exact h')) (iblk1 m c _ r d _ (by rw [hs]))

/-- What is written out is the accumulator times the gate. -/
theorem out4_last (c : Dev nD) (k : Fin 1408) (d : Fin 1024) (t : Fin cfg0.N) (h : t.val % 4 = 3) (j : Fin 2816) (h' : j.val = t.val / 4 * 1408 + k.val) :
    (outsAt0 m c t.val t.isLt).1 (ix2 k d) = (∑ n : Fin 8192, aA m c n j * dA m c n d) * gA m c d := by
  rw [← acc_last m c k d t h j h', acc_next m c k d t (by omega)]
  rw [show gA m c d = iblk m c 2 t (ix2 0 d) from (iblk2 m c t d).symm]
  by_cases h3 : t.val % 8 = 3
  · rw [outsAt0_C m c t (by omega) (by omega) h h3]; dsimp only
    exact out4_C ..
  · rw [outsAt0_D m c t (by omega) (by omega) h h3]; dsimp only
    exact out4_D ..

/-- The column sums a piece adds, over its 1408 rows of the projection. -/
theorem colsum_last (c : Dev nD) (d : Fin 1024) (t : Fin cfg0.N) (h : t.val % 4 = 3) (J : Fin 1408 → Fin 2816) (h' : ∀ k, (J k).val = t.val / 4 * 1408 + k.val) :
    colsum (iblk m c 0 t) (iblk m c 1 t) (iblk m c 3 t) (outsAt0 m c (t.val - 1) (Nat.lt_of_le_of_lt (Nat.sub_le _ _) t.isLt)).2.2 d
      = ∑ k, (∑ n : Fin 8192, aA m c n (J k) * dA m c n d) * wA m c (J k) d := by
  refine Finset.sum_congr rfl fun k _ => ?_
  exact congrArg₂ (· * ·) ((acc_next m c k d t (by omega)).symm.trans (acc_last m c k d t h (J k) (h' k))) (iblk3 m c t k d (J k) (h' k))

/-- A tile that is not a piece's last leaves the second output as it was. -/
theorem out5_idle (c : Dev nD) (t : Fin cfg0.N) (h : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) h]; rfl
  · rw [outsAt0_B m c t h0 (by omega) h]; rfl

/-- The second output after the run. -/
theorem out5_last (c : Dev nD) (a : Fin 8) (d : Fin 1024) :
    (outsAt0 m c t0_7.val t0_7.isLt).2.1 (ix2 a d) = if a.val = 0 then ∑ j : Fin 2816, (∑ n : Fin 8192, aA m c n j * dA m c n d) * wA m c j d else 0 := by
  have e3 : ∀ a, (outsAt0 m c t0_3.val t0_3.isLt).2.1 (ix2 a d) = if a.val = 0 then colsum (iblk m c 0 t0_3) (iblk m c 1 t0_3) (iblk m c 3 t0_3) (outsAt0 m c (t0_3.val - 1) (Nat.lt_of_le_of_lt (Nat.sub_le _ _) t0_3.isLt)).2.2 d else 0 := by
    intro a
    rw [outsAt0_C m c t0_3 (by decide) (by decide) (by decide) (by decide)]; dsimp only
    exact out5_C ..
  have e6 : (outsAt0 m c (t0_7.val - 1) (Nat.lt_of_le_of_lt (Nat.sub_le _ _) t0_7.isLt)).2.1 = (outsAt0 m c t0_3.val t0_3.isLt).2.1 :=
    (out5_idle m c t0_6 (by decide)).trans ((out5_idle m c t0_5 (by decide)).trans (out5_idle m c t0_4 (by decide)))
  rw [outsAt0_D m c t0_7 (by decide) (by decide) (by decide) (by decide)]; dsimp only
  refine (out5_D ..).trans ?_
  rw [e6, e3, e3]
  by_cases h : a.val = 0
  · rw [if_pos h, if_pos h, if_pos (by rfl), colsum_last m c d t0_3 (by decide) (fun k => ⟨k.val, by omega⟩) (fun k => by show k.val = 3 / 4 * 1408 + k.val; omega),
      colsum_last m c d t0_7 (by decide) (fun k => ⟨1408 + k.val, by omega⟩) (fun k => by show 1408 + k.val = 7 / 4 * 1408 + k.val; omega)]
    exact (Fin.sum_univ_two_halves 1408 1408 rfl fun j : Fin 2816 => (∑ n : Fin 8192, aA m c n j * dA m c n d) * wA m c j d).symm
  · rw [if_neg h, if_neg h, if_neg h]

/-- The projection's gradient after the run. -/
theorem arr4 (c : Dev nD) : (dats m 0 c).arrAt 4 cfg0.N
    = fun y : S2816x1024.Idx => (∑ n : Fin 8192, aA m c n (y 0) * dA m c n (y 1)) * gA m c (y 1) := by
  refine (dats m 0 c).arrAt_eq_of_covers 4 _ (by decide +kernel) fun t hf y => ?_
  have h3 : t.val % 4 = 3 := (flush0_4 t).mp hf
  blk_simp
  rw [after0_4]
  obtain ⟨k, d, rfl⟩ : ∃ (k : Fin 1408) (d : Fin 1024), y = ix2 k d := ⟨y 0, y 1, (ix2_eta y).symm⟩
  refine (out4_last m c k d t h3 ⟨t.val / 4 * 1408 + k.val, by have : t.val < 8 := lt_of_lt_of_eq t.isLt (show cfg0.N = 8 from N_0); omega⟩ rfl).trans ?_
  refine congrArg₂ (· * ·) (Finset.sum_congr rfl fun n _ => congrArg₂ (· * ·) (congrArg (aA m c n) (Fin.ext ?_)) (congrArg (dA m c n) (Fin.ext ?_))) (congrArg (gA m c) (Fin.ext ?_)) <;> blk_simp [idx4]

/-- The gate's gradient after the run: its first row, with zeros below. -/
theorem arr5 (c : Dev nD) : (dats m 0 c).arrAt 5 cfg0.N
    = fun y : S8x1024.Idx => if (y 0).val = 0 then ∑ j : Fin 2816, (∑ n : Fin 8192, aA m c n j * dA m c n (y 1)) * wA m c j (y 1) else 0 := by
  refine (dats m 0 c).arrAt_eq_of_after_last 5 t0_7 (by decide +kernel) _ fun y => ?_
  blk_simp
  rw [after0_5]
  obtain ⟨a, d, rfl⟩ : ∃ (a : Fin 8) (d : Fin 1024), y = ix2 a d := ⟨y 0, y 1, (ix2_eta y).symm⟩
  refine (out5_last m c a d).trans ?_
  rfl

theorem dA_eq (c : Dev nD) (n : Fin 8192) (d : Fin 1024) : dA m c n d = m ((c : Thread nD τ).loc main_arg0) (ix2 n d) := by unfold dA; rw [V_main_arg0]

/-- The projection in the program's arguments. -/
theorem wA_eq (c : Dev nD) (j : Fin 2816) (d : Fin 1024) : wA m c j d = m ((c : Thread nD τ).loc main_arg7) (ix3 0 j d) := by
  unfold wA V
  simp only [hostOps0, hostOps0_1, hostOps0_2, hostOps0_3, List.flatten_cons, List.flatten_nil, List.append_nil, List.cons_append, List.nil_append]
  after_reads_at

/-- The conditioning vector in the program's arguments. -/
def condI (c : Dev nD) : Fin 6144 → EReal :=
  condVec (fun k => m ((c : Thread nD τ).loc main_arg2) (ix2 0 k)) (fun k j => m ((c : Thread nD τ).loc main_arg3) (ix3 0 k j)) fun j => m ((c : Thread nD τ).loc main_arg4) (ix2 0 j)

/-- The gate in the program's arguments. -/
theorem gA_eq (c : Dev nD) (d : Fin 1024) : gA m c d = gateOf (condI m c) d := by
  unfold gA V
  simp only [hostOps0, hostOps0_1, hostOps0_2, hostOps0_3, List.flatten_cons, List.flatten_nil, List.append_nil, List.cons_append, List.nil_append]
  after_reads_at
  rfl

/-- The gated activation in the program's arguments. -/
theorem aA_eq (c : Dev nD) (n : Fin 8192) (j : Fin 2816) : aA m c n j
    = act (ff (shiftOf (condI m c)) (scaleOf (condI m c)) (fun k => m ((c : Thread nD τ).loc main_arg5) (ix2 0 k)) (fun k => m ((c : Thread nD τ).loc main_arg1) (ix2 n k)) fun k j => m ((c : Thread nD τ).loc main_arg6) (ix3 0 k j)) j := by
  unfold aA V
  simp only [hostOps0, hostOps0_1, hostOps0_2, hostOps0_3, List.flatten_cons, List.flatten_nil, List.append_nil, List.cons_append, List.nil_append]
  after_reads_at
  rfl

end Cert.GradOutIdeal.Pt

end
-- ==== Proof.OutAgree.lean ====
module

public import proofs.«01_k».proof.Defs
public import proofs.«01_k».proof.Proof.OutKernel
public import proofs.«01_k».proof.Proof.Agree
public import proofs.«01_k».proof.Proof.Gen.Pre_out_finite
public import proofs.«01_k».proof.Proof.Gen.RefOutIdeal.Run
public import proofs.«01_k».proof.Proof.Gen.RefOutIdeal.Read

@[expose] public section

set_option maxRecDepth 16384

/-! # The gradients of the down projection and of the gate are the reference's

The reference multiplies the incoming gradient by the gate before the product with the activation, and sums the gate's gradient over the
tokens last. Between finite entries both orders give the same sums. -/

noncomputable section

namespace Cert.GradOutIdeal.Pt

open Idealize.ShloMosaic Idealize.ShloMosaic.TcCoe Idealize.SL.Sem Cert.FfnBwd Cert.RefOutIdeal.Read Cert.ReferenceIdeal.Rd

/-- The gate multiplies each term or the whole sum. -/
theorem gated_sum {a d : Fin 8192 → EReal} {g : EReal} (ha : ∀ n, IsR (a n)) (hd : ∀ n, IsR (d n)) (hg : IsR g) :
    (∑ n, a n * d n) * g = ∑ n, g * d n * a n := by
  obtain ⟨g, rfl⟩ := hg
  choose a' ha using ha
  choose d' hd using hd
  simp only [ha, hd, ← EReal.coe_mul, coe_sum]
  rw [Finset.sum_mul]
  exact congrArg _ (Finset.sum_congr rfl fun n _ => by ring)

/-- The gate's gradient sums over the tokens first or last. -/
theorem swapped_sum {a : Fin 8192 → Fin 2816 → EReal} {d : Fin 8192 → EReal} {w : Fin 2816 → EReal} (ha : ∀ n j, IsR (a n j))
    (hd : ∀ n, IsR (d n)) (hw : ∀ j, IsR (w j)) : ∑ j, (∑ n, a n j * d n) * w j = ∑ n, d n * ∑ j, a n j * w j := by
  choose a' ha using ha
  choose d' hd using hd
  choose w' hw using hw
  simp only [ha, hd, hw, ← EReal.coe_mul, coe_sum]
  refine congrArg _ ?_
  simp only [Finset.sum_mul, Finset.mul_sum]
  rw [Finset.sum_comm]
  exact Finset.sum_congr rfl fun n _ => Finset.sum_congr rfl fun j _ => by ring

theorem isR_act {v : Fin 5632 → EReal} (hv : ∀ j, IsR (v j)) (j : Fin 2816) : IsR (act v j) := by
  unfold act
  rw [sigm_neg]
  exact ((hv _).mul (hv _).sigm).mul (hv _)

section
variable (x0 x1 : (⟨Cert.RefOutIdeal.S8192x1024, .f32⟩ : BufTy).Contents (Elt Ideal)) (x2 : (⟨Cert.RefOutIdeal.S1x1024, .f32⟩ : BufTy).Contents (Elt Ideal))
  (x3 : (⟨Cert.RefOutIdeal.S1x1024x6144, .f32⟩ : BufTy).Contents (Elt Ideal)) (x4 : (⟨Cert.RefOutIdeal.S1x6144, .f32⟩ : BufTy).Contents (Elt Ideal))
  (x5 : (⟨Cert.RefOutIdeal.S1x1024, .f32⟩ : BufTy).Contents (Elt Ideal)) (x6 : (⟨Cert.RefOutIdeal.S1x1024x5632, .f32⟩ : BufTy).Contents (Elt Ideal))
  (x7 : (⟨Cert.RefOutIdeal.S1x2816x1024, .f32⟩ : BufTy).Contents (Elt Ideal))

/-- The modulated normalised rows. -/
theorem ref_h (n : Fin 8192) (k : Fin 1024) : val_main_v28 (F := Ideal) x1 x2 x3 x4 x5 (ix2 n k)
    = h2 (shiftOf (condR x2 x3 x4)) (scaleOf (condR x2 x3 x4)) (fun k => x5 (ix2 0 k)) (fun k => x1 (ix2 n k)) k := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_call0_v5, val_main_call0_v4, val_main_call0_v3, val_main_call0_v2, val_main_call0_v1, val_main_call0_v0, val_main_call0_cst, val_main_call0_cst_0]
  rfl

/-- The gated activation. -/
theorem ref_act (n : Fin 8192) (j : Fin 2816) : val_main_v35 (F := Ideal) x1 x2 x3 x4 x5 x6 (ix2 n j) = act (ffR x1 x2 x3 x4 x5 x6 n) j := by
  pointwise [val_main_v35, val_main_v34, val_main_v33, val_main_v32, val_main_v31, val_main_v30, val_main_v29, val_main_call1_v5, val_main_call1_v4, val_main_call1_v3, val_main_call1_v2, val_main_call1_v1, val_main_call1_v0, val_main_call1_cst, val_main_call1_cst_0]
  simp only [ref_h]
  rfl

/-- The reference's gradient of the down projection. -/
theorem ref47 (j : Fin 2816) (d : Fin 1024) : val_main_v47 (F := Ideal) x0 x1 x2 x3 x4 x5 x6 (ix2 j d)
    = ∑ n, gateOf (condR x2 x3 x4) d * x0 (ix2 n d) * act (ffR x1 x2 x3 x4 x5 x6 n) j := by
  pointwise [val_main_v47, val_main_v46, val_main_v45]
  refine Finset.sum_congr rfl fun n _ => congrArg₂ (· * ·) ?_ (ref_act x1 x2 x3 x4 x5 x6 n j)
  pointwise [val_main_v41, val_main_v40, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_call0_v5, val_main_call0_v4, val_main_call0_v3, val_main_call0_v2, val_main_call0_v1, val_main_call0_v0, val_main_call0_cst, val_main_call0_cst_0]
  rfl

/-- The reference's gradient of the gate, over seven rows of zeros. -/
theorem ref49 (a : Fin 8) (d : Fin 1024) : val_main_v49 (F := Ideal) x0 x1 x2 x3 x4 x5 x6 x7 (ix2 a d)
    = if a.val = 0 then ∑ n, x0 (ix2 n d) * ∑ j, act (ffR x1 x2 x3 x4 x5 x6 n) j * x7 (ix3 0 j d) else 0 := by
  pointwise [val_main_v49, val_main_v48, val_main_cst_4, val_main_v44, val_main_v43, val_main_cst_3, val_main_v42, val_main_v36, val_main_v31]
  simp only [ref_act]
  by_cases h : a.val = 0
  · rw [if_pos h, dif_pos (by omega)]

  · rw [if_neg h, dif_neg (by omega)]
end

variable [hP : Cert.Pre_out_finite.Facts]

/-- The precondition makes every entry the gradients read a real number. -/
theorem finite_of_pre (m : (ℓ : Loc Cert.GradOutIdeal.nD Cert.GradOutIdeal.τ Cert.GradOutIdeal.sig) → Buf (Elt Ideal) ℓ)
    (h : Cert.Pre_GradOutIdeal_out_finite m) (c : Dev Cert.GradOutIdeal.nD) : Finite (m ((c.tc : Thread Cert.GradOutIdeal.nD Cert.GradOutIdeal.τ).loc Cert.GradOutIdeal.main_arg0)) (m ((c.tc : Thread Cert.GradOutIdeal.nD Cert.GradOutIdeal.τ).loc Cert.GradOutIdeal.main_arg1)) (m ((c.tc : Thread Cert.GradOutIdeal.nD Cert.GradOutIdeal.τ).loc Cert.GradOutIdeal.main_arg2)) (m ((c.tc : Thread Cert.GradOutIdeal.nD Cert.GradOutIdeal.τ).loc Cert.GradOutIdeal.main_arg3)) (m ((c.tc : Thread Cert.GradOutIdeal.nD Cert.GradOutIdeal.τ).loc Cert.GradOutIdeal.main_arg4)) (m ((c.tc : Thread Cert.GradOutIdeal.nD Cert.GradOutIdeal.τ).loc Cert.GradOutIdeal.main_arg5)) (m ((c.tc : Thread Cert.GradOutIdeal.nD Cert.GradOutIdeal.τ).loc Cert.GradOutIdeal.main_arg6)) (m ((c.tc : Thread Cert.GradOutIdeal.nD Cert.GradOutIdeal.τ).loc Cert.GradOutIdeal.main_arg7)) := by
  obtain ⟨h0, h1, h2, h3, h4, h5, h6, h7⟩ := h c
  have h0 := fun n k => congrFun h0 (ix2 n k)
  have h1 := fun n k => congrFun h1 (ix2 n k)
  have h2 := fun k => congrFun h2 (ix2 0 k)
  have h3 := fun k j => congrFun h3 (ix3 0 k j)
  have h4 := fun j => congrFun h4 (ix2 0 j)
  have h5 := fun k => congrFun h5 (ix2 0 k)
  have h6 := fun k j => congrFun h6 (ix3 0 k j)
  have h7 := fun j k => congrFun h7 (ix3 0 j k)
  pointwise [Cert.Pre_out_finite.fn, Cert.Pre_out_finite.fn_part1] at h0
  pointwise [Cert.Pre_out_finite.fn, Cert.Pre_out_finite.fn_part1] at h1
  pointwise [Cert.Pre_out_finite.fn, Cert.Pre_out_finite.fn_part1] at h2
  pointwise [Cert.Pre_out_finite.fn, Cert.Pre_out_finite.fn_part1] at h3
  pointwise [Cert.Pre_out_finite.fn, Cert.Pre_out_finite.fn_part1] at h4
  pointwise [Cert.Pre_out_finite.fn, Cert.Pre_out_finite.fn_part1] at h5
  pointwise [Cert.Pre_out_finite.fn, Cert.Pre_out_finite.fn_part1] at h6
  pointwise [Cert.Pre_out_finite.fn, Cert.Pre_out_finite.fn_part1] at h7
  exact ⟨fun n k => isR_of_lt _ (h0 n k), fun n k => isR_of_lt _ (h1 n k), fun k => isR_of_lt _ (h2 k), fun k j => isR_of_lt _ (h3 k j), fun j => isR_of_lt _ (h4 j), fun k => isR_of_lt _ (h5 k), fun k j => isR_of_lt _ (h6 k j), fun j k => isR_of_lt _ (h7 j k)⟩

section
variable (m : (ℓ : Loc Cert.GradOutIdeal.nD Cert.GradOutIdeal.τ Cert.GradOutIdeal.sig) → Buf (Elt Ideal) ℓ) (hm : Cert.Pre_GradOutIdeal_out_finite m) (c : Dev Cert.GradOutIdeal.nD)
include hm

/-- The kernel's first array is the reference's gradient of the down projection. -/
theorem arr4_ref : (Cert.GradOutIdeal.Gen.dats m 0 c).arrAt 4 Cert.GradOutIdeal.cfg0.N = val_main_v47 (F := Ideal) (m ((c.tc : Thread Cert.GradOutIdeal.nD Cert.GradOutIdeal.τ).loc Cert.GradOutIdeal.main_arg0)) (m ((c.tc : Thread Cert.GradOutIdeal.nD Cert.GradOutIdeal.τ).loc Cert.GradOutIdeal.main_arg1)) (m ((c.tc : Thread Cert.GradOutIdeal.nD Cert.GradOutIdeal.τ).loc Cert.GradOutIdeal.main_arg2)) (m ((c.tc : Thread Cert.GradOutIdeal.nD Cert.GradOutIdeal.τ).loc Cert.GradOutIdeal.main_arg3)) (m ((c.tc : Thread Cert.GradOutIdeal.nD Cert.GradOutIdeal.τ).loc Cert.GradOutIdeal.main_arg4)) (m ((c.tc : Thread Cert.GradOutIdeal.nD Cert.GradOutIdeal.τ).loc Cert.GradOutIdeal.main_arg5)) (m ((c.tc : Thread Cert.GradOutIdeal.nD Cert.GradOutIdeal.τ).loc Cert.GradOutIdeal.main_arg6)) := by
  rw [arr4]
  funext y
  obtain ⟨j, d, rfl⟩ : ∃ (j : Fin 2816) (d : Fin 1024), y = ix2 j d := ⟨y 0, y 1, (ix2_eta y).symm⟩
  have hf := finite_of_pre m hm c
  refine (congrArg₂ (· * ·) (Finset.sum_congr rfl fun n _ => congrArg₂ (· * ·) (aA_eq m c n j) (dA_eq m c n d)) (gA_eq m c d)).trans ?_
  rw [ref47]
  exact gated_sum (fun n => isR_act (hf.ffR n) j) (fun n => hf.dx n d) (hf.condR _)

/-- The kernel's second array is the reference's gradient of the gate. -/
theorem arr5_ref : (Cert.GradOutIdeal.Gen.dats m 0 c).arrAt 5 Cert.GradOutIdeal.cfg0.N = val_main_v49 (F := Ideal) (m ((c.tc : Thread Cert.GradOutIdeal.nD Cert.GradOutIdeal.τ).loc Cert.GradOutIdeal.main_arg0)) (m ((c.tc : Thread Cert.GradOutIdeal.nD Cert.GradOutIdeal.τ).loc Cert.GradOutIdeal.main_arg1)) (m ((c.tc : Thread Cert.GradOutIdeal.nD Cert.GradOutIdeal.τ).loc Cert.GradOutIdeal.main_arg2)) (m ((c.tc : Thread Cert.GradOutIdeal.nD Cert.GradOutIdeal.τ).loc Cert.GradOutIdeal.main_arg3)) (m ((c.tc : Thread Cert.GradOutIdeal.nD Cert.GradOutIdeal.τ).loc Cert.GradOutIdeal.main_arg4)) (m ((c.tc : Thread Cert.GradOutIdeal.nD Cert.GradOutIdeal.τ).loc Cert.GradOutIdeal.main_arg5)) (m ((c.tc : Thread Cert.GradOutIdeal.nD Cert.GradOutIdeal.τ).loc Cert.GradOutIdeal.main_arg6)) (m ((c.tc : Thread Cert.GradOutIdeal.nD Cert.GradOutIdeal.τ).loc Cert.GradOutIdeal.main_arg7)) := by
  rw [arr5]
  funext y
  obtain ⟨a, d, rfl⟩ : ∃ (a : Fin 8) (d : Fin 1024), y = ix2 a d := ⟨y 0, y 1, (ix2_eta y).symm⟩
  have hf := finite_of_pre m hm c
  rw [ref49]
  refine congrArg (fun s => if a.val = 0 then s else 0) ?_
  refine (Finset.sum_congr rfl fun j _ => congrArg₂ (· * ·) (Finset.sum_congr rfl fun n _ => congrArg₂ (· * ·) (aA_eq m c n j) (dA_eq m c n d)) (wA_eq m c j d)).trans ?_
  exact swapped_sum (fun n => isR_act (hf.ffR n)) (fun n => hf.dx n d) (fun j => hf.wo j d)
end

/-- The algebraic claim: from memories that agree on the arguments, all finite, both programs end with the same two gradients. -/
theorem algebraic : Cert.algebraic_GradOutIdeal_RefOutIdeal_pre_out_finite := by
  intro m g m' g' hm hag
  refine ⟨fun c => (Cert.GradOutIdeal.Gen.dats m 0 c).arrAt 4 Cert.GradOutIdeal.cfg0.N, fun c => (Cert.GradOutIdeal.Gen.dats m 0 c).arrAt 5 Cert.GradOutIdeal.cfg0.N,
    Cert.GradOutIdeal.Value.run_blocks m g, (θ_run _ _ _).mono (fun r h c => ?_) (Cert.RefOutIdeal.Value.run m' g')⟩
  obtain ⟨a0, a1, a2, a3, a4, a5, a6, a7⟩ := hag c
  obtain ⟨r0, r1, rest⟩ := h c
  refine ⟨r0.trans ?_, r1.trans ?_, rest⟩
  · rw [Cert.RefOutIdeal.Read.val_main_v47_eq, a0, a1, a2, a3, a4, a5, a6]; exact (arr4_ref m hm c).symm
  · rw [Cert.RefOutIdeal.Read.val_main_v49_eq, a0, a1, a2, a3, a4, a5, a6, a7]; exact (arr5_ref m hm c).symm

end Cert.GradOutIdeal.Pt

end
-- ==== Proof.FwdRows.lean ====
module

public import proofs.«01_k».proof.Proof.Rows
public import proofs.«01_k».proof.Proof.Forward

@[expose] public section

/-! # One row of the feed-forward block's forward pass, the final norm and the loss, as the kernel computes them

Every function takes one token's data: the row `x` of the block's input, the row `tgt` of the target, the conditioning rows and the matrices.
`wi` is the gate and up projections cut in four pieces of 1408 columns: two of the gate, then two of the up projection. -/

noncomputable section

namespace Cert.FfnFwd

open Idealize.ShloMosaic Cert.FfnBwd

/-- The row times one piece of the projections. -/
def projCol (h : Fin 1024 → EReal) (w : Fin 1024 → Fin 1408 → EReal) (j : Fin 1408) : EReal := ∑ k, h k * w k j

/-- The gated activation. -/
def glu (g u : EReal) : EReal := g * sigm g * u

/-- The normalised, scaled and shifted row. -/
def hid (shift scale nrm x : Fin 1024 → EReal) (k : Fin 1024) : EReal := x k * rms x * nrm k * (1 + scale k) + shift k

/-- The activation times the down projection, in two halves. -/
def down (h : Fin 1024 → EReal) (wi : Fin 4 → Fin 1024 → Fin 1408 → EReal) (wo : Fin 2816 → Fin 1024 → EReal) (k : Fin 1024) : EReal :=
  ∑ j : Fin 1408, glu (projCol h (wi 0) j) (projCol h (wi 2) j) * wo (lo j) k
    + ∑ j : Fin 1408, glu (projCol h (wi 1) j) (projCol h (wi 3) j) * wo (hi j) k

/-- The block's output. -/
def res (gate x o : Fin 1024 → EReal) (k : Fin 1024) : EReal := x k + gate k * o k

/-- The final norm of the block's output `z`. -/
def nf (nrm z : Fin 1024 → EReal) (k : Fin 1024) : EReal := z k * rms z * nrm k

/-- The difference from the target. -/
def err (shift scale nrm tgt z : Fin 1024 → EReal) (k : Fin 1024) : EReal := nf nrm z k * (1 + scale k) + shift k - tgt k

/-- The loss's gradient. -/
def dout (shift scale nrm tgt z : Fin 1024 → EReal) (k : Fin 1024) : EReal :=
  err shift scale nrm tgt z k * Ideal.ofBits .f32 0x3A800000#32

/-- The gradient of the block's output. -/
def dz (shift scale nrm tgt z : Fin 1024 → EReal) (k : Fin 1024) : EReal :=
  rms z * tt scale nrm (dout shift scale nrm tgt z) k
    - z k * (rms z * rms z * rms z) * ((∑ k', tt scale nrm (dout shift scale nrm tgt z) k' * z k') * Ideal.ofBits .f32 0x3A800000#32)

/-- A row's contribution to row `a` of the accumulator: the gradients of the final shift (`0`), scale (`1`) and norm weight (`2`), the
    squared differences (`3`), and nothing in the other rows. -/
def sums (shift scale nrm tgt z : Fin 1024 → EReal) (a : ℕ) (k : Fin 1024) : EReal :=
  match a with
  | 0 => dout shift scale nrm tgt z k
  | 1 => dout shift scale nrm tgt z k * nf nrm z k
  | 2 => dout shift scale nrm tgt z k * (1 + scale k) * z k * rms z
  | 3 => err shift scale nrm tgt z k * err shift scale nrm tgt z k
  | _ => 0

/-- Rows from the fourth on get nothing. -/
theorem sums_high (shift scale nrm tgt z : Fin 1024 → EReal) (a : ℕ) (ha : 4 ≤ a) (k : Fin 1024) : sums shift scale nrm tgt z a k = 0 := by
  obtain ⟨n, rfl⟩ := Nat.exists_eq_add_of_le' ha
  rfl

/-- The final norm's conditioning product without its bias. -/
def condFMul (cv : Fin 1024 → EReal) (aw : Fin 1024 → Fin 2048 → EReal) (k : Fin 2048) : EReal :=
  ∑ x, cv x * Ideal.div 1 (1 + Ideal.exp (-cv x)) * aw x k

/-- The final norm's conditioning vector: its shift and then its scale. -/
def condF (cv : Fin 1024 → EReal) (aw : Fin 1024 → Fin 2048 → EReal) (ab : Fin 2048 → EReal) (k : Fin 2048) : EReal :=
  condFMul cv aw k + ab k

/-- The shift. -/
def shiftFOf (v : Fin 2048 → EReal) (k : Fin 1024) : EReal := v ⟨k.val, by omega⟩

/-- The scale. -/
def scaleFOf (v : Fin 2048 → EReal) (k : Fin 1024) : EReal := v ⟨1024 + k.val, by omega⟩

end Cert.FfnFwd

end
-- ==== Proof.FwdPoint.lean ====
module

public import proofs.«01_k».proof.Proof.Gen.FfnForwardIdeal.Frame
public import proofs.«01_k».proof.Proof.FwdRows
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

/-! # What one grid point of the forward call stores

A grid point takes 512 tokens in two halves of 256 and the projections in two pieces of 1408 columns. Each stored block is a restriction of
one function of the token and the column; the accumulator's rows get the sums over the 512 tokens. -/

noncomputable section

namespace Cert.FfnForwardIdeal.Pt

open Cert.FfnForwardIdeal Cert.FfnForwardIdeal.Gen Idealize.ShloMosaic Idealize.ShloMosaic.TcCoe Idealize.SL.Sem Cert.FfnBwd Cert.FfnFwd

local notation "F" => Ideal
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S4x1024x1408 .bf16) (harg7 : arg7.IsWhole) (arg8 : Memref sig .tc .vmem S2816x1024 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x1024 .f32) (harg14 : arg14.IsWhole)
    (x0 : Vec F S512x1024 .f32) (x1 : Vec F S512x1024 .f32) (x2 : Vec F S1x8192 .f32) (x3 : Vec F S1x8192 .f32) (x4 : Vec F S1x1024 .f32) (x5 : Vec F S1x1024 .f32) (x6 : Vec F S4x1024x1408 .bf16) (x7 : Vec F S2816x1024 .bf16)

/-- The conditioning rows: five runs of 1024 columns from column 3072 on. -/
def shiftB (k : Fin 1024) : EReal := x2 (ix2 0 ⟨3072 + k.val, by omega⟩) + x3 (ix2 0 ⟨3072 + k.val, by omega⟩)
def scaleB (k : Fin 1024) : EReal := x2 (ix2 0 ⟨4096 + k.val, by omega⟩) + x3 (ix2 0 ⟨4096 + k.val, by omega⟩)
def gateB (k : Fin 1024) : EReal := x2 (ix2 0 ⟨5120 + k.val, by omega⟩) + x3 (ix2 0 ⟨5120 + k.val, by omega⟩)
def shiftFB (k : Fin 1024) : EReal := x2 (ix2 0 ⟨6144 + k.val, by omega⟩) + x3 (ix2 0 ⟨6144 + k.val, by omega⟩)
def scaleFB (k : Fin 1024) : EReal := x2 (ix2 0 ⟨7168 + k.val, by omega⟩) + x3 (ix2 0 ⟨7168 + k.val, by omega⟩)

/-- Row `r` of the normalised, scaled and shifted block. -/
def hidB (r : Fin 512) : Fin 1024 → EReal := hid (shiftB x2 x3) (scaleB x2 x3) (fun k => x4 (ix2 0 k)) (fun k => x0 (ix2 r k))

/-- The gate projection (`b = 0`) or the up projection (`b = 2`). -/
def projB (b : ℕ) (hb : b ≤ 2) (y : S512x2816.Idx) : EReal :=
  projCol (hidB x0 x2 x3 x4 (y 0)) (fun k j => x6 (ix3 ⟨b + (y 1).val / 1408, by have h : (y 1).val < 2816 := (y 1).isLt; omega⟩ k j))
    ⟨(y 1).val % 1408, Nat.mod_lt _ (by decide)⟩

/-- The gated activation. -/
def actB (y : S512x2816.Idx) : EReal := glu (projB x0 x2 x3 x4 x6 0 (by decide) y) (projB x0 x2 x3 x4 x6 2 (by decide) y)

/-- Row `r` of the block's output. -/
def resB (r : Fin 512) : Fin 1024 → EReal :=
  res (gateB x2 x3) (fun k => x0 (ix2 r k)) (down (hidB x0 x2 x3 x4 r) (fun p k j => x6 (ix3 p k j)) (fun j k => x7 (ix2 j k)))

/-- The gradient of the block's output. -/
def dzB (r : Fin 512) : Fin 1024 → EReal :=
  dz (shiftFB x2 x3) (scaleFB x2 x3) (fun k => x5 (ix2 0 k)) (fun k => x1 (ix2 r k)) (resB x0 x2 x3 x4 x6 x7 r)

/-- Row `r`'s contribution to the accumulator. -/
def sumsB (r : Fin 512) (y : S8x1024.Idx) : EReal :=
  sums (shiftFB x2 x3) (scaleFB x2 x3) (fun k => x5 (ix2 0 k)) (fun k => x1 (ix2 r k)) (resB x0 x2 x3 x4 x6 x7 r) (y 0).val (y 1)

/-- The projection at an index of one of the four stored tiles. -/
theorem projB_at (b : ℕ) (hb : b ≤ 2) (o q : ℕ) (p : Fin 4) {n : ℕ} (x : Shape.Idx ⟨2, ![n, 1408]⟩) (hr : o + n ≤ 512) (hp : 1408 * p.val = 1408 * b + q)
    (y : S512x2816.Idx) (h0 : (y 0).val = o + 1 * (x 0).val) (h1 : (y 1).val = q + 1 * (x 1).val) :
    projB x0 x2 x3 x4 x6 b hb y
      = projCol (hidB x0 x2 x3 x4 ⟨o + (x 0).val, by have h : (x 0).val < n := (x 0).isLt; omega⟩) (fun k j => x6 (ix3 p k j)) (x 1) := by
  have h : (x 1).val < 1408 := (x 1).isLt
  have h' : (y 1).val < 2816 := (y 1).isLt
  have e0 : y 0 = ⟨o + (x 0).val, by have h : (x 0).val < n := (x 0).isLt; show _ < 512; omega⟩ := Fin.ext (by rw [h0, Nat.one_mul])
  have e1 : (⟨b + (y 1).val / 1408, by omega⟩ : Fin 4) = p := Fin.ext (by show b + (y 1).val / 1408 = p.val; omega)
  have e2 : (⟨(y 1).val % 1408, Nat.mod_lt _ (by decide)⟩ : Fin 1408) = x 1 := Fin.ext (by show (y 1).val % 1408 = (x 1).val; omega)
  unfold projB
  rw [e0, e1, e2]
  rfl

theorem row_at (f : Fin 512 → Fin 1024 → EReal) (o : ℕ) {n : ℕ} (x : Shape.Idx ⟨2, ![n, 1024]⟩) (hr : o + n ≤ 512) (y : S512x1024.Idx)
    (h0 : (y 0).val = o + 1 * (x 0).val) (h1 : (y 1).val = 0 + 1 * (x 1).val) :
    f (y 0) (y 1) = f ⟨o + (x 0).val, by have h : (x 0).val < n := (x 0).isLt; omega⟩ (x 1) :=
  congrArg₂ f (Fin.ext (by rw [h0]; exact congrArg (o + ·) (Nat.one_mul _))) (Fin.ext (by rw [h1]; exact (Nat.zero_add _).trans (Nat.one_mul _)))

/-- Every store of a first grid point into the gate projection's block is a part of `projB`. -/
theorem pieces8_A (hc0 : cond0_0 i) (hc1 : ¬cond0_1 i) : View.PiecesOf (Val := Elt F) (projB x0 x2 x3 x4 x6 0 (by decide)) (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1 := by
  unfold kernelRun0_A; dsimp only; sl_unfold_words
  simp only [View.readAt_eq_ld, harg1.read_unread, harg2.read_unread, harg3.read_unread, harg4.read_unread, harg5.read_unread, harg6.read_unread, harg7.read_unread, harg8.read_unread]
  refine ⟨fun x => ?_, fun x => ?_, fun x => ?_, fun x => ?_, trivial⟩
  · rw [projB_at x0 x2 x3 x4 x6 0 _ 256 1408 1 x (by omega) (by decide) _ rfl rfl]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, projCol, hidB, hid, shiftB, scaleB, rms]
  · rw [projB_at x0 x2 x3 x4 x6 0 _ 256 0 0 x (by omega) (by decide) _ rfl rfl]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, projCol, hidB, hid, shiftB, scaleB, rms]
  · rw [projB_at x0 x2 x3 x4 x6 0 _ 0 1408 1 x (by omega) (by decide) _ rfl rfl]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, projCol, hidB, hid, shiftB, scaleB, rms]
  · rw [projB_at x0 x2 x3 x4 x6 0 _ 0 0 0 x (by omega) (by decide) _ rfl rfl]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, projCol, hidB, hid, shiftB, scaleB, rms]

/-- The same at a middle point. -/
theorem pieces8_B (hc0 : ¬cond0_0 i) (hc1 : ¬cond0_1 i) (i' : grid0.Coords) (hc0' : cond0_0 i') (hc1' : ¬cond0_1 i') (xo13 : Vec F S8x1024 .f32) :
    View.PiecesOf (Val := Elt F) (projB x0 x2 x3 x4 x6 0 (by decide)) (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo13).1 :=
  pieces8_A c i' arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0' hc1'

/-- The same at a last point. -/
theorem pieces8_C (hc0 : ¬cond0_0 i) (hc1 : cond0_1 i) (i' : grid0.Coords) (hc0' : cond0_0 i') (hc1' : ¬cond0_1 i') (xo13 : Vec F S8x1024 .f32) :
    View.PiecesOf (Val := Elt F) (projB x0 x2 x3 x4 x6 0 (by decide)) (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo13).1 :=
  pieces8_A c i' arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0' hc1'

/-- The stores into the up projection's block. -/
theorem pieces9_A (hc0 : cond0_0 i) (hc1 : ¬cond0_1 i) : View.PiecesOf (Val := Elt F) (projB x0 x2 x3 x4 x6 2 (by decide)) (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1 := by
  unfold kernelRun0_A; dsimp only; sl_unfold_words
  simp only [View.readAt_eq_ld, harg1.read_unread, harg2.read_unread, harg3.read_unread, harg4.read_unread, harg5.read_unread, harg6.read_unread, harg7.read_unread, harg8.read_unread]
  refine ⟨fun x => ?_, fun x => ?_, fun x => ?_, fun x => ?_, trivial⟩
  · rw [projB_at x0 x2 x3 x4 x6 2 _ 256 1408 3 x (by omega) (by decide) _ rfl rfl]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, projCol, hidB, hid, shiftB, scaleB, rms]
  · rw [projB_at x0 x2 x3 x4 x6 2 _ 256 0 2 x (by omega) (by decide) _ rfl rfl]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, projCol, hidB, hid, shiftB, scaleB, rms]
  · rw [projB_at x0 x2 x3 x4 x6 2 _ 0 1408 3 x (by omega) (by decide) _ rfl rfl]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, projCol, hidB, hid, shiftB, scaleB, rms]
  · rw [projB_at x0 x2 x3 x4 x6 2 _ 0 0 2 x (by omega) (by decide) _ rfl rfl]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, projCol, hidB, hid, shiftB, scaleB, rms]

/-- The same at a middle point. -/
theorem pieces9_B (hc0 : ¬cond0_0 i) (hc1 : ¬cond0_1 i) (i' : grid0.Coords) (hc0' : cond0_0 i') (hc1' : ¬cond0_1 i') (xo13 : Vec F S8x1024 .f32) :
    View.PiecesOf (Val := Elt F) (projB x0 x2 x3 x4 x6 2 (by decide)) (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo13).2.1 :=
  pieces9_A c i' arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0' hc1'

/-- The same at a last point. -/
theorem pieces9_C (hc0 : ¬cond0_0 i) (hc1 : cond0_1 i) (i' : grid0.Coords) (hc0' : cond0_0 i') (hc1' : ¬cond0_1 i') (xo13 : Vec F S8x1024 .f32) :
    View.PiecesOf (Val := Elt F) (projB x0 x2 x3 x4 x6 2 (by decide)) (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo13).2.1 :=
  pieces9_A c i' arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0' hc1'

/-- The stores into the gated activation's block. -/
theorem pieces10_A (hc0 : cond0_0 i) (hc1 : ¬cond0_1 i) : View.PiecesOf (Val := Elt F) (actB x0 x2 x3 x4 x6) (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1 := by
  unfold kernelRun0_A; dsimp only; sl_unfold_words
  simp only [View.readAt_eq_ld, harg1.read_unread, harg2.read_unread, harg3.read_unread, harg4.read_unread, harg5.read_unread, harg6.read_unread, harg7.read_unread, harg8.read_unread]
  refine ⟨fun x => ?_, fun x => ?_, fun x => ?_, fun x => ?_, trivial⟩
  · unfold actB
    rw [projB_at x0 x2 x3 x4 x6 0 _ 256 1408 1 x (by omega) (by decide) _ rfl rfl, projB_at x0 x2 x3 x4 x6 2 _ 256 1408 3 x (by omega) (by decide) _ rfl rfl]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, glu, sigm, projCol, hidB, hid, shiftB, scaleB, rms]
  · unfold actB
    rw [projB_at x0 x2 x3 x4 x6 0 _ 256 0 0 x (by omega) (by decide) _ rfl rfl, projB_at x0 x2 x3 x4 x6 2 _ 256 0 2 x (by omega) (by decide) _ rfl rfl]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, glu, sigm, projCol, hidB, hid, shiftB, scaleB, rms]
  · unfold actB
    rw [projB_at x0 x2 x3 x4 x6 0 _ 0 1408 1 x (by omega) (by decide) _ rfl rfl, projB_at x0 x2 x3 x4 x6 2 _ 0 1408 3 x (by omega) (by decide) _ rfl rfl]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, glu, sigm, projCol, hidB, hid, shiftB, scaleB, rms]
  · unfold actB
    rw [projB_at x0 x2 x3 x4 x6 0 _ 0 0 0 x (by omega) (by decide) _ rfl rfl, projB_at x0 x2 x3 x4 x6 2 _ 0 0 2 x (by omega) (by decide) _ rfl rfl]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, glu, sigm, projCol, hidB, hid, shiftB, scaleB, rms]

/-- The same at a middle point. -/
theorem pieces10_B (hc0 : ¬cond0_0 i) (hc1 : ¬cond0_1 i) (i' : grid0.Coords) (hc0' : cond0_0 i') (hc1' : ¬cond0_1 i') (xo13 : Vec F S8x1024 .f32) :
    View.PiecesOf (Val := Elt F) (actB x0 x2 x3 x4 x6) (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo13).2.2.1 :=
  pieces10_A c i' arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0' hc1'

/-- The same at a last point. -/
theorem pieces10_C (hc0 : ¬cond0_0 i) (hc1 : cond0_1 i) (i' : grid0.Coords) (hc0' : cond0_0 i') (hc1' : ¬cond0_1 i') (xo13 : Vec F S8x1024 .f32) :
    View.PiecesOf (Val := Elt F) (actB x0 x2 x3 x4 x6) (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo13).2.2.1 :=
  pieces10_A c i' arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0' hc1'

/-- The stores into the modulated rows' block. -/
theorem pieces11_A (hc0 : cond0_0 i) (hc1 : ¬cond0_1 i) : View.PiecesOf (Val := Elt F) (fun y : S512x1024.Idx => hidB x0 x2 x3 x4 (y 0) (y 1)) (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.1 := by
  unfold kernelRun0_A; dsimp only; sl_unfold_words
  simp only [View.readAt_eq_ld, harg1.read_unread, harg2.read_unread, harg3.read_unread, harg4.read_unread, harg5.read_unread, harg6.read_unread, harg7.read_unread, harg8.read_unread]
  refine ⟨fun x => ?_, fun x => ?_, trivial⟩
  · refine Eq.trans ?_ (row_at (hidB x0 x2 x3 x4) 256 x (by omega) _ rfl rfl).symm
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, hidB, hid, shiftB, scaleB, rms]
  · refine Eq.trans ?_ (row_at (hidB x0 x2 x3 x4) 0 x (by omega) _ rfl rfl).symm
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, hidB, hid, shiftB, scaleB, rms]

/-- The same at a middle point. -/
theorem pieces11_B (hc0 : ¬cond0_0 i) (hc1 : ¬cond0_1 i) (i' : grid0.Coords) (hc0' : cond0_0 i') (hc1' : ¬cond0_1 i') (xo13 : Vec F S8x1024 .f32) :
    View.PiecesOf (Val := Elt F) (fun y : S512x1024.Idx => hidB x0 x2 x3 x4 (y 0) (y 1)) (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo13).2.2.2.1 :=
  pieces11_A c i' arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0' hc1'

/-- The same at a last point. -/
theorem pieces11_C (hc0 : ¬cond0_0 i) (hc1 : cond0_1 i) (i' : grid0.Coords) (hc0' : cond0_0 i') (hc1' : ¬cond0_1 i') (xo13 : Vec F S8x1024 .f32) :
    View.PiecesOf (Val := Elt F) (fun y : S512x1024.Idx => hidB x0 x2 x3 x4 (y 0) (y 1)) (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo13).2.2.2.1 :=
  pieces11_A c i' arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0' hc1'

/-- The stores into the gradient's block. -/
theorem pieces12_A (hc0 : cond0_0 i) (hc1 : ¬cond0_1 i) : View.PiecesOf (Val := Elt F) (fun y : S512x1024.Idx => dzB x0 x1 x2 x3 x4 x5 x6 x7 (y 0) (y 1)) (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.2.1 := by
  unfold kernelRun0_A; dsimp only; sl_unfold_words
  simp only [View.readAt_eq_ld, harg1.read_unread, harg2.read_unread, harg3.read_unread, harg4.read_unread, harg5.read_unread, harg6.read_unread, harg7.read_unread, harg8.read_unread]
  refine ⟨fun x => ?_, fun x => ?_, trivial⟩
  · refine Eq.trans ?_ (row_at (dzB x0 x1 x2 x3 x4 x5 x6 x7) 256 x (by omega) _ rfl rfl).symm
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, dzB, dz, tt, dout, err, nf, shiftFB, scaleFB, resB, res, gateB, down, projCol, glu, sigm, hidB, hid, shiftB, scaleB, rms]
  · refine Eq.trans ?_ (row_at (dzB x0 x1 x2 x3 x4 x5 x6 x7) 0 x (by omega) _ rfl rfl).symm
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, dzB, dz, tt, dout, err, nf, shiftFB, scaleFB, resB, res, gateB, down, projCol, glu, sigm, hidB, hid, shiftB, scaleB, rms]

/-- The same at a middle point. -/
theorem pieces12_B (hc0 : ¬cond0_0 i) (hc1 : ¬cond0_1 i) (i' : grid0.Coords) (hc0' : cond0_0 i') (hc1' : ¬cond0_1 i') (xo13 : Vec F S8x1024 .f32) :
    View.PiecesOf (Val := Elt F) (fun y : S512x1024.Idx => dzB x0 x1 x2 x3 x4 x5 x6 x7 (y 0) (y 1)) (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo13).2.2.2.2.1 :=
  pieces12_A c i' arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0' hc1'

/-- The same at a last point. -/
theorem pieces12_C (hc0 : ¬cond0_0 i) (hc1 : cond0_1 i) (i' : grid0.Coords) (hc0' : cond0_0 i') (hc1' : ¬cond0_1 i') (xo13 : Vec F S8x1024 .f32) :
    View.PiecesOf (Val := Elt F) (fun y : S512x1024.Idx => dzB x0 x1 x2 x3 x4 x5 x6 x7 (y 0) (y 1)) (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo13).2.2.2.2.1 :=
  pieces12_A c i' arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0' hc1'

end Cert.FfnForwardIdeal.Pt

end
-- ==== Proof.FwdSums.lean ====
module

public import proofs.«01_k».proof.Proof.FwdPoint
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

/-! # What one grid point of the forward call leaves in the accumulator

Rows 0 to 3 of the accumulator get the sums over the point's 512 tokens; the last point stores the loss in row 4. -/

noncomputable section

namespace Cert.FfnForwardIdeal.Pt

open Cert.FfnForwardIdeal Cert.FfnForwardIdeal.Gen Idealize.ShloMosaic Idealize.ShloMosaic.TcCoe Idealize.SL.Sem Cert.FfnBwd Cert.FfnFwd

local notation "F" => Ideal
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S4x1024x1408 .bf16) (harg7 : arg7.IsWhole) (arg8 : Memref sig .tc .vmem S2816x1024 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x1024 .f32) (harg14 : arg14.IsWhole)
    (x0 : Vec F S512x1024 .f32) (x1 : Vec F S512x1024 .f32) (x2 : Vec F S1x8192 .f32) (x3 : Vec F S1x8192 .f32) (x4 : Vec F S1x1024 .f32) (x5 : Vec F S1x1024 .f32) (x6 : Vec F S4x1024x1408 .bf16) (x7 : Vec F S2816x1024 .bf16)

/-- Eight stores of the rows 3, 2, 1, 0, 3, 2, 1, 0 (the newest first) over `L`: the newest of a row is read back, the other rows are `L`'s. -/
theorem rows_read {sg : RefSig} {κ : Kind} {sp : Space} (v : View sg κ sp S8x1024 .f32) (f : v.ty.Contents (Elt Ideal))
    {b0 b1 b2 b3 b0' b1' b2' b3'}
    (w3 : (Rect.unit (s := S8x1024) ![3, 0] ![1, 1024] b3).shape.Idx → Elt Ideal .f32)
    (w2 : (Rect.unit (s := S8x1024) ![2, 0] ![1, 1024] b2).shape.Idx → Elt Ideal .f32)
    (w1 : (Rect.unit (s := S8x1024) ![1, 0] ![1, 1024] b1).shape.Idx → Elt Ideal .f32)
    (w0 : (Rect.unit (s := S8x1024) ![0, 0] ![1, 1024] b0).shape.Idx → Elt Ideal .f32)
    (w3' : (Rect.unit (s := S8x1024) ![3, 0] ![1, 1024] b3').shape.Idx → Elt Ideal .f32)
    (w2' : (Rect.unit (s := S8x1024) ![2, 0] ![1, 1024] b2').shape.Idx → Elt Ideal .f32)
    (w1' : (Rect.unit (s := S8x1024) ![1, 0] ![1, 1024] b1').shape.Idx → Elt Ideal .f32)
    (w0' : (Rect.unit (s := S8x1024) ![0, 0] ![1, 1024] b0').shape.Idx → Elt Ideal .f32)
    (L : List (View.Piece (Elt Ideal) S8x1024 .f32)) (y : S8x1024.Idx) (G : EReal)
    (h0 : (y 0).val = 0 → w0 (ix2 0 (y 1)) = G) (h1 : (y 0).val = 1 → w1 (ix2 0 (y 1)) = G) (h2 : (y 0).val = 2 → w2 (ix2 0 (y 1)) = G)
    (h3 : (y 0).val = 3 → w3 (ix2 0 (y 1)) = G) (h4 : 4 ≤ (y 0).val → v.read (Elt Ideal) (v.writes (Elt Ideal) f L) y = G) :
    v.read (Elt Ideal) (v.writes (Elt Ideal) f (⟨_, w3⟩ :: ⟨_, w2⟩ :: ⟨_, w1⟩ :: ⟨_, w0⟩ :: ⟨_, w3'⟩ :: ⟨_, w2'⟩ :: ⟨_, w1'⟩ :: ⟨_, w0'⟩ :: L)) y = G := by
  rcases (by omega : (y 0).val = 0 ∨ (y 0).val = 1 ∨ (y 0).val = 2 ∨ (y 0).val = 3 ∨ 4 ≤ (y 0).val) with h | h | h | h | h
  · rw [View.read_writes_cons_rows_of_not_mem (W := 1) v f b3 w3 _ y rfl rfl (by omega), View.read_writes_cons_rows_of_not_mem (W := 1) v f b2 w2 _ y rfl rfl (by omega), View.read_writes_cons_rows_of_not_mem (W := 1) v f b1 w1 _ y rfl rfl (by omega), View.read_writes_cons_rows_of_mem v f b0 w0 _ y (ix2 0 (y 1)) rfl h rfl]
    exact h0 h
  · rw [View.read_writes_cons_rows_of_not_mem (W := 1) v f b3 w3 _ y rfl rfl (by omega), View.read_writes_cons_rows_of_not_mem (W := 1) v f b2 w2 _ y rfl rfl (by omega), View.read_writes_cons_rows_of_mem v f b1 w1 _ y (ix2 0 (y 1)) rfl h rfl]
    exact h1 h
  · rw [View.read_writes_cons_rows_of_not_mem (W := 1) v f b3 w3 _ y rfl rfl (by omega), View.read_writes_cons_rows_of_mem v f b2 w2 _ y (ix2 0 (y 1)) rfl h rfl]
    exact h2 h
  · rw [View.read_writes_cons_rows_of_mem v f b3 w3 _ y (ix2 0 (y 1)) rfl h rfl]
    exact h3 h
  · rw [View.read_writes_cons_rows_of_not_mem (W := 1) v f b3 w3 _ y rfl rfl (by omega),
      View.read_writes_cons_rows_of_not_mem (W := 1) v f b2 w2 _ y rfl rfl (by omega),
      View.read_writes_cons_rows_of_not_mem (W := 1) v f b1 w1 _ y rfl rfl (by omega),
      View.read_writes_cons_rows_of_not_mem (W := 1) v f b0 w0 _ y rfl rfl (by omega),
      View.read_writes_cons_rows_of_not_mem (W := 1) v f b3' w3' _ y rfl rfl (by omega),
      View.read_writes_cons_rows_of_not_mem (W := 1) v f b2' w2' _ y rfl rfl (by omega),
      View.read_writes_cons_rows_of_not_mem (W := 1) v f b1' w1' _ y rfl rfl (by omega),
      View.read_writes_cons_rows_of_not_mem (W := 1) v f b0' w0' _ y rfl rfl (by omega)]
    exact h4 h

/-- The first point clears the accumulator and adds the sums over its 512 rows. -/
theorem out_A_13 (hc0 : cond0_0 i) (hc1 : ¬cond0_1 i) (y : S8x1024.Idx) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y = ∑ r : Fin 512, sumsB x0 x1 x2 x3 x4 x5 x6 x7 r y := by
  unfold out0_A_13 kernelRun0_A; dsimp only; sl_unfold_words
  simp (disch := decide) only [↓ View.readCov_skip, ↓ View.readCov_cons_toLoadRect, ↓ View.readCov_fill]
  simp only [View.readAt_eq_ld, harg1.read_unread, harg2.read_unread, harg3.read_unread, harg4.read_unread, harg5.read_unread, harg6.read_unread, harg7.read_unread, harg8.read_unread]
  obtain ⟨a, k, rfl⟩ : ∃ (a : Fin 8) (k : Fin 1024), y = ix2 a k := ⟨y 0, y 1, (ix2_eta y).symm⟩
  refine rows_read _ _ _ _ _ _ _ _ _ _ _ _ _ (fun h => ?_) (fun h => ?_) (fun h => ?_) (fun h => ?_) fun h => ?_
  · obtain rfl : a = 0 := Fin.ext h
    rw [Fin.sum_univ_two_halves 256 256 rfl]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, sumsB, sums, dout, err, nf, shiftFB, scaleFB, resB, res, gateB, down, projCol, glu, sigm, hidB, hid, shiftB, scaleB, rms]
  · obtain rfl : a = 1 := Fin.ext h
    rw [Fin.sum_univ_two_halves 256 256 rfl]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, sumsB, sums, dout, err, nf, shiftFB, scaleFB, resB, res, gateB, down, projCol, glu, sigm, hidB, hid, shiftB, scaleB, rms]
  · obtain rfl : a = 2 := Fin.ext h
    rw [Fin.sum_univ_two_halves 256 256 rfl]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, sumsB, sums, dout, err, nf, shiftFB, scaleFB, resB, res, gateB, down, projCol, glu, sigm, hidB, hid, shiftB, scaleB, rms]
  · obtain rfl : a = 3 := Fin.ext h
    rw [Fin.sum_univ_two_halves 256 256 rfl]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, sumsB, sums, dout, err, nf, shiftFB, scaleFB, resB, res, gateB, down, projCol, glu, sigm, hidB, hid, shiftB, scaleB, rms]
  · have hz : ∀ r, sumsB x0 x1 x2 x3 x4 x5 x6 x7 r (ix2 a k) = 0 := fun r => by
      unfold sumsB; exact sums_high _ _ _ _ _ _ h _
    rw [Finset.sum_congr rfl fun r _ => hz r, Finset.sum_const_zero]
    rw [View.read_writes_junk_eq_canon, View.canon_cons_unit_lit _ _ _ (by decide)]
    pointwise [k0_pay5]

/-- A middle point adds the sums over its 512 rows to the accumulator. -/
theorem out_B_13 (hc0 : ¬cond0_0 i) (hc1 : ¬cond0_1 i) (xo13 : Vec F S8x1024 .f32) (y : S8x1024.Idx) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo13 y = xo13 y + ∑ r : Fin 512, sumsB x0 x1 x2 x3 x4 x5 x6 x7 r y := by
  unfold out0_B_13 kernelRun0_B; dsimp only; sl_unfold_words
  simp (disch := decide) only [↓ View.readCov_skip, ↓ View.readCov_cons_toLoadRect, ↓ View.readCov_fill]
  simp only [View.readAt_eq_ld, harg1.read_unread, harg2.read_unread, harg3.read_unread, harg4.read_unread, harg5.read_unread, harg6.read_unread, harg7.read_unread, harg8.read_unread, harg14.read_unread]
  obtain ⟨a, k, rfl⟩ : ∃ (a : Fin 8) (k : Fin 1024), y = ix2 a k := ⟨y 0, y 1, (ix2_eta y).symm⟩
  refine rows_read _ _ _ _ _ _ _ _ _ _ _ _ _ (fun h => ?_) (fun h => ?_) (fun h => ?_) (fun h => ?_) fun h => ?_
  · obtain rfl : a = 0 := Fin.ext h
    rw [Fin.sum_univ_two_halves 256 256 rfl, ← add_assoc]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, sumsB, sums, dout, err, nf, shiftFB, scaleFB, resB, res, gateB, down, projCol, glu, sigm, hidB, hid, shiftB, scaleB, rms]
  · obtain rfl : a = 1 := Fin.ext h
    rw [Fin.sum_univ_two_halves 256 256 rfl, ← add_assoc]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, sumsB, sums, dout, err, nf, shiftFB, scaleFB, resB, res, gateB, down, projCol, glu, sigm, hidB, hid, shiftB, scaleB, rms]
  · obtain rfl : a = 2 := Fin.ext h
    rw [Fin.sum_univ_two_halves 256 256 rfl, ← add_assoc]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, sumsB, sums, dout, err, nf, shiftFB, scaleFB, resB, res, gateB, down, projCol, glu, sigm, hidB, hid, shiftB, scaleB, rms]
  · obtain rfl : a = 3 := Fin.ext h
    rw [Fin.sum_univ_two_halves 256 256 rfl, ← add_assoc]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, sumsB, sums, dout, err, nf, shiftFB, scaleFB, resB, res, gateB, down, projCol, glu, sigm, hidB, hid, shiftB, scaleB, rms]
  · have hz : ∀ r, sumsB x0 x1 x2 x3 x4 x5 x6 x7 r (ix2 a k) = 0 := fun r => by
      unfold sumsB; exact sums_high _ _ _ _ _ _ h _
    rw [Finset.sum_congr rfl fun r _ => hz r, Finset.sum_const_zero, add_zero]
    exact congrFun (harg14.read_unread xo13) _

/-- The newest store, of row 4, read back. -/
theorem row4_read {sg : RefSig} {κ : Kind} {sp : Space} (v : View sg κ sp S8x1024 .f32) (f : v.ty.Contents (Elt Ideal)) {b4}
    (w4 : (Rect.unit (s := S8x1024) ![4, 0] ![1, 1024] b4).shape.Idx → Elt Ideal .f32) (L : List (View.Piece (Elt Ideal) S8x1024 .f32)) (k : Fin 1024) :
    v.read (Elt Ideal) (v.writes (Elt Ideal) f (⟨_, w4⟩ :: L)) (ix2 4 k) = w4 (ix2 0 k) :=
  View.read_writes_cons_rows_of_mem v f b4 w4 _ (ix2 4 k) (ix2 0 k) rfl rfl rfl

/-- A store of row 4 changes no other row. -/
theorem row4_skip {sg : RefSig} {κ : Kind} {sp : Space} (v : View sg κ sp S8x1024 .f32) (f : v.ty.Contents (Elt Ideal)) {b4}
    (w4 : (Rect.unit (s := S8x1024) ![4, 0] ![1, 1024] b4).shape.Idx → Elt Ideal .f32) (L : List (View.Piece (Elt Ideal) S8x1024 .f32)) (y : S8x1024.Idx)
    (h : ¬(y 0).val = 4) :
    v.read (Elt Ideal) (v.writes (Elt Ideal) f (⟨_, w4⟩ :: L)) y = v.read (Elt Ideal) (v.writes (Elt Ideal) f L) y :=
  View.read_writes_cons_rows_of_not_mem (W := 1) v f b4 w4 _ y rfl rfl (by omega)

/-- The last point adds its sums like the others, and stores the loss's scaled sum of squares in row 4. -/
theorem out_C_13 (hc0 : ¬cond0_0 i) (hc1 : cond0_1 i) (xo13 : Vec F S8x1024 .f32) (i' : grid0.Coords) (hc0' : ¬cond0_0 i') (hc1' : ¬cond0_1 i') (y : S8x1024.Idx) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo13 y
      = if (y 0).val = 4 then (∑ k : Fin 1024, (xo13 (ix2 3 k) + ∑ r : Fin 512, sumsB x0 x1 x2 x3 x4 x5 x6 x7 r (ix2 3 k))) * Ideal.ofBits .f32 0x3A000000#32
        else xo13 y + ∑ r : Fin 512, sumsB x0 x1 x2 x3 x4 x5 x6 x7 r y := by
  by_cases h4 : (y 0).val = 4
  · rw [if_pos h4]
    unfold out0_C_13 kernelRun0_C; dsimp only; sl_unfold_words
    simp (disch := decide) only [↓ View.readCov_skip, ↓ View.readCov_cons_toLoadRect, ↓ View.readCov_fill]
    simp only [View.readAt_eq_ld, harg1.read_unread, harg2.read_unread, harg3.read_unread, harg4.read_unread, harg5.read_unread, harg6.read_unread, harg7.read_unread, harg8.read_unread, harg14.read_unread]
    obtain ⟨a, k, rfl⟩ : ∃ (a : Fin 8) (k : Fin 1024), y = ix2 a k := ⟨y 0, y 1, (ix2_eta y).symm⟩
    obtain rfl : a = 4 := Fin.ext h4
    refine (row4_read _ _ _ _ k).trans ?_
    simp only [Fin.sum_univ_two_halves 256 256 rfl, ← add_assoc]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, sumsB, sums, dout, err, nf, shiftFB, scaleFB, resB, res, gateB, down, projCol, glu, sigm, hidB, hid, shiftB, scaleB, rms]
  · rw [if_neg h4, ← out_B_13 c i' arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0' hc1' xo13 y]
    exact row4_skip _ _ _ _ _ h4

end Cert.FfnForwardIdeal.Pt

end
-- ==== Proof.FwdKernel.lean ====
module

public import proofs.«01_k».proof.Proof.Gen.FfnForwardIdeal.Value
public import proofs.«01_k».proof.Proof.FwdSums
public import Idealize.ShloMosaic.Lib.Claim
public import Idealize.ShloMosaic.Lib.StableHlo.ReadAt

@[expose] public section

set_option maxRecDepth 16384

/-! # The forward call's arrays after the run, in the program's arguments -/

noncomputable section

namespace Cert.FfnForwardIdeal.Pt

open Cert.FfnForwardIdeal Cert.FfnForwardIdeal.Gen Idealize.ShloMosaic Idealize.ShloMosaic.TcCoe Idealize.SL.Sem Cert.FfnBwd Cert.FfnFwd

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx8 : ∀ t : Fin grid0.N, win0_8.index t = ![t.val, 0] := by decide +kernel
theorem idx9 : ∀ t : Fin grid0.N, win0_9.index t = ![t.val, 0] := by decide +kernel
theorem idx10 : ∀ t : Fin grid0.N, win0_10.index t = ![t.val, 0] := by decide +kernel
theorem idx11 : ∀ t : Fin grid0.N, win0_11.index t = ![t.val, 0] := by decide +kernel
theorem idx12 : ∀ t : Fin grid0.N, win0_12.index t = ![t.val, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx7 : ∀ t : Fin grid0.N, win0_7.index t = ![0, 0] := by decide +kernel
theorem idx13 : ∀ t : Fin grid0.N, win0_13.index t = ![0, 0] := by decide +kernel
theorem idx6 : ∀ t : Fin grid0.N, win0_6.index t = ![0, 0, 0] := by decide +kernel

theorem iblk0 (c : Dev nD) (t : Fin cfg0.N) (r : Fin 512) (k : Fin 1024) (n : Fin 8192) (h : n.val = t.val * 512 + r.val) :
    iblk m c 0 t (ix2 r k) = V m c main_arg0 (ix2 n k) := by
  unfold iblk; blk_simp
  refine congrArg (V m c main_arg0) (Shape.idx_ext₂ ?_ ?_) <;> blk_simp [idx0, h]
theorem iblk1 (c : Dev nD) (t : Fin cfg0.N) (r : Fin 512) (k : Fin 1024) (n : Fin 8192) (h : n.val = t.val * 512 + r.val) :
    iblk m c 1 t (ix2 r k) = V m c main_arg1 (ix2 n k) := by
  unfold iblk; blk_simp
  refine congrArg (V m c main_arg1) (Shape.idx_ext₂ ?_ ?_) <;> blk_simp [idx1, h]
theorem iblk2 (c : Dev nD) (t : Fin cfg0.N) (y : S1x8192.Idx) : iblk m c 2 t y = V m c main_v7 y := by
  unfold iblk; blk_simp
  refine congrArg (V m c main_v7) (Shape.idx_ext₂ ?_ ?_) <;> blk_simp [idx2]
theorem iblk3 (c : Dev nD) (t : Fin cfg0.N) (y : S1x8192.Idx) : iblk m c 3 t y = V m c main_v9 y := by
  unfold iblk; blk_simp
  refine congrArg (V m c main_v9) (Shape.idx_ext₂ ?_ ?_) <;> blk_simp [idx3]
theorem iblk4 (c : Dev nD) (t : Fin cfg0.N) (y : S1x1024.Idx) : iblk m c 4 t y = V m c main_arg5 y := by
  unfold iblk; blk_simp
  refine congrArg (V m c main_arg5) (Shape.idx_ext₂ ?_ ?_) <;> blk_simp [idx4]
theorem iblk5 (c : Dev nD) (t : Fin cfg0.N) (y : S1x1024.Idx) : iblk m c 5 t y = V m c main_v14 y := by
  unfold iblk; blk_simp
  refine congrArg (V m c main_v14) (Shape.idx_ext₂ ?_ ?_) <;> blk_simp [idx5]
theorem iblk7 (c : Dev nD) (t : Fin cfg0.N) (y : S2816x1024.Idx) : iblk m c 7 t y = V m c main_v16 y := by
  unfold iblk; blk_simp
  refine congrArg (V m c main_v16) (Shape.idx_ext₂ ?_ ?_) <;> blk_simp [idx7]
theorem iblk6 (c : Dev nD) (t : Fin cfg0.N) (y : S4x1024x1408.Idx) : iblk m c 6 t y = V m c main_v13 y := by
  unfold iblk; blk_simp
  refine congrArg (V m c main_v13) (funext fun a => Fin.ext ?_)
  blk_simp [idx6]
  fin_cases a <;> exact Nat.zero_add _

/-! ## The data of one token -/

def xA (c : Dev nD) (n : Fin 8192) (k : Fin 1024) : EReal := V m c main_arg0 (ix2 n k)
def tgtA (c : Dev nD) (n : Fin 8192) (k : Fin 1024) : EReal := V m c main_arg1 (ix2 n k)
def modA (c : Dev nD) (k : Fin 8192) : EReal := V m c main_v7 (ix2 0 k)
def biasA (c : Dev nD) (k : Fin 8192) : EReal := V m c main_v9 (ix2 0 k)
def shiftA (c : Dev nD) (k : Fin 1024) : EReal := modA m c ⟨3072 + k.val, by omega⟩ + biasA m c ⟨3072 + k.val, by omega⟩
def scaleA (c : Dev nD) (k : Fin 1024) : EReal := modA m c ⟨4096 + k.val, by omega⟩ + biasA m c ⟨4096 + k.val, by omega⟩
def gateA (c : Dev nD) (k : Fin 1024) : EReal := modA m c ⟨5120 + k.val, by omega⟩ + biasA m c ⟨5120 + k.val, by omega⟩
def shiftFA (c : Dev nD) (k : Fin 1024) : EReal := modA m c ⟨6144 + k.val, by omega⟩ + biasA m c ⟨6144 + k.val, by omega⟩
def scaleFA (c : Dev nD) (k : Fin 1024) : EReal := modA m c ⟨7168 + k.val, by omega⟩ + biasA m c ⟨7168 + k.val, by omega⟩
def nrmA (c : Dev nD) (k : Fin 1024) : EReal := V m c main_arg5 (ix2 0 k)
def nrmFA (c : Dev nD) (k : Fin 1024) : EReal := V m c main_v14 (ix2 0 k)
def wiA (c : Dev nD) (p : Fin 4) (k : Fin 1024) (j : Fin 1408) : EReal := V m c main_v13 (ix3 p k j)
def woA (c : Dev nD) (j : Fin 2816) (k : Fin 1024) : EReal := V m c main_v16 (ix2 j k)
/-- The modulated row. -/
def hidA (c : Dev nD) (n : Fin 8192) : Fin 1024 → EReal := hid (shiftA m c) (scaleA m c) (nrmA m c) (xA m c n)
/-- The gate projection (`b = 0`) or the up projection (`b = 2`) at a column of the 2816. -/
def projA (b : ℕ) (hb : b ≤ 2) (c : Dev nD) (n : Fin 8192) (j : Fin 2816) : EReal :=
  projCol (hidA m c n) (wiA m c ⟨b + j.val / 1408, by omega⟩) ⟨j.val % 1408, Nat.mod_lt _ (by decide)⟩
/-- The block's output. -/
def resA (c : Dev nD) (n : Fin 8192) : Fin 1024 → EReal := res (gateA m c) (xA m c n) (down (hidA m c n) (wiA m c) (woA m c))
/-- The gradient of the block's output. -/
def dzA (c : Dev nD) (n : Fin 8192) : Fin 1024 → EReal := dz (shiftFA m c) (scaleFA m c) (nrmFA m c) (tgtA m c n) (resA m c n)
/-- A token's contribution to the accumulator. -/
def sumsA (c : Dev nD) (n : Fin 8192) : ℕ → Fin 1024 → EReal := sums (shiftFA m c) (scaleFA m c) (nrmFA m c) (tgtA m c n) (resA m c n)

theorem shiftB_eq (c : Dev nD) (t : Fin cfg0.N) : shiftB (iblk m c 2 t) (iblk m c 3 t) = shiftA m c :=
  funext fun k => congrArg₂ (· + ·) (iblk2 m c t _) (iblk3 m c t _)
theorem scaleB_eq (c : Dev nD) (t : Fin cfg0.N) : scaleB (iblk m c 2 t) (iblk m c 3 t) = scaleA m c :=
  funext fun k => congrArg₂ (· + ·) (iblk2 m c t _) (iblk3 m c t _)
theorem gateB_eq (c : Dev nD) (t : Fin cfg0.N) : gateB (iblk m c 2 t) (iblk m c 3 t) = gateA m c :=
  funext fun k => congrArg₂ (· + ·) (iblk2 m c t _) (iblk3 m c t _)
theorem shiftFB_eq (c : Dev nD) (t : Fin cfg0.N) : shiftFB (iblk m c 2 t) (iblk m c 3 t) = shiftFA m c :=
  funext fun k => congrArg₂ (· + ·) (iblk2 m c t _) (iblk3 m c t _)
theorem scaleFB_eq (c : Dev nD) (t : Fin cfg0.N) : scaleFB (iblk m c 2 t) (iblk m c 3 t) = scaleFA m c :=
  funext fun k => congrArg₂ (· + ·) (iblk2 m c t _) (iblk3 m c t _)

section
variable (c : Dev nD) (t : Fin cfg0.N) (r : Fin 512) (n : Fin 8192) (h : n.val = t.val * 512 + r.val)
include h
theorem row0 : (fun k => (iblk m c 0 t : Vec Ideal S512x1024 .f32) (ix2 r k)) = xA m c n := funext fun k => iblk0 m c t r k n h
theorem row1 : (fun k => (iblk m c 1 t : Vec Ideal S512x1024 .f32) (ix2 r k)) = tgtA m c n := funext fun k => iblk1 m c t r k n h
omit h
theorem tab4 : (fun k => (iblk m c 4 t : Vec Ideal S1x1024 .f32) (ix2 0 k)) = nrmA m c := funext fun k => iblk4 m c t _
theorem tab5 : (fun k => (iblk m c 5 t : Vec Ideal S1x1024 .f32) (ix2 0 k)) = nrmFA m c := funext fun k => iblk5 m c t _
theorem tab6 : (fun p k j => (iblk m c 6 t : Vec Ideal S4x1024x1408 .bf16) (ix3 p k j)) = wiA m c :=
  funext fun p => funext fun k => funext fun j => iblk6 m c t _
theorem tab7 : (fun j k => (iblk m c 7 t : Vec Ideal S2816x1024 .bf16) (ix2 j k)) = woA m c := funext fun j => funext fun k => iblk7 m c t _
include h

theorem hidB_eq : hidB (iblk m c 0 t) (iblk m c 2 t) (iblk m c 3 t) (iblk m c 4 t) r = hidA m c n := by
  unfold hidB hidA
  rw [shiftB_eq, scaleB_eq, row0 m c t r n h, tab4]

theorem resB_eq : resB (iblk m c 0 t) (iblk m c 2 t) (iblk m c 3 t) (iblk m c 4 t) (iblk m c 6 t) (iblk m c 7 t) r = resA m c n := by
  unfold resB resA
  rw [gateB_eq, row0 m c t r n h, hidB_eq m c t r n h, tab6, tab7]

theorem dzB_eq : dzB (iblk m c 0 t) (iblk m c 1 t) (iblk m c 2 t) (iblk m c 3 t) (iblk m c 4 t) (iblk m c 5 t) (iblk m c 6 t) (iblk m c 7 t) r = dzA m c n := by
  unfold dzB dzA
  rw [shiftFB_eq, scaleFB_eq, row1 m c t r n h, resB_eq m c t r n h, tab5]

theorem sumsB_eq (y : S8x1024.Idx) : sumsB (iblk m c 0 t) (iblk m c 1 t) (iblk m c 2 t) (iblk m c 3 t) (iblk m c 4 t) (iblk m c 5 t) (iblk m c 6 t) (iblk m c 7 t) r y = sumsA m c n (y 0).val (y 1) := by
  unfold sumsB sumsA
  rw [shiftFB_eq, scaleFB_eq, row1 m c t r n h, resB_eq m c t r n h, tab5]
end

theorem projB_eq (b : ℕ) (hb : b ≤ 2) (c : Dev nD) (t : Fin cfg0.N) (y : S512x2816.Idx) (n : Fin 8192) (j : Fin 2816) (h : n.val = t.val * 512 + (y 0).val) (h1 : j.val = (y 1).val) :
    projB (iblk m c 0 t) (iblk m c 2 t) (iblk m c 3 t) (iblk m c 4 t) (iblk m c 6 t) b hb y = projA m b hb c n j := by
  obtain rfl : j = y 1 := Fin.ext h1
  unfold projB projA
  rw [hidB_eq m c t _ n h, ← tab6 m c t]

theorem actB_eq (c : Dev nD) (t : Fin cfg0.N) (y : S512x2816.Idx) (n : Fin 8192) (j : Fin 2816) (h : n.val = t.val * 512 + (y 0).val) (h1 : j.val = (y 1).val) :
    actB (iblk m c 0 t) (iblk m c 2 t) (iblk m c 3 t) (iblk m c 4 t) (iblk m c 6 t) y = glu (projA m 0 (by decide) c n j) (projA m 2 (by decide) c n j) := by
  unfold actB
  rw [projB_eq m 0 _ c t y n j h h1, projB_eq m 2 _ c t y n j h h1]

/-! ## What a point leaves in each block -/

theorem outs8 (c : Dev nD) (t : Fin cfg0.N) (y : S512x2816.Idx) : (outsAt0 m c t.val t.isLt).1 y = projB (iblk m c 0 t) (iblk m c 2 t) (iblk m c 3 t) (iblk m c 4 t) (iblk m c 6 t) 0 (by decide) y := by
  by_cases h0 : t.val % 16 = 0
  · rw [outsAt0_A m c t h0 (by omega)]; dsimp only
    unfold out0_A_8
    rw [View.read_writes_junk_eq_canon]
    exact View.canon_apply_of_pieces _ _ (View.PiecesOf.mem (pieces8_A ..)) y (cover0_A_8 ..)
  · by_cases h1 : t.val % 16 = 15
    · rw [outsAt0_C m c t h0 h1]; dsimp only
      unfold out0_C_8
      rw [View.read_writes_junk_eq_canon]
      exact View.canon_apply_of_pieces _ _ (View.PiecesOf.mem (pieces8_C (hc0' := (hcond0_0 t0_0).mpr rfl) (hc1' := fun h => absurd ((hcond0_1 t0_0).mp h) (by decide)) ..)) y (cover0_C_8 ..)
    · rw [outsAt0_B m c t h0 h1]; dsimp only
      unfold out0_B_8
      rw [View.read_writes_junk_eq_canon]
      exact View.canon_apply_of_pieces _ _ (View.PiecesOf.mem (pieces8_B (hc0' := (hcond0_0 t0_0).mpr rfl) (hc1' := fun h => absurd ((hcond0_1 t0_0).mp h) (by decide)) ..)) y (cover0_B_8 ..)

theorem outs9 (c : Dev nD) (t : Fin cfg0.N) (y : S512x2816.Idx) : (outsAt0 m c t.val t.isLt).2.1 y = projB (iblk m c 0 t) (iblk m c 2 t) (iblk m c 3 t) (iblk m c 4 t) (iblk m c 6 t) 2 (by decide) y := by
  by_cases h0 : t.val % 16 = 0
  · rw [outsAt0_A m c t h0 (by omega)]; dsimp only
    unfold out0_A_9
    rw [View.read_writes_junk_eq_canon]
    exact View.canon_apply_of_pieces _ _ (View.PiecesOf.mem (pieces9_A ..)) y (cover0_A_9 ..)
  · by_cases h1 : t.val % 16 = 15
    · rw [outsAt0_C m c t h0 h1]; dsimp only
      unfold out0_C_9
      rw [View.read_writes_junk_eq_canon]
      exact View.canon_apply_of_pieces _ _ (View.PiecesOf.mem (pieces9_C (hc0' := (hcond0_0 t0_0).mpr rfl) (hc1' := fun h => absurd ((hcond0_1 t0_0).mp h) (by decide)) ..)) y (cover0_C_9 ..)
    · rw [outsAt0_B m c t h0 h1]; dsimp only
      unfold out0_B_9
      rw [View.read_writes_junk_eq_canon]
      exact View.canon_apply_of_pieces _ _ (View.PiecesOf.mem (pieces9_B (hc0' := (hcond0_0 t0_0).mpr rfl) (hc1' := fun h => absurd ((hcond0_1 t0_0).mp h) (by decide)) ..)) y (cover0_B_9 ..)

theorem outs10 (c : Dev nD) (t : Fin cfg0.N) (y : S512x2816.Idx) : (outsAt0 m c t.val t.isLt).2.2.1 y = actB (iblk m c 0 t) (iblk m c 2 t) (iblk m c 3 t) (iblk m c 4 t) (iblk m c 6 t) y := by
  by_cases h0 : t.val % 16 = 0
  · rw [outsAt0_A m c t h0 (by omega)]; dsimp only
    unfold out0_A_10
    rw [View.read_writes_junk_eq_canon]
    exact View.canon_apply_of_pieces _ _ (View.PiecesOf.mem (pieces10_A ..)) y (cover0_A_10 ..)
  · by_cases h1 : t.val % 16 = 15
    · rw [outsAt0_C m c t h0 h1]; dsimp only
      unfold out0_C_10
      rw [View.read_writes_junk_eq_canon]
      exact View.canon_apply_of_pieces _ _ (View.PiecesOf.mem (pieces10_C (hc0' := (hcond0_0 t0_0).mpr rfl) (hc1' := fun h => absurd ((hcond0_1 t0_0).mp h) (by decide)) ..)) y (cover0_C_10 ..)
    · rw [outsAt0_B m c t h0 h1]; dsimp only
      unfold out0_B_10
      rw [View.read_writes_junk_eq_canon]
      exact View.canon_apply_of_pieces _ _ (View.PiecesOf.mem (pieces10_B (hc0' := (hcond0_0 t0_0).mpr rfl) (hc1' := fun h => absurd ((hcond0_1 t0_0).mp h) (by decide)) ..)) y (cover0_B_10 ..)

theorem outs11 (c : Dev nD) (t : Fin cfg0.N) (y : S512x1024.Idx) : (outsAt0 m c t.val t.isLt).2.2.2.1 y = hidB (iblk m c 0 t) (iblk m c 2 t) (iblk m c 3 t) (iblk m c 4 t) (y 0) (y 1) := by
  by_cases h0 : t.val % 16 = 0
  · rw [outsAt0_A m c t h0 (by omega)]; dsimp only
    unfold out0_A_11
    rw [View.read_writes_junk_eq_canon]
    exact View.canon_apply_of_pieces _ _ (View.PiecesOf.mem (pieces11_A ..)) y (cover0_A_11 ..)
  · by_cases h1 : t.val % 16 = 15
    · rw [outsAt0_C m c t h0 h1]; dsimp only
      unfold out0_C_11
      rw [View.read_writes_junk_eq_canon]
      exact View.canon_apply_of_pieces _ _ (View.PiecesOf.mem (pieces11_C (hc0' := (hcond0_0 t0_0).mpr rfl) (hc1' := fun h => absurd ((hcond0_1 t0_0).mp h) (by decide)) ..)) y (cover0_C_11 ..)
    · rw [outsAt0_B m c t h0 h1]; dsimp only
      unfold out0_B_11
      rw [View.read_writes_junk_eq_canon]
      exact View.canon_apply_of_pieces _ _ (View.PiecesOf.mem (pieces11_B (hc0' := (hcond0_0 t0_0).mpr rfl) (hc1' := fun h => absurd ((hcond0_1 t0_0).mp h) (by decide)) ..)) y (cover0_B_11 ..)

theorem outs12 (c : Dev nD) (t : Fin cfg0.N) (y : S512x1024.Idx) : (outsAt0 m c t.val t.isLt).2.2.2.2.1 y = dzB (iblk m c 0 t) (iblk m c 1 t) (iblk m c 2 t) (iblk m c 3 t) (iblk m c 4 t) (iblk m c 5 t) (iblk m c 6 t) (iblk m c 7 t) (y 0) (y 1) := by
  by_cases h0 : t.val % 16 = 0
  · rw [outsAt0_A m c t h0 (by omega)]; dsimp only
    unfold out0_A_12
    rw [View.read_writes_junk_eq_canon]
    exact View.canon_apply_of_pieces _ _ (View.PiecesOf.mem (pieces12_A ..)) y (cover0_A_12 ..)
  · by_cases h1 : t.val % 16 = 15
    · rw [outsAt0_C m c t h0 h1]; dsimp only
      unfold out0_C_12
      rw [View.read_writes_junk_eq_canon]
      exact View.canon_apply_of_pieces _ _ (View.PiecesOf.mem (pieces12_C (hc0' := (hcond0_0 t0_0).mpr rfl) (hc1' := fun h => absurd ((hcond0_1 t0_0).mp h) (by decide)) ..)) y (cover0_C_12 ..)
    · rw [outsAt0_B m c t h0 h1]; dsimp only
      unfold out0_B_12
      rw [View.read_writes_junk_eq_canon]
      exact View.canon_apply_of_pieces _ _ (View.PiecesOf.mem (pieces12_B (hc0' := (hcond0_0 t0_0).mpr rfl) (hc1' := fun h => absurd ((hcond0_1 t0_0).mp h) (by decide)) ..)) y (cover0_B_12 ..)

theorem outs13_first (c : Dev nD) (y : S8x1024.Idx) (t : Fin cfg0.N) (h : t.val % 16 = 0) :
    (outsAt0 m c t.val t.isLt).2.2.2.2.2 y = 0 + ∑ r : Fin 512, sumsB (iblk m c 0 t) (iblk m c 1 t) (iblk m c 2 t) (iblk m c 3 t) (iblk m c 4 t) (iblk m c 5 t) (iblk m c 6 t) (iblk m c 7 t) r y := by
  rw [outsAt0_A m c t h (by omega), zero_add]; dsimp only
  exact out_A_13 ..

/-- The last point, at every row. -/
theorem outs13_end (c : Dev nD) (y : S8x1024.Idx) (t : Fin cfg0.N) (h : t.val % 16 = 15) :
    (outsAt0 m c t.val t.isLt).2.2.2.2.2 y
      = if (y 0).val = 4 then (∑ k : Fin 1024, ((outsAt0 m c (t.val - 1) (Nat.lt_of_le_of_lt (Nat.sub_le _ _) t.isLt)).2.2.2.2.2 (ix2 3 k) + ∑ r : Fin 512, sumsB (iblk m c 0 t) (iblk m c 1 t) (iblk m c 2 t) (iblk m c 3 t) (iblk m c 4 t) (iblk m c 5 t) (iblk m c 6 t) (iblk m c 7 t) r (ix2 3 k))) * Ideal.ofBits .f32 0x3A000000#32
        else (outsAt0 m c (t.val - 1) (Nat.lt_of_le_of_lt (Nat.sub_le _ _) t.isLt)).2.2.2.2.2 y + ∑ r : Fin 512, sumsB (iblk m c 0 t) (iblk m c 1 t) (iblk m c 2 t) (iblk m c 3 t) (iblk m c 4 t) (iblk m c 5 t) (iblk m c 6 t) (iblk m c 7 t) r y := by
  rw [outsAt0_C m c t (by omega) h]; dsimp only
  exact out_C_13 (hc0' := fun h => absurd ((hcond0_0 t0_1).mp h) (by decide)) (hc1' := fun h => absurd ((hcond0_1 t0_1).mp h) (by decide)) ..

theorem outs13_next (c : Dev nD) (y : S8x1024.Idx) (hy : ¬(y 0).val = 4) (t : Fin cfg0.N) (h : ¬t.val % 16 = 0) :
    (outsAt0 m c t.val t.isLt).2.2.2.2.2 y = (outsAt0 m c (t.val - 1) (Nat.lt_of_le_of_lt (Nat.sub_le _ _) t.isLt)).2.2.2.2.2 y + ∑ r : Fin 512, sumsB (iblk m c 0 t) (iblk m c 1 t) (iblk m c 2 t) (iblk m c 3 t) (iblk m c 4 t) (iblk m c 5 t) (iblk m c 6 t) (iblk m c 7 t) r y := by
  by_cases h1 : t.val % 16 = 15
  · rw [outs13_end m c y t h1, if_neg hy]
  · rw [outsAt0_B m c t h h1]; dsimp only
    exact out_B_13 ..

/-- The accumulator at the end: the sums over all tokens, but for the loss's row. -/
theorem outs13_ne (c : Dev nD) (y : S8x1024.Idx) (hy : ¬(y 0).val = 4) :
    (outsAt0 m c t0_15.val t0_15.isLt).2.2.2.2.2 y = ∑ n : Fin 8192, sumsA m c n (y 0).val (y 1) := by
  have hstep := Pipeline.eq_sum_fin_of_reset_step_last (N := cfg0.N) (fun n h => (outsAt0 m c n h).2.2.2.2.2 y) 16 (0 : EReal)
    (fun t => ∑ r : Fin 512, sumsB (iblk m c 0 t) (iblk m c 1 t) (iblk m c 2 t) (iblk m c 3 t) (iblk m c 4 t) (iblk m c 5 t) (iblk m c 6 t) (iblk m c 7 t) r y) (outs13_first m c y) (outs13_next m c y hy) (by decide) t0_15 rfl
  refine hstep.trans ?_
  rw [zero_add]
  refine Eq.trans ?_ (Fin.sum_univ_tiles 16 512 rfl _).symm
  exact Finset.sum_congr rfl fun t _ => Finset.sum_congr rfl fun r _ => sumsB_eq m c t r _ rfl y

/-- The accumulator at the end. -/
theorem outs13 (c : Dev nD) (y : S8x1024.Idx) :
    (outsAt0 m c t0_15.val t0_15.isLt).2.2.2.2.2 y
      = if (y 0).val = 4 then (∑ k : Fin 1024, ∑ n : Fin 8192, sumsA m c n 3 k) * Ideal.ofBits .f32 0x3A000000#32
        else ∑ n : Fin 8192, sumsA m c n (y 0).val (y 1) := by
  by_cases hy : (y 0).val = 4
  · rw [outs13_end m c y t0_15 rfl, if_pos hy, if_pos hy]
    refine congrArg (fun s : EReal => s * Ideal.ofBits .f32 0x3A000000#32) (Finset.sum_congr rfl fun k _ => ?_)
    rw [← outs13_next m c (ix2 3 k) (by show ¬(3 = 4); decide) t0_15 (by decide)]
    exact outs13_ne m c (ix2 3 k) (by show ¬(3 = 4); decide)
  · rw [if_neg hy]
    exact outs13_ne m c y hy

/-! ## The arrays after the run -/

theorem arr8 (c : Dev nD) : (dats m 0 c).arrAt 8 cfg0.N = fun y : S8192x2816.Idx => projA m 0 (by decide) c (y 0) (y 1) := by
  refine (dats m 0 c).arrAt_eq_of_covers 8 _ (by decide +kernel) fun t hf y => ?_
  blk_simp
  rw [after0_8, outs8]
  refine projB_eq m 0 _ c t _ _ _ ?_ ?_ <;> blk_simp [idx8]

theorem arr9 (c : Dev nD) : (dats m 0 c).arrAt 9 cfg0.N = fun y : S8192x2816.Idx => projA m 2 (by decide) c (y 0) (y 1) := by
  refine (dats m 0 c).arrAt_eq_of_covers 9 _ (by decide +kernel) fun t hf y => ?_
  blk_simp
  rw [after0_9, outs9]
  refine projB_eq m 2 _ c t _ _ _ ?_ ?_ <;> blk_simp [idx9]

theorem arr10 (c : Dev nD) : (dats m 0 c).arrAt 10 cfg0.N = fun y : S8192x2816.Idx => glu (projA m 0 (by decide) c (y 0) (y 1)) (projA m 2 (by decide) c (y 0) (y 1)) := by
  refine (dats m 0 c).arrAt_eq_of_covers 10 _ (by decide +kernel) fun t hf y => ?_
  blk_simp
  rw [after0_10, outs10]
  refine actB_eq m c t _ _ _ ?_ ?_ <;> blk_simp [idx10]

theorem arr11 (c : Dev nD) : (dats m 0 c).arrAt 11 cfg0.N = fun y : S8192x1024.Idx => hidA m c (y 0) (y 1) := by
  refine (dats m 0 c).arrAt_eq_of_covers 11 _ (by decide +kernel) fun t hf y => ?_
  blk_simp
  rw [after0_11, outs11]
  refine congr (hidB_eq m c t _ _ ?_) (Fin.ext ?_) <;> blk_simp [idx11]

theorem arr12 (c : Dev nD) : (dats m 0 c).arrAt 12 cfg0.N = fun y : S8192x1024.Idx => dzA m c (y 0) (y 1) := by
  refine (dats m 0 c).arrAt_eq_of_covers 12 _ (by decide +kernel) fun t hf y => ?_
  blk_simp
  rw [after0_12, outs12]
  refine congr (dzB_eq m c t _ _ ?_) (Fin.ext ?_) <;> blk_simp [idx12]

theorem arr13 (c : Dev nD) : (dats m 0 c).arrAt 13 cfg0.N
    = fun y : S8x1024.Idx => if (y 0).val = 4 then (∑ k : Fin 1024, ∑ n : Fin 8192, sumsA m c n 3 k) * Ideal.ofBits .f32 0x3A000000#32
        else ∑ n : Fin 8192, sumsA m c n (y 0).val (y 1) := by
  refine (dats m 0 c).arrAt_eq_of_after_last 13 t0_15 (by decide +kernel) _ fun j => ?_
  blk_simp
  rw [after0_13]
  exact outs13 m c j

end Cert.FfnForwardIdeal.Pt

end
-- ==== Proof.FwdHost.lean ====
module

public import proofs.«01_k».proof.Proof.FwdKernel
public import proofs.«01_k».proof.Proof.Forward

@[expose] public section

set_option maxRecDepth 16384

/-! # The arrays the forward call's host code prepares, read off the arguments

The conditioning product and its bias hold the block's 6144 entries and then the final norm's 2048. -/

noncomputable section

namespace Cert.FfnForwardIdeal.Pt

open Cert.FfnForwardIdeal Cert.FfnForwardIdeal.Gen Idealize.ShloMosaic Idealize.ShloMosaic.TcCoe Idealize.SL.Sem Cert.FfnBwd Cert.FfnFwd

variable (m : (ℓ : Loc nD τ sig) → Buf (Elt Ideal) ℓ)

/-- The block's input, the target, the conditioning input, its weights and bias, and the final norm's. -/
def xI (c : Dev nD) (n : Fin 8192) (k : Fin 1024) : EReal := m ((c : Thread nD τ).loc main_arg0) (ix2 n k)
def tgtI (c : Dev nD) (n : Fin 8192) (k : Fin 1024) : EReal := m ((c : Thread nD τ).loc main_arg1) (ix2 n k)
def cI (c : Dev nD) (k : Fin 1024) : EReal := m ((c : Thread nD τ).loc main_arg2) (ix2 0 k)
def awI (c : Dev nD) (k : Fin 1024) (j : Fin 6144) : EReal := m ((c : Thread nD τ).loc main_arg3) (ix3 0 k j)
def abI (c : Dev nD) (j : Fin 6144) : EReal := m ((c : Thread nD τ).loc main_arg4) (ix2 0 j)
def nrmI (c : Dev nD) (k : Fin 1024) : EReal := m ((c : Thread nD τ).loc main_arg5) (ix2 0 k)
def wiI (c : Dev nD) (k : Fin 1024) (j : Fin 5632) : EReal := m ((c : Thread nD τ).loc main_arg6) (ix3 0 k j)
def woI (c : Dev nD) (j : Fin 2816) (k : Fin 1024) : EReal := m ((c : Thread nD τ).loc main_arg7) (ix3 0 j k)
def afwI (c : Dev nD) (k : Fin 1024) (j : Fin 2048) : EReal := m ((c : Thread nD τ).loc main_arg8) (ix2 k j)
def afbI (c : Dev nD) (j : Fin 2048) : EReal := m ((c : Thread nD τ).loc main_arg9) (ix1 j)
def nrmFI (c : Dev nD) (k : Fin 1024) : EReal := m ((c : Thread nD τ).loc main_arg10) (ix1 k)
/-- The conditioning vector of the block. -/
def condI (c : Dev nD) : Fin 6144 → EReal := condVec (cI m c) (awI m c) (abI m c)
/-- The conditioning vector of the final norm. -/
def condFI (c : Dev nD) : Fin 2048 → EReal := condF (cI m c) (afwI m c) (afbI m c)

theorem xA_eq (c : Dev nD) : xA m c = xI m c := by funext n k; unfold xA xI; rw [V_main_arg0]
theorem tgtA_eq (c : Dev nD) : tgtA m c = tgtI m c := by funext n k; unfold tgtA tgtI; rw [V_main_arg1]
theorem nrmA_eq (c : Dev nD) : nrmA m c = nrmI m c := by funext k; unfold nrmA nrmI; rw [V_main_arg5]

/-- The conditioning product: the block's part. -/
theorem modA_lt (c : Dev nD) (k : Fin 8192) (h : k.val < 6144) : modA m c k = condMul (cI m c) (awI m c) ⟨k.val, h⟩ := by
  unfold modA V
  simp only [hostOps0, hostOps0_1, List.flatten_cons, List.flatten_nil, List.append_nil, List.cons_append, List.nil_append]
  generalize hf : ((fun a b => concatenate S1x8192 1 [⟨S1x6144, a⟩, ⟨S1x2048, b⟩] concatenates_S1x6144_S1x2048_S1x8192_d1) :
    (⟨S1x6144, .f32⟩ : BufTy).Contents (Elt Ideal) → (⟨S1x2048, .f32⟩ : BufTy).Contents (Elt Ideal) → (⟨S1x8192, .f32⟩ : BufTy).Contents (Elt Ideal)) = f
  after_reads_simp
  subst hf
  simp -implicitDefEqProofs only [StableHlo.TRef.toBuf, StableHlo.TRef.ofBuf, cast_cast, cast_eq]
  clean_types
  pointwise
  rw [dif_pos h]
  rfl

/-- The conditioning product: the final norm's part. -/
theorem modA_ge (c : Dev nD) (k : Fin 8192) (h : ¬k.val < 6144) : modA m c k = condFMul (cI m c) (afwI m c) ⟨k.val - 6144, by omega⟩ := by
  unfold modA V
  simp only [hostOps0, hostOps0_1, List.flatten_cons, List.flatten_nil, List.append_nil, List.cons_append, List.nil_append]
  generalize hf : ((fun a b => concatenate S1x8192 1 [⟨S1x6144, a⟩, ⟨S1x2048, b⟩] concatenates_S1x6144_S1x2048_S1x8192_d1) :
    (⟨S1x6144, .f32⟩ : BufTy).Contents (Elt Ideal) → (⟨S1x2048, .f32⟩ : BufTy).Contents (Elt Ideal) → (⟨S1x8192, .f32⟩ : BufTy).Contents (Elt Ideal)) = f
  after_reads_simp
  subst hf
  simp -implicitDefEqProofs only [StableHlo.TRef.toBuf, StableHlo.TRef.ofBuf, cast_cast, cast_eq]
  clean_types
  pointwise
  rw [dif_neg h]
  rfl

/-- The bias: the block's part. -/
theorem biasA_lt (c : Dev nD) (k : Fin 8192) (h : k.val < 6144) : biasA m c k = abI m c ⟨k.val, h⟩ := by
  unfold biasA V
  simp only [hostOps0, hostOps0_1, List.flatten_cons, List.flatten_nil, List.append_nil, List.cons_append, List.nil_append]
  generalize hf : ((fun a b => concatenate S1x8192 1 [⟨S1x6144, a⟩, ⟨S1x2048, b⟩] concatenates_S1x6144_S1x2048_S1x8192_d1) :
    (⟨S1x6144, .f32⟩ : BufTy).Contents (Elt Ideal) → (⟨S1x2048, .f32⟩ : BufTy).Contents (Elt Ideal) → (⟨S1x8192, .f32⟩ : BufTy).Contents (Elt Ideal)) = f
  after_reads_simp
  subst hf
  simp -implicitDefEqProofs only [StableHlo.TRef.toBuf, StableHlo.TRef.ofBuf, cast_cast, cast_eq]
  clean_types
  pointwise
  rw [dif_pos h]
  rfl

/-- The bias: the final norm's part. -/
theorem biasA_ge (c : Dev nD) (k : Fin 8192) (h : ¬k.val < 6144) : biasA m c k = afbI m c ⟨k.val - 6144, by omega⟩ := by
  unfold biasA V
  simp only [hostOps0, hostOps0_1, List.flatten_cons, List.flatten_nil, List.append_nil, List.cons_append, List.nil_append]
  generalize hf : ((fun a b => concatenate S1x8192 1 [⟨S1x6144, a⟩, ⟨S1x2048, b⟩] concatenates_S1x6144_S1x2048_S1x8192_d1) :
    (⟨S1x6144, .f32⟩ : BufTy).Contents (Elt Ideal) → (⟨S1x2048, .f32⟩ : BufTy).Contents (Elt Ideal) → (⟨S1x8192, .f32⟩ : BufTy).Contents (Elt Ideal)) = f
  after_reads_simp
  subst hf
  simp -implicitDefEqProofs only [StableHlo.TRef.toBuf, StableHlo.TRef.ofBuf, cast_cast, cast_eq]
  clean_types
  pointwise
  rw [dif_neg h]
  rfl

theorem shiftA_eq (c : Dev nD) : shiftA m c = shiftOf (condI m c) := by
  funext k
  have h : 3072 + k.val < 6144 := by omega
  unfold shiftA shiftOf condI condVec
  rw [modA_lt m c _ h, biasA_lt m c _ h]
theorem scaleA_eq (c : Dev nD) : scaleA m c = scaleOf (condI m c) := by
  funext k
  have h : 4096 + k.val < 6144 := by omega
  unfold scaleA scaleOf condI condVec
  rw [modA_lt m c _ h, biasA_lt m c _ h]
theorem gateA_eq (c : Dev nD) : gateA m c = gateOf (condI m c) := by
  funext k
  have h : 5120 + k.val < 6144 := by omega
  unfold gateA gateOf condI condVec
  rw [modA_lt m c _ h, biasA_lt m c _ h]
theorem shiftFA_eq (c : Dev nD) : shiftFA m c = shiftFOf (condFI m c) := by
  funext k
  have h : ¬6144 + k.val < 6144 := by omega
  have e : (⟨6144 + k.val - 6144, by omega⟩ : Fin 2048) = ⟨k.val, by omega⟩ := Fin.ext (by show 6144 + k.val - 6144 = k.val; omega)
  unfold shiftFA shiftFOf condFI condF
  rw [modA_ge m c _ h, biasA_ge m c _ h, e]
theorem scaleFA_eq (c : Dev nD) : scaleFA m c = scaleFOf (condFI m c) := by
  funext k
  have h : ¬7168 + k.val < 6144 := by omega
  have e : (⟨7168 + k.val - 6144, by omega⟩ : Fin 2048) = ⟨1024 + k.val, by omega⟩ := Fin.ext (by show 7168 + k.val - 6144 = 1024 + k.val; omega)
  unfold scaleFA scaleFOf condFI condF
  rw [modA_ge m c _ h, biasA_ge m c _ h, e]

/-- The gate and up projections cut in four. -/
theorem wiA_eq (c : Dev nD) : wiA m c = fun p k j => wiI m c k ⟨p.val * 1408 + j.val, by omega⟩ := by
  funext p k j
  unfold wiA V
  simp only [hostOps0, hostOps0_1, List.flatten_cons, List.flatten_nil, List.append_nil, List.cons_append, List.nil_append]
  after_reads_at
  rfl

/-- The down projection. -/
theorem woA_eq (c : Dev nD) : woA m c = woI m c := by
  funext j k
  unfold woA V
  simp only [hostOps0, hostOps0_1, List.flatten_cons, List.flatten_nil, List.append_nil, List.cons_append, List.nil_append]
  after_reads_at
  rfl

/-- The final norm's weight. -/
theorem nrmFA_eq (c : Dev nD) : nrmFA m c = nrmFI m c := by
  funext k
  unfold nrmFA V
  simp only [hostOps0, hostOps0_1, List.flatten_cons, List.flatten_nil, List.append_nil, List.cons_append, List.nil_append]
  after_reads_at
  rfl

end Cert.FfnForwardIdeal.Pt

end
-- ==== Proof.FwdReals.lean ====
module

public import proofs.«01_k».proof.Proof.FwdRows
public import proofs.«01_k».proof.Proof.OutAgree

@[expose] public section

/-! # The two spellings of the forward rows

What the kernel computes for one token and what the reference computes are equal: the products always, the loss and the gradients between
real numbers. -/

noncomputable section

namespace Cert.FfnFwd

open Idealize.ShloMosaic Cert.FfnBwd

/-- The modulated row. -/
theorem hid_eq (shift scale nrm x : Fin 1024 → EReal) : hid shift scale nrm x = h2 shift scale nrm x := by
  funext k
  unfold hid h2
  rw [rms_eq]

/-- A piece of the projections is a run of 1408 of their columns. -/
theorem projCol_eq (h : Fin 1024 → EReal) (wi : Fin 1024 → Fin 5632 → EReal) (p : Fin 4) (j : Fin 1408) (q : Fin 5632) (hq : q.val = p.val * 1408 + j.val) :
    projCol h (fun k j => wi k ⟨p.val * 1408 + j.val, by omega⟩) j = ∑ k, h k * wi k q := by
  exact Finset.sum_congr rfl fun k _ => congrArg (fun q => h k * wi k q) (Fin.ext hq.symm)

/-- The gated activation. -/
theorem glu_eq (v : Fin 5632 → EReal) (j : Fin 2816) : glu (v (colG j)) (v (colU j)) = act v j := by
  unfold glu act
  rw [sigm_neg]

/-- The down projection over all 2816 columns at once. -/
theorem down_eq (shift scale nrm x : Fin 1024 → EReal) (wi : Fin 1024 → Fin 5632 → EReal) (wo : Fin 2816 → Fin 1024 → EReal) (k : Fin 1024) :
    down (hid shift scale nrm x) (fun p k j => wi k ⟨p.val * 1408 + j.val, by omega⟩) wo k = ∑ j, act (ff shift scale nrm x wi) j * wo j k := by
  rw [Fin.sum_univ_two_halves 1408 1408 rfl fun j : Fin 2816 => act (ff shift scale nrm x wi) j * wo j k]
  unfold down
  refine congrArg₂ (· + ·) (Finset.sum_congr rfl fun j _ => ?_) (Finset.sum_congr rfl fun j _ => ?_)
  · rw [projCol_eq _ wi 0 j (colG (lo j)) (by show j.val = 0 * 1408 + j.val; omega), projCol_eq _ wi 2 j (colU (lo j)) (by show 2816 + j.val = 2 * 1408 + j.val; omega),
      hid_eq]
    exact congrArg (· * wo (lo j) k) (glu_eq (ff shift scale nrm x wi) (lo j))
  · rw [projCol_eq _ wi 1 j (colG (hi j)) (by show 1408 + j.val = 1 * 1408 + j.val; omega), projCol_eq _ wi 3 j (colU (hi j)) (by show 2816 + (1408 + j.val) = 3 * 1408 + j.val; omega),
      hid_eq]
    exact congrArg (· * wo (hi j) k) (glu_eq (ff shift scale nrm x wi) (hi j))

/-- The constants two, one half and 1/2048. -/
theorem ofBits_two : Ideal.ofBits .f32 0x40000000#32 = ((2 : ℝ) : EReal) := by simp [Ideal.ofBits, Ideal.ieee, -EReal.coe_mul]; norm_num
theorem ofBits_half : Ideal.ofBits .f32 0x3F000000#32 = ((1 / 2 : ℝ) : EReal) := by simp [Ideal.ofBits, Ideal.ieee, -EReal.coe_mul]; norm_num
theorem ofBits_inv2048 : Ideal.ofBits .f32 0x3A000000#32 = ((1 / 2048 : ℝ) : EReal) := by simp [Ideal.ofBits, Ideal.ieee, -EReal.coe_mul]; norm_num

/-- The loss's gradient as the reference's transposed mean and square spell it. -/
theorem dout_forms {e : EReal} (he : IsR e) :
    Ideal.div (Ideal.ofBits .f32 0x3F000000#32) (Ideal.ofBits .f32 0x44800000#32) * (Ideal.ofBits .f32 0x40000000#32 * e)
      = e * Ideal.ofBits .f32 0x3A800000#32 := by
  obtain ⟨e, rfl⟩ := he
  rw [ofBits_half, ofBits_1024, ofBits_two, ofBits_inv1024, Ideal.div_coe (by norm_num)]
  norm_cast
  ring

/-- The loss: the squares summed over the tokens first or last. -/
theorem loss_forms {f : Fin 8192 → Fin 1024 → EReal} (hf : ∀ n k, IsR (f n k)) :
    (∑ k, ∑ n, f n k) * Ideal.ofBits .f32 0x3A000000#32
      = Ideal.ofBits .f32 0x3F000000#32 * ∑ n, Ideal.div (∑ k, f n k) (Ideal.ofBits .f32 0x44800000#32) := by
  choose g hg using hf
  rw [ofBits_half, ofBits_1024, ofBits_inv2048]
  simp only [hg, coe_sum, Ideal.div_coe (show (1024 : ℝ) ≠ 0 by norm_num), ← EReal.coe_mul]
  refine congrArg _ ?_
  rw [Finset.sum_comm, ← Finset.sum_mul]
  ring

theorem IsR.act {v : Fin 5632 → EReal} (hv : ∀ j, IsR (v j)) (j : Fin 2816) : IsR (act v j) := Cert.GradOutIdeal.Pt.isR_act hv j

theorem IsR.condF {cv : Fin 1024 → EReal} {aw : Fin 1024 → Fin 2048 → EReal} {ab : Fin 2048 → EReal} (hc : ∀ k, IsR (cv k))
    (hw : ∀ k j, IsR (aw k j)) (hb : ∀ j, IsR (ab j)) (j : Fin 2048) : IsR (condF cv aw ab j) := by
  unfold FfnFwd.condF condFMul
  refine (IsR.sum fun k => ?_).add (hb j)
  rw [sigm_neg]
  exact ((hc k).mul (hc k).sigm).mul (hw k j)

section
variable {shift scale nrm tgt z : Fin 1024 → EReal} (hsh : ∀ k, IsR (shift k)) (hsc : ∀ k, IsR (scale k)) (hn : ∀ k, IsR (nrm k))
  (ht : ∀ k, IsR (tgt k)) (hz : ∀ k, IsR (z k))
include hn hz

theorem IsR.nf (k : Fin 1024) : IsR (nf nrm z k) := by
  unfold FfnFwd.nf
  rw [rms_eq]
  exact ((hz k).mul (IsR.rmsF hz)).mul (hn k)

include hsh hsc ht

theorem IsR.err (k : Fin 1024) : IsR (err shift scale nrm tgt z k) := (((IsR.nf hn hz k).mul (IsR.one.add (hsc k))).add (hsh k)).sub (ht k)

theorem IsR.dout (k : Fin 1024) : IsR (dout shift scale nrm tgt z k) := by
  unfold FfnFwd.dout
  rw [ofBits_inv1024]
  exact (IsR.err hsh hsc hn ht hz k).mul (IsR.coe _)

/-- The gradient of the block's output, as the transposed final norm spells it. -/
theorem dz_eq (k : Fin 1024) : dz shift scale nrm tgt z k
    = dx1R (fun _ => 0) z (fun k => FfnFwd.dout shift scale nrm tgt z k * (1 + scale k) * nrm k) k := by
  rw [← dx1_eq hsc hn (fun _ => IsR.zero) hz (IsR.dout hsh hsc hn ht hz) k]
  unfold dz dx1
  rw [zero_add]
end

end Cert.FfnFwd

end
-- ==== Proof.FwdRef.lean ====
module

public import proofs.«01_k».proof.Proof.FwdReals
public import proofs.«01_k».proof.Proof.Gen.RefFfnIdeal.Run
public import proofs.«01_k».proof.Proof.Gen.RefFfnIdeal.Read

@[expose] public section

set_option maxRecDepth 16384

/-! # The forward reference's stages at an index -/

noncomputable section

namespace Cert.RefFfnIdeal.Rd

open Cert.RefFfnIdeal Cert.RefFfnIdeal.Gen Cert.RefFfnIdeal.Value Cert.RefFfnIdeal.Read Idealize.ShloMosaic Idealize.ShloMosaic.TcCoe Cert.FfnBwd Cert.FfnFwd
open Cert.ReferenceIdeal.Rd (condR ffR)

variable (x0 : (⟨S8192x1024, .f32⟩ : BufTy).Contents (Elt Ideal)) (x1 : (⟨S8192x1024, .f32⟩ : BufTy).Contents (Elt Ideal)) (x2 : (⟨S1x1024, .f32⟩ : BufTy).Contents (Elt Ideal)) (x3 : (⟨S1x1024x6144, .f32⟩ : BufTy).Contents (Elt Ideal)) (x4 : (⟨S1x6144, .f32⟩ : BufTy).Contents (Elt Ideal)) (x5 : (⟨S1x1024, .f32⟩ : BufTy).Contents (Elt Ideal)) (x6 : (⟨S1x1024x5632, .f32⟩ : BufTy).Contents (Elt Ideal)) (x7 : (⟨S1x2816x1024, .f32⟩ : BufTy).Contents (Elt Ideal)) (x8 : (⟨S1024x2048, .f32⟩ : BufTy).Contents (Elt Ideal)) (x9 : (⟨S2048, .f32⟩ : BufTy).Contents (Elt Ideal)) (x10 : (⟨S1024, .f32⟩ : BufTy).Contents (Elt Ideal))

/-- The final norm's conditioning vector from the arguments. -/
def condFR : Fin 2048 → EReal := condF (fun k => x2 (ix2 0 k)) (fun k j => x8 (ix2 k j)) (fun j => x9 (ix1 j))

/-- Row `n` of the modulated input. -/
def hR (n : Fin 8192) : Fin 1024 → EReal :=
  h2 (shiftOf (condR x2 x3 x4)) (scaleOf (condR x2 x3 x4)) (fun k => x5 (ix2 0 k)) (fun k => x0 (ix2 n k))

/-- Row `n` of the block's output. -/
def resR (n : Fin 8192) : Fin 1024 → EReal :=
  res (gateOf (condR x2 x3 x4)) (fun k => x0 (ix2 n k)) (fun k => ∑ j, act (ffR x0 x2 x3 x4 x5 x6 n) j * x7 (ix3 0 j k))

theorem e5 (k : Fin 6144) : val_main_v5 (F := Ideal) x2 x3 x4 (ix2 0 k) = condR x2 x3 x4 k := by
  pointwise [val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  rfl

theorem e28 (n : Fin 8192) (k : Fin 1024) : val_main_v28 (F := Ideal) x0 x2 x3 x4 x5 (ix2 n k) = hR x0 x2 x3 x4 x5 n k := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1, val_main_cst_2]
  rw [e5, e5]
  rfl

theorem e30 (n : Fin 8192) (j : Fin 5632) : val_main_v30 (F := Ideal) x0 x2 x3 x4 x5 x6 (ix2 n j) = ffR x0 x2 x3 x4 x5 x6 n j := by
  pointwise [val_main_v30, val_main_v29]
  simp only [e28]
  rfl

/-- The gate projection, cast to bf16 (which changes nothing between ideal numbers). -/
theorem e119 (n : Fin 8192) (j : Fin 2816) : val_main_v119 (F := Ideal) x0 x2 x3 x4 x5 x6 (ix2 n j) = ffR x0 x2 x3 x4 x5 x6 n (colG j) := by
  pointwise [val_main_v119, val_main_v31]
  exact e30 ..

/-- The up projection. -/
theorem e120 (n : Fin 8192) (j : Fin 2816) : val_main_v120 (F := Ideal) x0 x2 x3 x4 x5 x6 (ix2 n j) = ffR x0 x2 x3 x4 x5 x6 n (colU j) := by
  pointwise [val_main_v120, val_main_v32]
  exact e30 ..

theorem e34 (n : Fin 8192) (j : Fin 2816) : val_main_v34 (F := Ideal) x0 x2 x3 x4 x5 x6 (ix2 n j) = act (ffR x0 x2 x3 x4 x5 x6 n) j := by
  pointwise [val_main_v34, val_main_v33, val_main_v32, val_main_v31, val_main_call1_v5, val_main_call1_v4, val_main_call1_v3, val_main_call1_v2, val_main_call1_v1, val_main_call1_v0, val_main_call1_cst, val_main_call1_cst_0]
  simp only [e30]
  rfl

/-- The gated activation. -/
theorem e121 (n : Fin 8192) (j : Fin 2816) : val_main_v121 (F := Ideal) x0 x2 x3 x4 x5 x6 (ix2 n j) = act (ffR x0 x2 x3 x4 x5 x6 n) j := by
  pointwise [val_main_v121]
  exact e34 ..

/-- The modulated input. -/
theorem e122 (n : Fin 8192) (k : Fin 1024) : val_main_v122 (F := Ideal) x0 x2 x3 x4 x5 (ix2 n k) = hR x0 x2 x3 x4 x5 n k := by
  pointwise [val_main_v122]
  exact e28 ..

theorem e39 (n : Fin 8192) (k : Fin 1024) : val_main_v39 (F := Ideal) x0 x2 x3 x4 x5 x6 x7 (ix2 n k) = resR x0 x2 x3 x4 x5 x6 x7 n k := by
  pointwise [val_main_v39, val_main_v38, val_main_v37, val_main_v36, val_main_v35, val_main_v8]
  simp only [e34, e5]
  rfl

theorem e42 (k : Fin 2048) : val_main_v42 (F := Ideal) x2 x8 x9 (ix2 0 k) = condFR x2 x8 x9 k := by
  pointwise [val_main_v42, val_main_v41, val_main_v40, val_main_v0, val_main_call0_v5, val_main_call0_v4, val_main_call0_v3, val_main_call0_v2, val_main_call0_v1, val_main_call0_v0, val_main_call0_cst, val_main_call0_cst_0]
  rfl

theorem e60 (n : Fin 8192) (k : Fin 1024) : val_main_v60 (F := Ideal) x0 x2 x3 x4 x5 x6 x7 x10 (ix2 n k) = nf (fun k => x10 (ix1 k)) (resR x0 x2 x3 x4 x5 x6 x7 n) k := by
  pointwise [val_main_v60, val_main_v59, val_main_v58, val_main_v57, val_main_v56, val_main_v55, val_main_v54, val_main_v53, val_main_v52, val_main_v51, val_main_v50, val_main_v49, val_main_v48, val_main_v47, val_main_v46, val_main_v45, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]
  simp only [e39]
  unfold nf
  rw [rms_eq]
  rfl

theorem e57 (n : Fin 8192) (k : Fin 1024) : val_main_v57 (F := Ideal) x0 x2 x3 x4 x5 x6 x7 (ix2 n k) = resR x0 x2 x3 x4 x5 x6 x7 n k * rms (resR x0 x2 x3 x4 x5 x6 x7 n) := by
  pointwise [val_main_v57, val_main_v56, val_main_v55, val_main_v54, val_main_v53, val_main_v52, val_main_v51, val_main_v50, val_main_v49, val_main_v48, val_main_v47, val_main_v46, val_main_v45, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]
  simp only [e39]
  rw [rms_eq]
  rfl

theorem e67 (n : Fin 8192) (k : Fin 1024) : val_main_v67 (F := Ideal) x0 x1 x2 x3 x4 x5 x6 x7 x8 x9 x10 (ix2 n k) = err (shiftFOf (condFR x2 x8 x9)) (scaleFOf (condFR x2 x8 x9)) (fun k => x10 (ix1 k)) (fun k => x1 (ix2 n k)) (resR x0 x2 x3 x4 x5 x6 x7 n) k := by
  pointwise [val_main_v67, val_main_v66, val_main_v65, val_main_v64, val_main_v63, val_main_v62, val_main_v61, val_main_v43, val_main_v44, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]
  rw [e60, e42, e42]
  rfl

theorem e109 (n : Fin 8192) (k : Fin 1024) : val_main_v109 (F := Ideal) x0 x1 x2 x3 x4 x5 x6 x7 x8 x9 x10 (ix2 n k) = err (shiftFOf (condFR x2 x8 x9)) (scaleFOf (condFR x2 x8 x9)) (fun k => x10 (ix1 k)) (fun k => x1 (ix2 n k)) (resR x0 x2 x3 x4 x5 x6 x7 n) k := e67 ..

/-- The arguments the forward pass reads are finite. -/
structure FiniteF : Prop where
  x : ∀ n k, IsR (x0 (ix2 n k))
  tgt : ∀ n k, IsR (x1 (ix2 n k))
  cv : ∀ k, IsR (x2 (ix2 0 k))
  aw : ∀ k j, IsR (x3 (ix3 0 k j))
  ab : ∀ j, IsR (x4 (ix2 0 j))
  nrm : ∀ k, IsR (x5 (ix2 0 k))
  wi : ∀ k j, IsR (x6 (ix3 0 k j))
  wo : ∀ j k, IsR (x7 (ix3 0 j k))
  afw : ∀ k j, IsR (x8 (ix2 k j))
  afb : ∀ j, IsR (x9 (ix1 j))
  nrmf : ∀ k, IsR (x10 (ix1 k))

section
variable {x0 x1 x2 x3 x4 x5 x6 x7 x8 x9 x10} (hf : FiniteF x0 x1 x2 x3 x4 x5 x6 x7 x8 x9 x10)
include hf

theorem FiniteF.condR (j : Fin 6144) : IsR (condR x2 x3 x4 j) := IsR.condVec hf.cv hf.aw hf.ab j
theorem FiniteF.condFR (j : Fin 2048) : IsR (condFR x2 x8 x9 j) := IsR.condF hf.cv hf.afw hf.afb j
theorem FiniteF.ffR (n : Fin 8192) (j : Fin 5632) : IsR (ffR x0 x2 x3 x4 x5 x6 n j) :=
  IsR.ff (fun _ => hf.condR _) (fun _ => hf.condR _) hf.nrm (hf.x n) hf.wi j
theorem FiniteF.resR (n : Fin 8192) (k : Fin 1024) : IsR (resR x0 x2 x3 x4 x5 x6 x7 n k) :=
  (hf.x n k).add ((hf.condR _).mul (IsR.sum fun j => (IsR.act (hf.ffR n) j).mul (hf.wo j k)))
theorem FiniteF.err (n : Fin 8192) (k : Fin 1024) : IsR (err (shiftFOf (Rd.condFR x2 x8 x9)) (scaleFOf (Rd.condFR x2 x8 x9)) (fun k => x10 (ix1 k)) (fun k => x1 (ix2 n k)) (Rd.resR x0 x2 x3 x4 x5 x6 x7 n) k) :=
  IsR.err (fun _ => hf.condFR _) (fun _ => hf.condFR _) hf.nrmf (hf.tgt n) (hf.resR n) k

/-- The loss's gradient. -/
theorem FiniteF.v81 (n : Fin 8192) (k : Fin 1024) : val_main_v81 (F := Ideal) x0 x1 x2 x3 x4 x5 x6 x7 x8 x9 x10 (ix2 n k) = dout (shiftFOf (Rd.condFR x2 x8 x9)) (scaleFOf (Rd.condFR x2 x8 x9)) (fun k => x10 (ix1 k)) (fun k => x1 (ix2 n k)) (Rd.resR x0 x2 x3 x4 x5 x6 x7 n) k := by
  pointwise [val_main_v81, val_main_v80, val_main_v79, val_main_v78, val_main_v77, val_main_v76, val_main_v70, val_main_v69, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]
  rw [e67]
  exact dout_forms (hf.err n k)

/-- The gradient of the block's output. -/
theorem FiniteF.v108 (n : Fin 8192) (k : Fin 1024) : val_main_v108 (F := Ideal) x0 x1 x2 x3 x4 x5 x6 x7 x8 x9 x10 (ix2 n k) = dz (shiftFOf (Rd.condFR x2 x8 x9)) (scaleFOf (Rd.condFR x2 x8 x9)) (fun k => x10 (ix1 k)) (fun k => x1 (ix2 n k)) (Rd.resR x0 x2 x3 x4 x5 x6 x7 n) k := by
  pointwise [val_main_v108, val_main_v107, val_main_v106, val_main_v105, val_main_v104, val_main_v103, val_main_v102, val_main_v101, val_main_v100, val_main_v99, val_main_v98, val_main_v97, val_main_v96, val_main_v95, val_main_v93, val_main_v92, val_main_v88, val_main_v87, val_main_v62, val_main_v61, val_main_v44, val_main_v55, val_main_v54, val_main_v53, val_main_v52, val_main_v51, val_main_v50, val_main_v49, val_main_v48, val_main_v47, val_main_v46, val_main_v45, val_main_v58, val_main_v59, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]
  simp only [hf.v81, e39, e42]
  refine Eq.trans ?_ (dz_eq (fun _ => hf.condFR _) (fun _ => hf.condFR _) hf.nrmf (hf.tgt n) (hf.resR n) k).symm
  unfold dx1R
  simp only [Finset.univ_unique, Finset.sum_singleton, zero_add]
  rfl

/-- The small gradients, the squares and the loss. -/
theorem FiniteF.v118 (a : Fin 8) (k : Fin 1024) : val_main_v118 (F := Ideal) x0 x1 x2 x3 x4 x5 x6 x7 x8 x9 x10 (ix2 a k)
    = if a.val = 4 then (∑ k, ∑ n, sums (shiftFOf (Rd.condFR x2 x8 x9)) (scaleFOf (Rd.condFR x2 x8 x9)) (fun k => x10 (ix1 k)) (fun k => x1 (ix2 n k)) (Rd.resR x0 x2 x3 x4 x5 x6 x7 n) 3 k) * Ideal.ofBits .f32 0x3A000000#32
      else ∑ n, sums (shiftFOf (Rd.condFR x2 x8 x9)) (scaleFOf (Rd.condFR x2 x8 x9)) (fun k => x10 (ix1 k)) (fun k => x1 (ix2 n k)) (Rd.resR x0 x2 x3 x4 x5 x6 x7 n) a.val k := by
  pointwise [val_main_v118, val_main_v117, val_main_v116, val_main_v115, val_main_v114, val_main_v113, val_main_v112, val_main_v111, val_main_v110, val_main_v94, val_main_v91, val_main_v90, val_main_v89, val_main_v88, val_main_v87, val_main_v86, val_main_v85, val_main_v84, val_main_v83, val_main_v82, val_main_v75, val_main_v74, val_main_v73, val_main_v72, val_main_v71, val_main_v68, val_main_v62, val_main_v61, val_main_v44, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]
  simp only [hf.v81, e60, e57, e67, e109, e42]
  simp only [Finset.univ_unique, Finset.sum_singleton]
  by_cases h4 : a.val = 4
  · rw [if_pos h4, dif_neg (by omega), dif_neg (by omega), dif_neg (by omega), dif_neg (by omega), dif_pos (by omega)]
    exact (loss_forms fun n k => (hf.err n k).mul (hf.err n k)).symm
  rw [if_neg h4]
  split_ifs with h0 h1 h2 h3 h5
  · rw [show a.val = 0 by omega]
    rfl
  · rw [show a.val = 1 by omega]
    exact Finset.sum_congr rfl fun n _ => mul_comm _ _
  · rw [show a.val = 2 by omega]
    refine Finset.sum_congr rfl fun n _ => (mul_comm _ _).trans ?_
    exact (mul_assoc _ _ _).symm
  · rw [show a.val = 3 by omega]
    rfl
  · omega
  · exact (Finset.sum_eq_zero fun n _ => sums_high _ _ _ _ _ _ (by omega) _).symm
end

end Cert.RefFfnIdeal.Rd

end
-- ==== Proof.FwdAgree.lean ====
module

public import proofs.«01_k».proof.Defs
public import proofs.«01_k».proof.Proof.FwdHost
public import proofs.«01_k».proof.Proof.FwdRef
public import proofs.«01_k».proof.Proof.Agree
public import proofs.«01_k».proof.Proof.Gen.Pre_forward_finite

@[expose] public section

set_option maxRecDepth 16384

/-! # The forward call's results are the reference's

Under the precondition every argument is finite; then each array the kernel writes is the reference's result. -/

noncomputable section

namespace Cert.FfnForwardIdeal.Pt

open Idealize.ShloMosaic Idealize.ShloMosaic.TcCoe Idealize.SL.Sem Cert.FfnBwd Cert.FfnFwd Cert.RefFfnIdeal.Read Cert.RefFfnIdeal.Rd
open Cert.ReferenceIdeal.Rd (condR ffR)

section
variable (m : (ℓ : Loc Cert.FfnForwardIdeal.nD Cert.FfnForwardIdeal.τ Cert.FfnForwardIdeal.sig) → Buf (Elt Ideal) ℓ) (c : Dev Cert.FfnForwardIdeal.nD)

/-- The modulated row, in the arguments. -/
theorem hidA_eq (n : Fin 8192) : hidA m c n = hR (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) n := by
  unfold hidA
  rw [shiftA_eq, scaleA_eq, nrmA_eq, xA_eq, hid_eq]
  rfl

/-- The gate projection, in the arguments. -/
theorem projA_gate (n : Fin 8192) (j : Fin 2816) : projA m 0 (by decide) c n j = ffR (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) n (colG j) := by
  unfold projA
  rw [hidA_eq, wiA_eq]
  exact projCol_eq _ (wiI m c) ⟨0 + j.val / 1408, by omega⟩ ⟨j.val % 1408, Nat.mod_lt _ (by decide)⟩ (colG j)
    (by show j.val = (0 + j.val / 1408) * 1408 + j.val % 1408; omega)

/-- The up projection, in the arguments. -/
theorem projA_up (n : Fin 8192) (j : Fin 2816) : projA m 2 (by decide) c n j = ffR (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) n (colU j) := by
  unfold projA
  rw [hidA_eq, wiA_eq]
  exact projCol_eq _ (wiI m c) ⟨2 + j.val / 1408, by omega⟩ ⟨j.val % 1408, Nat.mod_lt _ (by decide)⟩ (colU j)
    (by show 2816 + j.val = (2 + j.val / 1408) * 1408 + j.val % 1408; omega)

/-- The block's output, in the arguments. -/
theorem resA_eq (n : Fin 8192) : resA m c n = resR (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) n := by
  funext k
  unfold resA hidA
  rw [gateA_eq, shiftA_eq, scaleA_eq, nrmA_eq, xA_eq, wiA_eq, woA_eq]
  unfold res
  rw [down_eq]
  rfl

variable [hP : Cert.Pre_forward_finite.Facts]

/-- The precondition makes every entry the forward pass reads a real number. -/
theorem finite_of_pre (h : Cert.Pre_FfnForwardIdeal_forward_finite m) : FiniteF (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10)) := by
  obtain ⟨h0, h1, h2, h3, h4, h5, h6, h7, h8, h9, h10⟩ := h c
  have h0 := fun n k => congrFun h0 (ix2 n k)
  have h1 := fun n k => congrFun h1 (ix2 n k)
  have h2 := fun k => congrFun h2 (ix2 0 k)
  have h3 := fun k j => congrFun h3 (ix3 0 k j)
  have h4 := fun j => congrFun h4 (ix2 0 j)
  have h5 := fun k => congrFun h5 (ix2 0 k)
  have h6 := fun k j => congrFun h6 (ix3 0 k j)
  have h7 := fun j k => congrFun h7 (ix3 0 j k)
  have h8 := fun k j => congrFun h8 (ix2 k j)
  have h9 := fun j => congrFun h9 (ix1 j)
  have h10 := fun k => congrFun h10 (ix1 k)
  pointwise [Cert.Pre_forward_finite.fn, Cert.Pre_forward_finite.fn_part1] at h0
  pointwise [Cert.Pre_forward_finite.fn, Cert.Pre_forward_finite.fn_part1] at h1
  pointwise [Cert.Pre_forward_finite.fn, Cert.Pre_forward_finite.fn_part1] at h2
  pointwise [Cert.Pre_forward_finite.fn, Cert.Pre_forward_finite.fn_part1] at h3
  pointwise [Cert.Pre_forward_finite.fn, Cert.Pre_forward_finite.fn_part1] at h4
  pointwise [Cert.Pre_forward_finite.fn, Cert.Pre_forward_finite.fn_part1] at h5
  pointwise [Cert.Pre_forward_finite.fn, Cert.Pre_forward_finite.fn_part1] at h6
  pointwise [Cert.Pre_forward_finite.fn, Cert.Pre_forward_finite.fn_part1] at h7
  pointwise [Cert.Pre_forward_finite.fn, Cert.Pre_forward_finite.fn_part1] at h8
  pointwise [Cert.Pre_forward_finite.fn, Cert.Pre_forward_finite.fn_part1] at h9
  pointwise [Cert.Pre_forward_finite.fn, Cert.Pre_forward_finite.fn_part1] at h10
  exact ⟨fun n k => isR_of_lt _ (h0 n k), fun n k => isR_of_lt _ (h1 n k), fun k => isR_of_lt _ (h2 k), fun k j => isR_of_lt _ (h3 k j), fun j => isR_of_lt _ (h4 j), fun k => isR_of_lt _ (h5 k), fun k j => isR_of_lt _ (h6 k j), fun j k => isR_of_lt _ (h7 j k), fun k j => isR_of_lt _ (h8 k j), fun j => isR_of_lt _ (h9 j), fun k => isR_of_lt _ (h10 k)⟩

/-- The gate projection. -/
theorem arr8_ref : (Cert.FfnForwardIdeal.Gen.dats m 0 c).arrAt 8 Cert.FfnForwardIdeal.cfg0.N = val_main_v119 (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) := by
  rw [arr8]
  funext y
  obtain ⟨n, k, rfl⟩ : ∃ (n : Fin 8192) (k : Fin 2816), y = ix2 n k := ⟨y 0, y 1, (ix2_eta y).symm⟩
  exact (projA_gate m c n k).trans (e119 ..).symm

/-- The up projection. -/
theorem arr9_ref : (Cert.FfnForwardIdeal.Gen.dats m 0 c).arrAt 9 Cert.FfnForwardIdeal.cfg0.N = val_main_v120 (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) := by
  rw [arr9]
  funext y
  obtain ⟨n, k, rfl⟩ : ∃ (n : Fin 8192) (k : Fin 2816), y = ix2 n k := ⟨y 0, y 1, (ix2_eta y).symm⟩
  exact (projA_up m c n k).trans (e120 ..).symm

/-- The gated activation. -/
theorem arr10_ref : (Cert.FfnForwardIdeal.Gen.dats m 0 c).arrAt 10 Cert.FfnForwardIdeal.cfg0.N = val_main_v121 (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) := by
  rw [arr10]
  funext y
  obtain ⟨n, k, rfl⟩ : ∃ (n : Fin 8192) (k : Fin 2816), y = ix2 n k := ⟨y 0, y 1, (ix2_eta y).symm⟩
  refine (congrArg₂ glu (projA_gate m c n k) (projA_up m c n k)).trans ?_
  rw [glu_eq, e121]

/-- The modulated input. -/
theorem arr11_ref : (Cert.FfnForwardIdeal.Gen.dats m 0 c).arrAt 11 Cert.FfnForwardIdeal.cfg0.N = val_main_v122 (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) := by
  rw [arr11]
  funext y
  obtain ⟨n, k, rfl⟩ : ∃ (n : Fin 8192) (k : Fin 1024), y = ix2 n k := ⟨y 0, y 1, (ix2_eta y).symm⟩
  refine (congrFun (hidA_eq m c n) k).trans ?_
  rw [e122]

/-- The gradient of the block's output. -/
theorem arr12_ref (hm : Cert.Pre_FfnForwardIdeal_forward_finite m) : (Cert.FfnForwardIdeal.Gen.dats m 0 c).arrAt 12 Cert.FfnForwardIdeal.cfg0.N = val_main_v108 (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10)) := by
  rw [arr12]
  funext y
  obtain ⟨n, k, rfl⟩ : ∃ (n : Fin 8192) (k : Fin 1024), y = ix2 n k := ⟨y 0, y 1, (ix2_eta y).symm⟩
  rw [(finite_of_pre m c hm).v108]
  show dzA m c n k = _
  unfold dzA
  rw [shiftFA_eq, scaleFA_eq, nrmFA_eq, tgtA_eq, resA_eq]
  rfl

/-- The small gradients, the squares and the loss. -/
theorem arr13_ref (hm : Cert.Pre_FfnForwardIdeal_forward_finite m) : (Cert.FfnForwardIdeal.Gen.dats m 0 c).arrAt 13 Cert.FfnForwardIdeal.cfg0.N = val_main_v118 (F := Ideal) (m ((c.tc : Thread Cert.FfnForwardIdeal.nD Cert.FfnForwardIdeal.τ).loc Cert.FfnForwardIdeal.main_arg0)) (m ((c.tc : Thread Cert.FfnForwardIdeal.nD Cert.FfnForwardIdeal.τ).loc Cert.FfnForwardIdeal.main_arg1)) (m ((c.tc : Thread Cert.FfnForwardIdeal.nD Cert.FfnForwardIdeal.τ).loc Cert.FfnForwardIdeal.main_arg2)) (m ((c.tc : Thread Cert.FfnForwardIdeal.nD Cert.FfnForwardIdeal.τ).loc Cert.FfnForwardIdeal.main_arg3)) (m ((c.tc : Thread Cert.FfnForwardIdeal.nD Cert.FfnForwardIdeal.τ).loc Cert.FfnForwardIdeal.main_arg4)) (m ((c.tc : Thread Cert.FfnForwardIdeal.nD Cert.FfnForwardIdeal.τ).loc Cert.FfnForwardIdeal.main_arg5)) (m ((c.tc : Thread Cert.FfnForwardIdeal.nD Cert.FfnForwardIdeal.τ).loc Cert.FfnForwardIdeal.main_arg6)) (m ((c.tc : Thread Cert.FfnForwardIdeal.nD Cert.FfnForwardIdeal.τ).loc Cert.FfnForwardIdeal.main_arg7)) (m ((c.tc : Thread Cert.FfnForwardIdeal.nD Cert.FfnForwardIdeal.τ).loc Cert.FfnForwardIdeal.main_arg8)) (m ((c.tc : Thread Cert.FfnForwardIdeal.nD Cert.FfnForwardIdeal.τ).loc Cert.FfnForwardIdeal.main_arg9)) (m ((c.tc : Thread Cert.FfnForwardIdeal.nD Cert.FfnForwardIdeal.τ).loc Cert.FfnForwardIdeal.main_arg10)) := by
  rw [arr13]
  funext y
  obtain ⟨n, k, rfl⟩ : ∃ (n : Fin 8) (k : Fin 1024), y = ix2 n k := ⟨y 0, y 1, (ix2_eta y).symm⟩
  rw [(finite_of_pre m c hm).v118]
  unfold sumsA
  simp only [shiftFA_eq, scaleFA_eq, nrmFA_eq, tgtA_eq, resA_eq]
  rfl
end

set_option maxHeartbeats 1600000 in
/-- The algebraic claim: from memories that agree on the arguments, all finite, both programs end with the same six results. -/
theorem algebraic [hP : Cert.Pre_forward_finite.Facts] : Cert.algebraic_FfnForwardIdeal_RefFfnIdeal_pre_forward_finite := by
  intro m g m' g' hm hag
  refine ⟨fun c => (Cert.FfnForwardIdeal.Gen.dats m 0 c).arrAt 8 Cert.FfnForwardIdeal.cfg0.N, fun c => (Cert.FfnForwardIdeal.Gen.dats m 0 c).arrAt 9 Cert.FfnForwardIdeal.cfg0.N, fun c => (Cert.FfnForwardIdeal.Gen.dats m 0 c).arrAt 10 Cert.FfnForwardIdeal.cfg0.N, fun c => (Cert.FfnForwardIdeal.Gen.dats m 0 c).arrAt 11 Cert.FfnForwardIdeal.cfg0.N, fun c => (Cert.FfnForwardIdeal.Gen.dats m 0 c).arrAt 12 Cert.FfnForwardIdeal.cfg0.N, fun c => (Cert.FfnForwardIdeal.Gen.dats m 0 c).arrAt 13 Cert.FfnForwardIdeal.cfg0.N,
    Cert.FfnForwardIdeal.Value.run_blocks m g, (θ_run _ _ _).mono (fun r h c => ?_) (Cert.RefFfnIdeal.Value.run m' g')⟩
  obtain ⟨a0, a1, a2, a3, a4, a5, a6, a7, a8, a9, a10⟩ := hag c
  have b0 : StableHlo.launchContents m' c (Proc.tc.devRef Cert.RefFfnIdeal.main_arg0) = _ := a0
  have b1 : StableHlo.launchContents m' c (Proc.tc.devRef Cert.RefFfnIdeal.main_arg1) = _ := a1
  have b2 : StableHlo.launchContents m' c (Proc.tc.devRef Cert.RefFfnIdeal.main_arg2) = _ := a2
  have b3 : StableHlo.launchContents m' c (Proc.tc.devRef Cert.RefFfnIdeal.main_arg3) = _ := a3
  have b4 : StableHlo.launchContents m' c (Proc.tc.devRef Cert.RefFfnIdeal.main_arg4) = _ := a4
  have b5 : StableHlo.launchContents m' c (Proc.tc.devRef Cert.RefFfnIdeal.main_arg5) = _ := a5
  have b6 : StableHlo.launchContents m' c (Proc.tc.devRef Cert.RefFfnIdeal.main_arg6) = _ := a6
  have b7 : StableHlo.launchContents m' c (Proc.tc.devRef Cert.RefFfnIdeal.main_arg7) = _ := a7
  have b8 : StableHlo.launchContents m' c (Proc.tc.devRef Cert.RefFfnIdeal.main_arg8) = _ := a8
  have b9 : StableHlo.launchContents m' c (Proc.tc.devRef Cert.RefFfnIdeal.main_arg9) = _ := a9
  have b10 : StableHlo.launchContents m' c (Proc.tc.devRef Cert.RefFfnIdeal.main_arg10) = _ := a10
  obtain ⟨r0, r1, r2, r3, r4, r5, rest⟩ := h c
  refine ⟨r0.trans ?_, r1.trans ?_, r2.trans ?_, r3.trans ?_, r4.trans ?_, r5.trans ?_, rest⟩
  · rw [Cert.RefFfnIdeal.Read.val_main_v119_eq, b0, b2, b3, b4, b5, b6]; exact (arr8_ref m c).symm
  · rw [Cert.RefFfnIdeal.Read.val_main_v120_eq, b0, b2, b3, b4, b5, b6]; exact (arr9_ref m c).symm
  · rw [Cert.RefFfnIdeal.Read.val_main_v121_eq, b0, b2, b3, b4, b5, b6]; exact (arr10_ref m c).symm
  · rw [Cert.RefFfnIdeal.Read.val_main_v122_eq, b0, b2, b3, b4, b5]; exact (arr11_ref m c).symm
  · rw [Cert.RefFfnIdeal.Read.val_main_v108_eq, b0, b1, b2, b3, b4, b5, b6, b7, b8, b9, b10]; exact (arr12_ref m c hm).symm
  · rw [Cert.RefFfnIdeal.Read.val_main_v118_eq, b0, b1, b2, b3, b4, b5, b6, b7, b8, b9, b10]; exact (arr13_ref m c hm).symm

end Cert.FfnForwardIdeal.Pt

end
-- ==== Proof.WoKernel.lean ====
module

public import proofs.«01_k».proof.Proof.Gen.GradWoIdeal.Value
public import proofs.«01_k».proof.Proof.OutKernel
public import Idealize.ShloMosaic.Lib.Pointwise
public import Idealize.ShloMosaic.Lib.Pipeline.ValueKit
public import Idealize.ShloMosaic.Lib.Pipeline.ReadBack
public import Idealize.ShloMosaic.Lib.WritesUnit
public import Idealize.ShloMosaic.Lib.Claim
public import Idealize.ShloMosaic.Lib.StableHlo.ReadAt

@[expose] public section

set_option maxRecDepth 16384

/-! # The gradients of the output projection and of its gate, as the kernel computes them

The grid is four tiles of 2048 tokens. The kernel sums the tiles' products in an accumulator; at the last tile it writes the accumulator times
the gate, and the column sums of the accumulator times the projection over seven rows of zeros. -/

noncomputable section

namespace Cert.GradWoIdeal.Pt

open Cert.GradWoIdeal Cert.GradWoIdeal.Gen Idealize.ShloMosaic Idealize.ShloMosaic.TcCoe Idealize.SL.Sem Cert.FfnBwd

section
variable (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S8x1024 .f32) (harg8 : arg8.IsWhole) (arg9 : Memref sig .tc .vmem S1024x1024 .f32) (harg9 : arg9.IsWhole)
  (x0 : Vec Ideal S2048x1024 .bf16) (x1 : Vec Ideal S2048x1024 .f32) (x2 : Vec Ideal S1x1024 .f32) (x3 : Vec Ideal S1024x1024 .bf16)
  (xs0 : Vec Ideal S1024x1024 .f32)

/-- One tile's product: the sum over its 2048 rows. -/
def tile (k : Fin 1024) (d : Fin 1024) : EReal := ∑ r : Fin 2048, x0 (ix2 r k) * x1 (ix2 r d)

/-- The first tile leaves its product in the accumulator. -/
theorem sout_A (hc0 : cond0_0 i) (hc1 : ¬cond0_1 i) (hc2 : ¬cond0_2 i) (k : Fin 1024) (d : Fin 1024) :
    sout0_A_0 c i arg3 harg3 arg4 harg4 arg5 harg5 arg6 harg6 arg7 harg7 arg8 harg8 arg9 harg9 hc0 hc1 hc2 x0 x1 x2 x3 (ix2 k d) = tile x0 x1 k d := by
  unfold sout0_A_0 kernelRun0_A; dsimp only; sl_unfold_words
  simp only [View.readAt_eq_ld, harg3.read_unread, harg4.read_unread]
  rw [View.read_writes_junk_eq_canon, View.canon_cons_unit_lit _ _ _ (by decide)]
  pointwise [k0_pay2, k0_pay1, tile]

/-- A middle tile adds its product. -/
theorem sout_B (hc0 : ¬cond0_0 i) (hc1 : cond0_1 i) (hc2 : ¬cond0_2 i) (k : Fin 1024) (d : Fin 1024) :
    sout0_B_0 c i arg3 harg3 arg4 harg4 arg5 harg5 arg6 harg6 arg7 harg7 arg8 harg8 arg9 harg9 hc0 hc1 hc2 x0 x1 x2 x3 xs0 (ix2 k d) = xs0 (ix2 k d) + tile x0 x1 k d := by
  unfold sout0_B_0 kernelRun0_B; dsimp only; sl_unfold_words
  simp only [View.readAt_eq_ld, harg3.read_unread, harg4.read_unread, harg9.read_unread]
  rw [View.read_writes_junk_eq_canon, View.canon_cons_unit_lit _ _ _ (by decide)]
  pointwise [k0_pay3, k0_pay1, tile]

/-- The last tile adds its product. -/
theorem sout_C (hc0 : ¬cond0_0 i) (hc1 : cond0_1 i) (hc2 : cond0_2 i) (hc3 : cond0_3 i) (k : Fin 1024) (d : Fin 1024) :
    sout0_C_0 c i arg3 harg3 arg4 harg4 arg5 harg5 arg6 harg6 arg7 harg7 arg8 harg8 arg9 harg9 hc0 hc1 hc2 hc3 x0 x1 x2 x3 xs0 (ix2 k d) = xs0 (ix2 k d) + tile x0 x1 k d := by
  unfold sout0_C_0 kernelRun0_C; dsimp only; sl_unfold_words
  simp only [View.readAt_eq_ld, harg3.read_unread, harg4.read_unread, harg9.read_unread]
  rw [View.read_writes_junk_eq_canon, View.canon_cons_unit_lit _ _ _ (by decide)]
  pointwise [k0_pay3, k0_pay1, tile]

/-- It writes the accumulator times the gate. -/
theorem out4_C (hc0 : ¬cond0_0 i) (hc1 : cond0_1 i) (hc2 : cond0_2 i) (hc3 : cond0_3 i) (k : Fin 1024) (d : Fin 1024) :
    out0_C_4 c i arg3 harg3 arg4 harg4 arg5 harg5 arg6 harg6 arg7 harg7 arg8 harg8 arg9 harg9 hc0 hc1 hc2 hc3 x0 x1 x2 x3 xs0 (ix2 k d) = (xs0 (ix2 k d) + tile x0 x1 k d) * x2 (ix2 0 d) := by
  unfold out0_C_4 kernelRun0_C; dsimp only; sl_unfold_words
  simp (disch := decide) only [↓ View.readCov_skip, ↓ View.readCov_cons_toLoadRect, ↓ View.readCov_fill]
  simp only [View.readAt_eq_ld, harg3.read_unread, harg4.read_unread, harg5.read_unread, harg9.read_unread]
  rw [View.read_writes_junk_eq_canon, View.canon_cons_unit_lit _ _ _ (by decide)]
  pointwise [k0_pay6, k0_pay3, k0_pay1, tile]

/-- The column sums of the accumulator times the projection's piece. -/
def colsum (d : Fin 1024) : EReal := ∑ k : Fin 1024, (xs0 (ix2 k d) + tile x0 x1 k d) * x3 (ix2 k d)

/-- The second output's first row is the column sums and the rest is zero. -/
theorem out5_C (hc0 : ¬cond0_0 i) (hc1 : cond0_1 i) (hc2 : cond0_2 i) (hc3 : cond0_3 i) (a : Fin 8) (d : Fin 1024) :
    out0_C_5 c i arg3 harg3 arg4 harg4 arg5 harg5 arg6 harg6 arg7 harg7 arg8 harg8 arg9 harg9 hc0 hc1 hc2 hc3 x0 x1 x2 x3 xs0 (ix2 a d) = if a.val = 0 then colsum x0 x1 x3 xs0 d else 0 := by
  unfold out0_C_5 kernelRun0_C; dsimp only; sl_unfold_words
  simp (disch := decide) only [↓ View.readCov_skip, ↓ View.readCov_cons_toLoadRect, ↓ View.readCov_fill]
  simp only [View.readAt_eq_ld, harg3.read_unread, harg4.read_unread, harg6.read_unread, harg9.read_unread]
  refine Cert.GradOutIdeal.Pt.row_read _ _ _ _ _ _ (fun h => ?_) fun h => ?_
  · obtain rfl : a = 0 := Fin.ext h
    pointwise [k0_pay5, k0_pay4, k0_pay3, k0_pay1, tile, colsum]
  · rw [View.read_writes_junk_eq_canon, View.canon_cons_unit_lit _ _ _ (by decide), if_neg (by have h : 1 ≤ a.val := h; omega)]
    pointwise [k0_pay4]

end

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![0, 0] := by decide +kernel

theorem iblk0 (c : Dev nD) (t : Fin cfg0.N) (r : Fin 2048) (k : Fin 1024) (n : Fin 8192) (h : n.val = t.val * 2048 + r.val) :
    iblk m c 0 t (ix2 r k) = V m c main_v6 (ix2 n k) := by
  unfold iblk; blk_simp
  refine congrArg (V m c main_v6) (Shape.idx_ext₂ ?_ ?_) <;> blk_simp [idx0, h]
theorem iblk1 (c : Dev nD) (t : Fin cfg0.N) (r : Fin 2048) (d : Fin 1024) (n : Fin 8192) (h : n.val = t.val * 2048 + r.val) :
    iblk m c 1 t (ix2 r d) = V m c main_arg1 (ix2 n d) := by
  unfold iblk; blk_simp
  refine congrArg (V m c main_arg1) (Shape.idx_ext₂ ?_ ?_) <;> blk_simp [idx1, h]
theorem iblk2 (c : Dev nD) (t : Fin cfg0.N) (d : Fin 1024) : iblk m c 2 t (ix2 0 d) = V m c main_v7 (ix2 0 d) := by
  unfold iblk; blk_simp
  refine congrArg (V m c main_v7) (Shape.idx_ext₂ ?_ ?_) <;> blk_simp [idx2]
theorem iblk3 (c : Dev nD) (t : Fin cfg0.N) (k d : Fin 1024) : iblk m c 3 t (ix2 k d) = V m c main_v9 (ix2 k d) := by
  unfold iblk; blk_simp
  refine congrArg (V m c main_v9) (Shape.idx_ext₂ ?_ ?_) <;> blk_simp [idx3]

/-- The mixer's output rows, the incoming gradient's, the gate and the projection, as the kernel reads them. -/
def yA (c : Dev nD) (n : Fin 8192) (j : Fin 1024) : EReal := V m c main_v6 (ix2 n j)
def dA (c : Dev nD) (n : Fin 8192) (d : Fin 1024) : EReal := V m c main_arg1 (ix2 n d)
def gA (c : Dev nD) (d : Fin 1024) : EReal := V m c main_v7 (ix2 0 d)
def wA (c : Dev nD) (j : Fin 1024) (d : Fin 1024) : EReal := V m c main_v9 (ix2 j d)

theorem lt4 (t : Fin cfg0.N) : t.val < 4 := lt_of_lt_of_eq t.isLt (show cfg0.N = 4 from N_0)

/-- The accumulator after the first tile. -/
theorem acc_first (c : Dev nD) (k d : Fin 1024) (t : Fin cfg0.N) (h : t.val % 4 = 0) :
    (outsAt0 m c t.val t.isLt).2.2 (ix2 k d) = 0 + tile (iblk m c 0 t) (iblk m c 1 t) k d := by
  have := lt4 t
  rw [outsAt0_A m c t h (by omega) (by omega), zero_add]; dsimp only
  exact sout_A ..

/-- The accumulator after a later tile. -/
theorem acc_next (c : Dev nD) (k d : Fin 1024) (t : Fin cfg0.N) (h : ¬t.val % 4 = 0) :
    (outsAt0 m c t.val t.isLt).2.2 (ix2 k d)
      = (outsAt0 m c (t.val - 1) (Nat.lt_of_le_of_lt (Nat.sub_le _ _) t.isLt)).2.2 (ix2 k d) + tile (iblk m c 0 t) (iblk m c 1 t) k d := by
  by_cases h2 : t.val % 4 = 3
  · rw [outsAt0_C m c t h (by omega) h2 h2]; dsimp only
    exact sout_C ..
  · rw [outsAt0_B m c t h (by omega) h2]; dsimp only
    exact sout_B ..

/-- The accumulator at the last tile: the sum over all 8192 rows. -/
theorem acc_last (c : Dev nD) (k d : Fin 1024) :
    (outsAt0 m c t0_3.val t0_3.isLt).2.2 (ix2 k d) = ∑ n : Fin 8192, yA m c n k * dA m c n d := by
  have hstep := Pipeline.eq_sum_fin_of_reset_step_of_flush (N := cfg0.N) (fun n h => (outsAt0 m c n h).2.2 (ix2 k d)) 4 (0 : EReal)
    (fun t => tile (iblk m c 0 t) (iblk m c 1 t) k d) (acc_first m c k d) (acc_next m c k d) t0_3 (by decide)
  refine hstep.trans ?_
  rw [zero_add]
  refine Eq.trans ?_ (Fin.sum_univ_tiles 4 2048 rfl _).symm
  refine Finset.sum_congr rfl fun s _ => Finset.sum_congr rfl fun r _ => ?_
  have hs : 4 * (t0_3.val / 4) + s.val = s.val := by have : t0_3.val = 3 := rfl; omega
  exact congrArg₂ (· * ·) (iblk0 m c _ r k _ (congrArg (fun q => q * 2048 + r.val) hs.symm)) (iblk1 m c _ r d _ (congrArg (fun q => q * 2048 + r.val) hs.symm))

/-- What is written out is the accumulator times the gate. -/
theorem out4_last (c : Dev nD) (k d : Fin 1024) :
    (outsAt0 m c t0_3.val t0_3.isLt).1 (ix2 k d) = (∑ n : Fin 8192, yA m c n k * dA m c n d) * gA m c d := by
  rw [← acc_last m c k d, acc_next m c k d t0_3 (by decide)]
  rw [show gA m c d = iblk m c 2 t0_3 (ix2 0 d) from (iblk2 m c t0_3 d).symm]
  rw [outsAt0_C m c t0_3 (by decide) (by decide) (by decide) (by decide)]; dsimp only
  exact out4_C ..

/-- The second output after the run. -/
theorem out5_last (c : Dev nD) (a : Fin 8) (d : Fin 1024) :
    (outsAt0 m c t0_3.val t0_3.isLt).2.1 (ix2 a d) = if a.val = 0 then ∑ j : Fin 1024, (∑ n : Fin 8192, yA m c n j * dA m c n d) * wA m c j d else 0 := by
  rw [outsAt0_C m c t0_3 (by decide) (by decide) (by decide) (by decide)]; dsimp only
  refine (out5_C ..).trans ?_
  refine congrArg (fun s => if a.val = 0 then s else 0) ?_
  refine Finset.sum_congr rfl fun k _ => ?_
  exact congrArg₂ (· * ·) ((acc_next m c k d t0_3 (by decide)).symm.trans (acc_last m c k d)) (iblk3 m c t0_3 k d)

/-- The projection's gradient after the run. -/
theorem arr4 (c : Dev nD) : (dats m 0 c).arrAt 4 cfg0.N
    = fun y : S1024x1024.Idx => (∑ n : Fin 8192, yA m c n (y 0) * dA m c n (y 1)) * gA m c (y 1) := by
  refine (dats m 0 c).arrAt_eq_of_after_last 4 t0_3 (by decide +kernel) _ fun y => ?_
  blk_simp
  rw [after0_4]
  obtain ⟨k, d, rfl⟩ : ∃ (k d : Fin 1024), y = ix2 k d := ⟨y 0, y 1, (ix2_eta y).symm⟩
  refine (out4_last m c k d).trans ?_
  rfl

/-- The gate's gradient after the run: its first row, with zeros below. -/
theorem arr5 (c : Dev nD) : (dats m 0 c).arrAt 5 cfg0.N
    = fun y : S8x1024.Idx => if (y 0).val = 0 then ∑ j : Fin 1024, (∑ n : Fin 8192, yA m c n j * dA m c n (y 1)) * wA m c j (y 1) else 0 := by
  refine (dats m 0 c).arrAt_eq_of_after_last 5 t0_3 (by decide +kernel) _ fun y => ?_
  blk_simp
  rw [after0_5]
  obtain ⟨a, d, rfl⟩ : ∃ (a : Fin 8) (d : Fin 1024), y = ix2 a d := ⟨y 0, y 1, (ix2_eta y).symm⟩
  refine (out5_last m c a d).trans ?_
  rfl

theorem dA_eq (c : Dev nD) (n : Fin 8192) (d : Fin 1024) : dA m c n d = m ((c : Thread nD τ).loc main_arg1) (ix2 n d) := by unfold dA; rw [V_main_arg1]

/-- The projection in the program's arguments. -/
theorem wA_eq (c : Dev nD) (j d : Fin 1024) : wA m c j d = m ((c : Thread nD τ).loc main_arg5) (ix3 0 j d) := by
  unfold wA V
  simp only [hostOps0, List.flatten_cons, List.flatten_nil, List.append_nil, List.cons_append, List.nil_append]
  after_reads_at

/-- The mixer's output in the program's arguments. -/
theorem yA_eq (c : Dev nD) (n : Fin 8192) (j : Fin 1024) : yA m c n j = m ((c : Thread nD τ).loc main_arg0) (ix2 n j) := by
  unfold yA V
  simp only [hostOps0, List.flatten_cons, List.flatten_nil, List.append_nil, List.cons_append, List.nil_append]
  after_reads_at

/-- The conditioning vector in the program's arguments. -/
def condI (c : Dev nD) : Fin 6144 → EReal :=
  condVec (fun k => m ((c : Thread nD τ).loc main_arg2) (ix2 0 k)) (fun k j => m ((c : Thread nD τ).loc main_arg3) (ix3 0 k j)) fun j => m ((c : Thread nD τ).loc main_arg4) (ix2 0 j)

/-- The gate in the program's arguments: the third run of the conditioning vector. -/
theorem gA_eq (c : Dev nD) (d : Fin 1024) : gA m c d = condI m c ⟨2048 + d.val, by omega⟩ := by
  unfold gA V
  simp only [hostOps0, List.flatten_cons, List.flatten_nil, List.append_nil, List.cons_append, List.nil_append]
  after_reads_at
  rfl

end Cert.GradWoIdeal.Pt

end
-- ==== Proof.WoAgree.lean ====
module

public import proofs.«01_k».proof.Defs
public import proofs.«01_k».proof.Proof.WoKernel
public import proofs.«01_k».proof.Proof.OutAgree
public import proofs.«01_k».proof.Proof.Gen.Pre_wo_finite
public import proofs.«01_k».proof.Proof.Gen.RefWoIdeal.Run
public import proofs.«01_k».proof.Proof.Gen.RefWoIdeal.Read

@[expose] public section

set_option maxRecDepth 16384

/-! # The gradients of the output projection and of the gate are the reference's

The reference multiplies the incoming gradient by the gate before the product with the mixer's output, and sums the gate's gradient over the
tokens last. Between finite entries both orders give the same sums. -/

noncomputable section

namespace Cert.GradWoIdeal.Pt

open Idealize.ShloMosaic Idealize.ShloMosaic.TcCoe Idealize.SL.Sem Cert.FfnBwd Cert.RefWoIdeal.Read Cert.ReferenceIdeal.Rd Cert.GradOutIdeal.Pt

/-- The gate's gradient sums over the tokens first or last. -/
theorem swapped {a : Fin 8192 → Fin 1024 → EReal} {d : Fin 8192 → EReal} {w : Fin 1024 → EReal} (ha : ∀ n j, IsR (a n j))
    (hd : ∀ n, IsR (d n)) (hw : ∀ j, IsR (w j)) : ∑ j, (∑ n, a n j * d n) * w j = ∑ n, d n * ∑ j, a n j * w j := by
  choose a' ha using ha
  choose d' hd using hd
  choose w' hw using hw
  simp only [ha, hd, hw, ← EReal.coe_mul, coe_sum]
  refine congrArg _ ?_
  simp only [Finset.sum_mul, Finset.mul_sum]
  rw [Finset.sum_comm]
  exact Finset.sum_congr rfl fun n _ => Finset.sum_congr rfl fun j _ => by ring

section
variable (x0 x1 : (⟨Cert.RefWoIdeal.S8192x1024, .f32⟩ : BufTy).Contents (Elt Ideal)) (x2 : (⟨Cert.RefWoIdeal.S1x1024, .f32⟩ : BufTy).Contents (Elt Ideal))
  (x3 : (⟨Cert.RefWoIdeal.S1x1024x6144, .f32⟩ : BufTy).Contents (Elt Ideal)) (x4 : (⟨Cert.RefWoIdeal.S1x6144, .f32⟩ : BufTy).Contents (Elt Ideal))
  (x5 : (⟨Cert.RefWoIdeal.S1x1024x1024, .f32⟩ : BufTy).Contents (Elt Ideal))

/-- The conditioning vector in the arguments. -/
def condW : Fin 6144 → EReal := condVec (fun k => x2 (ix2 0 k)) (fun k j => x3 (ix3 0 k j)) (fun j => x4 (ix2 0 j))

/-- The arguments hold real numbers. -/
structure FiniteW : Prop where
  y : ∀ n k, IsR (x0 (ix2 n k))
  dx : ∀ n k, IsR (x1 (ix2 n k))
  cv : ∀ k, IsR (x2 (ix2 0 k))
  aw : ∀ k j, IsR (x3 (ix3 0 k j))
  ab : ∀ j, IsR (x4 (ix2 0 j))
  wo : ∀ j k, IsR (x5 (ix3 0 j k))

/-- The conditioning vector is real. -/
theorem FiniteW.cond (h : FiniteW x0 x1 x2 x3 x4 x5) (j : Fin 6144) : IsR (condW x2 x3 x4 j) := IsR.condVec h.cv h.aw h.ab j

/-- The reference's gradient of the output projection. -/
theorem ref18 (j d : Fin 1024) : val_main_v18 (F := Ideal) x0 x1 x2 x3 x4 (ix2 j d)
    = ∑ n, condW x2 x3 x4 ⟨2048 + d.val, by omega⟩ * x1 (ix2 n d) * x0 (ix2 n j) := by
  pointwise [val_main_v18, val_main_v17, val_main_v16]
  refine Finset.sum_congr rfl fun n _ => congrArg₂ (· * ·) ?_ rfl
  pointwise [val_main_v12, val_main_v11, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  rfl

/-- The reference's gradient of the gate, over seven rows of zeros. -/
theorem ref20 (a : Fin 8) (d : Fin 1024) : val_main_v20 (F := Ideal) x0 x1 x5 (ix2 a d)
    = if a.val = 0 then ∑ n, x1 (ix2 n d) * ∑ j, x0 (ix2 n j) * x5 (ix3 0 j d) else 0 := by
  pointwise [val_main_v20, val_main_v19, val_main_cst_0, val_main_v15, val_main_v14, val_main_cst, val_main_v13, val_main_v8, val_main_v7]
  by_cases h : a.val = 0
  · rw [if_pos h, dif_pos (by omega)]
  · rw [if_neg h, dif_neg (by omega)]
end

variable [hP : Cert.Pre_wo_finite.Facts]

/-- The precondition makes every entry the gradients read a real number. -/
theorem finite_of_pre (m : (ℓ : Loc Cert.GradWoIdeal.nD Cert.GradWoIdeal.τ Cert.GradWoIdeal.sig) → Buf (Elt Ideal) ℓ)
    (h : Cert.Pre_GradWoIdeal_wo_finite m) (c : Dev Cert.GradWoIdeal.nD) : FiniteW (m ((c.tc : Thread Cert.GradWoIdeal.nD Cert.GradWoIdeal.τ).loc Cert.GradWoIdeal.main_arg0)) (m ((c.tc : Thread Cert.GradWoIdeal.nD Cert.GradWoIdeal.τ).loc Cert.GradWoIdeal.main_arg1)) (m ((c.tc : Thread Cert.GradWoIdeal.nD Cert.GradWoIdeal.τ).loc Cert.GradWoIdeal.main_arg2)) (m ((c.tc : Thread Cert.GradWoIdeal.nD Cert.GradWoIdeal.τ).loc Cert.GradWoIdeal.main_arg3)) (m ((c.tc : Thread Cert.GradWoIdeal.nD Cert.GradWoIdeal.τ).loc Cert.GradWoIdeal.main_arg4)) (m ((c.tc : Thread Cert.GradWoIdeal.nD Cert.GradWoIdeal.τ).loc Cert.GradWoIdeal.main_arg5)) := by
  obtain ⟨h0, h1, h2, h3, h4, h5⟩ := h c
  have h0 := fun n k => congrFun h0 (ix2 n k)
  have h1 := fun n k => congrFun h1 (ix2 n k)
  have h2 := fun k => congrFun h2 (ix2 0 k)
  have h3 := fun k j => congrFun h3 (ix3 0 k j)
  have h4 := fun j => congrFun h4 (ix2 0 j)
  have h5 := fun j k => congrFun h5 (ix3 0 j k)
  pointwise [Cert.Pre_wo_finite.fn] at h0
  pointwise [Cert.Pre_wo_finite.fn] at h1
  pointwise [Cert.Pre_wo_finite.fn] at h2
  pointwise [Cert.Pre_wo_finite.fn] at h3
  pointwise [Cert.Pre_wo_finite.fn] at h4
  pointwise [Cert.Pre_wo_finite.fn] at h5
  exact ⟨fun n k => isR_of_lt _ (h0 n k), fun n k => isR_of_lt _ (h1 n k), fun k => isR_of_lt _ (h2 k), fun k j => isR_of_lt _ (h3 k j), fun j => isR_of_lt _ (h4 j), fun j k => isR_of_lt _ (h5 j k)⟩

section
variable (m : (ℓ : Loc Cert.GradWoIdeal.nD Cert.GradWoIdeal.τ Cert.GradWoIdeal.sig) → Buf (Elt Ideal) ℓ) (hm : Cert.Pre_GradWoIdeal_wo_finite m) (c : Dev Cert.GradWoIdeal.nD)
include hm

/-- The kernel's first array is the reference's gradient of the output projection. -/
theorem arr4_ref : (Cert.GradWoIdeal.Gen.dats m 0 c).arrAt 4 Cert.GradWoIdeal.cfg0.N = val_main_v18 (F := Ideal) (m ((c.tc : Thread Cert.GradWoIdeal.nD Cert.GradWoIdeal.τ).loc Cert.GradWoIdeal.main_arg0)) (m ((c.tc : Thread Cert.GradWoIdeal.nD Cert.GradWoIdeal.τ).loc Cert.GradWoIdeal.main_arg1)) (m ((c.tc : Thread Cert.GradWoIdeal.nD Cert.GradWoIdeal.τ).loc Cert.GradWoIdeal.main_arg2)) (m ((c.tc : Thread Cert.GradWoIdeal.nD Cert.GradWoIdeal.τ).loc Cert.GradWoIdeal.main_arg3)) (m ((c.tc : Thread Cert.GradWoIdeal.nD Cert.GradWoIdeal.τ).loc Cert.GradWoIdeal.main_arg4)) := by
  rw [arr4]
  funext y
  obtain ⟨j, d, rfl⟩ : ∃ (j : Fin 1024) (d : Fin 1024), y = ix2 j d := ⟨y 0, y 1, (ix2_eta y).symm⟩
  have hf := finite_of_pre m hm c
  refine (congrArg₂ (· * ·) (Finset.sum_congr rfl fun n _ => congrArg₂ (· * ·) (yA_eq m c n j) (dA_eq m c n d)) (gA_eq m c d)).trans ?_
  rw [ref18]
  exact gated_sum (fun n => hf.y n j) (fun n => hf.dx n d) (hf.cond _ _ _ _ _ _ _)

/-- The kernel's second array is the reference's gradient of the gate. -/
theorem arr5_ref : (Cert.GradWoIdeal.Gen.dats m 0 c).arrAt 5 Cert.GradWoIdeal.cfg0.N = val_main_v20 (F := Ideal) (m ((c.tc : Thread Cert.GradWoIdeal.nD Cert.GradWoIdeal.τ).loc Cert.GradWoIdeal.main_arg0)) (m ((c.tc : Thread Cert.GradWoIdeal.nD Cert.GradWoIdeal.τ).loc Cert.GradWoIdeal.main_arg1)) (m ((c.tc : Thread Cert.GradWoIdeal.nD Cert.GradWoIdeal.τ).loc Cert.GradWoIdeal.main_arg5)) := by
  rw [arr5]
  funext y
  obtain ⟨a, d, rfl⟩ : ∃ (a : Fin 8) (d : Fin 1024), y = ix2 a d := ⟨y 0, y 1, (ix2_eta y).symm⟩
  have hf := finite_of_pre m hm c
  rw [ref20]
  refine congrArg (fun s => if a.val = 0 then s else 0) ?_
  refine (Finset.sum_congr rfl fun j _ => congrArg₂ (· * ·) (Finset.sum_congr rfl fun n _ => congrArg₂ (· * ·) (yA_eq m c n j) (dA_eq m c n d)) (wA_eq m c j d)).trans ?_
  exact swapped (fun n => hf.y n) (fun n => hf.dx n d) (fun j => hf.wo j d)
end

/-- The algebraic claim: from memories that agree on the arguments, all finite, both programs end with the same two gradients. -/
theorem algebraic : Cert.algebraic_GradWoIdeal_RefWoIdeal_pre_wo_finite := by
  intro m g m' g' hm hag
  refine ⟨fun c => (Cert.GradWoIdeal.Gen.dats m 0 c).arrAt 4 Cert.GradWoIdeal.cfg0.N, fun c => (Cert.GradWoIdeal.Gen.dats m 0 c).arrAt 5 Cert.GradWoIdeal.cfg0.N,
    Cert.GradWoIdeal.Value.run_blocks m g, (θ_run _ _ _).mono (fun r h c => ?_) (Cert.RefWoIdeal.Value.run m' g')⟩
  obtain ⟨a0, a1, a2, a3, a4, a5⟩ := hag c
  obtain ⟨r0, r1, rest⟩ := h c
  refine ⟨r0.trans ?_, r1.trans ?_, rest⟩
  · rw [Cert.RefWoIdeal.Read.val_main_v18_eq, a0, a1, a2, a3, a4]; exact (arr4_ref m hm c).symm
  · rw [Cert.RefWoIdeal.Read.val_main_v20_eq, a0, a1, a5]; exact (arr5_ref m hm c).symm

end Cert.GradWoIdeal.Pt

end
-- ==== Proof.WiKernel.lean ====
module

public import proofs.«01_k».proof.Proof.Gen.GradWiIdeal.Value
public import proofs.«01_k».proof.Proof.Forward
public import Idealize.ShloMosaic.Lib.Pointwise
public import Idealize.ShloMosaic.Lib.Pipeline.ValueKit
public import Idealize.ShloMosaic.Lib.Pipeline.ReadBack
public import Idealize.ShloMosaic.Lib.WritesUnit
public import Idealize.ShloMosaic.Lib.Claim
public import Idealize.ShloMosaic.Lib.StableHlo.ReadAt

@[expose] public section

set_option maxRecDepth 16384

/-! # The gradient of the mixer's input projection, as the kernel computes it

The grid is four pieces of 512 columns times sixteen tiles of 512 rows. For each piece the kernel clears the output block at the first tile and adds
a tile's product to it at every tile. -/

noncomputable section

namespace Cert.GradWiIdeal.Pt

open Cert.GradWiIdeal Cert.GradWiIdeal.Gen Idealize.ShloMosaic Idealize.ShloMosaic.TcCoe Idealize.SL.Sem Cert.FfnBwd

/-- The first run of the conditioning vector, the shift of the mixer's input. -/
def shiftM (v : Fin 6144 → EReal) (k : Fin 1024) : EReal := v ⟨k.val, by omega⟩

/-- The second run, the scale of the mixer's input. -/
def scaleM (v : Fin 6144 → EReal) (k : Fin 1024) : EReal := v ⟨1024 + k.val, by omega⟩

section
variable (c : Dev nD) (i : grid0.Coords) (arg3 : Memref sig .tc .vmem S512x1024 .bf16) (harg3 : arg3.IsWhole) (arg4 : Memref sig .tc .vmem S512x512 .bf16) (harg4 : arg4.IsWhole) (arg5 : Memref sig .tc .vmem S1x1024x512 .f32) (harg5 : arg5.IsWhole)
  (x0 : Vec Ideal S512x1024 .bf16) (x1 : Vec Ideal S512x512 .bf16) (xo2 : Vec Ideal S1x1024x512 .f32)

/-- One tile's product: the sum over its 512 rows. -/
def tile (k : Fin 1024) (j : Fin 512) : EReal := ∑ r : Fin 512, x0 (ix2 r k) * x1 (ix2 r j)

/-- The first tile leaves its product in the block. -/
theorem out_A (hc0 : cond0_0 i) (a : Fin 1) (k : Fin 1024) (j : Fin 512) :
    out0_A_2 c i arg3 harg3 arg4 harg4 arg5 harg5 hc0 x0 x1 (ix3 a k j) = 0 + tile x0 x1 k j := by
  unfold out0_A_2 kernelRun0_A; dsimp only; sl_unfold_words
  simp (disch := decide) only [↓ View.readCov_skip, ↓ View.readCov_cons_toLoadRect, ↓ View.readCov_fill]
  simp only [View.readAt_eq_ld, harg3.read_unread, harg4.read_unread]
  rw [View.read_writes_junk_eq_canon, View.canon_cons_unit_lit _ _ _ (by decide)]
  pointwise [k0_pay2, k0_pay1, tile]

/-- A later tile adds its product. -/
theorem out_B (hc0 : ¬cond0_0 i) (a : Fin 1) (k : Fin 1024) (j : Fin 512) :
    out0_B_2 c i arg3 harg3 arg4 harg4 arg5 harg5 hc0 x0 x1 xo2 (ix3 a k j) = xo2 (ix3 a k j) + tile x0 x1 k j := by
  have ha : a = 0 := Subsingleton.elim _ _
  subst ha
  unfold out0_B_2 kernelRun0_B; dsimp only; sl_unfold_words
  simp only [View.readAt_eq_ld, harg3.read_unread, harg4.read_unread, harg5.read_unread]
  rw [View.read_writes_junk_eq_canon, View.canon_cons_unit_lit _ _ _ (by decide)]
  pointwise [k0_pay2, tile]
end

variable (m : (ℓ : Loc nD τ sig) → Buf (Elt Ideal) ℓ)

theorem idx0 : ∀ t : Fin grid0.N, win0_0.index t = ![t.val % 16, 0] := by decide +kernel
theorem idx1 : ∀ t : Fin grid0.N, win0_1.index t = ![t.val % 16, t.val / 16] := by decide +kernel
theorem idx2 : ∀ t : Fin grid0.N, win0_2.index t = ![t.val / 16, 0, 0] := by decide +kernel

theorem iblk0 (c : Dev nD) (t : Fin cfg0.N) (r : Fin 512) (k : Fin 1024) (n : Fin 8192) (h : n.val = t.val % 16 * 512 + r.val) :
    iblk m c 0 t (ix2 r k) = V m c main_v28 (ix2 n k) := by
  unfold iblk; blk_simp
  refine congrArg (V m c main_v28) (Shape.idx_ext₂ ?_ ?_) <;> blk_simp [idx0, h]
theorem iblk1 (c : Dev nD) (t : Fin cfg0.N) (r j : Fin 512) (n : Fin 8192) (j' : Fin 2048) (h : n.val = t.val % 16 * 512 + r.val)
    (h' : j'.val = t.val / 16 * 512 + j.val) : iblk m c 1 t (ix2 r j) = V m c main_v29 (ix2 n j') := by
  unfold iblk; blk_simp
  refine congrArg (V m c main_v29) (Shape.idx_ext₂ ?_ ?_) <;> blk_simp [idx1, h, h']

/-- The rows the kernel reads: the modulated normalised rows and the incoming gradient's. -/
def hA (c : Dev nD) (n : Fin 8192) (k : Fin 1024) : EReal := V m c main_v28 (ix2 n k)
def dA (c : Dev nD) (n : Fin 8192) (j : Fin 2048) : EReal := V m c main_v29 (ix2 n j)

/-- The block after the first tile of a piece. -/
theorem acc_first (c : Dev nD) (k : Fin 1024) (j : Fin 512) (t : Fin cfg0.N) (h : t.val % 16 = 0) :
    outsAt0 m c t.val t.isLt (ix3 0 k j) = 0 + tile (iblk m c 0 t) (iblk m c 1 t) k j := by
  rw [outsAt0_A m c t h]
  exact out_A ..

/-- The block after a later tile. -/
theorem acc_next (c : Dev nD) (k : Fin 1024) (j : Fin 512) (t : Fin cfg0.N) (h : ¬t.val % 16 = 0) :
    outsAt0 m c t.val t.isLt (ix3 0 k j)
      = outsAt0 m c (t.val - 1) (Nat.lt_of_le_of_lt (Nat.sub_le _ _) t.isLt) (ix3 0 k j) + tile (iblk m c 0 t) (iblk m c 1 t) k j := by
  rw [outsAt0_B m c t h]
  exact out_B ..

/-- The block at the last tile of a piece: the sum over all 8192 rows. -/
theorem acc_last (c : Dev nD) (k : Fin 1024) (j : Fin 512) (t : Fin cfg0.N) (h : t.val % 16 = 15) (j' : Fin 2048) (h' : j'.val = t.val / 16 * 512 + j.val) :
    outsAt0 m c t.val t.isLt (ix3 0 k j) = ∑ n : Fin 8192, hA m c n k * dA m c n j' := by
  have hstep := Pipeline.eq_sum_fin_of_reset_step_of_flush (N := cfg0.N) (fun n h => outsAt0 m c n h (ix3 0 k j)) 16 (0 : EReal)
    (fun t => tile (iblk m c 0 t) (iblk m c 1 t) k j) (acc_first m c k j) (acc_next m c k j) t h
  refine hstep.trans ?_
  rw [zero_add]
  refine Eq.trans ?_ (Fin.sum_univ_tiles 16 512 rfl _).symm
  refine Finset.sum_congr rfl fun s _ => Finset.sum_congr rfl fun r _ => ?_
  have hs : (16 * (t.val / 16) + s.val) % 16 = s.val := by omega
  have hd : (16 * (t.val / 16) + s.val) / 16 = t.val / 16 := by omega
  exact congrArg₂ (· * ·) (iblk0 m c _ r k _ (by rw [hs])) (iblk1 m c _ r j _ j' (by rw [hs]) (by rw [hd]; exact h'))

/-- The array after the run. -/
theorem arr2 (c : Dev nD) : (dats m 0 c).arrAt 2 cfg0.N
    = fun y : S4x1024x512.Idx => ∑ n : Fin 8192, hA m c n (y 1) * dA m c n ⟨(y 0).val * 512 + (y 2).val, by have h0 : (y 0).val < 4 := (y 0).isLt; have h2 : (y 2).val < 512 := (y 2).isLt; omega⟩ := by
  refine (dats m 0 c).arrAt_eq_of_covers 2 _ (by decide +kernel) fun t hf y => ?_
  have h3 : t.val % 16 = 15 := (flush0_2 t).mp hf
  blk_simp
  rw [after0_2]
  obtain ⟨a, k, j, rfl⟩ : ∃ (a : Fin 1) (k : Fin 1024) (j : Fin 512), y = ix3 a k j := ⟨y 0, y 1, y 2, (ix3_eta y).symm⟩
  have ha : a = 0 := Subsingleton.elim _ _
  subst ha
  refine (acc_last m c k j t h3 ⟨t.val / 16 * 512 + j.val, by have : t.val < 64 := lt_of_lt_of_eq t.isLt (show cfg0.N = 64 from N_0); omega⟩ rfl).trans ?_
  refine Finset.sum_congr rfl fun n _ => congrArg₂ (· * ·) (congrArg (hA m c n) (Fin.ext ?_)) (congrArg (dA m c n) (Fin.ext ?_)) <;> blk_simp [idx2]

/-- The modulated rows in the program's arguments. -/
theorem hA_eq (c : Dev nD) (n : Fin 8192) (k : Fin 1024) :
    hA m c n k = h2 (shiftM (condVec (fun k => m ((c : Thread nD τ).loc main_arg2) (ix2 0 k)) (fun k j => m ((c : Thread nD τ).loc main_arg3) (ix3 0 k j)) fun j => m ((c : Thread nD τ).loc main_arg4) (ix2 0 j)))
      (scaleM (condVec (fun k => m ((c : Thread nD τ).loc main_arg2) (ix2 0 k)) (fun k j => m ((c : Thread nD τ).loc main_arg3) (ix3 0 k j)) fun j => m ((c : Thread nD τ).loc main_arg4) (ix2 0 j)))
      (fun k => m ((c : Thread nD τ).loc main_arg5) (ix2 0 k)) (fun k => m ((c : Thread nD τ).loc main_arg1) (ix2 n k)) k := by
  unfold hA V
  simp only [hostOps0, hostOps0_1, List.flatten_cons, List.flatten_nil, List.append_nil, List.cons_append, List.nil_append]
  after_reads_at
  rfl

/-- The incoming gradient in the program's arguments. -/
theorem dA_eq (c : Dev nD) (n : Fin 8192) (j : Fin 2048) : dA m c n j = m ((c : Thread nD τ).loc main_arg0) (ix2 n j) := by
  unfold dA V
  simp only [hostOps0, hostOps0_1, List.flatten_cons, List.flatten_nil, List.append_nil, List.cons_append, List.nil_append]
  after_reads_at

end Cert.GradWiIdeal.Pt

end
-- ==== Proof.WiAgree.lean ====
module

public import proofs.«01_k».proof.Defs
public import proofs.«01_k».proof.Proof.WiKernel
public import proofs.«01_k».proof.Proof.Gen.RefWiIdeal.Run
public import proofs.«01_k».proof.Proof.Gen.RefWiIdeal.Read

@[expose] public section

set_option maxRecDepth 16384

/-! # The gradient of the mixer's input projection is the reference's -/

noncomputable section

namespace Cert.GradWiIdeal.Pt

open Idealize.ShloMosaic Idealize.ShloMosaic.TcCoe Idealize.SL.Sem Cert.FfnBwd Cert.RefWiIdeal.Read

/-- The reference's result at piece `p`, row `k`, column `j` of the piece: the sum over all 8192 rows. -/
theorem ref_at (x0 : (⟨Cert.RefWiIdeal.S8192x2048, .f32⟩ : BufTy).Contents (Elt Ideal)) (x1 : (⟨Cert.RefWiIdeal.S8192x1024, .f32⟩ : BufTy).Contents (Elt Ideal))
    (x2 : (⟨Cert.RefWiIdeal.S1x1024, .f32⟩ : BufTy).Contents (Elt Ideal)) (x3 : (⟨Cert.RefWiIdeal.S1x1024x6144, .f32⟩ : BufTy).Contents (Elt Ideal))
    (x4 : (⟨Cert.RefWiIdeal.S1x6144, .f32⟩ : BufTy).Contents (Elt Ideal)) (x5 : (⟨Cert.RefWiIdeal.S1x1024, .f32⟩ : BufTy).Contents (Elt Ideal))
    (p : Fin 4) (k : Fin 1024) (j : Fin 512) :
    val_main_v37 (F := Ideal) x0 x1 x2 x3 x4 x5 (ix3 p k j) = ∑ n : Fin 8192, x0 (ix2 n ⟨p.val * 512 + j.val, by omega⟩)
      * h2 (shiftM (condVec (fun k => x2 (ix2 0 k)) (fun k j => x3 (ix3 0 k j)) fun j => x4 (ix2 0 j)))
          (scaleM (condVec (fun k => x2 (ix2 0 k)) (fun k j => x3 (ix3 0 k j)) fun j => x4 (ix2 0 j)))
          (fun k => x5 (ix2 0 k)) (fun k => x1 (ix2 n k)) k := by
  have hp := p.isLt
  have hk := k.isLt
  have hj := j.isLt
  rw [val_main_v37_apply, val_main_v36_apply, val_main_v35_apply, val_main_v34_apply]
  have hi : ((k.val * 4 + p.val) * 512 + j.val) % 2048 = p.val * 512 + j.val := by omega
  have hr : ((k.val * 4 + p.val) * 512 + j.val) / 2048 = k.val := by omega
  refine Finset.sum_congr rfl fun n _ => congrArg₂ (· * ·) (congrArg x0 (Shape.idx_ext₂ rfl hi)) ?_
  have hix : ridx_main_v34 (idx_main_v35 (idx_main_v36 (idx_main_v37 (ix3 p k j)))) n = ix2 n k := Shape.idx_ext₂ rfl hr
  rw [hix]
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_call0_v5, val_main_call0_v4, val_main_call0_v3, val_main_call0_v2, val_main_call0_v1, val_main_call0_v0, val_main_call0_cst, val_main_call0_cst_0]
  rfl

variable (m : (ℓ : Loc Cert.GradWiIdeal.nD Cert.GradWiIdeal.τ Cert.GradWiIdeal.sig) → Buf (Elt Ideal) ℓ) (c : Dev Cert.GradWiIdeal.nD)

/-- The kernel's array is the reference's result. -/
theorem arr2_ref : (Cert.GradWiIdeal.Gen.dats m 0 c).arrAt 2 Cert.GradWiIdeal.cfg0.N = val_main_v37 (F := Ideal) (m ((c.tc : Thread Cert.GradWiIdeal.nD Cert.GradWiIdeal.τ).loc Cert.GradWiIdeal.main_arg0)) (m ((c.tc : Thread Cert.GradWiIdeal.nD Cert.GradWiIdeal.τ).loc Cert.GradWiIdeal.main_arg1)) (m ((c.tc : Thread Cert.GradWiIdeal.nD Cert.GradWiIdeal.τ).loc Cert.GradWiIdeal.main_arg2)) (m ((c.tc : Thread Cert.GradWiIdeal.nD Cert.GradWiIdeal.τ).loc Cert.GradWiIdeal.main_arg3)) (m ((c.tc : Thread Cert.GradWiIdeal.nD Cert.GradWiIdeal.τ).loc Cert.GradWiIdeal.main_arg4)) (m ((c.tc : Thread Cert.GradWiIdeal.nD Cert.GradWiIdeal.τ).loc Cert.GradWiIdeal.main_arg5)) := by
  rw [arr2]
  funext y
  obtain ⟨p, k, j, rfl⟩ : ∃ (p : Fin 4) (k : Fin 1024) (j : Fin 512), y = ix3 p k j := ⟨y 0, y 1, y 2, (ix3_eta y).symm⟩
  rw [ref_at]
  refine Finset.sum_congr rfl fun n _ => ?_
  exact (congrArg₂ (· * ·) (hA_eq m c n k) (dA_eq m c n _)).trans (mul_comm _ _)

/-- The algebraic claim: from memories that agree on the arguments both programs end with the same gradient. -/
theorem algebraic : Cert.algebraic_GradWiIdeal_RefWiIdeal := by
  intro m g m' g' hm hag
  refine ⟨fun c => (Cert.GradWiIdeal.Gen.dats m 0 c).arrAt 2 Cert.GradWiIdeal.cfg0.N, Cert.GradWiIdeal.Value.run_blocks m g,
    (θ_run _ _ _).mono (fun r h c => ?_) (Cert.RefWiIdeal.Value.run m' g')⟩
  obtain ⟨a0, a1, a2, a3, a4, a5, -, -⟩ := hag c
  obtain ⟨r0, rest⟩ := h c
  refine ⟨r0.trans ?_, rest⟩
  rw [Cert.RefWiIdeal.Read.val_main_v37_eq, a0, a1, a2, a3, a4, a5]; exact (arr2_ref m c).symm

end Cert.GradWiIdeal.Pt

end
-- ==== Proof.MixValue.lean ====
/- The mixer's forward pass: the projection's array, block by block, and the run read. -/
module

public import proofs.«01_k».proof.Proof.MixFrame
public import Idealize.ShloMosaic.Lib.Pipeline.Value

@[expose] public section

noncomputable section

namespace Cert.MixForwardIdeal.Value

open Cert.MixForwardIdeal Cert.MixForwardIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 17's array: the run's contents for that window after the body (`Gen.outsAt0`: its component 0), read through the window's block. -/
theorem flushed17 (c : Dev nD) (t : Fin cfg0.N) :
    (dats m 0 c).flushed 17 t = (cfg0.win 17).cut (grid0.coords t) ((outsAt0 m c t.val t.isLt).1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — by the frame's rewriting lemma for the case. -/
theorem flushed17_A (c : Dev nD) (t : Fin cfg0.N) (h0 : t.val % 32 = 0) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed17, outsAt0_A m c t h0]

/-- … so at a point where case B runs, what its write-back would write is that case's NAMED TERM for the window (`Gen.out0_B_17`: the pieces
    its run found, read back) at the point's memrefs and input blocks, and for an output the case reads back what the point before left (`Gen.outsAt0` at `t - 1`) — by the frame's rewriting lemma for the case. -/
theorem flushed17_B (c : Dev nD) (t : Fin cfg0.N) (h0 : ¬t.val % 32 = 0) :
    (dats m 0 c).flushed 17 t = (cfg0.win 17).cut (grid0.coords t) (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2) := by
  simp only [flushed17, outsAt0_B m c t h0]

/-- The index map sends distinct grid points to distinct block indices (decided over the 32 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S8192x2048.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v29_0) = (dats m 0 c).arrAt 17 cfg0.N :=
  (h c).1 17

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 3 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 5 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 5).trans (((dats m 0 c).arrAt_in 5 rfl _).trans ((A_eq m c 5).trans (V_main_arg6 m c)))

/-- After the frame run, argument `main_arg7` is as launched: input window 6 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 6).trans (((dats m 0 c).arrAt_in 6 rfl _).trans ((A_eq m c 6).trans (V_main_arg7 m c)))

/-- After the frame run, argument `main_arg8` is as launched: input window 7 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 7).trans (((dats m 0 c).arrAt_in 7 rfl _).trans ((A_eq m c 7).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: input window 11 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 11).trans (((dats m 0 c).arrAt_in 11 rfl _).trans ((A_eq m c 11).trans (V_main_arg12 m c)))

/-- After the frame run, argument `main_arg13` is as launched: input window 12 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 12).trans (((dats m 0 c).arrAt_in 12 rfl _).trans ((A_eq m c 12).trans (V_main_arg13 m c)))

/-- After the frame run, argument `main_arg14` is as launched: input window 13 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 13).trans (((dats m 0 c).arrAt_in 13 rfl _).trans ((A_eq m c 13).trans (V_main_arg14 m c)))

/-- After the frame run, argument `main_arg15` is as launched: input window 14 stages it and never writes it back. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 14).trans (((dats m 0 c).arrAt_in 14 rfl _).trans ((A_eq m c 14).trans (V_main_arg15 m c)))

/-- After the frame run, argument `main_arg16` is as launched: input window 15 stages it and never writes it back. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).1 15).trans (((dats m 0 c).arrAt_in 15 rfl _).trans ((A_eq m c 15).trans (V_main_arg16 m c)))

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- The frame run with the projection's array after the run named — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v29_0) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨post17 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c⟩)
    (run_main m ρ)

end Cert.MixForwardIdeal.Value

end
-- ==== Proof.MixRows.lean ====
module

public import proofs.«01_k».proof.Proof.FwdRows

@[expose] public section

/-! # One token through the mixer's forward pass, as the kernel spells it -/

noncomputable section

namespace Cert.Mixer

open Idealize.ShloMosaic Cert.FfnBwd Cert.FfnFwd

/-- The input projection of a modulated row `h`: column `j` of its piece `p`, of the four pieces of 512 columns. -/
def zcol (h : Fin 1024 → EReal) (w : Fin 4 → Fin 1024 → Fin 512 → EReal) (b : Fin 2048 → EReal) (p : Fin 4) (j : Fin 512) : EReal :=
  ∑ k, h k * w p k j + b ⟨p.val * 512 + j.val, by omega⟩

end Cert.Mixer

end
-- ==== Proof.MixPoint.lean ====
module

public import proofs.«01_k».proof.Proof.MixFrame
public import proofs.«01_k».proof.Proof.MixRows
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

/-! # What one grid point of the mixer's forward call stores in the projection's block

A grid point takes 256 tokens and stores their input projection in four pieces of 512 columns. Each piece is a restriction of one function
of the token and the column. -/

noncomputable section

namespace Cert.MixForwardIdeal.Pt

open Cert.MixForwardIdeal Cert.MixForwardIdeal.Gen Idealize.ShloMosaic Idealize.ShloMosaic.TcCoe Idealize.SL.Sem Cert.FfnBwd Cert.FfnFwd Cert.Mixer

local notation "F" => Ideal
variable (c : Dev nD) (i : grid0.Coords) (arg1 : Memref sig .tc .vmem S256x1024 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S1x1024 .f32) (harg4 : arg4.IsWhole) (arg5 : Memref sig .tc .vmem S4x1024x512 .bf16) (harg5 : arg5.IsWhole) (arg6 : Memref sig .tc .vmem S1x2048 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .bf16) (harg9 : arg9.IsWhole) (arg10 : Memref sig .tc .vmem S128x512 .f32) (harg10 : arg10.IsWhole) (arg11 : Memref sig .tc .vmem S32x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S256x2048 .f32) (harg18 : arg18.IsWhole) (arg19 : Memref sig .tc .vmem S256x1024 .f32) (harg19 : arg19.IsWhole) (arg20 : Memref sig .tc .vmem S256x512 .f32) (harg20 : arg20.IsWhole) (arg21 : Memref sig .tc .vmem S256x1024 .bf16) (harg21 : arg21.IsWhole) (arg22 : Memref sig .tc .vmem S288x512 .f32) (harg22 : arg22.IsWhole) (arg23 : Memref sig .tc .vmem S256x512 .f32) (harg23 : arg23.IsWhole)
    (x0 : Vec F S256x1024 .f32) (x1 : Vec F S1x8192 .f32) (x2 : Vec F S1x8192 .f32) (x3 : Vec F S1x1024 .f32) (x4 : Vec F S4x1024x512 .bf16) (x5 : Vec F S1x2048 .f32) (x6 : Vec F S1x512 .f32) (x7 : Vec F S1x512 .f32) (x8 : Vec F S8x128x128 .bf16) (x9 : Vec F S128x512 .f32) (x10 : Vec F S32x512 .f32) (x11 : Vec F S1x512 .f32) (x12 : Vec F S1x512 .f32) (x13 : Vec F S1x512 .f32) (x14 : Vec F S1x512 .f32) (x15 : Vec F S1x512 .f32) (x16 : Vec F S1024x1024 .bf16)

/-- The conditioning rows: two runs of 1024 columns. -/
def shiftB (k : Fin 1024) : EReal := x1 (ix2 0 ⟨k.val, by omega⟩) + x2 (ix2 0 ⟨k.val, by omega⟩)
def scaleB (k : Fin 1024) : EReal := x1 (ix2 0 ⟨1024 + k.val, by omega⟩) + x2 (ix2 0 ⟨1024 + k.val, by omega⟩)

/-- Row `r` of the normalised, scaled and shifted block. -/
def hidB (r : Fin 256) : Fin 1024 → EReal := hid (shiftB x1 x2) (scaleB x1 x2) (fun k => x3 (ix2 0 k)) (fun k => x0 (ix2 r k))

/-- Row `r` of the input projection, at column `j` of its piece `p`. -/
def zcolB (r : Fin 256) (p : Fin 4) (j : Fin 512) : EReal :=
  zcol (hidB x0 x1 x2 x3 r) (fun p k j => x4 (ix3 p k j)) (fun k => x5 (ix2 0 k)) p j

/-- The input projection at an index of its block. -/
def zB (y : S256x2048.Idx) : EReal :=
  zcolB x0 x1 x2 x3 x4 x5 (y 0) ⟨(y 1).val / 512, by have h : (y 1).val < 2048 := (y 1).isLt; omega⟩ ⟨(y 1).val % 512, Nat.mod_lt _ (by decide)⟩

/-- The projection at an index of one of the four stored pieces. -/
theorem zB_at (q : ℕ) (p : Fin 4) (x : Shape.Idx ⟨2, ![256, 512]⟩) (hp : 512 * p.val = q)
    (y : S256x2048.Idx) (h0 : (y 0).val = 0 + 1 * (x 0).val) (h1 : (y 1).val = q + 1 * (x 1).val) :
    zB x0 x1 x2 x3 x4 x5 y = zcolB x0 x1 x2 x3 x4 x5 (x 0) p (x 1) := by
  have h : (x 1).val < 512 := (x 1).isLt
  have h' : (y 1).val < 2048 := (y 1).isLt
  have e0 : y 0 = x 0 := Fin.ext (by rw [h0, Nat.one_mul]; exact Nat.zero_add _)
  have e1 : (⟨(y 1).val / 512, by omega⟩ : Fin 4) = p := Fin.ext (by show (y 1).val / 512 = p.val; omega)
  have e2 : (⟨(y 1).val % 512, Nat.mod_lt _ (by decide)⟩ : Fin 512) = x 1 := Fin.ext (by show (y 1).val % 512 = (x 1).val; omega)
  unfold zB
  rw [e0, e1, e2]

/-- Every store of a first grid point into the projection's block is a part of `zB`. -/
theorem pieces17_A (hc0 : cond0_0 i) : View.PiecesOf (Val := Elt F) (zB x0 x1 x2 x3 x4 x5) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).1 := by
  unfold kernelRun0_A; dsimp only; sl_unfold_words
  simp only [View.readAt_eq_ld, harg1.read_unread, harg2.read_unread, harg3.read_unread, harg4.read_unread, harg5.read_unread, harg6.read_unread]
  refine ⟨fun x => ?_, fun x => ?_, fun x => ?_, fun x => ?_, trivial⟩
  · rw [zB_at x0 x1 x2 x3 x4 x5 1536 3 x (by decide) _ rfl rfl]
    pointwise [k0_pay4, k0_pay6, k0_pay10, zcolB, zcol, hidB, hid, shiftB, scaleB, rms]
  · rw [zB_at x0 x1 x2 x3 x4 x5 1024 2 x (by decide) _ rfl rfl]
    pointwise [k0_pay4, k0_pay6, k0_pay9, zcolB, zcol, hidB, hid, shiftB, scaleB, rms]
  · rw [zB_at x0 x1 x2 x3 x4 x5 512 1 x (by decide) _ rfl rfl]
    pointwise [k0_pay4, k0_pay6, k0_pay8, zcolB, zcol, hidB, hid, shiftB, scaleB, rms]
  · rw [zB_at x0 x1 x2 x3 x4 x5 0 0 x (by decide) _ rfl rfl]
    pointwise [k0_pay4, k0_pay6, k0_pay7, zcolB, zcol, hidB, hid, shiftB, scaleB, rms]

/-- The same at a later point. -/
theorem pieces17_B (hc0 : ¬cond0_0 i) (i' : grid0.Coords) (hc0' : cond0_0 i') (xs0 : Vec F S288x512 .f32) :
    View.PiecesOf (Val := Elt F) (zB x0 x1 x2 x3 x4 x5) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0).1 :=
  pieces17_A c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 hc0'

end Cert.MixForwardIdeal.Pt

end
-- ==== Proof.MixKernel.lean ====
module

public import proofs.«01_k».proof.Proof.MixValue
public import proofs.«01_k».proof.Proof.MixPoint
public import proofs.«01_k».proof.Proof.WiKernel
public import Idealize.ShloMosaic.Lib.Claim
public import Idealize.ShloMosaic.Lib.StableHlo.ReadAt

@[expose] public section

set_option maxRecDepth 16384

/-! # The mixer's projection after the run, in the program's arguments -/

noncomputable section

namespace Cert.MixForwardIdeal.Pt

open Cert.MixForwardIdeal Cert.MixForwardIdeal.Gen Idealize.ShloMosaic Idealize.ShloMosaic.TcCoe Idealize.SL.Sem Cert.FfnBwd Cert.FfnFwd Cert.Mixer
open Cert.GradWiIdeal.Pt (shiftM scaleM)

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0, 0] := by decide +kernel
theorem idx5 : ∀ t : Fin grid0.N, win0_5.index t = ![0, 0] := by decide +kernel
theorem idx17 : ∀ t : Fin grid0.N, win0_17.index t = ![t.val, 0] := by decide +kernel

theorem iblk0 (c : Dev nD) (t : Fin cfg0.N) (r : Fin 256) (k : Fin 1024) (n : Fin 8192) (h : n.val = t.val * 256 + r.val) :
    iblk m c 0 t (ix2 r k) = V m c main_arg0 (ix2 n k) := by
  unfold iblk; blk_simp
  refine congrArg (V m c main_arg0) (Shape.idx_ext₂ ?_ ?_) <;> blk_simp [idx0, h]
theorem iblk1 (c : Dev nD) (t : Fin cfg0.N) (y : S1x8192.Idx) : iblk m c 1 t y = V m c main_v7 y := by
  unfold iblk; blk_simp
  refine congrArg (V m c main_v7) (Shape.idx_ext₂ ?_ ?_) <;> blk_simp [idx1]
theorem iblk2 (c : Dev nD) (t : Fin cfg0.N) (y : S1x8192.Idx) : iblk m c 2 t y = V m c main_v9 y := by
  unfold iblk; blk_simp
  refine congrArg (V m c main_v9) (Shape.idx_ext₂ ?_ ?_) <;> blk_simp [idx2]
theorem iblk3 (c : Dev nD) (t : Fin cfg0.N) (y : S1x1024.Idx) : iblk m c 3 t y = V m c main_arg4 y := by
  unfold iblk; blk_simp
  refine congrArg (V m c main_arg4) (Shape.idx_ext₂ ?_ ?_) <;> blk_simp [idx3]
theorem iblk5 (c : Dev nD) (t : Fin cfg0.N) (y : S1x2048.Idx) : iblk m c 5 t y = V m c main_arg6 y := by
  unfold iblk; blk_simp
  refine congrArg (V m c main_arg6) (Shape.idx_ext₂ ?_ ?_) <;> blk_simp [idx5]
theorem iblk4 (c : Dev nD) (t : Fin cfg0.N) (y : S4x1024x512.Idx) : iblk m c 4 t y = V m c main_v13 y := by
  unfold iblk; blk_simp
  refine congrArg (V m c main_v13) (funext fun a => Fin.ext ?_)
  blk_simp [idx4]
  fin_cases a <;> exact Nat.zero_add _

/-! ## The data of one token -/

def xA (c : Dev nD) (n : Fin 8192) (k : Fin 1024) : EReal := V m c main_arg0 (ix2 n k)
def modA (c : Dev nD) (k : Fin 8192) : EReal := V m c main_v7 (ix2 0 k)
def biasA (c : Dev nD) (k : Fin 8192) : EReal := V m c main_v9 (ix2 0 k)
def shiftA (c : Dev nD) (k : Fin 1024) : EReal := modA m c ⟨k.val, by omega⟩ + biasA m c ⟨k.val, by omega⟩
def scaleA (c : Dev nD) (k : Fin 1024) : EReal := modA m c ⟨1024 + k.val, by omega⟩ + biasA m c ⟨1024 + k.val, by omega⟩
def nrmA (c : Dev nD) (k : Fin 1024) : EReal := V m c main_arg4 (ix2 0 k)
def wiA (c : Dev nD) (p : Fin 4) (k : Fin 1024) (j : Fin 512) : EReal := V m c main_v13 (ix3 p k j)
def biA (c : Dev nD) (k : Fin 2048) : EReal := V m c main_arg6 (ix2 0 k)
/-- The modulated row. -/
def hidA (c : Dev nD) (n : Fin 8192) : Fin 1024 → EReal := hid (shiftA m c) (scaleA m c) (nrmA m c) (xA m c n)
/-- The input projection at column `j` of its piece `p`. -/
def zcolA (c : Dev nD) (n : Fin 8192) (p : Fin 4) (j : Fin 512) : EReal := zcol (hidA m c n) (wiA m c) (biA m c) p j

section
variable (c : Dev nD) (t : Fin cfg0.N) (r : Fin 256) (n : Fin 8192) (h : n.val = t.val * 256 + r.val)
include h

theorem hidB_eq : hidB (iblk m c 0 t) (iblk m c 1 t) (iblk m c 2 t) (iblk m c 3 t) r = hidA m c n := by
  have e0 : (fun k => (iblk m c 0 t : Vec Ideal S256x1024 .f32) (ix2 r k)) = xA m c n := funext fun k => iblk0 m c t r k n h
  have e1 : shiftB (iblk m c 1 t) (iblk m c 2 t) = shiftA m c := funext fun k => congrArg₂ (· + ·) (iblk1 m c t _) (iblk2 m c t _)
  have e2 : scaleB (iblk m c 1 t) (iblk m c 2 t) = scaleA m c := funext fun k => congrArg₂ (· + ·) (iblk1 m c t _) (iblk2 m c t _)
  have e3 : (fun k => (iblk m c 3 t : Vec Ideal S1x1024 .f32) (ix2 0 k)) = nrmA m c := funext fun k => iblk3 m c t _
  unfold hidB hidA
  rw [e0, e1, e2, e3]

theorem zcolB_eq : zcolB (iblk m c 0 t) (iblk m c 1 t) (iblk m c 2 t) (iblk m c 3 t) (iblk m c 4 t) (iblk m c 5 t) r = zcolA m c n := by
  have e4 : (fun p k j => (iblk m c 4 t : Vec Ideal S4x1024x512 .bf16) (ix3 p k j)) = wiA m c := funext fun p => funext fun k => funext fun j => iblk4 m c t _
  have e5 : (fun k => (iblk m c 5 t : Vec Ideal S1x2048 .f32) (ix2 0 k)) = biA m c := funext fun k => iblk5 m c t _
  funext p j
  unfold zcolB zcolA
  rw [hidB_eq m c t r n h, e4, e5]
end

/-- What a point leaves in the projection's block. -/
theorem outs17 (c : Dev nD) (t : Fin cfg0.N) (y : S256x2048.Idx) :
    (outsAt0 m c t.val t.isLt).1 y = zB (iblk m c 0 t) (iblk m c 1 t) (iblk m c 2 t) (iblk m c 3 t) (iblk m c 4 t) (iblk m c 5 t) y := by
  by_cases h0 : t.val % 32 = 0
  · rw [outsAt0_A m c t h0]; dsimp only
    unfold out0_A_17
    rw [View.read_writes_junk_eq_canon]
    exact View.canon_apply_of_pieces _ _ (View.PiecesOf.mem (pieces17_A ..)) y (cover0_A_17 ..)
  · rw [outsAt0_B m c t h0]; dsimp only
    unfold out0_B_17
    rw [View.read_writes_junk_eq_canon]
    exact View.canon_apply_of_pieces _ _ (View.PiecesOf.mem (pieces17_B (hc0' := (hcond0_0 (⟨0, by rw [show cfg0.N = 32 from N_0]; decide⟩ : Fin cfg0.N)).mpr rfl) ..)) y (cover0_B_17 ..)

/-- The projection after the run. -/
theorem arr17 (c : Dev nD) : (dats m 0 c).arrAt 17 cfg0.N
    = fun y : S8192x2048.Idx => zcolA m c (y 0) ⟨(y 1).val / 512, by have h : (y 1).val < 2048 := (y 1).isLt; omega⟩ ⟨(y 1).val % 512, Nat.mod_lt _ (by decide)⟩ := by
  refine (dats m 0 c).arrAt_eq_of_covers 17 _ (by decide +kernel) fun t hf y => ?_
  blk_simp
  rw [after0_17, outs17]
  unfold zB
  rw [zcolB_eq m c t (y 0) ⟨t.val * 256 + (y 0).val, by have h : (y 0).val < 256 := (y 0).isLt; have : t.val < 32 := lt_of_lt_of_eq t.isLt (show cfg0.N = 32 from N_0); omega⟩ rfl]
  have e0 : win0_17.index t 0 = t.val := congrFun (idx17 t) 0
  have e1 : win0_17.index t 1 = 0 := congrFun (idx17 t) 1
  refine congr (congr (congrArg (zcolA m c) (Fin.ext ?_)) (Fin.ext ?_)) (Fin.ext ?_) <;> blk_simp [idx17]

/-! ## The program's arguments -/

def xI (c : Dev nD) (n : Fin 8192) (k : Fin 1024) : EReal := m ((c : Thread nD τ).loc main_arg0) (ix2 n k)
/-- The conditioning vector. -/
def condI (c : Dev nD) : Fin 6144 → EReal :=
  condVec (fun k => m ((c : Thread nD τ).loc main_arg1) (ix2 0 k)) (fun k j => m ((c : Thread nD τ).loc main_arg2) (ix3 0 k j)) fun j => m ((c : Thread nD τ).loc main_arg3) (ix2 0 j)

theorem xA_eq (c : Dev nD) : xA m c = xI m c := by funext n k; unfold xA xI; rw [V_main_arg0]
theorem nrmA_eq (c : Dev nD) : nrmA m c = fun k => m ((c : Thread nD τ).loc main_arg4) (ix2 0 k) := by funext k; unfold nrmA; rw [V_main_arg4]
theorem biA_eq (c : Dev nD) : biA m c = fun k => m ((c : Thread nD τ).loc main_arg6) (ix2 0 k) := by funext k; unfold biA; rw [V_main_arg6]

/-- The conditioning product: the block's part. -/
theorem modA_lt (c : Dev nD) (k : Fin 8192) (h : k.val < 6144) : modA m c k
    = condMul (fun k => m ((c : Thread nD τ).loc main_arg1) (ix2 0 k)) (fun k j => m ((c : Thread nD τ).loc main_arg2) (ix3 0 k j)) ⟨k.val, h⟩ := by
  unfold modA V
  simp only [hostOps0, hostOps0_1, hostOps0_2, hostOps0_3, List.flatten_cons, List.flatten_nil, List.append_nil, List.cons_append, List.nil_append]
  generalize hf : ((fun a b => concatenate S1x8192 1 [⟨S1x6144, a⟩, ⟨S1x2048, b⟩] concatenates_S1x6144_S1x2048_S1x8192_d1) :
    (⟨S1x6144, .f32⟩ : BufTy).Contents (Elt Ideal) → (⟨S1x2048, .f32⟩ : BufTy).Contents (Elt Ideal) → (⟨S1x8192, .f32⟩ : BufTy).Contents (Elt Ideal)) = f
  after_reads_simp
  subst hf
  simp -implicitDefEqProofs only [StableHlo.TRef.toBuf, StableHlo.TRef.ofBuf, cast_cast, cast_eq]
  clean_types
  pointwise
  rw [dif_pos h]
  rfl

/-- The bias: the block's part. -/
theorem biasA_lt (c : Dev nD) (k : Fin 8192) (h : k.val < 6144) : biasA m c k = m ((c : Thread nD τ).loc main_arg3) (ix2 0 ⟨k.val, h⟩) := by
  unfold biasA V
  simp only [hostOps0, hostOps0_1, hostOps0_2, hostOps0_3, List.flatten_cons, List.flatten_nil, List.append_nil, List.cons_append, List.nil_append]
  generalize hf : ((fun a b => concatenate S1x8192 1 [⟨S1x6144, a⟩, ⟨S1x2048, b⟩] concatenates_S1x6144_S1x2048_S1x8192_d1) :
    (⟨S1x6144, .f32⟩ : BufTy).Contents (Elt Ideal) → (⟨S1x2048, .f32⟩ : BufTy).Contents (Elt Ideal) → (⟨S1x8192, .f32⟩ : BufTy).Contents (Elt Ideal)) = f
  after_reads_simp
  subst hf
  simp -implicitDefEqProofs only [StableHlo.TRef.toBuf, StableHlo.TRef.ofBuf, cast_cast, cast_eq]
  clean_types
  pointwise
  rw [dif_pos h]

theorem shiftA_eq (c : Dev nD) : shiftA m c = shiftM (condI m c) := by
  funext k
  have h : k.val < 6144 := by omega
  unfold shiftA shiftM condI condVec
  rw [modA_lt m c _ h, biasA_lt m c _ h]
theorem scaleA_eq (c : Dev nD) : scaleA m c = scaleM (condI m c) := by
  funext k
  have h : 1024 + k.val < 6144 := by omega
  unfold scaleA scaleM condI condVec
  rw [modA_lt m c _ h, biasA_lt m c _ h]

/-- The input projection's weight cut in four. -/
theorem wiA_eq (c : Dev nD) : wiA m c = fun p k j => m ((c : Thread nD τ).loc main_arg5) (ix3 0 k ⟨p.val * 512 + j.val, by omega⟩) := by
  funext p k j
  unfold wiA V
  simp only [hostOps0, hostOps0_1, hostOps0_2, hostOps0_3, List.flatten_cons, List.flatten_nil, List.append_nil, List.cons_append, List.nil_append]
  after_reads_at

end Cert.MixForwardIdeal.Pt

end
-- ==== Proof.MixRef.lean ====
module

public import proofs.«01_k».proof.Proof.FwdReals
public import proofs.«01_k».proof.Proof.MixRows
public import proofs.«01_k».proof.Proof.WiKernel
public import proofs.«01_k».proof.Proof.Gen.RefMixIdeal.Run
public import proofs.«01_k».proof.Proof.Gen.RefMixIdeal.Read

@[expose] public section

set_option maxRecDepth 16384

/-! # The mixer's reference at an index -/

noncomputable section

namespace Cert.RefMixIdeal.Rd

open Cert.RefMixIdeal Cert.RefMixIdeal.Gen Cert.RefMixIdeal.Value Cert.RefMixIdeal.Read Idealize.ShloMosaic Idealize.ShloMosaic.TcCoe Cert.FfnBwd Cert.FfnFwd Cert.Mixer
open Cert.GradWiIdeal.Pt (shiftM scaleM)

variable (x0 : (⟨S8192x1024, .f32⟩ : BufTy).Contents (Elt Ideal)) (x1 : (⟨S1x1024, .f32⟩ : BufTy).Contents (Elt Ideal)) (x2 : (⟨S1x1024x6144, .f32⟩ : BufTy).Contents (Elt Ideal)) (x3 : (⟨S1x6144, .f32⟩ : BufTy).Contents (Elt Ideal)) (x4 : (⟨S1x1024, .f32⟩ : BufTy).Contents (Elt Ideal)) (x5 : (⟨S1x1024x2048, .f32⟩ : BufTy).Contents (Elt Ideal)) (x6 : (⟨S1x2048, .f32⟩ : BufTy).Contents (Elt Ideal))

/-- The conditioning vector from the arguments. -/
def condR : Fin 6144 → EReal := condVec (fun k => x1 (ix2 0 k)) (fun k j => x2 (ix3 0 k j)) (fun j => x3 (ix2 0 j))

/-- Row `n` of the modulated input. -/
def hR (n : Fin 8192) : Fin 1024 → EReal :=
  h2 (shiftM (condR x1 x2 x3)) (scaleM (condR x1 x2 x3)) (fun k => x4 (ix2 0 k)) (fun k => x0 (ix2 n k))

/-- Row `n` of the input projection. -/
def zR (n : Fin 8192) (j : Fin 2048) : EReal := ∑ k, hR x0 x1 x2 x3 x4 n k * x5 (ix3 0 k j) + x6 (ix2 0 j)

theorem e5 (k : Fin 6144) : val_main_v5 (F := Ideal) x1 x2 x3 (ix2 0 k) = condR x1 x2 x3 k := by
  pointwise [val_main_v5, val_main_v4, val_main_v3, val_main_v2, val_main_v1, val_main_v0, val_main_call0_v0, val_main_call0_v1, val_main_call0_v2, val_main_call0_v3, val_main_call0_v4, val_main_call0_v5, val_main_call0_cst, val_main_call0_cst_0]
  rfl

theorem e27 (n : Fin 8192) (k : Fin 1024) : val_main_v27 (F := Ideal) x0 x1 x2 x3 x4 (ix2 n k) = hR x0 x1 x2 x3 x4 n k := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1, val_main_cst_2]
  rw [e5, e5]
  rfl

theorem e33 (n : Fin 8192) (j : Fin 2048) : val_main_v33 (F := Ideal) x0 x1 x2 x3 x4 x5 x6 (ix2 n j) = zR x0 x1 x2 x3 x4 x5 x6 n j := by
  pointwise [val_main_v33, val_main_v32, val_main_v31, val_main_v30, val_main_v29, val_main_v28]
  simp only [e27]
  rfl

end Cert.RefMixIdeal.Rd

end
-- ==== Proof.MixAgree.lean ====
module

public import proofs.«01_k».proof.Defs
public import proofs.«01_k».proof.Proof.MixKernel
public import proofs.«01_k».proof.Proof.MixRef

@[expose] public section

set_option maxRecDepth 16384

/-! # The mixer's projection is the reference's -/

noncomputable section

namespace Cert.MixForwardIdeal.Pt

open Idealize.ShloMosaic Idealize.ShloMosaic.TcCoe Idealize.SL.Sem Cert.FfnBwd Cert.FfnFwd Cert.Mixer Cert.RefMixIdeal.Read Cert.RefMixIdeal.Rd
open Cert.GradWiIdeal.Pt (shiftM scaleM)

variable (m : (ℓ : Loc Cert.MixForwardIdeal.nD Cert.MixForwardIdeal.τ Cert.MixForwardIdeal.sig) → Buf (Elt Ideal) ℓ) (c : Dev Cert.MixForwardIdeal.nD)

/-- The modulated row, in the arguments. -/
theorem hidA_eq (n : Fin 8192) : hidA m c n = hR (m ((c.tc : Thread Cert.MixForwardIdeal.nD Cert.MixForwardIdeal.τ).loc Cert.MixForwardIdeal.main_arg0)) (m ((c.tc : Thread Cert.MixForwardIdeal.nD Cert.MixForwardIdeal.τ).loc Cert.MixForwardIdeal.main_arg1)) (m ((c.tc : Thread Cert.MixForwardIdeal.nD Cert.MixForwardIdeal.τ).loc Cert.MixForwardIdeal.main_arg2)) (m ((c.tc : Thread Cert.MixForwardIdeal.nD Cert.MixForwardIdeal.τ).loc Cert.MixForwardIdeal.main_arg3)) (m ((c.tc : Thread Cert.MixForwardIdeal.nD Cert.MixForwardIdeal.τ).loc Cert.MixForwardIdeal.main_arg4)) n := by
  unfold hidA
  rw [shiftA_eq, scaleA_eq, nrmA_eq, xA_eq, hid_eq]
  rfl

/-- The input projection, in the arguments. -/
theorem zcolA_eq (n : Fin 8192) (p : Fin 4) (j : Fin 512) (q : Fin 2048) (hq : q.val = p.val * 512 + j.val) : zcolA m c n p j = zR (m ((c.tc : Thread Cert.MixForwardIdeal.nD Cert.MixForwardIdeal.τ).loc Cert.MixForwardIdeal.main_arg0)) (m ((c.tc : Thread Cert.MixForwardIdeal.nD Cert.MixForwardIdeal.τ).loc Cert.MixForwardIdeal.main_arg1)) (m ((c.tc : Thread Cert.MixForwardIdeal.nD Cert.MixForwardIdeal.τ).loc Cert.MixForwardIdeal.main_arg2)) (m ((c.tc : Thread Cert.MixForwardIdeal.nD Cert.MixForwardIdeal.τ).loc Cert.MixForwardIdeal.main_arg3)) (m ((c.tc : Thread Cert.MixForwardIdeal.nD Cert.MixForwardIdeal.τ).loc Cert.MixForwardIdeal.main_arg4)) (m ((c.tc : Thread Cert.MixForwardIdeal.nD Cert.MixForwardIdeal.τ).loc Cert.MixForwardIdeal.main_arg5)) (m ((c.tc : Thread Cert.MixForwardIdeal.nD Cert.MixForwardIdeal.τ).loc Cert.MixForwardIdeal.main_arg6)) n q := by
  have lt : p.val * 512 + j.val < 2048 := by have := p.isLt; have := j.isLt; omega
  obtain rfl : q = ⟨p.val * 512 + j.val, lt⟩ := Fin.ext hq
  unfold zcolA
  rw [hidA_eq, wiA_eq, biA_eq]
  rfl

/-- The input projection's array. -/
theorem arr17_ref : (Cert.MixForwardIdeal.Gen.dats m 0 c).arrAt 17 Cert.MixForwardIdeal.cfg0.N = val_main_v33 (F := Ideal) (m ((c.tc : Thread Cert.MixForwardIdeal.nD Cert.MixForwardIdeal.τ).loc Cert.MixForwardIdeal.main_arg0)) (m ((c.tc : Thread Cert.MixForwardIdeal.nD Cert.MixForwardIdeal.τ).loc Cert.MixForwardIdeal.main_arg1)) (m ((c.tc : Thread Cert.MixForwardIdeal.nD Cert.MixForwardIdeal.τ).loc Cert.MixForwardIdeal.main_arg2)) (m ((c.tc : Thread Cert.MixForwardIdeal.nD Cert.MixForwardIdeal.τ).loc Cert.MixForwardIdeal.main_arg3)) (m ((c.tc : Thread Cert.MixForwardIdeal.nD Cert.MixForwardIdeal.τ).loc Cert.MixForwardIdeal.main_arg4)) (m ((c.tc : Thread Cert.MixForwardIdeal.nD Cert.MixForwardIdeal.τ).loc Cert.MixForwardIdeal.main_arg5)) (m ((c.tc : Thread Cert.MixForwardIdeal.nD Cert.MixForwardIdeal.τ).loc Cert.MixForwardIdeal.main_arg6)) := by
  rw [arr17]
  funext y
  obtain ⟨n, k, rfl⟩ : ∃ (n : Fin 8192) (k : Fin 2048), y = ix2 n k := ⟨y 0, y 1, (ix2_eta y).symm⟩
  exact (zcolA_eq m c n _ _ k (by show k.val = k.val / 512 * 512 + k.val % 512; omega)).trans (e33 ..).symm

/-- The algebraic claim: from memories that agree on the arguments both programs end with the same results. -/
theorem algebraic : Cert.algebraic_MixForwardIdeal_RefMixIdeal := by
  intro m g m' g' hm hag
  refine ⟨fun c => (Cert.MixForwardIdeal.Gen.dats m 0 c).arrAt 17 Cert.MixForwardIdeal.cfg0.N, Cert.MixForwardIdeal.Value.run_blocks m g,
    (θ_run _ _ _).mono (fun r h c => ?_) (Cert.RefMixIdeal.Value.run m' g')⟩
  obtain ⟨a0, a1, a2, a3, a4, a5, a6, -⟩ := hag c
  have b0 : StableHlo.launchContents m' c (Proc.tc.devRef Cert.RefMixIdeal.main_arg0) = _ := a0
  have b1 : StableHlo.launchContents m' c (Proc.tc.devRef Cert.RefMixIdeal.main_arg1) = _ := a1
  have b2 : StableHlo.launchContents m' c (Proc.tc.devRef Cert.RefMixIdeal.main_arg2) = _ := a2
  have b3 : StableHlo.launchContents m' c (Proc.tc.devRef Cert.RefMixIdeal.main_arg3) = _ := a3
  have b4 : StableHlo.launchContents m' c (Proc.tc.devRef Cert.RefMixIdeal.main_arg4) = _ := a4
  have b5 : StableHlo.launchContents m' c (Proc.tc.devRef Cert.RefMixIdeal.main_arg5) = _ := a5
  have b6 : StableHlo.launchContents m' c (Proc.tc.devRef Cert.RefMixIdeal.main_arg6) = _ := a6
  obtain ⟨r0, rest⟩ := h c
  refine ⟨r0.trans ?_, rest⟩
  rw [Cert.RefMixIdeal.Read.val_main_v33_eq]
  show val_main_v33 (F := Ideal) (StableHlo.launchContents m' c (Proc.tc.devRef Cert.RefMixIdeal.main_arg0)) (StableHlo.launchContents m' c (Proc.tc.devRef Cert.RefMixIdeal.main_arg1)) (StableHlo.launchContents m' c (Proc.tc.devRef Cert.RefMixIdeal.main_arg2)) (StableHlo.launchContents m' c (Proc.tc.devRef Cert.RefMixIdeal.main_arg3)) (StableHlo.launchContents m' c (Proc.tc.devRef Cert.RefMixIdeal.main_arg4)) (StableHlo.launchContents m' c (Proc.tc.devRef Cert.RefMixIdeal.main_arg5)) (StableHlo.launchContents m' c (Proc.tc.devRef Cert.RefMixIdeal.main_arg6)) = _
  rw [b0, b1, b2, b3, b4, b5, b6]; exact (arr17_ref m c).symm

end Cert.MixForwardIdeal.Pt

end
-- ==== Proof.lean ====
/- The proof of the certificate: the frames, that idealizing changes nothing, and that each kernel computes what its reference does. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_all_finite
public import proofs.«01_k».proof.Proof.Gen.Pre_out_finite
public import proofs.«01_k».proof.Proof.Gen.Pre_forward_finite
public import proofs.«01_k».proof.Proof.Gen.Pre_wo_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.GradIn.Frame
public import proofs.«01_k».proof.Proof.Gen.GradInIdeal.Frame
public import proofs.«01_k».proof.Proof.Gen.GradInIdeal.Value
public import proofs.«01_k».proof.Proof.Gen.RefInIdeal.Run
public import proofs.«01_k».proof.Proof.Gen.RefInIdeal.Read
public import proofs.«01_k».proof.Proof.Gen.GradOut.Frame
public import proofs.«01_k».proof.Proof.Gen.GradOutIdeal.Frame
public import proofs.«01_k».proof.Proof.Gen.GradOutIdeal.Value
public import proofs.«01_k».proof.Proof.Gen.RefOutIdeal.Run
public import proofs.«01_k».proof.Proof.Gen.RefOutIdeal.Read
public import proofs.«01_k».proof.Proof.Gen.FfnForward.Frame
public import proofs.«01_k».proof.Proof.Gen.FfnForwardIdeal.Frame
public import proofs.«01_k».proof.Proof.Gen.FfnForwardIdeal.Value
public import proofs.«01_k».proof.Proof.Gen.RefFfnIdeal.Run
public import proofs.«01_k».proof.Proof.Gen.RefFfnIdeal.Read
public import proofs.«01_k».proof.Proof.Gen.GradWo.Frame
public import proofs.«01_k».proof.Proof.Gen.GradWoIdeal.Frame
public import proofs.«01_k».proof.Proof.Gen.GradWoIdeal.Value
public import proofs.«01_k».proof.Proof.Gen.RefWoIdeal.Run
public import proofs.«01_k».proof.Proof.Gen.RefWoIdeal.Read
public import proofs.«01_k».proof.Proof.Gen.GradWi.Frame
public import proofs.«01_k».proof.Proof.Gen.GradWiIdeal.Frame
public import proofs.«01_k».proof.Proof.Gen.GradWiIdeal.Value
public import proofs.«01_k».proof.Proof.Gen.RefWiIdeal.Run
public import proofs.«01_k».proof.Proof.Gen.RefWiIdeal.Read
public import proofs.«01_k».proof.Proof.Gen.MixForward
public import proofs.«01_k».proof.Proof.Gen.MixForwardIdeal
public import proofs.«01_k».proof.Proof.MixFrame
public import proofs.«01_k».proof.Proof.MixBits
public import proofs.«01_k».proof.Proof.Gen.RefMixIdeal.Run
public import proofs.«01_k».proof.Proof.Gen.RefMixIdeal.Read
public import proofs.«01_k».proof.Proof.Agree
public import proofs.«01_k».proof.Proof.InAgree
public import proofs.«01_k».proof.Proof.OutAgree
public import proofs.«01_k».proof.Proof.FwdAgree
public import proofs.«01_k».proof.Proof.WoAgree
public import proofs.«01_k».proof.Proof.WiAgree
public import proofs.«01_k».proof.Proof.MixAgree
public import Idealize.ShloMosaic.Adequacy
public import Idealize.ShloMosaic.Lib.Quiescent
public import Idealize.ShloMosaic.Init

@[expose] public section

noncomputable section

namespace Cert.Proof

open Idealize.ShloMosaic Idealize.SL.Sem

/-- The reference runs to its end, keeps its arguments and uses no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
        ∧ r.2.sem = fun _ => 0 :=
  (θ_run _ _ _).mono (fun r h => ⟨fun c => (h c).2.2.2, sem_eq_zero_of_no_sems (by decide) _⟩) (Cert.ReferenceIdeal.Value.run m ρ)

/-- The reference program of the projections' gradient runs to its end, keeps its arguments and uses no semaphore. -/
theorem frame_RefIn : Cert.quiescent_RefInIdeal := fun m ρ _ =>
  (θ_run _ _ _).mono (fun r h => ⟨fun c => (h c).2, sem_eq_zero_of_no_sems (by decide) _⟩) (Cert.RefInIdeal.Value.run (F := Ideal) m ρ)

/-- The reference program of the down projection's gradient runs to its end, keeps its arguments and uses no semaphore. -/
theorem frame_RefOut : Cert.quiescent_RefOutIdeal := fun m ρ _ =>
  (θ_run _ _ _).mono (fun r h => ⟨fun c => (h c).2.2, sem_eq_zero_of_no_sems (by decide) _⟩) (Cert.RefOutIdeal.Value.run (F := Ideal) m ρ)

/-- The reference program of the forward pass runs to its end, keeps its arguments and uses no semaphore. -/
theorem frame_RefFfn : Cert.quiescent_RefFfnIdeal := fun m ρ _ =>
  (θ_run _ _ _).mono (fun r h => ⟨fun c => (h c).2.2.2.2.2.2, sem_eq_zero_of_no_sems (by decide) _⟩) (Cert.RefFfnIdeal.Value.run (F := Ideal) m ρ)

/-- The reference program of the output projection's gradient runs to its end, keeps its arguments and uses no semaphore. -/
theorem frame_RefWo : Cert.quiescent_RefWoIdeal := fun m ρ _ =>
  (θ_run _ _ _).mono (fun r h => ⟨fun c => (h c).2.2, sem_eq_zero_of_no_sems (by decide) _⟩) (Cert.RefWoIdeal.Value.run (F := Ideal) m ρ)

/-- The reference program of the input projection's gradient runs to its end, keeps its arguments and uses no semaphore. -/
theorem frame_RefWi : Cert.quiescent_RefWiIdeal := fun m ρ _ =>
  (θ_run _ _ _).mono (fun r h => ⟨fun c => (h c).2, sem_eq_zero_of_no_sems (by decide) _⟩) (Cert.RefWiIdeal.Value.run (F := Ideal) m ρ)

/-- The reference program of the mixer's forward pass runs to its end, keeps its arguments and uses no semaphore. -/
theorem frame_RefMix : Cert.quiescent_RefMixIdeal := fun m ρ _ =>
  (θ_run _ _ _).mono (fun r h => ⟨fun c => (h c).2, sem_eq_zero_of_no_sems (by decide) _⟩) (Cert.RefMixIdeal.Value.run (F := Ideal) m ρ)

/-- The claim. -/
theorem claim : Cert.Claim := ⟨Cert.Kernel.Gen.facts, Cert.KernelIdeal.Gen.facts, Cert.ReferenceIdeal.Gen.facts, Cert.GradIn.Gen.facts, Cert.GradInIdeal.Gen.facts,
    Cert.RefInIdeal.Gen.facts, Cert.GradOut.Gen.facts, Cert.GradOutIdeal.Gen.facts, Cert.RefOutIdeal.Gen.facts, Cert.FfnForward.Gen.facts,
    Cert.FfnForwardIdeal.Gen.facts, Cert.RefFfnIdeal.Gen.facts, Cert.GradWo.Gen.facts, Cert.GradWoIdeal.Gen.facts, Cert.RefWoIdeal.Gen.facts,
    Cert.GradWi.Gen.facts, Cert.GradWiIdeal.Gen.facts, Cert.RefWiIdeal.Gen.facts, Cert.MixForward.Gen.facts, Cert.MixForwardIdeal.Gen.facts,
    Cert.RefMixIdeal.Gen.facts, Cert.Pre_all_finite.Gen.facts, Cert.Pre_out_finite.Gen.facts, Cert.Pre_forward_finite.Gen.facts, Cert.Pre_wo_finite.Gen.facts, by
  exact ⟨fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ, fun m ρ _ => Cert.GradIn.Gen.frame m ρ,
    fun m ρ _ => Cert.GradInIdeal.Gen.frame m ρ, frame_RefIn, fun m ρ _ => Cert.GradOut.Gen.frame m ρ,
    fun m ρ _ => Cert.GradOutIdeal.Gen.frame m ρ, fun m ρ _ => Cert.GradOutIdeal.Gen.frame m ρ, frame_RefOut,
    fun m ρ _ => frame_RefOut m ρ trivial, fun m ρ _ => Cert.FfnForward.Gen.frame m ρ, fun m ρ _ => Cert.FfnForwardIdeal.Gen.frame m ρ,
    fun m ρ _ => Cert.FfnForwardIdeal.Gen.frame m ρ, frame_RefFfn, fun m ρ _ => frame_RefFfn m ρ trivial,
    fun m ρ _ => Cert.GradWo.Gen.frame m ρ, fun m ρ _ => Cert.GradWoIdeal.Gen.frame m ρ, fun m ρ _ => Cert.GradWoIdeal.Gen.frame m ρ,
    frame_RefWo, fun m ρ _ => frame_RefWo m ρ trivial, fun m ρ _ => Cert.GradWi.Gen.frame m ρ,
    fun m ρ _ => Cert.GradWiIdeal.Gen.frame m ρ, frame_RefWi, Cert.MixForward.frame,
    fun m ρ _ => Cert.MixForwardIdeal.Gen.frame m ρ, frame_RefMix, trivial,
    Cert.FfnBwd.algebraic, trivial, Cert.GradInIdeal.Pt.algebraic,
    trivial, Cert.GradOutIdeal.Pt.algebraic, trivial,
    Cert.FfnForwardIdeal.Pt.algebraic, trivial, Cert.GradWoIdeal.Pt.algebraic,
    trivial, Cert.GradWiIdeal.Pt.algebraic, trivial,
    Cert.MixForwardIdeal.Pt.algebraic⟩⟩

end Cert.Proof

end
